-- ==== Defs.lean ====
def Pre_Kernel [hPre_plan_ok : Cert.Pre_plan_ok.Facts] (m : (ℓ : Loc Cert.Kernel.nD Cert.Kernel.τ Cert.Kernel.sig) → Buf (Elt Bits) ℓ) : Prop :=
  ∀ c : Dev Cert.Kernel.nD,
    (Cert.Pre_plan_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_plan_ok : Cert.Pre_plan_ok.Facts] (m : (ℓ : Loc Cert.KernelIdeal.nD Cert.KernelIdeal.τ Cert.KernelIdeal.sig) → Buf (Elt Ideal) ℓ) : Prop :=
  ∀ c : Dev Cert.KernelIdeal.nD,
    (Cert.Pre_plan_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_plan_ok : Cert.Pre_plan_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_plan_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] [hPre_plan_ok : Cert.Pre_plan_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_plan_ok : Cert.Pre_plan_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] [hPre_plan_ok : Cert.Pre_plan_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_plan_ok : Cert.Pre_plan_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v40) = v0 c
          ∧ r.2.mem ((c.tc : Thread Cert.Reference2Ideal.nD Cert.Reference2Ideal.τ).loc Cert.Reference2Ideal.main_v41) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_plan_ok : Cert.Pre_plan_ok.Facts),
    quiescent_Kernel (hKernel := hKernel) (hPre_plan_ok := hPre_plan_ok)
    ∧ quiescent_KernelIdeal (hKernelIdeal := hKernelIdeal) (hPre_plan_ok := hPre_plan_ok)
    ∧ quiescent_ReferenceIdeal (hReferenceIdeal := hReferenceIdeal) (hPre_plan_ok := hPre_plan_ok)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal) (hPre_plan_ok := hPre_plan_ok)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_plan_ok.lean ====
abbrev S320 : Shape := ⟨1, ![320]⟩
abbrev S1 : Shape := ⟨1, ![1]⟩
abbrev S165376 : Shape := ⟨1, ![165376]⟩
abbrev S131072x128 : Shape := ⟨2, ![131072, 128]⟩
abbrev S64x2048x1024 : Shape := ⟨3, ![64, 2048, 1024]⟩
abbrev S64x512x2048 : Shape := ⟨3, ![64, 512, 2048]⟩
abbrev S8x8192 : Shape := ⟨2, ![8, 8192]⟩
abbrev S323x2x256 : Shape := ⟨3, ![323, 2, 256]⟩
abbrev S323x1x256 : Shape := ⟨3, ![323, 1, 256]⟩
abbrev S323x256 : Shape := ⟨2, ![323, 256]⟩
abbrev S_ : Shape := ⟨0, ![]⟩
abbrev S320x256 : Shape := ⟨2, ![320, 256]⟩
abbrev S65536 : Shape := ⟨1, ![65536]⟩
abbrev S320x256x1 : Shape := ⟨3, ![320, 256, 1]⟩
abbrev S320x1 : Shape := ⟨2, ![320, 1]⟩
abbrev S1x256 : Shape := ⟨2, ![1, 256]⟩
abbrev S256 : Shape := ⟨1, ![256]⟩
abbrev S81920 : Shape := ⟨1, ![81920]⟩
abbrev S8x8192x1 : Shape := ⟨3, ![8, 8192, 1]⟩
abbrev S1x1 : Shape := ⟨2, ![1, 1]⟩

class Facts : Prop where
  shapeCasts_S165376_S323x2x256 : S165376.ShapeCasts S323x2x256
  slices_S323x2x256_S323x1x256_0_0_0 : S323x2x256.Slices ![0, 0, 0] S323x1x256
  shapeCasts_S323x1x256_S323x256 : S323x1x256.ShapeCasts S323x256
  bcast_S_S323x256 : S_.BroadcastsInDim S323x256 (![] : Fin 0 → Fin S323x256.rank)
  slices_S323x2x256_S323x1x256_0_1_0 : S323x2x256.Slices ![0, 1, 0] S323x1x256
  bcast_S_S165376 : S_.BroadcastsInDim S165376 (![] : Fin 0 → Fin S165376.rank)
  reducesTo_S165376_S_d0 : S165376.ReducesTo [0] S_
  h_S_ : 0 < S_.numel
  reducesTo_S323x256_S_d0_1 : S323x256.ReducesTo [0, 1] S_
  bcast_S_S320 : S_.BroadcastsInDim S320 (![] : Fin 0 → Fin S320.rank)
  reducesTo_S320_S_d0 : S320.ReducesTo [0] S_
  bcast_S_S1 : S_.BroadcastsInDim S1 (![] : Fin 0 → Fin S1.rank)
  reducesTo_S1_S_d0 : S1.ReducesTo [0] S_
  slices_S323x256_S320x256_1_0 : S323x256.Slices ![1, 0] S320x256
  bcast_S_S320x256 : S_.BroadcastsInDim S320x256 (![] : Fin 0 → Fin S320x256.rank)
  shapeCasts_S8x8192_S65536 : S8x8192.ShapeCasts S65536
  bcast_S320x256_S320x256x1_0_1 : S320x256.BroadcastsInDim S320x256x1 (![0, 1] : Fin 2 → Fin S320x256x1.rank)
  bcast_S320_S320x1_0 : S320.BroadcastsInDim S320x1 (![0] : Fin 1 → Fin S320x1.rank)
  bcast_S320x1_S320x256_0_1 : S320x1.BroadcastsInDim S320x256 (![0, 1] : Fin 2 → Fin S320x256.rank)
  reducesTo_S320x256_S_d0_1 : S320x256.ReducesTo [0, 1] S_
  slices_S323x256_S1x256_0_0 : S323x256.Slices ![0, 0] S1x256
  shapeCasts_S1x256_S256 : S1x256.ShapeCasts S256
  bcast_S_S256 : S_.BroadcastsInDim S256 (![] : Fin 0 → Fin S256.rank)
  reducesTo_S256_S_d0 : S256.ReducesTo [0] S_
  shapeCasts_S320x256_S81920 : S320x256.ShapeCasts S81920
  bcast_S8x8192_S8x8192x1_0_1 : S8x8192.BroadcastsInDim S8x8192x1 (![0, 1] : Fin 2 → Fin S8x8192x1.rank)
  bcast_S_S8x8192 : S_.BroadcastsInDim S8x8192 (![] : Fin 0 → Fin S8x8192.rank)
  bcast_S1_S1x1_1 : S1.BroadcastsInDim S1x1 (![1] : Fin 1 → Fin S1x1.rank)
  bcast_S1x1_S8x8192_0_1 : S1x1.BroadcastsInDim S8x8192 (![0, 1] : Fin 2 → Fin S8x8192.rank)
  reducesTo_S8x8192_S_d0_1 : S8x8192.ReducesTo [0, 1] S_
  gather_S65536_S320x256x1_S320x256_n_0_n_n_0_2_1_wf : GatherDims.WF S65536 S320x256x1 S320x256 [] [0] [] [0] [] 2 ![1]
  gather_S81920_S8x8192x1_S8x8192_n_0_n_n_0_2_1_wf : GatherDims.WF S81920 S8x8192x1 S8x8192 [] [0] [] [0] [] 2 ![1]

variable [Facts]

def gather_S65536_S320x256x1_S320x256_n_0_n_n_0_2_1 : GatherDims S65536 S320x256x1 S320x256 where
  offsetDims := []
  collapsedSliceDims := [0]
  operandBatchingDims := []
  startIndicesBatchingDims := []
  startIndexMap := [0]
  indexVectorDim := 2
  sliceSizes := ![1]
  wf := gather_S65536_S320x256x1_S320x256_n_0_n_n_0_2_1_wf
def gather_S81920_S8x8192x1_S8x8192_n_0_n_n_0_2_1 : GatherDims S81920 S8x8192x1 S8x8192 where
  offsetDims := []
  collapsedSliceDims := [0]
  operandBatchingDims := []
  startIndicesBatchingDims := []
  startIndexMap := [0]
  indexVectorDim := 2
  sliceSizes := ![1]
  wf := gather_S81920_S8x8192x1_S8x8192_n_0_n_n_0_2_1_wf
def fn_take {F : FTy → Type} [FloatOps F] (arg0 : IVec S65536 32) (arg1 : IVec S320x256 32) : IVec S320x256 32 :=
  let v0 : IVec S320x256x1 32 := broadcastInDim S320x256x1 ![0, 1] bcast_S320x256_S320x256x1_0_1 arg1
  let v1 : IVec S320x256 32 := (fun x i => Host.gather gather_S65536_S320x256x1_S320x256_n_0_n_n_0_2_1 x i) arg0 v0
  v1

def fn_take_0 {F : FTy → Type} [FloatOps F] (arg0 : IVec S81920 32) (arg1 : IVec S8x8192 32) : IVec S8x8192 32 :=
  let v0 : IVec S8x8192x1 32 := broadcastInDim S8x8192x1 ![0, 1] bcast_S8x8192_S8x8192x1_0_1 arg1
  let v1 : IVec S8x8192 32 := (fun x i => Host.gather gather_S81920_S8x8192x1_S8x8192_n_0_n_n_0_2_1 x i) arg0 v0
  v1

def fn_part5 {F : FTy → Type} [FloatOps F] (main_v25 : IVec S_ 1) (main_v38 : IVec S_ 1) (main_v79 : IVec S_ 1) (main_v81 : IVec S8x8192 32) (main_v82 : IVec S8x8192 32) (main_v83 : IVec S8x8192 32) (main_v91 : IVec S8x8192 1) : IVec S_ 1 :=
  let main_c_27 : IVec S_ 32 := constantI S_ 32 8192#32
  let main_v92 : IVec S8x8192 32 := broadcastInDim S8x8192 ![] bcast_S_S8x8192 main_c_27
  let main_v93 : IVec S8x8192 32 := muli main_v82 main_v92
  let main_v94 : IVec S8x8192 32 := addi main_v93 main_v83
  let main_v95 : IVec S8x8192 1 := cmpi .eq main_v81 main_v94
  let main_v96 : IVec S8x8192 1 := andi main_v91 main_v95
  let main_c_28 : IVec S_ 1 := constantI S_ 1 1#1
  let main_v97 : IVec S_ 1 := (fun x v => Host.reduce IntOp.andi x v reducesTo_S8x8192_S_d0_1 h_S_) main_v96 main_c_28
  let main_v98 : IVec S_ 1 := andi main_v25 main_v38
  let main_v99 : IVec S_ 1 := andi main_v98 main_v79
  let main_v100 : IVec S_ 1 := andi main_v99 main_v97
  main_v100

def fn_part4 {F : FTy → Type} [FloatOps F] (main_arg1 : IVec S1 32) (main_arg7 : IVec S8x8192 32) (main_v8 : IVec S323x256 32) (main_v25 : IVec S_ 1) (main_v38 : IVec S_ 1) (main_v42 : IVec S320x256 32) (main_v71 : IVec S_ 1) : IVec S_ 1 :=
  let main_v72 : IVec S1x256 32 := (extractStridedSlice S1x256 ![0, 0] · slices_S323x256_S1x256_0_0) main_v8
  let main_v73 : IVec S256 32 := shapeCast S256 main_v72 shapeCasts_S1x256_S256
  let main_v74 : IVec S256 32 := iotaInDim S256 32 0
  let main_c_23 : IVec S_ 32 := constantI S_ 32 65792#32
  let main_v75 : IVec S256 32 := broadcastInDim S256 ![] bcast_S_S256 main_c_23
  let main_v76 : IVec S256 32 := addi main_v75 main_v74
  let main_v77 : IVec S256 1 := cmpi .eq main_v73 main_v76
  let main_c_24 : IVec S_ 1 := constantI S_ 1 1#1
  let main_v78 : IVec S_ 1 := (fun x v => Host.reduce IntOp.andi x v reducesTo_S256_S_d0 h_S_) main_v77 main_c_24
  let main_v79 : IVec S_ 1 := andi main_v71 main_v78
  let main_v80 : IVec S81920 32 := shapeCast S81920 main_v42 shapeCasts_S320x256_S81920
  let main_v81 : IVec S8x8192 32 := fn_take_0 (F := F) main_v80 main_arg7
  let main_v82 : IVec S8x8192 32 := iotaInDim S8x8192 32 0
  let main_v83 : IVec S8x8192 32 := iotaInDim S8x8192 32 1
  let main_c_25 : IVec S_ 32 := constantI S_ 32 0#32
  let main_v84 : IVec S8x8192 32 := broadcastInDim S8x8192 ![] bcast_S_S8x8192 main_c_25
  let main_v85 : IVec S8x8192 1 := cmpi .sge main_arg7 main_v84
  let main_c_26 : IVec S_ 32 := constantI S_ 32 256#32
  let main_v86 : IVec S1 32 := broadcastInDim S1 ![] bcast_S_S1 main_c_26
  let main_v87 : IVec S1 32 := muli main_arg1 main_v86
  let main_v88 : IVec S1x1 32 := broadcastInDim S1x1 ![1] bcast_S1_S1x1_1 main_v87
  let main_v89 : IVec S8x8192 32 := broadcastInDim S8x8192 ![0, 1] bcast_S1x1_S8x8192_0_1 main_v88
  let main_v90 : IVec S8x8192 1 := cmpi .slt main_arg7 main_v89
  let main_v91 : IVec S8x8192 1 := andi main_v85 main_v90
  fn_part5 (F := F) main_v25 main_v38 main_v79 main_v81 main_v82 main_v83 main_v91

def fn_part3 {F : FTy → Type} [FloatOps F] (main_arg0 : IVec S320 32) (main_arg1 : IVec S1 32) (main_arg6 : IVec S8x8192 32) (main_arg7 : IVec S8x8192 32) (main_v8 : IVec S323x256 32) (main_v25 : IVec S_ 1) (main_v38 : IVec S_ 1) (main_v39 : IVec S320x256 32) (main_v40 : IVec S320x256 32) (main_v41 : IVec S320x256 32) (main_v42 : IVec S320x256 32) (main_v50 : IVec S320x256 1) (main_v51 : IVec S65536 32) : IVec S_ 1 :=
  let main_v52 : IVec S320x256 32 := fn_take (F := F) main_v51 main_v42
  let main_v53 : IVec S65536 32 := shapeCast S65536 main_arg6 shapeCasts_S8x8192_S65536
  let main_v54 : IVec S320x256 32 := fn_take (F := F) main_v53 main_v42
  let main_c_19 : IVec S_ 32 := constantI S_ 32 65536#32
  let main_v55 : IVec S320x256 32 := broadcastInDim S320x256 ![] bcast_S_S320x256 main_c_19
  let main_v56 : IVec S320x256 1 := cmpi .slt main_v42 main_v55
  let main_c_20 : IVec S_ 32 := constantI S_ 32 256#32
  let main_v57 : IVec S320x256 32 := broadcastInDim S320x256 ![] bcast_S_S320x256 main_c_20
  let main_v58 : IVec S320x256 32 := muli main_v39 main_v57
  let main_v59 : IVec S320x256 32 := addi main_v58 main_v40
  let main_v60 : IVec S320x256 1 := cmpi .eq main_v52 main_v59
  let main_v61 : IVec S320x256 1 := andi main_v56 main_v60
  let main_v62 : IVec S320x1 32 := broadcastInDim S320x1 ![0] bcast_S320_S320x1_0 main_arg0
  let main_v63 : IVec S320x256 32 := broadcastInDim S320x256 ![0, 1] bcast_S320x1_S320x256_0_1 main_v62
  let main_v64 : IVec S320x256 1 := cmpi .eq main_v54 main_v63
  let main_v65 : IVec S320x256 1 := andi main_v61 main_v64
  let main_c_21 : IVec S_ 32 := constantI S_ 32 8191#32
  let main_v66 : IVec S320x256 32 := broadcastInDim S320x256 ![] bcast_S_S320x256 main_c_21
  let main_v67 : IVec S320x256 32 := andi main_v42 main_v66
  let main_v68 : IVec S320x256 1 := cmpi .eq main_v41 main_v67
  let main_v69 : IVec S320x256 1 := andi main_v65 main_v68
  let main_v70 : IVec S320x256 1 := ori main_v50 main_v69
  let main_c_22 : IVec S_ 1 := constantI S_ 1 1#1
  let main_v71 : IVec S_ 1 := (fun x v => Host.reduce IntOp.andi x v reducesTo_S320x256_S_d0_1 h_S_) main_v70 main_c_22
  fn_part4 (F := F) main_arg1 main_arg7 main_v8 main_v25 main_v38 main_v42 main_v71

def fn_part2 {F : FTy → Type} [FloatOps F] (main_arg0 : IVec S320 32) (main_arg1 : IVec S1 32) (main_arg6 : IVec S8x8192 32) (main_arg7 : IVec S8x8192 32) (main_v4 : IVec S323x256 32) (main_v8 : IVec S323x256 32) (main_v25 : IVec S_ 1) (main_v31 : IVec S_ 1) (main_v32 : IVec S1 32) : IVec S_ 1 :=
  let main_v33 : IVec S1 1 := cmpi .sge main_arg1 main_v32
  let main_c_14 : IVec S_ 32 := constantI S_ 32 320#32
  let main_v34 : IVec S1 32 := broadcastInDim S1 ![] bcast_S_S1 main_c_14
  let main_v35 : IVec S1 1 := cmpi .sle main_arg1 main_v34
  let main_v36 : IVec S1 1 := andi main_v33 main_v35
  let main_c_15 : IVec S_ 1 := constantI S_ 1 1#1
  let main_v37 : IVec S_ 1 := (fun x v => Host.reduce IntOp.andi x v reducesTo_S1_S_d0 h_S_) main_v36 main_c_15
  let main_v38 : IVec S_ 1 := andi main_v31 main_v37
  let main_v39 : IVec S320x256 32 := iotaInDim S320x256 32 0
  let main_v40 : IVec S320x256 32 := iotaInDim S320x256 32 1
  let main_v41 : IVec S320x256 32 := (extractStridedSlice S320x256 ![1, 0] · slices_S323x256_S320x256_1_0) main_v4
  let main_v42 : IVec S320x256 32 := (extractStridedSlice S320x256 ![1, 0] · slices_S323x256_S320x256_1_0) main_v8
  let main_c_16 : IVec S_ 32 := constantI S_ 32 1#32
  let main_v43 : IVec S320x256 32 := broadcastInDim S320x256 ![] bcast_S_S320x256 main_c_16
  let main_v44 : IVec S320x256 32 := andi main_v39 main_v43
  let main_c_17 : IVec S_ 32 := constantI S_ 32 256#32
  let main_v45 : IVec S320x256 32 := broadcastInDim S320x256 ![] bcast_S_S320x256 main_c_17
  let main_v46 : IVec S320x256 32 := muli main_v44 main_v45
  let main_c_18 : IVec S_ 32 := constantI S_ 32 65536#32
  let main_v47 : IVec S320x256 32 := broadcastInDim S320x256 ![] bcast_S_S320x256 main_c_18
  let main_v48 : IVec S320x256 32 := addi main_v47 main_v46
  let main_v49 : IVec S320x256 32 := addi main_v48 main_v40
  let main_v50 : IVec S320x256 1 := cmpi .eq main_v42 main_v49
  let main_v51 : IVec S65536 32 := shapeCast S65536 main_arg7 shapeCasts_S8x8192_S65536
  fn_part3 (F := F) main_arg0 main_arg1 main_arg6 main_arg7 main_v8 main_v25 main_v38 main_v39 main_v40 main_v41 main_v42 main_v50 main_v51

def fn_part1 {F : FTy → Type} [FloatOps F] (main_arg0 : IVec S320 32) (main_arg1 : IVec S1 32) (main_arg6 : IVec S8x8192 32) (main_arg7 : IVec S8x8192 32) (main_v4 : IVec S323x256 32) (main_v8 : IVec S323x256 32) (main_v13 : IVec S_ 1) (main_v16 : IVec S_ 1) : IVec S_ 1 :=
  let main_v17 : IVec S_ 1 := andi main_v13 main_v16
  let main_c_6 : IVec S_ 32 := constantI S_ 32 8192#32
  let main_v18 : IVec S323x256 32 := broadcastInDim S323x256 ![] bcast_S_S323x256 main_c_6
  let main_v19 : IVec S323x256 1 := cmpi .slt main_v4 main_v18
  let main_c_7 : IVec S_ 1 := constantI S_ 1 1#1
  let main_v20 : IVec S_ 1 := (fun x v => Host.reduce IntOp.andi x v reducesTo_S323x256_S_d0_1 h_S_) main_v19 main_c_7
  let main_v21 : IVec S_ 1 := andi main_v17 main_v20
  let main_c_8 : IVec S_ 32 := constantI S_ 32 66048#32
  let main_v22 : IVec S323x256 32 := broadcastInDim S323x256 ![] bcast_S_S323x256 main_c_8
  let main_v23 : IVec S323x256 1 := cmpi .slt main_v8 main_v22
  let main_c_9 : IVec S_ 1 := constantI S_ 1 1#1
  let main_v24 : IVec S_ 1 := (fun x v => Host.reduce IntOp.andi x v reducesTo_S323x256_S_d0_1 h_S_) main_v23 main_c_9
  let main_v25 : IVec S_ 1 := andi main_v21 main_v24
  let main_c_10 : IVec S_ 32 := constantI S_ 32 0#32
  let main_v26 : IVec S320 32 := broadcastInDim S320 ![] bcast_S_S320 main_c_10
  let main_v27 : IVec S320 1 := cmpi .sge main_arg0 main_v26
  let main_c_11 : IVec S_ 32 := constantI S_ 32 64#32
  let main_v28 : IVec S320 32 := broadcastInDim S320 ![] bcast_S_S320 main_c_11
  let main_v29 : IVec S320 1 := cmpi .slt main_arg0 main_v28
  let main_v30 : IVec S320 1 := andi main_v27 main_v29
  let main_c_12 : IVec S_ 1 := constantI S_ 1 1#1
  let main_v31 : IVec S_ 1 := (fun x v => Host.reduce IntOp.andi x v reducesTo_S320_S_d0 h_S_) main_v30 main_c_12
  let main_c_13 : IVec S_ 32 := constantI S_ 32 1#32
  let main_v32 : IVec S1 32 := broadcastInDim S1 ![] bcast_S_S1 main_c_13
  fn_part2 (F := F) main_arg0 main_arg1 main_arg6 main_arg7 main_v4 main_v8 main_v25 main_v31 main_v32

def fn {F : FTy → Type} [FloatOps F] (main_arg0 : IVec S320 32) (main_arg1 : IVec S1 32) (main_arg2 : IVec S165376 32) (main_arg3 : FVec F S131072x128 .f32) (main_arg4 : FVec F S64x2048x1024 .f32) (main_arg5 : FVec F S64x512x2048 .f32) (main_arg6 : IVec S8x8192 32) (main_arg7 : IVec S8x8192 32) : IVec S_ 1 :=
  let main_v0 : IVec S323x2x256 32 := shapeCast S323x2x256 main_arg2 shapeCasts_S165376_S323x2x256
  let main_v1 : IVec S323x1x256 32 := (extractStridedSlice S323x1x256 ![0, 0, 0] · slices_S323x2x256_S323x1x256_0_0_0) main_v0
  let main_v2 : IVec S323x256 32 := shapeCast S323x256 main_v1 shapeCasts_S323x1x256_S323x256
  let main_c : IVec S_ 32 := constantI S_ 32 4#32
  let main_v3 : IVec S323x256 32 := broadcastInDim S323x256 ![] bcast_S_S323x256 main_c
  let main_v4 : IVec S323x256 32 := Host.shrui main_v2 main_v3
  let main_v5 : IVec S323x1x256 32 := (extractStridedSlice S323x1x256 ![0, 1, 0] · slices_S323x2x256_S323x1x256_0_1_0) main_v0
  let main_v6 : IVec S323x256 32 := shapeCast S323x256 main_v5 shapeCasts_S323x1x256_S323x256
  let main_c_0 : IVec S_ 32 := constantI S_ 32 4#32
  let main_v7 : IVec S323x256 32 := broadcastInDim S323x256 ![] bcast_S_S323x256 main_c_0
  let main_v8 : IVec S323x256 32 := Host.shrui main_v6 main_v7
  let main_c_1 : IVec S_ 32 := constantI S_ 32 15#32
  let main_v9 : IVec S165376 32 := broadcastInDim S165376 ![] bcast_S_S165376 main_c_1
  let main_v10 : IVec S165376 32 := andi main_arg2 main_v9
  let main_c_2 : IVec S_ 32 := constantI S_ 32 0#32
  let main_v11 : IVec S165376 32 := broadcastInDim S165376 ![] bcast_S_S165376 main_c_2
  let main_v12 : IVec S165376 1 := cmpi .eq main_v10 main_v11
  let main_c_3 : IVec S_ 1 := constantI S_ 1 1#1
  let main_v13 : IVec S_ 1 := (fun x v => Host.reduce IntOp.andi x v reducesTo_S165376_S_d0 h_S_) main_v12 main_c_3
  let main_c_4 : IVec S_ 32 := constantI S_ 32 0#32
  let main_v14 : IVec S165376 32 := broadcastInDim S165376 ![] bcast_S_S165376 main_c_4
  let main_v15 : IVec S165376 1 := cmpi .sge main_arg2 main_v14
  let main_c_5 : IVec S_ 1 := constantI S_ 1 1#1
  let main_v16 : IVec S_ 1 := (fun x v => Host.reduce IntOp.andi x v reducesTo_S165376_S_d0 h_S_) main_v15 main_c_5
  fn_part1 (F := F) main_arg0 main_arg1 main_arg6 main_arg7 main_v4 main_v8 main_v13 main_v16
-- ==== Kernel.lean ====
abbrev S320 : Shape := ⟨1, ![320]⟩
abbrev S1 : Shape := ⟨1, ![1]⟩
abbrev S165376 : Shape := ⟨1, ![165376]⟩
abbrev S131072x128 : Shape := ⟨2, ![131072, 128]⟩
abbrev S64x2048x1024 : Shape := ⟨3, ![64, 2048, 1024]⟩
abbrev S64x512x2048 : Shape := ⟨3, ![64, 512, 2048]⟩
abbrev S8x8192 : Shape := ⟨2, ![8, 8192]⟩
abbrev S1056768x128 : Shape := ⟨2, ![1056768, 128]⟩
abbrev S1x2048x1024 : Shape := ⟨3, ![1, 2048, 1024]⟩
abbrev S1x512x2048 : Shape := ⟨3, ![1, 512, 2048]⟩
abbrev S2048 : Shape := ⟨1, ![2048]⟩
abbrev S4096x128 : Shape := ⟨2, ![4096, 128]⟩
abbrev S2048x1024 : Shape := ⟨2, ![2048, 1024]⟩
abbrev S512x2048 : Shape := ⟨2, ![512, 2048]⟩
abbrev S4 : Shape := ⟨1, ![4]⟩
abbrev S2 : Shape := ⟨1, ![2]⟩
abbrev S_ : Shape := ⟨0, ![]⟩
abbrev S512 : Shape := ⟨1, ![512]⟩
abbrev S16x128 : Shape := ⟨2, ![16, 128]⟩
abbrev S256x128 : Shape := ⟨2, ![256, 128]⟩
abbrev S256x2048 : Shape := ⟨2, ![256, 2048]⟩
abbrev S256x1024 : Shape := ⟨2, ![256, 1024]⟩
abbrev S256x512 : Shape := ⟨2, ![256, 512]⟩
abbrev S1048576x128 : Shape := ⟨2, ![1048576, 128]⟩

abbrev nBuf : Space → Nat
  | .hbm => 8
  | .vmem => 11
  | .smem => 3
  | _ => 0

abbrev bufTy : (tb : Table) → Fin (tcTables nBuf tb) → BufTy
  | .hbm, ⟨0, _⟩ => ⟨S165376, .i32⟩
  | .hbm, ⟨1, _⟩ => ⟨S131072x128, .f32⟩
  | .hbm, ⟨2, _⟩ => ⟨S64x2048x1024, .f32⟩
  | .hbm, ⟨3, _⟩ => ⟨S64x512x2048, .f32⟩
  | .hbm, ⟨4, _⟩ => ⟨S8x8192, .i32⟩
  | .hbm, ⟨5, _⟩ => ⟨S8x8192, .i32⟩
  | .hbm, ⟨6, _⟩ => ⟨S1056768x128, .bf16⟩
  | .hbm, ⟨7, _⟩ => ⟨S1048576x128, .bf16⟩
  | .local _ .vmem, ⟨0, _⟩ => ⟨S1x2048x1024, .f32⟩
  | .local _ .vmem, ⟨1, _⟩ => ⟨S1x2048x1024, .f32⟩
  | .local _ .vmem, ⟨2, _⟩ => ⟨S1x512x2048, .f32⟩
  | .local _ .vmem, ⟨3, _⟩ => ⟨S1x512x2048, .f32⟩
  | .local _ .vmem, ⟨4, _⟩ => ⟨S4096x128, .f32⟩
  | .local _ .vmem, ⟨5, _⟩ => ⟨S4096x128, .f32⟩
  | .local _ .vmem, ⟨6, _⟩ => ⟨S4096x128, .bf16⟩
  | .local _ .vmem, ⟨7, _⟩ => ⟨S4096x128, .bf16⟩
  | .local _ .vmem, ⟨8, _⟩ => ⟨S4096x128, .f32⟩
  | .local _ .vmem, ⟨9, _⟩ => ⟨S2048x1024, .bf16⟩
  | .local _ .vmem, ⟨10, _⟩ => ⟨S512x2048, .bf16⟩
  | .local _ .smem, ⟨0, _⟩ => ⟨S320, .i32⟩
  | .local _ .smem, ⟨1, _⟩ => ⟨S1, .i32⟩
  | .local _ .smem, ⟨2, _⟩ => ⟨S2048, .i32⟩
  | _, _ => ⟨S165376, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨2, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_v0 : Ref sig .tc := ⟨.hbm, 6, rfl⟩
abbrev main_v1 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch0 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![320], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

@[reducible] def k0_t1_loop : Scf.Loop 32 :=
  let c0_i32_21 : BitVec 32 := 0#32
  let c128_i32 : BitVec 32 := 128#32
  let v38 : BitVec 32 := Scalar.addi c0_i32_21 c128_i32
  let c1_i32_22 : BitVec 32 := 1#32
  ⟨c0_i32_21, v38, c1_i32_22⟩
def k0_off2 (k0_t1 : Fin k0_t1_loop.trips) : Fin 1 → Nat :=
  let c512_i32_26 : BitVec 32 := 512#32
  let c2_i32_24 : BitVec 32 := 2#32
  let c0_i32_21 : BitVec 32 := 0#32
  let c1_i32_22 : BitVec 32 := 1#32
  let arg19 : BitVec 32 := Scf.iv c0_i32_21 c1_i32_22 k0_t1
  let v39 : BitVec 32 := Scalar.muli c2_i32_24 arg19
  let c0_i32_25 : BitVec 32 := 0#32
  let v40 : BitVec 32 := Scalar.addi v39 c0_i32_25
  let v41 : BitVec 32 := Scalar.addi c512_i32_26 v40
  let v42 : Index := Scalar.indexCast v41
  ![v42.toNat]
def k0_mult1 (v43 : BitVec 32) : BitVec 32 :=
  v43

def k0_off3 (k0_t1 : Fin k0_t1_loop.trips) : Fin 2 → Nat :=
  let c2_i32_24 : BitVec 32 := 2#32
  let c0_i32_21 : BitVec 32 := 0#32
  let c1_i32_22 : BitVec 32 := 1#32
  let arg19 : BitVec 32 := Scf.iv c0_i32_21 c1_i32_22 k0_t1
  let v39 : BitVec 32 := Scalar.muli c2_i32_24 arg19
  let c0_i32_25 : BitVec 32 := 0#32
  let v40 : BitVec 32 := Scalar.addi v39 c0_i32_25
  let c16_i32 : BitVec 32 := 16#32
  let v45 : BitVec 32 := Scalar.muli v40 c16_i32
  let c0_i32_27 : BitVec 32 := 0#32
  ![v45.toNat, 0]
def k0_off4 (v43 : BitVec 32) : Fin 2 → Nat :=
  let v44 : BitVec 32 := v43
  let c0_i32_28 : BitVec 32 := 0#32
  ![v44.toNat, 0]

def k0_chk1 (i : grid0.Coords) (v43 : BitVec 32) : Prop :=
  (∀ (k0_h1 : k0_cond1 i = 1#1), 16 ∣ (k0_mult1 v43).toNat) ∧
  (∀ (k0_h1 : k0_cond1 i = 1#1), ∀ a, (k0_off4 v43) a + S16x128.size a ≤ S131072x128.size a)
theorem k0_mult1_dvd : ∀ (i : grid0.Coords) (v43 : BitVec 32) (k0_hw1 : k0_chk1 i v43), ∀ (k0_h1 : k0_cond1 i = 1#1), 16 ∣ (k0_mult1 v43).toNat := fun i v43 k0_hw1 k0_h1 => k0_hw1.1 k0_h1
theorem k0_off4_inb : ∀ (i : grid0.Coords) (v43 : BitVec 32) (k0_hw1 : k0_chk1 i v43), ∀ (k0_h1 : k0_cond1 i = 1#1), ∀ a, (k0_off4 v43) a + S16x128.size a ≤ S131072x128.size a := fun i v43 k0_hw1 k0_h1 => k0_hw1.2 k0_h1

def k0_off5 (k0_t1 : Fin k0_t1_loop.trips) : Fin 1 → Nat :=
  let c512_i32_31 : BitVec 32 := 512#32
  let c2_i32_29 : BitVec 32 := 2#32
  let c0_i32_21 : BitVec 32 := 0#32
  let c1_i32_22 : BitVec 32 := 1#32
  let arg19 : BitVec 32 := Scf.iv c0_i32_21 c1_i32_22 k0_t1
  let v50 : BitVec 32 := Scalar.muli c2_i32_29 arg19
  let c1_i32_30 : BitVec 32 := 1#32
  let v51 : BitVec 32 := Scalar.addi v50 c1_i32_30
  let v52 : BitVec 32 := Scalar.addi c512_i32_31 v51
  let v53 : Index := Scalar.indexCast v52
  ![v53.toNat]
def k0_mult2 (v54 : BitVec 32) : BitVec 32 :=
  v54

def k0_off6 (k0_t1 : Fin k0_t1_loop.trips) : Fin 2 → Nat :=
  let c2_i32_29 : BitVec 32 := 2#32
  let c0_i32_21 : BitVec 32 := 0#32
  let c1_i32_22 : BitVec 32 := 1#32
  let arg19 : BitVec 32 := Scf.iv c0_i32_21 c1_i32_22 k0_t1
  let v50 : BitVec 32 := Scalar.muli c2_i32_29 arg19
  let c1_i32_30 : BitVec 32 := 1#32
  let v51 : BitVec 32 := Scalar.addi v50 c1_i32_30
  let c16_i32_32 : BitVec 32 := 16#32
  let v56 : BitVec 32 := Scalar.muli v51 c16_i32_32
  let c0_i32_33 : BitVec 32 := 0#32
  ![v56.toNat, 0]
def k0_off7 (v54 : BitVec 32) : Fin 2 → Nat :=
  let v55 : BitVec 32 := v54
  let c0_i32_34 : BitVec 32 := 0#32
  ![v55.toNat, 0]

def k0_chk2 (i : grid0.Coords) (v54 : BitVec 32) : Prop :=
  (∀ (k0_h1 : k0_cond1 i = 1#1), 16 ∣ (k0_mult2 v54).toNat) ∧
  (∀ (k0_h1 : k0_cond1 i = 1#1), ∀ a, (k0_off7 v54) a + S16x128.size a ≤ S131072x128.size a)
theorem k0_mult2_dvd : ∀ (i : grid0.Coords) (v54 : BitVec 32) (k0_hw2 : k0_chk2 i v54), ∀ (k0_h1 : k0_cond1 i = 1#1), 16 ∣ (k0_mult2 v54).toNat := fun i v54 k0_hw2 k0_h1 => k0_hw2.1 k0_h1
theorem k0_off7_inb : ∀ (i : grid0.Coords) (v54 : BitVec 32) (k0_hw2 : k0_chk2 i v54), ∀ (k0_h1 : k0_cond1 i = 1#1), ∀ a, (k0_off7 v54) a + S16x128.size a ≤ S131072x128.size a := fun i v54 k0_hw2 k0_h1 => k0_hw2.2 k0_h1

def k0_off8 (i : grid0.Coords) (c3_i32 : BitVec 32) : Fin 1 → Nat :=
  let arg0 : BitVec 32 := BitVec.ofNat 32 (i 0).val
  let v7 : BitVec 32 := Scalar.addi arg0 c3_i32
  let c4_i32 : BitVec 32 := 4#32
  let c0_i32_2 : BitVec 32 := 0#32
  let v8 : BitVec 1 := Scalar.cmpi .eq c4_i32 c0_i32_2
  let c1_i32 : BitVec 32 := 1#32
  let v9 : BitVec 32 := Scalar.select v8 c1_i32 c4_i32
  let v10 : BitVec 32 := Scalar.remsi v7 v9
  let c0_i32_4 : BitVec 32 := 0#32
  let v12 : BitVec 1 := Scalar.cmpi .slt v10 c0_i32_4
  let c0_i32_5 : BitVec 32 := 0#32
  let v13 : BitVec 1 := Scalar.cmpi .slt v9 c0_i32_5
  let v14 : BitVec 1 := Scalar.xori v12 v13
  let c0_i32_3 : BitVec 32 := 0#32
  let v11 : BitVec 1 := Scalar.cmpi .ne v10 c0_i32_3
  let v15 : BitVec 1 := Scalar.andi v14 v11
  let v16 : BitVec 32 := Scalar.addi v10 v9
  let v17 : BitVec 32 := Scalar.select v15 v16 v10
  ![v17.toNat]
def k0_off9 (i : grid0.Coords) (c3_i32 : BitVec 32) : Fin 1 → Nat :=
  let arg0 : BitVec 32 := BitVec.ofNat 32 (i 0).val
  let v7 : BitVec 32 := Scalar.addi arg0 c3_i32
  let c4_i32 : BitVec 32 := 4#32
  let c0_i32_2 : BitVec 32 := 0#32
  let v8 : BitVec 1 := Scalar.cmpi .eq c4_i32 c0_i32_2
  let c1_i32 : BitVec 32 := 1#32
  let v9 : BitVec 32 := Scalar.select v8 c1_i32 c4_i32
  let v10 : BitVec 32 := Scalar.remsi v7 v9
  let c0_i32_4 : BitVec 32 := 0#32
  let v12 : BitVec 1 := Scalar.cmpi .slt v10 c0_i32_4
  let c0_i32_5 : BitVec 32 := 0#32
  let v13 : BitVec 1 := Scalar.cmpi .slt v9 c0_i32_5
  let v14 : BitVec 1 := Scalar.xori v12 v13
  let c0_i32_3 : BitVec 32 := 0#32
  let v11 : BitVec 1 := Scalar.cmpi .ne v10 c0_i32_3
  let v15 : BitVec 1 := Scalar.andi v14 v11
  let v16 : BitVec 32 := Scalar.addi v10 v9
  let v17 : BitVec 32 := Scalar.select v15 v16 v10
  let c2_i32_6 : BitVec 32 := 2#32
  let v20 : BitVec 32 := Scalar.muli v17 c2_i32_6
  let c256_i32_7 : BitVec 32 := 256#32
  let v21 : BitVec 32 := Scalar.muli v20 c256_i32_7
  ![v21.toNat]
def k0_off10 (i : grid0.Coords) (c3_i32 : BitVec 32) : Fin 1 → Nat :=
  let arg0 : BitVec 32 := BitVec.ofNat 32 (i 0).val
  let v7 : BitVec 32 := Scalar.addi arg0 c3_i32
  let c2_i32 : BitVec 32 := 2#32
  let v18 : BitVec 32 := Scalar.muli v7 c2_i32
  let c256_i32 : BitVec 32 := 256#32
  let v19 : BitVec 32 := Scalar.muli v18 c256_i32
  ![v19.toNat]
def k0_off11 (i : grid0.Coords) : Fin 1 → Nat :=
  let arg0 : BitVec 32 := BitVec.ofNat 32 (i 0).val
  let v46 : Index := Scalar.indexCast arg0
  ![v46.toNat]
def k0_off12 (i : grid0.Coords) : Fin 1 → Nat :=
  let arg0 : BitVec 32 := BitVec.ofNat 32 (i 0).val
  let c1_i32_20 : BitVec 32 := 1#32
  let v48 : BitVec 32 := Scalar.subi arg0 c1_i32_20
  let c0_i32_21 : BitVec 32 := 0#32
  let v49 : BitVec 32 := Scalar.maxsi v48 c0_i32_21
  let v50 : Index := Scalar.indexCast v49
  ![v50.toNat]
def k0_cond4 (i : grid0.Coords) : BitVec 1 :=
  let arg0 : BitVec 32 := BitVec.ofNat 32 (i 0).val
  let c2_i32_23 : BitVec 32 := 2#32
  let c0_i32_24 : BitVec 32 := 0#32
  let v56 : BitVec 1 := Scalar.cmpi .eq c2_i32_23 c0_i32_24
  let c1_i32_25 : BitVec 32 := 1#32
  let v57 : BitVec 32 := Scalar.select v56 c1_i32_25 c2_i32_23
  let v58 : BitVec 32 := Scalar.remsi arg0 v57
  let c0_i32_27 : BitVec 32 := 0#32
  let v60 : BitVec 1 := Scalar.cmpi .slt v58 c0_i32_27
  let c0_i32_28 : BitVec 32 := 0#32
  let v61 : BitVec 1 := Scalar.cmpi .slt v57 c0_i32_28
  let v62 : BitVec 1 := Scalar.xori v60 v61
  let c0_i32_26 : BitVec 32 := 0#32
  let v59 : BitVec 1 := Scalar.cmpi .ne v58 c0_i32_26
  let v63 : BitVec 1 := Scalar.andi v62 v59
  let v64 : BitVec 32 := Scalar.addi v58 v57
  let v65 : BitVec 32 := Scalar.select v63 v64 v58
  let c0_i32_29 : BitVec 32 := 0#32
  let v66 : BitVec 1 := Scalar.cmpi .eq v65 c0_i32_29
  let v67 : BitVec 32 := Scalar.extui v66
  let c0_i32_30 : BitVec 32 := 0#32
  let v68 : BitVec 1 := Scalar.cmpi .ne v67 c0_i32_30
  v68

@[reducible] def k0_t2_loop : Scf.Loop 32 :=
  let c0_i32_55 : BitVec 32 := 0#32
  let c128_i32 : BitVec 32 := 128#32
  let v101 : BitVec 32 := Scalar.addi c0_i32_55 c128_i32
  let c1_i32_56 : BitVec 32 := 1#32
  ⟨c0_i32_55, v101, c1_i32_56⟩
def k0_off13 (i : grid0.Coords) (k0_t2 : Fin k0_t2_loop.trips) : Fin 1 → Nat :=
  let arg0 : BitVec 32 := BitVec.ofNat 32 (i 0).val
  let c2_i32_45 : BitVec 32 := 2#32
  let v88 : BitVec 32 := Scalar.addi arg0 c2_i32_45
  let c4_i32_46 : BitVec 32 := 4#32
  let c0_i32_47 : BitVec 32 := 0#32
  let v89 : BitVec 1 := Scalar.cmpi .eq c4_i32_46 c0_i32_47
  let c1_i32_48 : BitVec 32 := 1#32
  let v90 : BitVec 32 := Scalar.select v89 c1_i32_48 c4_i32_46
  let v91 : BitVec 32 := Scalar.remsi v88 v90
  let c0_i32_50 : BitVec 32 := 0#32
  let v93 : BitVec 1 := Scalar.cmpi .slt v91 c0_i32_50
  let c0_i32_51 : BitVec 32 := 0#32
  let v94 : BitVec 1 := Scalar.cmpi .slt v90 c0_i32_51
  let v95 : BitVec 1 := Scalar.xori v93 v94
  let c0_i32_49 : BitVec 32 := 0#32
  let v92 : BitVec 1 := Scalar.cmpi .ne v91 c0_i32_49
  let v96 : BitVec 1 := Scalar.andi v95 v92
  let v97 : BitVec 32 := Scalar.addi v91 v90
  let v98 : BitVec 32 := Scalar.select v96 v97 v91
  let c2_i32_52 : BitVec 32 := 2#32
  let v99 : BitVec 32 := Scalar.muli v98 c2_i32_52
  let c256_i32_53 : BitVec 32 := 256#32
  let v100 : BitVec 32 := Scalar.muli v99 c256_i32_53
  let c2_i32_135 : BitVec 32 := 2#32
  let c0_i32_55 : BitVec 32 := 0#32
  let c1_i32_56 : BitVec 32 := 1#32
  let arg19 : BitVec 32 := Scf.iv c0_i32_55 c1_i32_56 k0_t2
  let v223 : BitVec 32 := Scalar.muli c2_i32_135 arg19
  let c0_i32_136 : BitVec 32 := 0#32
  let v224 : BitVec 32 := Scalar.addi v223 c0_i32_136
  let v225 : BitVec 32 := Scalar.addi v100 v224
  let v226 : Index := Scalar.indexCast v225
  ![v226.toNat]
def k0_mult3 (v227 : BitVec 32) : BitVec 32 :=
  v227
def k0_cond2 (i : grid0.Coords) (v0 : BitVec 32) : BitVec 1 :=
  let arg0 : BitVec 32 := BitVec.ofNat 32 (i 0).val
  let v4 : BitVec 1 := Scalar.cmpi .slt arg0 v0
  let v5 : BitVec 32 := Scalar.extui v4
  let c0_i32_1 : BitVec 32 := 0#32
  let v6 : BitVec 1 := Scalar.cmpi .ne v5 c0_i32_1
  v6

def k0_off14 (k0_t2 : Fin k0_t2_loop.trips) : Fin 2 → Nat :=
  let c2_i32_135 : BitVec 32 := 2#32
  let c0_i32_55 : BitVec 32 := 0#32
  let c1_i32_56 : BitVec 32 := 1#32
  let arg19 : BitVec 32 := Scf.iv c0_i32_55 c1_i32_56 k0_t2
  let v223 : BitVec 32 := Scalar.muli c2_i32_135 arg19
  let c0_i32_136 : BitVec 32 := 0#32
  let v224 : BitVec 32 := Scalar.addi v223 c0_i32_136
  let c16_i32 : BitVec 32 := 16#32
  let v229 : BitVec 32 := Scalar.muli v224 c16_i32
  let c0_i32_137 : BitVec 32 := 0#32
  ![v229.toNat, 0]
def k0_off15 (v227 : BitVec 32) : Fin 2 → Nat :=
  let v228 : BitVec 32 := v227
  let c0_i32_138 : BitVec 32 := 0#32
  ![v228.toNat, 0]

def k0_chk3 (i : grid0.Coords) (v0 : BitVec 32) (v227 : BitVec 32) : Prop :=
  (∀ (k0_h2 : k0_cond2 i v0 = 1#1), ∀ (k0_h4 : k0_cond4 i = 1#1), 16 ∣ (k0_mult3 v227).toNat) ∧
  (∀ (k0_h2 : k0_cond2 i v0 = 1#1), ∀ (k0_h4 : k0_cond4 i = 1#1), ∀ a, (k0_off15 v227) a + S16x128.size a ≤ S131072x128.size a)
theorem k0_mult3_dvd : ∀ (i : grid0.Coords) (v0 : BitVec 32) (v227 : BitVec 32) (k0_hw3 : k0_chk3 i v0 v227), ∀ (k0_h2 : k0_cond2 i v0 = 1#1), ∀ (k0_h4 : k0_cond4 i = 1#1), 16 ∣ (k0_mult3 v227).toNat := fun i v0 v227 k0_hw3 k0_h2 k0_h4 => k0_hw3.1 k0_h2 k0_h4
theorem k0_off15_inb : ∀ (i : grid0.Coords) (v0 : BitVec 32) (v227 : BitVec 32) (k0_hw3 : k0_chk3 i v0 v227), ∀ (k0_h2 : k0_cond2 i v0 = 1#1), ∀ (k0_h4 : k0_cond4 i = 1#1), ∀ a, (k0_off15 v227) a + S16x128.size a ≤ S131072x128.size a := fun i v0 v227 k0_hw3 k0_h2 k0_h4 => k0_hw3.2 k0_h2 k0_h4

def k0_off16 (i : grid0.Coords) (k0_t2 : Fin k0_t2_loop.trips) : Fin 1 → Nat :=
  let arg0 : BitVec 32 := BitVec.ofNat 32 (i 0).val
  let c2_i32_45 : BitVec 32 := 2#32
  let v88 : BitVec 32 := Scalar.addi arg0 c2_i32_45
  let c4_i32_46 : BitVec 32 := 4#32
  let c0_i32_47 : BitVec 32 := 0#32
  let v89 : BitVec 1 := Scalar.cmpi .eq c4_i32_46 c0_i32_47
  let c1_i32_48 : BitVec 32 := 1#32
  let v90 : BitVec 32 := Scalar.select v89 c1_i32_48 c4_i32_46
  let v91 : BitVec 32 := Scalar.remsi v88 v90
  let c0_i32_50 : BitVec 32 := 0#32
  let v93 : BitVec 1 := Scalar.cmpi .slt v91 c0_i32_50
  let c0_i32_51 : BitVec 32 := 0#32
  let v94 : BitVec 1 := Scalar.cmpi .slt v90 c0_i32_51
  let v95 : BitVec 1 := Scalar.xori v93 v94
  let c0_i32_49 : BitVec 32 := 0#32
  let v92 : BitVec 1 := Scalar.cmpi .ne v91 c0_i32_49
  let v96 : BitVec 1 := Scalar.andi v95 v92
  let v97 : BitVec 32 := Scalar.addi v91 v90
  let v98 : BitVec 32 := Scalar.select v96 v97 v91
  let c2_i32_52 : BitVec 32 := 2#32
  let v99 : BitVec 32 := Scalar.muli v98 c2_i32_52
  let c256_i32_53 : BitVec 32 := 256#32
  let v100 : BitVec 32 := Scalar.muli v99 c256_i32_53
  let c2_i32_139 : BitVec 32 := 2#32
  let c0_i32_55 : BitVec 32 := 0#32
  let c1_i32_56 : BitVec 32 := 1#32
  let arg19 : BitVec 32 := Scf.iv c0_i32_55 c1_i32_56 k0_t2
  let v234 : BitVec 32 := Scalar.muli c2_i32_139 arg19
  let c1_i32_140 : BitVec 32 := 1#32
  let v235 : BitVec 32 := Scalar.addi v234 c1_i32_140
  let v236 : BitVec 32 := Scalar.addi v100 v235
  let v237 : Index := Scalar.indexCast v236
  ![v237.toNat]
def k0_mult4 (v238 : BitVec 32) : BitVec 32 :=
  v238

def k0_off17 (k0_t2 : Fin k0_t2_loop.trips) : Fin 2 → Nat :=
  let c2_i32_139 : BitVec 32 := 2#32
  let c0_i32_55 : BitVec 32 := 0#32
  let c1_i32_56 : BitVec 32 := 1#32
  let arg19 : BitVec 32 := Scf.iv c0_i32_55 c1_i32_56 k0_t2
  let v234 : BitVec 32 := Scalar.muli c2_i32_139 arg19
  let c1_i32_140 : BitVec 32 := 1#32
  let v235 : BitVec 32 := Scalar.addi v234 c1_i32_140
  let c16_i32_141 : BitVec 32 := 16#32
  let v240 : BitVec 32 := Scalar.muli v235 c16_i32_141
  let c0_i32_142 : BitVec 32 := 0#32
  ![v240.toNat, 0]
def k0_off18 (v238 : BitVec 32) : Fin 2 → Nat :=
  let v239 : BitVec 32 := v238
  let c0_i32_143 : BitVec 32 := 0#32
  ![v239.toNat, 0]

def k0_chk4 (i : grid0.Coords) (v0 : BitVec 32) (v238 : BitVec 32) : Prop :=
  (∀ (k0_h2 : k0_cond2 i v0 = 1#1), ∀ (k0_h4 : k0_cond4 i = 1#1), 16 ∣ (k0_mult4 v238).toNat) ∧
  (∀ (k0_h2 : k0_cond2 i v0 = 1#1), ∀ (k0_h4 : k0_cond4 i = 1#1), ∀ a, (k0_off18 v238) a + S16x128.size a ≤ S131072x128.size a)
theorem k0_mult4_dvd : ∀ (i : grid0.Coords) (v0 : BitVec 32) (v238 : BitVec 32) (k0_hw4 : k0_chk4 i v0 v238), ∀ (k0_h2 : k0_cond2 i v0 = 1#1), ∀ (k0_h4 : k0_cond4 i = 1#1), 16 ∣ (k0_mult4 v238).toNat := fun i v0 v238 k0_hw4 k0_h2 k0_h4 => k0_hw4.1 k0_h2 k0_h4
theorem k0_off18_inb : ∀ (i : grid0.Coords) (v0 : BitVec 32) (v238 : BitVec 32) (k0_hw4 : k0_chk4 i v0 v238), ∀ (k0_h2 : k0_cond2 i v0 = 1#1), ∀ (k0_h4 : k0_cond4 i = 1#1), ∀ a, (k0_off18 v238) a + S16x128.size a ≤ S131072x128.size a := fun i v0 v238 k0_hw4 k0_h2 k0_h4 => k0_hw4.2 k0_h2 k0_h4

@[reducible] def k0_t3_loop : Scf.Loop 32 :=
  let c0_i32_68 : BitVec 32 := 0#32
  let c128_i32_69 : BitVec 32 := 128#32
  let v115 : BitVec 32 := Scalar.addi c0_i32_68 c128_i32_69
  let c1_i32_70 : BitVec 32 := 1#32
  ⟨c0_i32_68, v115, c1_i32_70⟩
def k0_off19 (i : grid0.Coords) (k0_t3 : Fin k0_t3_loop.trips) : Fin 1 → Nat :=
  let arg0 : BitVec 32 := BitVec.ofNat 32 (i 0).val
  let c4_i32_58 : BitVec 32 := 4#32
  let c0_i32_59 : BitVec 32 := 0#32
  let v102 : BitVec 1 := Scalar.cmpi .eq c4_i32_58 c0_i32_59
  let c1_i32_60 : BitVec 32 := 1#32
  let v103 : BitVec 32 := Scalar.select v102 c1_i32_60 c4_i32_58
  let v104 : BitVec 32 := Scalar.remsi arg0 v103
  let c0_i32_62 : BitVec 32 := 0#32
  let v106 : BitVec 1 := Scalar.cmpi .slt v104 c0_i32_62
  let c0_i32_63 : BitVec 32 := 0#32
  let v107 : BitVec 1 := Scalar.cmpi .slt v103 c0_i32_63
  let v108 : BitVec 1 := Scalar.xori v106 v107
  let c0_i32_61 : BitVec 32 := 0#32
  let v105 : BitVec 1 := Scalar.cmpi .ne v104 c0_i32_61
  let v109 : BitVec 1 := Scalar.andi v108 v105
  let v110 : BitVec 32 := Scalar.addi v104 v103
  let v111 : BitVec 32 := Scalar.select v109 v110 v104
  let c2_i32_64 : BitVec 32 := 2#32
  let v112 : BitVec 32 := Scalar.muli v111 c2_i32_64
  let c256_i32_65 : BitVec 32 := 256#32
  let v113 : BitVec 32 := Scalar.muli v112 c256_i32_65
  let c256_i32_66 : BitVec 32 := 256#32
  let v114 : BitVec 32 := Scalar.addi v113 c256_i32_66
  let c2_i32_135 : BitVec 32 := 2#32
  let c0_i32_68 : BitVec 32 := 0#32
  let c1_i32_70 : BitVec 32 := 1#32
  let arg19 : BitVec 32 := Scf.iv c0_i32_68 c1_i32_70 k0_t3
  let v223 : BitVec 32 := Scalar.muli c2_i32_135 arg19
  let c0_i32_136 : BitVec 32 := 0#32
  let v224 : BitVec 32 := Scalar.addi v223 c0_i32_136
  let v225 : BitVec 32 := Scalar.addi v114 v224
  let v226 : Index := Scalar.indexCast v225
  ![v226.toNat]
def k0_mult5 (v227 : BitVec 32) : BitVec 32 :=
  v227

def k0_off20 (v227 : BitVec 32) : Fin 2 → Nat :=
  let v228 : BitVec 32 := v227
  let c0_i32_137 : BitVec 32 := 0#32
  ![v228.toNat, 0]
def k0_off21 (k0_t3 : Fin k0_t3_loop.trips) : Fin 2 → Nat :=
  let c2_i32_135 : BitVec 32 := 2#32
  let c0_i32_68 : BitVec 32 := 0#32
  let c1_i32_70 : BitVec 32 := 1#32
  let arg19 : BitVec 32 := Scf.iv c0_i32_68 c1_i32_70 k0_t3
  let v223 : BitVec 32 := Scalar.muli c2_i32_135 arg19
  let c0_i32_136 : BitVec 32 := 0#32
  let v224 : BitVec 32 := Scalar.addi v223 c0_i32_136
  let c16_i32 : BitVec 32 := 16#32
  let v229 : BitVec 32 := Scalar.muli v224 c16_i32
  let c0_i32_138 : BitVec 32 := 0#32
  ![v229.toNat, 0]

def k0_chk5 (i : grid0.Coords) (v0 : BitVec 32) (v227 : BitVec 32) : Prop :=
  (∀ (k0_h2 : k0_cond2 i v0 = 1#1), ∀ (k0_h4 : k0_cond4 i = 1#1), 16 ∣ (k0_mult5 v227).toNat) ∧
  (∀ (k0_h2 : k0_cond2 i v0 = 1#1), ∀ (k0_h4 : k0_cond4 i = 1#1), ∀ a, (k0_off20 v227) a + S16x128.size a ≤ S1056768x128.size a) ∧
  (∀ (k0_h2 : k0_cond2 i v0 = 1#1), ∀ (k0_h4 : k0_cond4 i = 1#1), ∀ (hinb : ∀ a, (k0_off20 v227) a + S16x128.size a ≤ S1056768x128.size a), (Rect.unit (s := S1056768x128) (k0_off20 v227) S16x128.size hinb).WholeWords (EltTy.packing .bf16))
theorem k0_mult5_dvd : ∀ (i : grid0.Coords) (v0 : BitVec 32) (v227 : BitVec 32) (k0_hw5 : k0_chk5 i v0 v227), ∀ (k0_h2 : k0_cond2 i v0 = 1#1), ∀ (k0_h4 : k0_cond4 i = 1#1), 16 ∣ (k0_mult5 v227).toNat := fun i v0 v227 k0_hw5 k0_h2 k0_h4 => k0_hw5.1 k0_h2 k0_h4
theorem k0_off20_inb : ∀ (i : grid0.Coords) (v0 : BitVec 32) (v227 : BitVec 32) (k0_hw5 : k0_chk5 i v0 v227), ∀ (k0_h2 : k0_cond2 i v0 = 1#1), ∀ (k0_h4 : k0_cond4 i = 1#1), ∀ a, (k0_off20 v227) a + S16x128.size a ≤ S1056768x128.size a := fun i v0 v227 k0_hw5 k0_h2 k0_h4 => k0_hw5.2.1 k0_h2 k0_h4
theorem k0_off20_wordsbf16 : ∀ (i : grid0.Coords) (v0 : BitVec 32) (v227 : BitVec 32) (k0_hw5 : k0_chk5 i v0 v227), ∀ (k0_h2 : k0_cond2 i v0 = 1#1), ∀ (k0_h4 : k0_cond4 i = 1#1), (Rect.unit (s := S1056768x128) (k0_off20 v227) S16x128.size (k0_off20_inb i v0 v227 k0_hw5 k0_h2 k0_h4)).WholeWords (EltTy.packing .bf16) := fun i v0 v227 k0_hw5 k0_h2 k0_h4 => k0_hw5.2.2 k0_h2 k0_h4 (k0_off20_inb i v0 v227 k0_hw5 k0_h2 k0_h4)

def k0_off22 (i : grid0.Coords) (k0_t3 : Fin k0_t3_loop.trips) : Fin 1 → Nat :=
  let arg0 : BitVec 32 := BitVec.ofNat 32 (i 0).val
  let c4_i32_58 : BitVec 32 := 4#32
  let c0_i32_59 : BitVec 32 := 0#32
  let v102 : BitVec 1 := Scalar.cmpi .eq c4_i32_58 c0_i32_59
  let c1_i32_60 : BitVec 32 := 1#32
  let v103 : BitVec 32 := Scalar.select v102 c1_i32_60 c4_i32_58
  let v104 : BitVec 32 := Scalar.remsi arg0 v103
  let c0_i32_62 : BitVec 32 := 0#32
  let v106 : BitVec 1 := Scalar.cmpi .slt v104 c0_i32_62
  let c0_i32_63 : BitVec 32 := 0#32
  let v107 : BitVec 1 := Scalar.cmpi .slt v103 c0_i32_63
  let v108 : BitVec 1 := Scalar.xori v106 v107
  let c0_i32_61 : BitVec 32 := 0#32
  let v105 : BitVec 1 := Scalar.cmpi .ne v104 c0_i32_61
  let v109 : BitVec 1 := Scalar.andi v108 v105
  let v110 : BitVec 32 := Scalar.addi v104 v103
  let v111 : BitVec 32 := Scalar.select v109 v110 v104
  let c2_i32_64 : BitVec 32 := 2#32
  let v112 : BitVec 32 := Scalar.muli v111 c2_i32_64
  let c256_i32_65 : BitVec 32 := 256#32
  let v113 : BitVec 32 := Scalar.muli v112 c256_i32_65
  let c256_i32_66 : BitVec 32 := 256#32
  let v114 : BitVec 32 := Scalar.addi v113 c256_i32_66
  let c2_i32_139 : BitVec 32 := 2#32
  let c0_i32_68 : BitVec 32 := 0#32
  let c1_i32_70 : BitVec 32 := 1#32
  let arg19 : BitVec 32 := Scf.iv c0_i32_68 c1_i32_70 k0_t3
  let v234 : BitVec 32 := Scalar.muli c2_i32_139 arg19
  let c1_i32_140 : BitVec 32 := 1#32
  let v235 : BitVec 32 := Scalar.addi v234 c1_i32_140
  let v236 : BitVec 32 := Scalar.addi v114 v235
  let v237 : Index := Scalar.indexCast v236
  ![v237.toNat]
def k0_mult6 (v238 : BitVec 32) : BitVec 32 :=
  v238

def k0_off23 (v238 : BitVec 32) : Fin 2 → Nat :=
  let v239 : BitVec 32 := v238
  let c0_i32_142 : BitVec 32 := 0#32
  ![v239.toNat, 0]
def k0_off24 (k0_t3 : Fin k0_t3_loop.trips) : Fin 2 → Nat :=
  let c2_i32_139 : BitVec 32 := 2#32
  let c0_i32_68 : BitVec 32 := 0#32
  let c1_i32_70 : BitVec 32 := 1#32
  let arg19 : BitVec 32 := Scf.iv c0_i32_68 c1_i32_70 k0_t3
  let v234 : BitVec 32 := Scalar.muli c2_i32_139 arg19
  let c1_i32_140 : BitVec 32 := 1#32
  let v235 : BitVec 32 := Scalar.addi v234 c1_i32_140
  let c16_i32_141 : BitVec 32 := 16#32
  let v240 : BitVec 32 := Scalar.muli v235 c16_i32_141
  let c0_i32_143 : BitVec 32 := 0#32
  ![v240.toNat, 0]

def k0_chk6 (i : grid0.Coords) (v0 : BitVec 32) (v238 : BitVec 32) : Prop :=
  (∀ (k0_h2 : k0_cond2 i v0 = 1#1), ∀ (k0_h4 : k0_cond4 i = 1#1), 16 ∣ (k0_mult6 v238).toNat) ∧
  (∀ (k0_h2 : k0_cond2 i v0 = 1#1), ∀ (k0_h4 : k0_cond4 i = 1#1), ∀ a, (k0_off23 v238) a + S16x128.size a ≤ S1056768x128.size a) ∧
  (∀ (k0_h2 : k0_cond2 i v0 = 1#1), ∀ (k0_h4 : k0_cond4 i = 1#1), ∀ (hinb : ∀ a, (k0_off23 v238) a + S16x128.size a ≤ S1056768x128.size a), (Rect.unit (s := S1056768x128) (k0_off23 v238) S16x128.size hinb).WholeWords (EltTy.packing .bf16))
theorem k0_mult6_dvd : ∀ (i : grid0.Coords) (v0 : BitVec 32) (v238 : BitVec 32) (k0_hw6 : k0_chk6 i v0 v238), ∀ (k0_h2 : k0_cond2 i v0 = 1#1), ∀ (k0_h4 : k0_cond4 i = 1#1), 16 ∣ (k0_mult6 v238).toNat := fun i v0 v238 k0_hw6 k0_h2 k0_h4 => k0_hw6.1 k0_h2 k0_h4
theorem k0_off23_inb : ∀ (i : grid0.Coords) (v0 : BitVec 32) (v238 : BitVec 32) (k0_hw6 : k0_chk6 i v0 v238), ∀ (k0_h2 : k0_cond2 i v0 = 1#1), ∀ (k0_h4 : k0_cond4 i = 1#1), ∀ a, (k0_off23 v238) a + S16x128.size a ≤ S1056768x128.size a := fun i v0 v238 k0_hw6 k0_h2 k0_h4 => k0_hw6.2.1 k0_h2 k0_h4
theorem k0_off23_wordsbf16 : ∀ (i : grid0.Coords) (v0 : BitVec 32) (v238 : BitVec 32) (k0_hw6 : k0_chk6 i v0 v238), ∀ (k0_h2 : k0_cond2 i v0 = 1#1), ∀ (k0_h4 : k0_cond4 i = 1#1), (Rect.unit (s := S1056768x128) (k0_off23 v238) S16x128.size (k0_off23_inb i v0 v238 k0_hw6 k0_h2 k0_h4)).WholeWords (EltTy.packing .bf16) := fun i v0 v238 k0_hw6 k0_h2 k0_h4 => k0_hw6.2.2 k0_h2 k0_h4 (k0_off23_inb i v0 v238 k0_hw6 k0_h2 k0_h4)

@[reducible] def k0_t4_loop : Scf.Loop 32 :=
  let c0_i32_146 : BitVec 32 := 0#32
  let c128_i32_147 : BitVec 32 := 128#32
  let v237 : BitVec 32 := Scalar.addi c0_i32_146 c128_i32_147
  let c1_i32_148 : BitVec 32 := 1#32
  ⟨c0_i32_146, v237, c1_i32_148⟩
def k0_off25 (i : grid0.Coords) (k0_t4 : Fin k0_t4_loop.trips) : Fin 1 → Nat :=
  let arg0 : BitVec 32 := BitVec.ofNat 32 (i 0).val
  let c1_i32_135 : BitVec 32 := 1#32
  let v223 : BitVec 32 := Scalar.addi arg0 c1_i32_135
  let c4_i32_136 : BitVec 32 := 4#32
  let c0_i32_137 : BitVec 32 := 0#32
  let v224 : BitVec 1 := Scalar.cmpi .eq c4_i32_136 c0_i32_137
  let c1_i32_138 : BitVec 32 := 1#32
  let v225 : BitVec 32 := Scalar.select v224 c1_i32_138 c4_i32_136
  let v226 : BitVec 32 := Scalar.remsi v223 v225
  let c0_i32_140 : BitVec 32 := 0#32
  let v228 : BitVec 1 := Scalar.cmpi .slt v226 c0_i32_140
  let c0_i32_141 : BitVec 32 := 0#32
  let v229 : BitVec 1 := Scalar.cmpi .slt v225 c0_i32_141
  let v230 : BitVec 1 := Scalar.xori v228 v229
  let c0_i32_139 : BitVec 32 := 0#32
  let v227 : BitVec 1 := Scalar.cmpi .ne v226 c0_i32_139
  let v231 : BitVec 1 := Scalar.andi v230 v227
  let v232 : BitVec 32 := Scalar.addi v226 v225
  let v233 : BitVec 32 := Scalar.select v231 v232 v226
  let c2_i32_142 : BitVec 32 := 2#32
  let v234 : BitVec 32 := Scalar.muli v233 c2_i32_142
  let c256_i32_143 : BitVec 32 := 256#32
  let v235 : BitVec 32 := Scalar.muli v234 c256_i32_143
  let c256_i32_144 : BitVec 32 := 256#32
  let v236 : BitVec 32 := Scalar.addi v235 c256_i32_144
  let c2_i32_170 : BitVec 32 := 2#32
  let c0_i32_146 : BitVec 32 := 0#32
  let c1_i32_148 : BitVec 32 := 1#32
  let arg19 : BitVec 32 := Scf.iv c0_i32_146 c1_i32_148 k0_t4
  let v266 : BitVec 32 := Scalar.muli c2_i32_170 arg19
  let c0_i32_171 : BitVec 32 := 0#32
  let v267 : BitVec 32 := Scalar.addi v266 c0_i32_171
  let v268 : BitVec 32 := Scalar.addi v236 v267
  let v269 : Index := Scalar.indexCast v268
  ![v269.toNat]
def k0_mult7 (v270 : BitVec 32) : BitVec 32 :=
  v270
def k0_cond5 (i : grid0.Coords) (v0 : BitVec 32) : BitVec 1 :=
  let arg0 : BitVec 32 := BitVec.ofNat 32 (i 0).val
  let c1_i32_133 : BitVec 32 := 1#32
  let v219 : BitVec 32 := Scalar.subi v0 c1_i32_133
  let v220 : BitVec 1 := Scalar.cmpi .eq arg0 v219
  let v221 : BitVec 32 := Scalar.extui v220
  let c0_i32_134 : BitVec 32 := 0#32
  let v222 : BitVec 1 := Scalar.cmpi .ne v221 c0_i32_134
  v222

def k0_off26 (v270 : BitVec 32) : Fin 2 → Nat :=
  let v271 : BitVec 32 := v270
  let c0_i32_172 : BitVec 32 := 0#32
  ![v271.toNat, 0]
def k0_off27 (k0_t4 : Fin k0_t4_loop.trips) : Fin 2 → Nat :=
  let c2_i32_170 : BitVec 32 := 2#32
  let c0_i32_146 : BitVec 32 := 0#32
  let c1_i32_148 : BitVec 32 := 1#32
  let arg19 : BitVec 32 := Scf.iv c0_i32_146 c1_i32_148 k0_t4
  let v266 : BitVec 32 := Scalar.muli c2_i32_170 arg19
  let c0_i32_171 : BitVec 32 := 0#32
  let v267 : BitVec 32 := Scalar.addi v266 c0_i32_171
  let c16_i32 : BitVec 32 := 16#32
  let v272 : BitVec 32 := Scalar.muli v267 c16_i32
  let c0_i32_173 : BitVec 32 := 0#32
  ![v272.toNat, 0]

def k0_chk7 (i : grid0.Coords) (v0 : BitVec 32) (v270 : BitVec 32) : Prop :=
  (∀ (k0_h2 : k0_cond2 i v0 = 1#1), ∀ (k0_h4 : k0_cond4 i = 1#1), ∀ (k0_h5 : k0_cond5 i v0 = 1#1), 16 ∣ (k0_mult7 v270).toNat) ∧
  (∀ (k0_h2 : k0_cond2 i v0 = 1#1), ∀ (k0_h4 : k0_cond4 i = 1#1), ∀ (k0_h5 : k0_cond5 i v0 = 1#1), ∀ a, (k0_off26 v270) a + S16x128.size a ≤ S1056768x128.size a) ∧
  (∀ (k0_h2 : k0_cond2 i v0 = 1#1), ∀ (k0_h4 : k0_cond4 i = 1#1), ∀ (k0_h5 : k0_cond5 i v0 = 1#1), ∀ (hinb : ∀ a, (k0_off26 v270) a + S16x128.size a ≤ S1056768x128.size a), (Rect.unit (s := S1056768x128) (k0_off26 v270) S16x128.size hinb).WholeWords (EltTy.packing .bf16))
theorem k0_mult7_dvd : ∀ (i : grid0.Coords) (v0 : BitVec 32) (v270 : BitVec 32) (k0_hw7 : k0_chk7 i v0 v270), ∀ (k0_h2 : k0_cond2 i v0 = 1#1), ∀ (k0_h4 : k0_cond4 i = 1#1), ∀ (k0_h5 : k0_cond5 i v0 = 1#1), 16 ∣ (k0_mult7 v270).toNat := fun i v0 v270 k0_hw7 k0_h2 k0_h4 k0_h5 => k0_hw7.1 k0_h2 k0_h4 k0_h5
theorem k0_off26_inb : ∀ (i : grid0.Coords) (v0 : BitVec 32) (v270 : BitVec 32) (k0_hw7 : k0_chk7 i v0 v270), ∀ (k0_h2 : k0_cond2 i v0 = 1#1), ∀ (k0_h4 : k0_cond4 i = 1#1), ∀ (k0_h5 : k0_cond5 i v0 = 1#1), ∀ a, (k0_off26 v270) a + S16x128.size a ≤ S1056768x128.size a := fun i v0 v270 k0_hw7 k0_h2 k0_h4 k0_h5 => k0_hw7.2.1 k0_h2 k0_h4 k0_h5
theorem k0_off26_wordsbf16 : ∀ (i : grid0.Coords) (v0 : BitVec 32) (v270 : BitVec 32) (k0_hw7 : k0_chk7 i v0 v270), ∀ (k0_h2 : k0_cond2 i v0 = 1#1), ∀ (k0_h4 : k0_cond4 i = 1#1), ∀ (k0_h5 : k0_cond5 i v0 = 1#1), (Rect.unit (s := S1056768x128) (k0_off26 v270) S16x128.size (k0_off26_inb i v0 v270 k0_hw7 k0_h2 k0_h4 k0_h5)).WholeWords (EltTy.packing .bf16) := fun i v0 v270 k0_hw7 k0_h2 k0_h4 k0_h5 => k0_hw7.2.2 k0_h2 k0_h4 k0_h5 (k0_off26_inb i v0 v270 k0_hw7 k0_h2 k0_h4 k0_h5)

def k0_off28 (i : grid0.Coords) (k0_t4 : Fin k0_t4_loop.trips) : Fin 1 → Nat :=
  let arg0 : BitVec 32 := BitVec.ofNat 32 (i 0).val
  let c1_i32_135 : BitVec 32 := 1#32
  let v223 : BitVec 32 := Scalar.addi arg0 c1_i32_135
  let c4_i32_136 : BitVec 32 := 4#32
  let c0_i32_137 : BitVec 32 := 0#32
  let v224 : BitVec 1 := Scalar.cmpi .eq c4_i32_136 c0_i32_137
  let c1_i32_138 : BitVec 32 := 1#32
  let v225 : BitVec 32 := Scalar.select v224 c1_i32_138 c4_i32_136
  let v226 : BitVec 32 := Scalar.remsi v223 v225
  let c0_i32_140 : BitVec 32 := 0#32
  let v228 : BitVec 1 := Scalar.cmpi .slt v226 c0_i32_140
  let c0_i32_141 : BitVec 32 := 0#32
  let v229 : BitVec 1 := Scalar.cmpi .slt v225 c0_i32_141
  let v230 : BitVec 1 := Scalar.xori v228 v229
  let c0_i32_139 : BitVec 32 := 0#32
  let v227 : BitVec 1 := Scalar.cmpi .ne v226 c0_i32_139
  let v231 : BitVec 1 := Scalar.andi v230 v227
  let v232 : BitVec 32 := Scalar.addi v226 v225
  let v233 : BitVec 32 := Scalar.select v231 v232 v226
  let c2_i32_142 : BitVec 32 := 2#32
  let v234 : BitVec 32 := Scalar.muli v233 c2_i32_142
  let c256_i32_143 : BitVec 32 := 256#32
  let v235 : BitVec 32 := Scalar.muli v234 c256_i32_143
  let c256_i32_144 : BitVec 32 := 256#32
  let v236 : BitVec 32 := Scalar.addi v235 c256_i32_144
  let c2_i32_174 : BitVec 32 := 2#32
  let c0_i32_146 : BitVec 32 := 0#32
  let c1_i32_148 : BitVec 32 := 1#32
  let arg19 : BitVec 32 := Scf.iv c0_i32_146 c1_i32_148 k0_t4
  let v277 : BitVec 32 := Scalar.muli c2_i32_174 arg19
  let c1_i32_175 : BitVec 32 := 1#32
  let v278 : BitVec 32 := Scalar.addi v277 c1_i32_175
  let v279 : BitVec 32 := Scalar.addi v236 v278
  let v280 : Index := Scalar.indexCast v279
  ![v280.toNat]
def k0_mult8 (v281 : BitVec 32) : BitVec 32 :=
  v281

def k0_off29 (v281 : BitVec 32) : Fin 2 → Nat :=
  let v282 : BitVec 32 := v281
  let c0_i32_177 : BitVec 32 := 0#32
  ![v282.toNat, 0]
def k0_off30 (k0_t4 : Fin k0_t4_loop.trips) : Fin 2 → Nat :=
  let c2_i32_174 : BitVec 32 := 2#32
  let c0_i32_146 : BitVec 32 := 0#32
  let c1_i32_148 : BitVec 32 := 1#32
  let arg19 : BitVec 32 := Scf.iv c0_i32_146 c1_i32_148 k0_t4
  let v277 : BitVec 32 := Scalar.muli c2_i32_174 arg19
  let c1_i32_175 : BitVec 32 := 1#32
  let v278 : BitVec 32 := Scalar.addi v277 c1_i32_175
  let c16_i32_176 : BitVec 32 := 16#32
  let v283 : BitVec 32 := Scalar.muli v278 c16_i32_176
  let c0_i32_178 : BitVec 32 := 0#32
  ![v283.toNat, 0]

def k0_chk8 (i : grid0.Coords) (v0 : BitVec 32) (v281 : BitVec 32) : Prop :=
  (∀ (k0_h2 : k0_cond2 i v0 = 1#1), ∀ (k0_h4 : k0_cond4 i = 1#1), ∀ (k0_h5 : k0_cond5 i v0 = 1#1), 16 ∣ (k0_mult8 v281).toNat) ∧
  (∀ (k0_h2 : k0_cond2 i v0 = 1#1), ∀ (k0_h4 : k0_cond4 i = 1#1), ∀ (k0_h5 : k0_cond5 i v0 = 1#1), ∀ a, (k0_off29 v281) a + S16x128.size a ≤ S1056768x128.size a) ∧
  (∀ (k0_h2 : k0_cond2 i v0 = 1#1), ∀ (k0_h4 : k0_cond4 i = 1#1), ∀ (k0_h5 : k0_cond5 i v0 = 1#1), ∀ (hinb : ∀ a, (k0_off29 v281) a + S16x128.size a ≤ S1056768x128.size a), (Rect.unit (s := S1056768x128) (k0_off29 v281) S16x128.size hinb).WholeWords (EltTy.packing .bf16))
theorem k0_mult8_dvd : ∀ (i : grid0.Coords) (v0 : BitVec 32) (v281 : BitVec 32) (k0_hw8 : k0_chk8 i v0 v281), ∀ (k0_h2 : k0_cond2 i v0 = 1#1), ∀ (k0_h4 : k0_cond4 i = 1#1), ∀ (k0_h5 : k0_cond5 i v0 = 1#1), 16 ∣ (k0_mult8 v281).toNat := fun i v0 v281 k0_hw8 k0_h2 k0_h4 k0_h5 => k0_hw8.1 k0_h2 k0_h4 k0_h5
theorem k0_off29_inb : ∀ (i : grid0.Coords) (v0 : BitVec 32) (v281 : BitVec 32) (k0_hw8 : k0_chk8 i v0 v281), ∀ (k0_h2 : k0_cond2 i v0 = 1#1), ∀ (k0_h4 : k0_cond4 i = 1#1), ∀ (k0_h5 : k0_cond5 i v0 = 1#1), ∀ a, (k0_off29 v281) a + S16x128.size a ≤ S1056768x128.size a := fun i v0 v281 k0_hw8 k0_h2 k0_h4 k0_h5 => k0_hw8.2.1 k0_h2 k0_h4 k0_h5
theorem k0_off29_wordsbf16 : ∀ (i : grid0.Coords) (v0 : BitVec 32) (v281 : BitVec 32) (k0_hw8 : k0_chk8 i v0 v281), ∀ (k0_h2 : k0_cond2 i v0 = 1#1), ∀ (k0_h4 : k0_cond4 i = 1#1), ∀ (k0_h5 : k0_cond5 i v0 = 1#1), (Rect.unit (s := S1056768x128) (k0_off29 v281) S16x128.size (k0_off29_inb i v0 v281 k0_hw8 k0_h2 k0_h4 k0_h5)).WholeWords (EltTy.packing .bf16) := fun i v0 v281 k0_hw8 k0_h2 k0_h4 k0_h5 => k0_hw8.2.2 k0_h2 k0_h4 k0_h5 (k0_off29_inb i v0 v281 k0_hw8 k0_h2 k0_h4 k0_h5)

def k0_off31 (i : grid0.Coords) : Fin 1 → Nat :=
  let arg0 : BitVec 32 := BitVec.ofNat 32 (i 0).val
  let c3_i32_159 : BitVec 32 := 3#32
  let v247 : BitVec 32 := Scalar.addi arg0 c3_i32_159
  let c4_i32_160 : BitVec 32 := 4#32
  let c0_i32_161 : BitVec 32 := 0#32
  let v248 : BitVec 1 := Scalar.cmpi .eq c4_i32_160 c0_i32_161
  let c1_i32_162 : BitVec 32 := 1#32
  let v249 : BitVec 32 := Scalar.select v248 c1_i32_162 c4_i32_160
  let v250 : BitVec 32 := Scalar.remsi v247 v249
  let c0_i32_164 : BitVec 32 := 0#32
  let v252 : BitVec 1 := Scalar.cmpi .slt v250 c0_i32_164
  let c0_i32_165 : BitVec 32 := 0#32
  let v253 : BitVec 1 := Scalar.cmpi .slt v249 c0_i32_165
  let v254 : BitVec 1 := Scalar.xori v252 v253
  let c0_i32_163 : BitVec 32 := 0#32
  let v251 : BitVec 1 := Scalar.cmpi .ne v250 c0_i32_163
  let v255 : BitVec 1 := Scalar.andi v254 v251
  let v256 : BitVec 32 := Scalar.addi v250 v249
  let v257 : BitVec 32 := Scalar.select v255 v256 v250
  ![v257.toNat]
def k0_off32 (i : grid0.Coords) : Fin 1 → Nat :=
  let arg0 : BitVec 32 := BitVec.ofNat 32 (i 0).val
  let c3_i32_159 : BitVec 32 := 3#32
  let v247 : BitVec 32 := Scalar.addi arg0 c3_i32_159
  let c4_i32_160 : BitVec 32 := 4#32
  let c0_i32_161 : BitVec 32 := 0#32
  let v248 : BitVec 1 := Scalar.cmpi .eq c4_i32_160 c0_i32_161
  let c1_i32_162 : BitVec 32 := 1#32
  let v249 : BitVec 32 := Scalar.select v248 c1_i32_162 c4_i32_160
  let v250 : BitVec 32 := Scalar.remsi v247 v249
  let c0_i32_164 : BitVec 32 := 0#32
  let v252 : BitVec 1 := Scalar.cmpi .slt v250 c0_i32_164
  let c0_i32_165 : BitVec 32 := 0#32
  let v253 : BitVec 1 := Scalar.cmpi .slt v249 c0_i32_165
  let v254 : BitVec 1 := Scalar.xori v252 v253
  let c0_i32_163 : BitVec 32 := 0#32
  let v251 : BitVec 1 := Scalar.cmpi .ne v250 c0_i32_163
  let v255 : BitVec 1 := Scalar.andi v254 v251
  let v256 : BitVec 32 := Scalar.addi v250 v249
  let v257 : BitVec 32 := Scalar.select v255 v256 v250
  let c2_i32_168 : BitVec 32 := 2#32
  let v260 : BitVec 32 := Scalar.muli v257 c2_i32_168
  let c256_i32_169 : BitVec 32 := 256#32
  let v261 : BitVec 32 := Scalar.muli v260 c256_i32_169
  ![v261.toNat]
def k0_off33 (i : grid0.Coords) : Fin 1 → Nat :=
  let arg0 : BitVec 32 := BitVec.ofNat 32 (i 0).val
  let c3_i32_159 : BitVec 32 := 3#32
  let v247 : BitVec 32 := Scalar.addi arg0 c3_i32_159
  let c2_i32_166 : BitVec 32 := 2#32
  let v258 : BitVec 32 := Scalar.muli v247 c2_i32_166
  let c256_i32_167 : BitVec 32 := 256#32
  let v259 : BitVec 32 := Scalar.muli v258 c256_i32_167
  ![v259.toNat]
def k0_cond6 (i : grid0.Coords) : BitVec 1 :=
  let arg0 : BitVec 32 := BitVec.ofNat 32 (i 0).val
  let c2_i32_31 : BitVec 32 := 2#32
  let c0_i32_32 : BitVec 32 := 0#32
  let v69 : BitVec 1 := Scalar.cmpi .eq c2_i32_31 c0_i32_32
  let c1_i32_33 : BitVec 32 := 1#32
  let v70 : BitVec 32 := Scalar.select v69 c1_i32_33 c2_i32_31
  let v71 : BitVec 32 := Scalar.remsi arg0 v70
  let c0_i32_35 : BitVec 32 := 0#32
  let v73 : BitVec 1 := Scalar.cmpi .slt v71 c0_i32_35
  let c0_i32_36 : BitVec 32 := 0#32
  let v74 : BitVec 1 := Scalar.cmpi .slt v70 c0_i32_36
  let v75 : BitVec 1 := Scalar.xori v73 v74
  let c0_i32_34 : BitVec 32 := 0#32
  let v72 : BitVec 1 := Scalar.cmpi .ne v71 c0_i32_34
  let v76 : BitVec 1 := Scalar.andi v75 v72
  let v77 : BitVec 32 := Scalar.addi v71 v70
  let v78 : BitVec 32 := Scalar.select v76 v77 v71
  let c1_i32_37 : BitVec 32 := 1#32
  let v79 : BitVec 1 := Scalar.cmpi .eq v78 c1_i32_37
  let v80 : BitVec 32 := Scalar.extui v79
  let c0_i32_38 : BitVec 32 := 0#32
  let v81 : BitVec 1 := Scalar.cmpi .ne v80 c0_i32_38
  v81

@[reducible] def k0_t5_loop : Scf.Loop 32 :=
  let c0_i32_55 : BitVec 32 := 0#32
  let c128_i32 : BitVec 32 := 128#32
  let v101 : BitVec 32 := Scalar.addi c0_i32_55 c128_i32
  let c1_i32_56 : BitVec 32 := 1#32
  ⟨c0_i32_55, v101, c1_i32_56⟩
def k0_off34 (i : grid0.Coords) (k0_t5 : Fin k0_t5_loop.trips) : Fin 1 → Nat :=
  let arg0 : BitVec 32 := BitVec.ofNat 32 (i 0).val
  let c2_i32_45 : BitVec 32 := 2#32
  let v88 : BitVec 32 := Scalar.addi arg0 c2_i32_45
  let c4_i32_46 : BitVec 32 := 4#32
  let c0_i32_47 : BitVec 32 := 0#32
  let v89 : BitVec 1 := Scalar.cmpi .eq c4_i32_46 c0_i32_47
  let c1_i32_48 : BitVec 32 := 1#32
  let v90 : BitVec 32 := Scalar.select v89 c1_i32_48 c4_i32_46
  let v91 : BitVec 32 := Scalar.remsi v88 v90
  let c0_i32_50 : BitVec 32 := 0#32
  let v93 : BitVec 1 := Scalar.cmpi .slt v91 c0_i32_50
  let c0_i32_51 : BitVec 32 := 0#32
  let v94 : BitVec 1 := Scalar.cmpi .slt v90 c0_i32_51
  let v95 : BitVec 1 := Scalar.xori v93 v94
  let c0_i32_49 : BitVec 32 := 0#32
  let v92 : BitVec 1 := Scalar.cmpi .ne v91 c0_i32_49
  let v96 : BitVec 1 := Scalar.andi v95 v92
  let v97 : BitVec 32 := Scalar.addi v91 v90
  let v98 : BitVec 32 := Scalar.select v96 v97 v91
  let c2_i32_52 : BitVec 32 := 2#32
  let v99 : BitVec 32 := Scalar.muli v98 c2_i32_52
  let c256_i32_53 : BitVec 32 := 256#32
  let v100 : BitVec 32 := Scalar.muli v99 c256_i32_53
  let c2_i32_135 : BitVec 32 := 2#32
  let c0_i32_55 : BitVec 32 := 0#32
  let c1_i32_56 : BitVec 32 := 1#32
  let arg19 : BitVec 32 := Scf.iv c0_i32_55 c1_i32_56 k0_t5
  let v223 : BitVec 32 := Scalar.muli c2_i32_135 arg19
  let c0_i32_136 : BitVec 32 := 0#32
  let v224 : BitVec 32 := Scalar.addi v223 c0_i32_136
  let v225 : BitVec 32 := Scalar.addi v100 v224
  let v226 : Index := Scalar.indexCast v225
  ![v226.toNat]
def k0_mult9 (v227 : BitVec 32) : BitVec 32 :=
  v227

def k0_off35 (k0_t5 : Fin k0_t5_loop.trips) : Fin 2 → Nat :=
  let c2_i32_135 : BitVec 32 := 2#32
  let c0_i32_55 : BitVec 32 := 0#32
  let c1_i32_56 : BitVec 32 := 1#32
  let arg19 : BitVec 32 := Scf.iv c0_i32_55 c1_i32_56 k0_t5
  let v223 : BitVec 32 := Scalar.muli c2_i32_135 arg19
  let c0_i32_136 : BitVec 32 := 0#32
  let v224 : BitVec 32 := Scalar.addi v223 c0_i32_136
  let c16_i32 : BitVec 32 := 16#32
  let v229 : BitVec 32 := Scalar.muli v224 c16_i32
  let c0_i32_137 : BitVec 32 := 0#32
  ![v229.toNat, 0]
def k0_off36 (v227 : BitVec 32) : Fin 2 → Nat :=
  let v228 : BitVec 32 := v227
  let c0_i32_138 : BitVec 32 := 0#32
  ![v228.toNat, 0]

def k0_chk9 (i : grid0.Coords) (v0 : BitVec 32) (v227 : BitVec 32) : Prop :=
  (∀ (k0_h2 : k0_cond2 i v0 = 1#1), ∀ (k0_h6 : k0_cond6 i = 1#1), 16 ∣ (k0_mult9 v227).toNat) ∧
  (∀ (k0_h2 : k0_cond2 i v0 = 1#1), ∀ (k0_h6 : k0_cond6 i = 1#1), ∀ a, (k0_off36 v227) a + S16x128.size a ≤ S131072x128.size a)
theorem k0_mult9_dvd : ∀ (i : grid0.Coords) (v0 : BitVec 32) (v227 : BitVec 32) (k0_hw9 : k0_chk9 i v0 v227), ∀ (k0_h2 : k0_cond2 i v0 = 1#1), ∀ (k0_h6 : k0_cond6 i = 1#1), 16 ∣ (k0_mult9 v227).toNat := fun i v0 v227 k0_hw9 k0_h2 k0_h6 => k0_hw9.1 k0_h2 k0_h6
theorem k0_off36_inb : ∀ (i : grid0.Coords) (v0 : BitVec 32) (v227 : BitVec 32) (k0_hw9 : k0_chk9 i v0 v227), ∀ (k0_h2 : k0_cond2 i v0 = 1#1), ∀ (k0_h6 : k0_cond6 i = 1#1), ∀ a, (k0_off36 v227) a + S16x128.size a ≤ S131072x128.size a := fun i v0 v227 k0_hw9 k0_h2 k0_h6 => k0_hw9.2 k0_h2 k0_h6

def k0_off37 (i : grid0.Coords) (k0_t5 : Fin k0_t5_loop.trips) : Fin 1 → Nat :=
  let arg0 : BitVec 32 := BitVec.ofNat 32 (i 0).val
  let c2_i32_45 : BitVec 32 := 2#32
  let v88 : BitVec 32 := Scalar.addi arg0 c2_i32_45
  let c4_i32_46 : BitVec 32 := 4#32
  let c0_i32_47 : BitVec 32 := 0#32
  let v89 : BitVec 1 := Scalar.cmpi .eq c4_i32_46 c0_i32_47
  let c1_i32_48 : BitVec 32 := 1#32
  let v90 : BitVec 32 := Scalar.select v89 c1_i32_48 c4_i32_46
  let v91 : BitVec 32 := Scalar.remsi v88 v90
  let c0_i32_50 : BitVec 32 := 0#32
  let v93 : BitVec 1 := Scalar.cmpi .slt v91 c0_i32_50
  let c0_i32_51 : BitVec 32 := 0#32
  let v94 : BitVec 1 := Scalar.cmpi .slt v90 c0_i32_51
  let v95 : BitVec 1 := Scalar.xori v93 v94
  let c0_i32_49 : BitVec 32 := 0#32
  let v92 : BitVec 1 := Scalar.cmpi .ne v91 c0_i32_49
  let v96 : BitVec 1 := Scalar.andi v95 v92
  let v97 : BitVec 32 := Scalar.addi v91 v90
  let v98 : BitVec 32 := Scalar.select v96 v97 v91
  let c2_i32_52 : BitVec 32 := 2#32
  let v99 : BitVec 32 := Scalar.muli v98 c2_i32_52
  let c256_i32_53 : BitVec 32 := 256#32
  let v100 : BitVec 32 := Scalar.muli v99 c256_i32_53
  let c2_i32_139 : BitVec 32 := 2#32
  let c0_i32_55 : BitVec 32 := 0#32
  let c1_i32_56 : BitVec 32 := 1#32
  let arg19 : BitVec 32 := Scf.iv c0_i32_55 c1_i32_56 k0_t5
  let v234 : BitVec 32 := Scalar.muli c2_i32_139 arg19
  let c1_i32_140 : BitVec 32 := 1#32
  let v235 : BitVec 32 := Scalar.addi v234 c1_i32_140
  let v236 : BitVec 32 := Scalar.addi v100 v235
  let v237 : Index := Scalar.indexCast v236
  ![v237.toNat]
def k0_mult10 (v238 : BitVec 32) : BitVec 32 :=
  v238

def k0_off38 (k0_t5 : Fin k0_t5_loop.trips) : Fin 2 → Nat :=
  let c2_i32_139 : BitVec 32 := 2#32
  let c0_i32_55 : BitVec 32 := 0#32
  let c1_i32_56 : BitVec 32 := 1#32
  let arg19 : BitVec 32 := Scf.iv c0_i32_55 c1_i32_56 k0_t5
  let v234 : BitVec 32 := Scalar.muli c2_i32_139 arg19
  let c1_i32_140 : BitVec 32 := 1#32
  let v235 : BitVec 32 := Scalar.addi v234 c1_i32_140
  let c16_i32_141 : BitVec 32 := 16#32
  let v240 : BitVec 32 := Scalar.muli v235 c16_i32_141
  let c0_i32_142 : BitVec 32 := 0#32
  ![v240.toNat, 0]
def k0_off39 (v238 : BitVec 32) : Fin 2 → Nat :=
  let v239 : BitVec 32 := v238
  let c0_i32_143 : BitVec 32 := 0#32
  ![v239.toNat, 0]

def k0_chk10 (i : grid0.Coords) (v0 : BitVec 32) (v238 : BitVec 32) : Prop :=
  (∀ (k0_h2 : k0_cond2 i v0 = 1#1), ∀ (k0_h6 : k0_cond6 i = 1#1), 16 ∣ (k0_mult10 v238).toNat) ∧
  (∀ (k0_h2 : k0_cond2 i v0 = 1#1), ∀ (k0_h6 : k0_cond6 i = 1#1), ∀ a, (k0_off39 v238) a + S16x128.size a ≤ S131072x128.size a)
theorem k0_mult10_dvd : ∀ (i : grid0.Coords) (v0 : BitVec 32) (v238 : BitVec 32) (k0_hw10 : k0_chk10 i v0 v238), ∀ (k0_h2 : k0_cond2 i v0 = 1#1), ∀ (k0_h6 : k0_cond6 i = 1#1), 16 ∣ (k0_mult10 v238).toNat := fun i v0 v238 k0_hw10 k0_h2 k0_h6 => k0_hw10.1 k0_h2 k0_h6
theorem k0_off39_inb : ∀ (i : grid0.Coords) (v0 : BitVec 32) (v238 : BitVec 32) (k0_hw10 : k0_chk10 i v0 v238), ∀ (k0_h2 : k0_cond2 i v0 = 1#1), ∀ (k0_h6 : k0_cond6 i = 1#1), ∀ a, (k0_off39 v238) a + S16x128.size a ≤ S131072x128.size a := fun i v0 v238 k0_hw10 k0_h2 k0_h6 => k0_hw10.2 k0_h2 k0_h6

@[reducible] def k0_t6_loop : Scf.Loop 32 :=
  let c0_i32_68 : BitVec 32 := 0#32
  let c128_i32_69 : BitVec 32 := 128#32
  let v115 : BitVec 32 := Scalar.addi c0_i32_68 c128_i32_69
  let c1_i32_70 : BitVec 32 := 1#32
  ⟨c0_i32_68, v115, c1_i32_70⟩
def k0_off40 (i : grid0.Coords) (k0_t6 : Fin k0_t6_loop.trips) : Fin 1 → Nat :=
  let arg0 : BitVec 32 := BitVec.ofNat 32 (i 0).val
  let c4_i32_58 : BitVec 32 := 4#32
  let c0_i32_59 : BitVec 32 := 0#32
  let v102 : BitVec 1 := Scalar.cmpi .eq c4_i32_58 c0_i32_59
  let c1_i32_60 : BitVec 32 := 1#32
  let v103 : BitVec 32 := Scalar.select v102 c1_i32_60 c4_i32_58
  let v104 : BitVec 32 := Scalar.remsi arg0 v103
  let c0_i32_62 : BitVec 32 := 0#32
  let v106 : BitVec 1 := Scalar.cmpi .slt v104 c0_i32_62
  let c0_i32_63 : BitVec 32 := 0#32
  let v107 : BitVec 1 := Scalar.cmpi .slt v103 c0_i32_63
  let v108 : BitVec 1 := Scalar.xori v106 v107
  let c0_i32_61 : BitVec 32 := 0#32
  let v105 : BitVec 1 := Scalar.cmpi .ne v104 c0_i32_61
  let v109 : BitVec 1 := Scalar.andi v108 v105
  let v110 : BitVec 32 := Scalar.addi v104 v103
  let v111 : BitVec 32 := Scalar.select v109 v110 v104
  let c2_i32_64 : BitVec 32 := 2#32
  let v112 : BitVec 32 := Scalar.muli v111 c2_i32_64
  let c256_i32_65 : BitVec 32 := 256#32
  let v113 : BitVec 32 := Scalar.muli v112 c256_i32_65
  let c256_i32_66 : BitVec 32 := 256#32
  let v114 : BitVec 32 := Scalar.addi v113 c256_i32_66
  let c2_i32_135 : BitVec 32 := 2#32
  let c0_i32_68 : BitVec 32 := 0#32
  let c1_i32_70 : BitVec 32 := 1#32
  let arg19 : BitVec 32 := Scf.iv c0_i32_68 c1_i32_70 k0_t6
  let v223 : BitVec 32 := Scalar.muli c2_i32_135 arg19
  let c0_i32_136 : BitVec 32 := 0#32
  let v224 : BitVec 32 := Scalar.addi v223 c0_i32_136
  let v225 : BitVec 32 := Scalar.addi v114 v224
  let v226 : Index := Scalar.indexCast v225
  ![v226.toNat]
def k0_mult11 (v227 : BitVec 32) : BitVec 32 :=
  v227

def k0_off41 (v227 : BitVec 32) : Fin 2 → Nat :=
  let v228 : BitVec 32 := v227
  let c0_i32_137 : BitVec 32 := 0#32
  ![v228.toNat, 0]
def k0_off42 (k0_t6 : Fin k0_t6_loop.trips) : Fin 2 → Nat :=
  let c2_i32_135 : BitVec 32 := 2#32
  let c0_i32_68 : BitVec 32 := 0#32
  let c1_i32_70 : BitVec 32 := 1#32
  let arg19 : BitVec 32 := Scf.iv c0_i32_68 c1_i32_70 k0_t6
  let v223 : BitVec 32 := Scalar.muli c2_i32_135 arg19
  let c0_i32_136 : BitVec 32 := 0#32
  let v224 : BitVec 32 := Scalar.addi v223 c0_i32_136
  let c16_i32 : BitVec 32 := 16#32
  let v229 : BitVec 32 := Scalar.muli v224 c16_i32
  let c0_i32_138 : BitVec 32 := 0#32
  ![v229.toNat, 0]

def k0_chk11 (i : grid0.Coords) (v0 : BitVec 32) (v227 : BitVec 32) : Prop :=
  (∀ (k0_h2 : k0_cond2 i v0 = 1#1), ∀ (k0_h6 : k0_cond6 i = 1#1), 16 ∣ (k0_mult11 v227).toNat) ∧
  (∀ (k0_h2 : k0_cond2 i v0 = 1#1), ∀ (k0_h6 : k0_cond6 i = 1#1), ∀ a, (k0_off41 v227) a + S16x128.size a ≤ S1056768x128.size a) ∧
  (∀ (k0_h2 : k0_cond2 i v0 = 1#1), ∀ (k0_h6 : k0_cond6 i = 1#1), ∀ (hinb : ∀ a, (k0_off41 v227) a + S16x128.size a ≤ S1056768x128.size a), (Rect.unit (s := S1056768x128) (k0_off41 v227) S16x128.size hinb).WholeWords (EltTy.packing .bf16))
theorem k0_mult11_dvd : ∀ (i : grid0.Coords) (v0 : BitVec 32) (v227 : BitVec 32) (k0_hw11 : k0_chk11 i v0 v227), ∀ (k0_h2 : k0_cond2 i v0 = 1#1), ∀ (k0_h6 : k0_cond6 i = 1#1), 16 ∣ (k0_mult11 v227).toNat := fun i v0 v227 k0_hw11 k0_h2 k0_h6 => k0_hw11.1 k0_h2 k0_h6
theorem k0_off41_inb : ∀ (i : grid0.Coords) (v0 : BitVec 32) (v227 : BitVec 32) (k0_hw11 : k0_chk11 i v0 v227), ∀ (k0_h2 : k0_cond2 i v0 = 1#1), ∀ (k0_h6 : k0_cond6 i = 1#1), ∀ a, (k0_off41 v227) a + S16x128.size a ≤ S1056768x128.size a := fun i v0 v227 k0_hw11 k0_h2 k0_h6 => k0_hw11.2.1 k0_h2 k0_h6
theorem k0_off41_wordsbf16 : ∀ (i : grid0.Coords) (v0 : BitVec 32) (v227 : BitVec 32) (k0_hw11 : k0_chk11 i v0 v227), ∀ (k0_h2 : k0_cond2 i v0 = 1#1), ∀ (k0_h6 : k0_cond6 i = 1#1), (Rect.unit (s := S1056768x128) (k0_off41 v227) S16x128.size (k0_off41_inb i v0 v227 k0_hw11 k0_h2 k0_h6)).WholeWords (EltTy.packing .bf16) := fun i v0 v227 k0_hw11 k0_h2 k0_h6 => k0_hw11.2.2 k0_h2 k0_h6 (k0_off41_inb i v0 v227 k0_hw11 k0_h2 k0_h6)

def k0_off43 (i : grid0.Coords) (k0_t6 : Fin k0_t6_loop.trips) : Fin 1 → Nat :=
  let arg0 : BitVec 32 := BitVec.ofNat 32 (i 0).val
  let c4_i32_58 : BitVec 32 := 4#32
  let c0_i32_59 : BitVec 32 := 0#32
  let v102 : BitVec 1 := Scalar.cmpi .eq c4_i32_58 c0_i32_59
  let c1_i32_60 : BitVec 32 := 1#32
  let v103 : BitVec 32 := Scalar.select v102 c1_i32_60 c4_i32_58
  let v104 : BitVec 32 := Scalar.remsi arg0 v103
  let c0_i32_62 : BitVec 32 := 0#32
  let v106 : BitVec 1 := Scalar.cmpi .slt v104 c0_i32_62
  let c0_i32_63 : BitVec 32 := 0#32
  let v107 : BitVec 1 := Scalar.cmpi .slt v103 c0_i32_63
  let v108 : BitVec 1 := Scalar.xori v106 v107
  let c0_i32_61 : BitVec 32 := 0#32
  let v105 : BitVec 1 := Scalar.cmpi .ne v104 c0_i32_61
  let v109 : BitVec 1 := Scalar.andi v108 v105
  let v110 : BitVec 32 := Scalar.addi v104 v103
  let v111 : BitVec 32 := Scalar.select v109 v110 v104
  let c2_i32_64 : BitVec 32 := 2#32
  let v112 : BitVec 32 := Scalar.muli v111 c2_i32_64
  let c256_i32_65 : BitVec 32 := 256#32
  let v113 : BitVec 32 := Scalar.muli v112 c256_i32_65
  let c256_i32_66 : BitVec 32 := 256#32
  let v114 : BitVec 32 := Scalar.addi v113 c256_i32_66
  let c2_i32_139 : BitVec 32 := 2#32
  let c0_i32_68 : BitVec 32 := 0#32
  let c1_i32_70 : BitVec 32 := 1#32
  let arg19 : BitVec 32 := Scf.iv c0_i32_68 c1_i32_70 k0_t6
  let v234 : BitVec 32 := Scalar.muli c2_i32_139 arg19
  let c1_i32_140 : BitVec 32 := 1#32
  let v235 : BitVec 32 := Scalar.addi v234 c1_i32_140
  let v236 : BitVec 32 := Scalar.addi v114 v235
  let v237 : Index := Scalar.indexCast v236
  ![v237.toNat]
def k0_mult12 (v238 : BitVec 32) : BitVec 32 :=
  v238

def k0_off44 (v238 : BitVec 32) : Fin 2 → Nat :=
  let v239 : BitVec 32 := v238
  let c0_i32_142 : BitVec 32 := 0#32
  ![v239.toNat, 0]
def k0_off45 (k0_t6 : Fin k0_t6_loop.trips) : Fin 2 → Nat :=
  let c2_i32_139 : BitVec 32 := 2#32
  let c0_i32_68 : BitVec 32 := 0#32
  let c1_i32_70 : BitVec 32 := 1#32
  let arg19 : BitVec 32 := Scf.iv c0_i32_68 c1_i32_70 k0_t6
  let v234 : BitVec 32 := Scalar.muli c2_i32_139 arg19
  let c1_i32_140 : BitVec 32 := 1#32
  let v235 : BitVec 32 := Scalar.addi v234 c1_i32_140
  let c16_i32_141 : BitVec 32 := 16#32
  let v240 : BitVec 32 := Scalar.muli v235 c16_i32_141
  let c0_i32_143 : BitVec 32 := 0#32
  ![v240.toNat, 0]

def k0_chk12 (i : grid0.Coords) (v0 : BitVec 32) (v238 : BitVec 32) : Prop :=
  (∀ (k0_h2 : k0_cond2 i v0 = 1#1), ∀ (k0_h6 : k0_cond6 i = 1#1), 16 ∣ (k0_mult12 v238).toNat) ∧
  (∀ (k0_h2 : k0_cond2 i v0 = 1#1), ∀ (k0_h6 : k0_cond6 i = 1#1), ∀ a, (k0_off44 v238) a + S16x128.size a ≤ S1056768x128.size a) ∧
  (∀ (k0_h2 : k0_cond2 i v0 = 1#1), ∀ (k0_h6 : k0_cond6 i = 1#1), ∀ (hinb : ∀ a, (k0_off44 v238) a + S16x128.size a ≤ S1056768x128.size a), (Rect.unit (s := S1056768x128) (k0_off44 v238) S16x128.size hinb).WholeWords (EltTy.packing .bf16))
theorem k0_mult12_dvd : ∀ (i : grid0.Coords) (v0 : BitVec 32) (v238 : BitVec 32) (k0_hw12 : k0_chk12 i v0 v238), ∀ (k0_h2 : k0_cond2 i v0 = 1#1), ∀ (k0_h6 : k0_cond6 i = 1#1), 16 ∣ (k0_mult12 v238).toNat := fun i v0 v238 k0_hw12 k0_h2 k0_h6 => k0_hw12.1 k0_h2 k0_h6
theorem k0_off44_inb : ∀ (i : grid0.Coords) (v0 : BitVec 32) (v238 : BitVec 32) (k0_hw12 : k0_chk12 i v0 v238), ∀ (k0_h2 : k0_cond2 i v0 = 1#1), ∀ (k0_h6 : k0_cond6 i = 1#1), ∀ a, (k0_off44 v238) a + S16x128.size a ≤ S1056768x128.size a := fun i v0 v238 k0_hw12 k0_h2 k0_h6 => k0_hw12.2.1 k0_h2 k0_h6
theorem k0_off44_wordsbf16 : ∀ (i : grid0.Coords) (v0 : BitVec 32) (v238 : BitVec 32) (k0_hw12 : k0_chk12 i v0 v238), ∀ (k0_h2 : k0_cond2 i v0 = 1#1), ∀ (k0_h6 : k0_cond6 i = 1#1), (Rect.unit (s := S1056768x128) (k0_off44 v238) S16x128.size (k0_off44_inb i v0 v238 k0_hw12 k0_h2 k0_h6)).WholeWords (EltTy.packing .bf16) := fun i v0 v238 k0_hw12 k0_h2 k0_h6 => k0_hw12.2.2 k0_h2 k0_h6 (k0_off44_inb i v0 v238 k0_hw12 k0_h2 k0_h6)

@[reducible] def k0_t7_loop : Scf.Loop 32 :=
  let c0_i32_146 : BitVec 32 := 0#32
  let c128_i32_147 : BitVec 32 := 128#32
  let v237 : BitVec 32 := Scalar.addi c0_i32_146 c128_i32_147
  let c1_i32_148 : BitVec 32 := 1#32
  ⟨c0_i32_146, v237, c1_i32_148⟩
def k0_off46 (i : grid0.Coords) (k0_t7 : Fin k0_t7_loop.trips) : Fin 1 → Nat :=
  let arg0 : BitVec 32 := BitVec.ofNat 32 (i 0).val
  let c1_i32_135 : BitVec 32 := 1#32
  let v223 : BitVec 32 := Scalar.addi arg0 c1_i32_135
  let c4_i32_136 : BitVec 32 := 4#32
  let c0_i32_137 : BitVec 32 := 0#32
  let v224 : BitVec 1 := Scalar.cmpi .eq c4_i32_136 c0_i32_137
  let c1_i32_138 : BitVec 32 := 1#32
  let v225 : BitVec 32 := Scalar.select v224 c1_i32_138 c4_i32_136
  let v226 : BitVec 32 := Scalar.remsi v223 v225
  let c0_i32_140 : BitVec 32 := 0#32
  let v228 : BitVec 1 := Scalar.cmpi .slt v226 c0_i32_140
  let c0_i32_141 : BitVec 32 := 0#32
  let v229 : BitVec 1 := Scalar.cmpi .slt v225 c0_i32_141
  let v230 : BitVec 1 := Scalar.xori v228 v229
  let c0_i32_139 : BitVec 32 := 0#32
  let v227 : BitVec 1 := Scalar.cmpi .ne v226 c0_i32_139
  let v231 : BitVec 1 := Scalar.andi v230 v227
  let v232 : BitVec 32 := Scalar.addi v226 v225
  let v233 : BitVec 32 := Scalar.select v231 v232 v226
  let c2_i32_142 : BitVec 32 := 2#32
  let v234 : BitVec 32 := Scalar.muli v233 c2_i32_142
  let c256_i32_143 : BitVec 32 := 256#32
  let v235 : BitVec 32 := Scalar.muli v234 c256_i32_143
  let c256_i32_144 : BitVec 32 := 256#32
  let v236 : BitVec 32 := Scalar.addi v235 c256_i32_144
  let c2_i32_170 : BitVec 32 := 2#32
  let c0_i32_146 : BitVec 32 := 0#32
  let c1_i32_148 : BitVec 32 := 1#32
  let arg19 : BitVec 32 := Scf.iv c0_i32_146 c1_i32_148 k0_t7
  let v266 : BitVec 32 := Scalar.muli c2_i32_170 arg19
  let c0_i32_171 : BitVec 32 := 0#32
  let v267 : BitVec 32 := Scalar.addi v266 c0_i32_171
  let v268 : BitVec 32 := Scalar.addi v236 v267
  let v269 : Index := Scalar.indexCast v268
  ![v269.toNat]
def k0_mult13 (v270 : BitVec 32) : BitVec 32 :=
  v270
def k0_cond7 (i : grid0.Coords) (v0 : BitVec 32) : BitVec 1 :=
  let arg0 : BitVec 32 := BitVec.ofNat 32 (i 0).val
  let c1_i32_133 : BitVec 32 := 1#32
  let v219 : BitVec 32 := Scalar.subi v0 c1_i32_133
  let v220 : BitVec 1 := Scalar.cmpi .eq arg0 v219
  let v221 : BitVec 32 := Scalar.extui v220
  let c0_i32_134 : BitVec 32 := 0#32
  let v222 : BitVec 1 := Scalar.cmpi .ne v221 c0_i32_134
  v222

def k0_off47 (v270 : BitVec 32) : Fin 2 → Nat :=
  let v271 : BitVec 32 := v270
  let c0_i32_172 : BitVec 32 := 0#32
  ![v271.toNat, 0]
def k0_off48 (k0_t7 : Fin k0_t7_loop.trips) : Fin 2 → Nat :=
  let c2_i32_170 : BitVec 32 := 2#32
  let c0_i32_146 : BitVec 32 := 0#32
  let c1_i32_148 : BitVec 32 := 1#32
  let arg19 : BitVec 32 := Scf.iv c0_i32_146 c1_i32_148 k0_t7
  let v266 : BitVec 32 := Scalar.muli c2_i32_170 arg19
  let c0_i32_171 : BitVec 32 := 0#32
  let v267 : BitVec 32 := Scalar.addi v266 c0_i32_171
  let c16_i32 : BitVec 32 := 16#32
  let v272 : BitVec 32 := Scalar.muli v267 c16_i32
  let c0_i32_173 : BitVec 32 := 0#32
  ![v272.toNat, 0]

def k0_chk13 (i : grid0.Coords) (v0 : BitVec 32) (v270 : BitVec 32) : Prop :=
  (∀ (k0_h2 : k0_cond2 i v0 = 1#1), ∀ (k0_h6 : k0_cond6 i = 1#1), ∀ (k0_h7 : k0_cond7 i v0 = 1#1), 16 ∣ (k0_mult13 v270).toNat) ∧
  (∀ (k0_h2 : k0_cond2 i v0 = 1#1), ∀ (k0_h6 : k0_cond6 i = 1#1), ∀ (k0_h7 : k0_cond7 i v0 = 1#1), ∀ a, (k0_off47 v270) a + S16x128.size a ≤ S1056768x128.size a) ∧
  (∀ (k0_h2 : k0_cond2 i v0 = 1#1), ∀ (k0_h6 : k0_cond6 i = 1#1), ∀ (k0_h7 : k0_cond7 i v0 = 1#1), ∀ (hinb : ∀ a, (k0_off47 v270) a + S16x128.size a ≤ S1056768x128.size a), (Rect.unit (s := S1056768x128) (k0_off47 v270) S16x128.size hinb).WholeWords (EltTy.packing .bf16))
theorem k0_mult13_dvd : ∀ (i : grid0.Coords) (v0 : BitVec 32) (v270 : BitVec 32) (k0_hw13 : k0_chk13 i v0 v270), ∀ (k0_h2 : k0_cond2 i v0 = 1#1), ∀ (k0_h6 : k0_cond6 i = 1#1), ∀ (k0_h7 : k0_cond7 i v0 = 1#1), 16 ∣ (k0_mult13 v270).toNat := fun i v0 v270 k0_hw13 k0_h2 k0_h6 k0_h7 => k0_hw13.1 k0_h2 k0_h6 k0_h7
theorem k0_off47_inb : ∀ (i : grid0.Coords) (v0 : BitVec 32) (v270 : BitVec 32) (k0_hw13 : k0_chk13 i v0 v270), ∀ (k0_h2 : k0_cond2 i v0 = 1#1), ∀ (k0_h6 : k0_cond6 i = 1#1), ∀ (k0_h7 : k0_cond7 i v0 = 1#1), ∀ a, (k0_off47 v270) a + S16x128.size a ≤ S1056768x128.size a := fun i v0 v270 k0_hw13 k0_h2 k0_h6 k0_h7 => k0_hw13.2.1 k0_h2 k0_h6 k0_h7
theorem k0_off47_wordsbf16 : ∀ (i : grid0.Coords) (v0 : BitVec 32) (v270 : BitVec 32) (k0_hw13 : k0_chk13 i v0 v270), ∀ (k0_h2 : k0_cond2 i v0 = 1#1), ∀ (k0_h6 : k0_cond6 i = 1#1), ∀ (k0_h7 : k0_cond7 i v0 = 1#1), (Rect.unit (s := S1056768x128) (k0_off47 v270) S16x128.size (k0_off47_inb i v0 v270 k0_hw13 k0_h2 k0_h6 k0_h7)).WholeWords (EltTy.packing .bf16) := fun i v0 v270 k0_hw13 k0_h2 k0_h6 k0_h7 => k0_hw13.2.2 k0_h2 k0_h6 k0_h7 (k0_off47_inb i v0 v270 k0_hw13 k0_h2 k0_h6 k0_h7)

def k0_off49 (i : grid0.Coords) (k0_t7 : Fin k0_t7_loop.trips) : Fin 1 → Nat :=
  let arg0 : BitVec 32 := BitVec.ofNat 32 (i 0).val
  let c1_i32_135 : BitVec 32 := 1#32
  let v223 : BitVec 32 := Scalar.addi arg0 c1_i32_135
  let c4_i32_136 : BitVec 32 := 4#32
  let c0_i32_137 : BitVec 32 := 0#32
  let v224 : BitVec 1 := Scalar.cmpi .eq c4_i32_136 c0_i32_137
  let c1_i32_138 : BitVec 32 := 1#32
  let v225 : BitVec 32 := Scalar.select v224 c1_i32_138 c4_i32_136
  let v226 : BitVec 32 := Scalar.remsi v223 v225
  let c0_i32_140 : BitVec 32 := 0#32
  let v228 : BitVec 1 := Scalar.cmpi .slt v226 c0_i32_140
  let c0_i32_141 : BitVec 32 := 0#32
  let v229 : BitVec 1 := Scalar.cmpi .slt v225 c0_i32_141
  let v230 : BitVec 1 := Scalar.xori v228 v229
  let c0_i32_139 : BitVec 32 := 0#32
  let v227 : BitVec 1 := Scalar.cmpi .ne v226 c0_i32_139
  let v231 : BitVec 1 := Scalar.andi v230 v227
  let v232 : BitVec 32 := Scalar.addi v226 v225
  let v233 : BitVec 32 := Scalar.select v231 v232 v226
  let c2_i32_142 : BitVec 32 := 2#32
  let v234 : BitVec 32 := Scalar.muli v233 c2_i32_142
  let c256_i32_143 : BitVec 32 := 256#32
  let v235 : BitVec 32 := Scalar.muli v234 c256_i32_143
  let c256_i32_144 : BitVec 32 := 256#32
  let v236 : BitVec 32 := Scalar.addi v235 c256_i32_144
  let c2_i32_174 : BitVec 32 := 2#32
  let c0_i32_146 : BitVec 32 := 0#32
  let c1_i32_148 : BitVec 32 := 1#32
  let arg19 : BitVec 32 := Scf.iv c0_i32_146 c1_i32_148 k0_t7
  let v277 : BitVec 32 := Scalar.muli c2_i32_174 arg19
  let c1_i32_175 : BitVec 32 := 1#32
  let v278 : BitVec 32 := Scalar.addi v277 c1_i32_175
  let v279 : BitVec 32 := Scalar.addi v236 v278
  let v280 : Index := Scalar.indexCast v279
  ![v280.toNat]
def k0_mult14 (v281 : BitVec 32) : BitVec 32 :=
  v281

def k0_off50 (v281 : BitVec 32) : Fin 2 → Nat :=
  let v282 : BitVec 32 := v281
  let c0_i32_177 : BitVec 32 := 0#32
  ![v282.toNat, 0]
def k0_off51 (k0_t7 : Fin k0_t7_loop.trips) : Fin 2 → Nat :=
  let c2_i32_174 : BitVec 32 := 2#32
  let c0_i32_146 : BitVec 32 := 0#32
  let c1_i32_148 : BitVec 32 := 1#32
  let arg19 : BitVec 32 := Scf.iv c0_i32_146 c1_i32_148 k0_t7
  let v277 : BitVec 32 := Scalar.muli c2_i32_174 arg19
  let c1_i32_175 : BitVec 32 := 1#32
  let v278 : BitVec 32 := Scalar.addi v277 c1_i32_175
  let c16_i32_176 : BitVec 32 := 16#32
  let v283 : BitVec 32 := Scalar.muli v278 c16_i32_176
  let c0_i32_178 : BitVec 32 := 0#32
  ![v283.toNat, 0]

def k0_chk14 (i : grid0.Coords) (v0 : BitVec 32) (v281 : BitVec 32) : Prop :=
  (∀ (k0_h2 : k0_cond2 i v0 = 1#1), ∀ (k0_h6 : k0_cond6 i = 1#1), ∀ (k0_h7 : k0_cond7 i v0 = 1#1), 16 ∣ (k0_mult14 v281).toNat) ∧
  (∀ (k0_h2 : k0_cond2 i v0 = 1#1), ∀ (k0_h6 : k0_cond6 i = 1#1), ∀ (k0_h7 : k0_cond7 i v0 = 1#1), ∀ a, (k0_off50 v281) a + S16x128.size a ≤ S1056768x128.size a) ∧
  (∀ (k0_h2 : k0_cond2 i v0 = 1#1), ∀ (k0_h6 : k0_cond6 i = 1#1), ∀ (k0_h7 : k0_cond7 i v0 = 1#1), ∀ (hinb : ∀ a, (k0_off50 v281) a + S16x128.size a ≤ S1056768x128.size a), (Rect.unit (s := S1056768x128) (k0_off50 v281) S16x128.size hinb).WholeWords (EltTy.packing .bf16))
theorem k0_mult14_dvd : ∀ (i : grid0.Coords) (v0 : BitVec 32) (v281 : BitVec 32) (k0_hw14 : k0_chk14 i v0 v281), ∀ (k0_h2 : k0_cond2 i v0 = 1#1), ∀ (k0_h6 : k0_cond6 i = 1#1), ∀ (k0_h7 : k0_cond7 i v0 = 1#1), 16 ∣ (k0_mult14 v281).toNat := fun i v0 v281 k0_hw14 k0_h2 k0_h6 k0_h7 => k0_hw14.1 k0_h2 k0_h6 k0_h7
theorem k0_off50_inb : ∀ (i : grid0.Coords) (v0 : BitVec 32) (v281 : BitVec 32) (k0_hw14 : k0_chk14 i v0 v281), ∀ (k0_h2 : k0_cond2 i v0 = 1#1), ∀ (k0_h6 : k0_cond6 i = 1#1), ∀ (k0_h7 : k0_cond7 i v0 = 1#1), ∀ a, (k0_off50 v281) a + S16x128.size a ≤ S1056768x128.size a := fun i v0 v281 k0_hw14 k0_h2 k0_h6 k0_h7 => k0_hw14.2.1 k0_h2 k0_h6 k0_h7
theorem k0_off50_wordsbf16 : ∀ (i : grid0.Coords) (v0 : BitVec 32) (v281 : BitVec 32) (k0_hw14 : k0_chk14 i v0 v281), ∀ (k0_h2 : k0_cond2 i v0 = 1#1), ∀ (k0_h6 : k0_cond6 i = 1#1), ∀ (k0_h7 : k0_cond7 i v0 = 1#1), (Rect.unit (s := S1056768x128) (k0_off50 v281) S16x128.size (k0_off50_inb i v0 v281 k0_hw14 k0_h2 k0_h6 k0_h7)).WholeWords (EltTy.packing .bf16) := fun i v0 v281 k0_hw14 k0_h2 k0_h6 k0_h7 => k0_hw14.2.2 k0_h2 k0_h6 k0_h7 (k0_off50_inb i v0 v281 k0_hw14 k0_h2 k0_h6 k0_h7)

def k0_off52 (i : grid0.Coords) : Fin 1 → Nat :=
  let arg0 : BitVec 32 := BitVec.ofNat 32 (i 0).val
  let c3_i32_159 : BitVec 32 := 3#32
  let v247 : BitVec 32 := Scalar.addi arg0 c3_i32_159
  let c4_i32_160 : BitVec 32 := 4#32
  let c0_i32_161 : BitVec 32 := 0#32
  let v248 : BitVec 1 := Scalar.cmpi .eq c4_i32_160 c0_i32_161
  let c1_i32_162 : BitVec 32 := 1#32
  let v249 : BitVec 32 := Scalar.select v248 c1_i32_162 c4_i32_160
  let v250 : BitVec 32 := Scalar.remsi v247 v249
  let c0_i32_164 : BitVec 32 := 0#32
  let v252 : BitVec 1 := Scalar.cmpi .slt v250 c0_i32_164
  let c0_i32_165 : BitVec 32 := 0#32
  let v253 : BitVec 1 := Scalar.cmpi .slt v249 c0_i32_165
  let v254 : BitVec 1 := Scalar.xori v252 v253
  let c0_i32_163 : BitVec 32 := 0#32
  let v251 : BitVec 1 := Scalar.cmpi .ne v250 c0_i32_163
  let v255 : BitVec 1 := Scalar.andi v254 v251
  let v256 : BitVec 32 := Scalar.addi v250 v249
  let v257 : BitVec 32 := Scalar.select v255 v256 v250
  ![v257.toNat]
def k0_off53 (i : grid0.Coords) : Fin 1 → Nat :=
  let arg0 : BitVec 32 := BitVec.ofNat 32 (i 0).val
  let c3_i32_159 : BitVec 32 := 3#32
  let v247 : BitVec 32 := Scalar.addi arg0 c3_i32_159
  let c4_i32_160 : BitVec 32 := 4#32
  let c0_i32_161 : BitVec 32 := 0#32
  let v248 : BitVec 1 := Scalar.cmpi .eq c4_i32_160 c0_i32_161
  let c1_i32_162 : BitVec 32 := 1#32
  let v249 : BitVec 32 := Scalar.select v248 c1_i32_162 c4_i32_160
  let v250 : BitVec 32 := Scalar.remsi v247 v249
  let c0_i32_164 : BitVec 32 := 0#32
  let v252 : BitVec 1 := Scalar.cmpi .slt v250 c0_i32_164
  let c0_i32_165 : BitVec 32 := 0#32
  let v253 : BitVec 1 := Scalar.cmpi .slt v249 c0_i32_165
  let v254 : BitVec 1 := Scalar.xori v252 v253
  let c0_i32_163 : BitVec 32 := 0#32
  let v251 : BitVec 1 := Scalar.cmpi .ne v250 c0_i32_163
  let v255 : BitVec 1 := Scalar.andi v254 v251
  let v256 : BitVec 32 := Scalar.addi v250 v249
  let v257 : BitVec 32 := Scalar.select v255 v256 v250
  let c2_i32_168 : BitVec 32 := 2#32
  let v260 : BitVec 32 := Scalar.muli v257 c2_i32_168
  let c256_i32_169 : BitVec 32 := 256#32
  let v261 : BitVec 32 := Scalar.muli v260 c256_i32_169
  ![v261.toNat]
def k0_off54 (i : grid0.Coords) : Fin 1 → Nat :=
  let arg0 : BitVec 32 := BitVec.ofNat 32 (i 0).val
  let c3_i32_159 : BitVec 32 := 3#32
  let v247 : BitVec 32 := Scalar.addi arg0 c3_i32_159
  let c2_i32_166 : BitVec 32 := 2#32
  let v258 : BitVec 32 := Scalar.muli v247 c2_i32_166
  let c256_i32_167 : BitVec 32 := 256#32
  let v259 : BitVec 32 := Scalar.muli v258 c256_i32_167
  ![v259.toNat]
def cc0_transform_2 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S320 : Shape := ⟨1, ![320]⟩
abbrev S1 : Shape := ⟨1, ![1]⟩
abbrev S165376 : Shape := ⟨1, ![165376]⟩
abbrev S131072x128 : Shape := ⟨2, ![131072, 128]⟩
abbrev S64x2048x1024 : Shape := ⟨3, ![64, 2048, 1024]⟩
abbrev S64x512x2048 : Shape := ⟨3, ![64, 512, 2048]⟩
abbrev S8x8192 : Shape := ⟨2, ![8, 8192]⟩
abbrev S8192x2048 : Shape := ⟨2, ![8192, 2048]⟩
abbrev S_ : Shape := ⟨0, ![]⟩
abbrev S8x8192x2048 : Shape := ⟨3, ![8, 8192, 2048]⟩
abbrev S64 : Shape := ⟨1, ![64]⟩
abbrev S1x2048x1024 : Shape := ⟨3, ![1, 2048, 1024]⟩
abbrev S2048x1024 : Shape := ⟨2, ![2048, 1024]⟩
abbrev S1x512x2048 : Shape := ⟨3, ![1, 512, 2048]⟩
abbrev S512x2048 : Shape := ⟨2, ![512, 2048]⟩
abbrev S8192x1024 : Shape := ⟨2, ![8192, 1024]⟩
abbrev S8192x512 : Shape := ⟨2, ![8192, 512]⟩
abbrev S8x8192x1 : Shape := ⟨3, ![8, 8192, 1]⟩
abbrev S1x8192x2048 : Shape := ⟨3, ![1, 8192, 2048]⟩
abbrev S1048576x128 : Shape := ⟨2, ![1048576, 128]⟩

abbrev nBuf : Space → Nat
  | .hbm => 57
  | .vmem => 0
  | .smem => 0
  | _ => 0

abbrev bufTy : (tb : Table) → Fin (tcTables nBuf tb) → BufTy
  | .hbm, ⟨0, _⟩ => ⟨S320, .i32⟩
  | .hbm, ⟨1, _⟩ => ⟨S1, .i32⟩
  | .hbm, ⟨2, _⟩ => ⟨S165376, .i32⟩
  | .hbm, ⟨3, _⟩ => ⟨S131072x128, .f32⟩
  | .hbm, ⟨4, _⟩ => ⟨S64x2048x1024, .f32⟩
  | .hbm, ⟨5, _⟩ => ⟨S64x512x2048, .f32⟩
  | .hbm, ⟨6, _⟩ => ⟨S8x8192, .i32⟩
  | .hbm, ⟨7, _⟩ => ⟨S8x8192, .i32⟩
  | .hbm, ⟨8, _⟩ => ⟨S8192x2048, .f32⟩
  | .hbm, ⟨9, _⟩ => ⟨S_, .f32⟩
  | .hbm, ⟨10, _⟩ => ⟨S8x8192x2048, .f32⟩
  | .hbm, ⟨11, _⟩ => ⟨S64, .i32⟩
  | .hbm, ⟨12, _⟩ => ⟨S_, .i32⟩
  | .hbm, ⟨13, _⟩ => ⟨S64, .i32⟩
  | .hbm, ⟨14, _⟩ => ⟨S64x2048x1024, .f32⟩
  | .hbm, ⟨15, _⟩ => ⟨S64x512x2048, .f32⟩
  | .hbm, ⟨16, _⟩ => ⟨S8192x2048, .f32⟩
  | .hbm, ⟨17, _⟩ => ⟨S8x8192, .i32⟩
  | .hbm, ⟨18, _⟩ => ⟨S_, .i32⟩
  | .hbm, ⟨19, _⟩ => ⟨S8x8192x2048, .f32⟩
  | .hbm, ⟨20, _⟩ => ⟨S_, .i32⟩
  | .hbm, ⟨21, _⟩ => ⟨S_, .i1⟩
  | .hbm, ⟨22, _⟩ => ⟨S1, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S1x2048x1024, .f32⟩
  | .hbm, ⟨27, _⟩ => ⟨S2048x1024, .f32⟩
  | .hbm, ⟨28, _⟩ => ⟨S_, .i32⟩
  | .hbm, ⟨29, _⟩ => ⟨S_, .i32⟩
  | .hbm, ⟨30, _⟩ => ⟨S1x512x2048, .f32⟩
  | .hbm, ⟨31, _⟩ => ⟨S512x2048, .f32⟩
  | .hbm, ⟨32, _⟩ => ⟨S8192x1024, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S8192x512, .f32⟩
  | .hbm, ⟨37, _⟩ => ⟨S_, .f32⟩
  | .hbm, ⟨38, _⟩ => ⟨S8192x512, .f32⟩
  | .hbm, ⟨39, _⟩ => ⟨S8192x512, .f32⟩
  | .hbm, ⟨40, _⟩ => ⟨S_, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S8192x512, .f32⟩
  | .hbm, ⟨45, _⟩ => ⟨S8192x2048, .f32⟩
  | .hbm, ⟨46, _⟩ => ⟨S8x8192, .i32⟩
  | .hbm, ⟨47, _⟩ => ⟨S8x8192, .i1⟩
  | .hbm, ⟨48, _⟩ => ⟨S8x8192x1, .i1⟩
  | .hbm, ⟨49, _⟩ => ⟨S1x8192x2048, .f32⟩
  | .hbm, ⟨50, _⟩ => ⟨S8x8192x2048, .i1⟩
  | .hbm, ⟨51, _⟩ => ⟨S8x8192x2048, .f32⟩
  | .hbm, ⟨52, _⟩ => ⟨S8x8192x2048, .f32⟩
  | .hbm, ⟨53, _⟩ => ⟨S_, .i32⟩
  | .hbm, ⟨54, _⟩ => ⟨S_, .i32⟩
  | .hbm, ⟨55, _⟩ => ⟨S1048576x128, .f32⟩
  | .hbm, ⟨56, _⟩ => ⟨S1048576x128, .bf16⟩
  | _, _ => ⟨S320, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v3_3 : Ref sig .tc := ⟨.hbm, 16, rfl⟩
abbrev main_v3_4 : Ref sig .tc := ⟨.hbm, 17, rfl⟩
abbrev main_v3_5 : Ref sig .tc := ⟨.hbm, 18, rfl⟩
abbrev main_v3_6 : Ref sig .tc := ⟨.hbm, 19, rfl⟩
abbrev main_while0c_c_6 : Ref sig .tc := ⟨.hbm, 20, rfl⟩
abbrev main_while0c_v6 : Ref sig .tc := ⟨.hbm, 21, rfl⟩
abbrev main_while0b_call0_v0 : Ref sig .tc := ⟨.hbm, 22, rfl⟩
abbrev main_while0b_v6 : Ref sig .tc := ⟨.hbm, 23, rfl⟩
abbrev main_while0b_call1_c : Ref sig .tc := ⟨.hbm, 24, rfl⟩
abbrev main_while0b_call1_c_0 : Ref sig .tc := ⟨.hbm, 25, rfl⟩
abbrev main_while0b_call1_v0 : Ref sig .tc := ⟨.hbm, 26, rfl⟩
abbrev main_while0b_v7 : Ref sig .tc := ⟨.hbm, 27, rfl⟩
abbrev main_while0b_call2_c : Ref sig .tc := ⟨.hbm, 28, rfl⟩
abbrev main_while0b_call2_c_0 : Ref sig .tc := ⟨.hbm, 29, rfl⟩
abbrev main_while0b_call2_v0 : Ref sig .tc := ⟨.hbm, 30, rfl⟩
abbrev main_while0b_v8 : Ref sig .tc := ⟨.hbm, 31, rfl⟩
abbrev main_while0b_v9 : Ref sig .tc := ⟨.hbm, 32, rfl⟩
abbrev main_while0b_v10 : Ref sig .tc := ⟨.hbm, 33, rfl⟩
abbrev main_while0b_v11 : Ref sig .tc := ⟨.hbm, 34, rfl⟩
abbrev main_while0b_call3_v0 : Ref sig .tc := ⟨.hbm, 35, rfl⟩
abbrev main_while0b_call3_v1 : Ref sig .tc := ⟨.hbm, 36, rfl⟩
abbrev main_while0b_call3_cst : Ref sig .tc := ⟨.hbm, 37, rfl⟩
abbrev main_while0b_call3_v2 : Ref sig .tc := ⟨.hbm, 38, rfl⟩
abbrev main_while0b_call3_v3 : Ref sig .tc := ⟨.hbm, 39, rfl⟩
abbrev main_while0b_call3_cst_0 : Ref sig .tc := ⟨.hbm, 40, rfl⟩
abbrev main_while0b_call3_v4 : Ref sig .tc := ⟨.hbm, 41, rfl⟩
abbrev main_while0b_call3_v5 : Ref sig .tc := ⟨.hbm, 42, rfl⟩
abbrev main_while0b_v12 : Ref sig .tc := ⟨.hbm, 43, rfl⟩
abbrev main_while0b_v13 : Ref sig .tc := ⟨.hbm, 44, rfl⟩
abbrev main_while0b_v14 : Ref sig .tc := ⟨.hbm, 45, rfl⟩
abbrev main_while0b_v15 : Ref sig .tc := ⟨.hbm, 46, rfl⟩
abbrev main_while0b_v16 : Ref sig .tc := ⟨.hbm, 47, rfl⟩
abbrev main_while0b_v17 : Ref sig .tc := ⟨.hbm, 48, rfl⟩
abbrev main_while0b_v18 : Ref sig .tc := ⟨.hbm, 49, rfl⟩
abbrev main_while0b_call4_v0 : Ref sig .tc := ⟨.hbm, 50, rfl⟩
abbrev main_while0b_call4_v1 : Ref sig .tc := ⟨.hbm, 51, rfl⟩
abbrev main_while0b_v19 : Ref sig .tc := ⟨.hbm, 52, rfl⟩
abbrev main_while0b_c_6 : Ref sig .tc := ⟨.hbm, 53, rfl⟩
abbrev main_while0b_v20 : Ref sig .tc := ⟨.hbm, 54, rfl⟩
abbrev main_v4 : Ref sig .tc := ⟨.hbm, 55, rfl⟩
abbrev main_v5 : Ref sig .tc := ⟨.hbm, 56, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S8192x2048 : Shape := ⟨2, ![8192, 2048]⟩
abbrev S8x8192 : Shape := ⟨2, ![8, 8192]⟩
abbrev S1056768x128 : Shape := ⟨2, ![1056768, 128]⟩
abbrev S2048x1024 : Shape := ⟨2, ![2048, 1024]⟩
abbrev S512x2048 : Shape := ⟨2, ![512, 2048]⟩
abbrev S2048 : Shape := ⟨1, ![2048]⟩
abbrev S8192x8 : Shape := ⟨2, ![8192, 8]⟩
abbrev S1x2048 : Shape := ⟨2, ![1, 2048]⟩
abbrev S128x2048 : Shape := ⟨2, ![128, 2048]⟩
abbrev S128x8 : Shape := ⟨2, ![128, 8]⟩
abbrev S2048x128 : Shape := ⟨2, ![2048, 128]⟩
abbrev S128x1024 : Shape := ⟨2, ![128, 1024]⟩
abbrev S128x512 : Shape := ⟨2, ![128, 512]⟩
abbrev S128x1 : Shape := ⟨2, ![128, 1]⟩
abbrev S128x128 : Shape := ⟨2, ![128, 128]⟩
abbrev S128x1x128 : Shape := ⟨3, ![128, 1, 128]⟩
abbrev S128x16x128 : Shape := ⟨3, ![128, 16, 128]⟩
abbrev S128 : Shape := ⟨1, ![128]⟩

abbrev nBuf : Space → Nat
  | .hbm => 14
  | .vmem => 29
  | .smem => 0
  | _ => 0

abbrev bufTy : (tb : Table) → Fin (tcTables nBuf tb) → BufTy
  | .hbm, ⟨0, _⟩ => ⟨S8192x2048, .f32⟩
  | .hbm, ⟨1, _⟩ => ⟨S8x8192, .f32⟩
  | .hbm, ⟨2, _⟩ => ⟨S1056768x128, .bf16⟩
  | .hbm, ⟨3, _⟩ => ⟨S2048x1024, .f32⟩
  | .hbm, ⟨4, _⟩ => ⟨S512x2048, .f32⟩
  | .hbm, ⟨5, _⟩ => ⟨S2048, .f32⟩
  | .hbm, ⟨6, _⟩ => ⟨S2048, .f32⟩
  | .hbm, ⟨7, _⟩ => ⟨S8192x8, .f32⟩
  | .hbm, ⟨8, _⟩ => ⟨S2048x1024, .bf16⟩
  | .hbm, ⟨9, _⟩ => ⟨S512x2048, .bf16⟩
  | .hbm, ⟨10, _⟩ => ⟨S1x2048, .f32⟩
  | .hbm, ⟨11, _⟩ => ⟨S1x2048, .f32⟩
  | .hbm, ⟨12, _⟩ => ⟨S8192x2048, .f32⟩
  | .hbm, ⟨13, _⟩ => ⟨S8192x2048, .bf16⟩
  | .local _ .vmem, ⟨0, _⟩ => ⟨S128x2048, .f32⟩
  | .local _ .vmem, ⟨1, _⟩ => ⟨S128x2048, .f32⟩
  | .local _ .vmem, ⟨2, _⟩ => ⟨S128x8, .f32⟩
  | .local _ .vmem, ⟨3, _⟩ => ⟨S128x8, .f32⟩
  | .local _ .vmem, ⟨4, _⟩ => ⟨S2048x1024, .bf16⟩
  | .local _ .vmem, ⟨5, _⟩ => ⟨S512x2048, .bf16⟩
  | .local _ .vmem, ⟨6, _⟩ => ⟨S1x2048, .f32⟩
  | .local _ .vmem, ⟨7, _⟩ => ⟨S1x2048, .f32⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S2048x128, .bf16⟩
  | .local _ .vmem, ⟨21, _⟩ => ⟨S2048x128, .bf16⟩
  | .local _ .vmem, ⟨22, _⟩ => ⟨S2048x128, .bf16⟩
  | .local _ .vmem, ⟨23, _⟩ => ⟨S2048x128, .bf16⟩
  | .local _ .vmem, ⟨24, _⟩ => ⟨S128x2048, .f32⟩
  | .local _ .vmem, ⟨25, _⟩ => ⟨S128x2048, .f32⟩
  | .local _ .vmem, ⟨26, _⟩ => ⟨S128x2048, .bf16⟩
  | .local _ .vmem, ⟨27, _⟩ => ⟨S128x2048, .bf16⟩
  | .local _ .vmem, ⟨28, _⟩ => ⟨S2048x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c128_i32 : BitVec 32 := 128#32
  let v0 : BitVec 32 := Scalar.addi c128_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c192_i32 : BitVec 32 := 192#32
  let v0 : BitVec 32 := Scalar.addi c192_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c256_i32 : BitVec 32 := 256#32
  let v0 : BitVec 32 := Scalar.addi c256_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c320_i32 : BitVec 32 := 320#32
  let v0 : BitVec 32 := Scalar.addi c320_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c384_i32 : BitVec 32 := 384#32
  let v0 : BitVec 32 := Scalar.addi c384_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c448_i32 : BitVec 32 := 448#32
  let v0 : BitVec 32 := Scalar.addi c448_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2048x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference2Ideal.lean ====
abbrev S8192x2048 : Shape := ⟨2, ![8192, 2048]⟩
abbrev S8x8192 : Shape := ⟨2, ![8, 8192]⟩
abbrev S1056768x128 : Shape := ⟨2, ![1056768, 128]⟩
abbrev S2048x1024 : Shape := ⟨2, ![2048, 1024]⟩
abbrev S512x2048 : Shape := ⟨2, ![512, 2048]⟩
abbrev S2048 : Shape := ⟨1, ![2048]⟩
abbrev S1048576x128 : Shape := ⟨2, ![1048576, 128]⟩
abbrev S8x8192x2048 : Shape := ⟨3, ![8, 8192, 2048]⟩
abbrev S8x8192x1 : Shape := ⟨3, ![8, 8192, 1]⟩
abbrev S_ : Shape := ⟨0, ![]⟩
abbrev S8192x1024 : Shape := ⟨2, ![8192, 1024]⟩
abbrev S8192x512 : Shape := ⟨2, ![8192, 512]⟩
abbrev S8192 : Shape := ⟨1, ![8192]⟩
abbrev S8192x1 : Shape := ⟨2, ![8192, 1]⟩
abbrev S1x2048 : Shape := ⟨2, ![1, 2048]⟩

abbrev nBuf : Space → Nat
  | .hbm => 64
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8x8192, .f32⟩
  | .hbm, ⟨2, _⟩ => ⟨S1056768x128, .bf16⟩
  | .hbm, ⟨3, _⟩ => ⟨S2048x1024, .f32⟩
  | .hbm, ⟨4, _⟩ => ⟨S512x2048, .f32⟩
  | .hbm, ⟨5, _⟩ => ⟨S2048, .f32⟩
  | .hbm, ⟨6, _⟩ => ⟨S2048, .f32⟩
  | .hbm, ⟨7, _⟩ => ⟨S1048576x128, .bf16⟩
  | .hbm, ⟨8, _⟩ => ⟨S8x8192x2048, .bf16⟩
  | .hbm, ⟨9, _⟩ => ⟨S8x8192x2048, .f32⟩
  | .hbm, ⟨10, _⟩ => ⟨S8x8192x1, .f32⟩
  | .hbm, ⟨11, _⟩ => ⟨S8x8192x2048, .f32⟩
  | .hbm, ⟨12, _⟩ => ⟨S8x8192x2048, .f32⟩
  | .hbm, ⟨13, _⟩ => ⟨S_, .f32⟩
  | .hbm, ⟨14, _⟩ => ⟨S8192x2048, .f32⟩
  | .hbm, ⟨15, _⟩ => ⟨S8192x1024, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S_, .f32⟩
  | .hbm, ⟨21, _⟩ => ⟨S8192x512, .f32⟩
  | .hbm, ⟨22, _⟩ => ⟨S8192x512, .f32⟩
  | .hbm, ⟨23, _⟩ => ⟨S_, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S8192x2048, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x2048, .f32⟩
  | .hbm, ⟨50, _⟩ => ⟨S8192x2048, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S8192x1, .f32⟩
  | .hbm, ⟨55, _⟩ => ⟨S8192x2048, .f32⟩
  | .hbm, ⟨56, _⟩ => ⟨S8192x2048, .f32⟩
  | .hbm, ⟨57, _⟩ => ⟨S1x2048, .f32⟩
  | .hbm, ⟨58, _⟩ => ⟨S8192x2048, .f32⟩
  | .hbm, ⟨59, _⟩ => ⟨S8192x2048, .f32⟩
  | .hbm, ⟨60, _⟩ => ⟨S1x2048, .f32⟩
  | .hbm, ⟨61, _⟩ => ⟨S8192x2048, .f32⟩
  | .hbm, ⟨62, _⟩ => ⟨S8192x2048, .f32⟩
  | .hbm, ⟨63, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_v25 : Ref sig .tc := ⟨.hbm, 45, rfl⟩
abbrev main_cst_4 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩

abbrev nD : Nat := 1
abbrev τ : Topo := Topo.v7x

variable {F : FTy → Type} [FloatOps F]
-- ==== Kernel3.lean ====
abbrev S8192x2048 : Shape := ⟨2, ![8192, 2048]⟩
abbrev S2048x5120 : Shape := ⟨2, ![2048, 5120]⟩
abbrev S8192x5120 : Shape := ⟨2, ![8192, 5120]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x5120, .f32⟩
  | .hbm, ⟨2, _⟩ => ⟨S8192x2048, .bf16⟩
  | .hbm, ⟨3, _⟩ => ⟨S8192x5120, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S1024x512, .bf16⟩
  | .local _ .vmem, ⟨5, _⟩ => ⟨S1024x512, .bf16⟩
  | .local _ .vmem, ⟨6, _⟩ => ⟨S2048x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![10, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S8192x2048 : Shape := ⟨2, ![8192, 2048]⟩
abbrev S2048x5120 : Shape := ⟨2, ![2048, 5120]⟩
abbrev S8192x5120 : Shape := ⟨2, ![8192, 5120]⟩
abbrev S8192x1536 : Shape := ⟨2, ![8192, 1536]⟩
abbrev S_ : Shape := ⟨0, ![]⟩
abbrev S8192x512 : Shape := ⟨2, ![8192, 512]⟩
abbrev S8192x3072 : Shape := ⟨2, ![8192, 3072]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5120, .f32⟩
  | .hbm, ⟨2, _⟩ => ⟨S8192x5120, .f32⟩
  | .hbm, ⟨3, _⟩ => ⟨S8192x1536, .f32⟩
  | .hbm, ⟨4, _⟩ => ⟨S_, .f32⟩
  | .hbm, ⟨5, _⟩ => ⟨S8192x1536, .f32⟩
  | .hbm, ⟨6, _⟩ => ⟨S8192x1536, .f32⟩
  | .hbm, ⟨7, _⟩ => ⟨S8192x512, .f32⟩
  | .hbm, ⟨8, _⟩ => ⟨S_, .f32⟩
  | .hbm, ⟨9, _⟩ => ⟨S8192x512, .f32⟩
  | .hbm, ⟨10, _⟩ => ⟨S8192x512, .f32⟩
  | .hbm, ⟨11, _⟩ => ⟨S8192x3072, .f32⟩
  | .hbm, ⟨12, _⟩ => ⟨S8192x5120, .f32⟩
  | .hbm, ⟨13, _⟩ => ⟨S8192x5120, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.Issue.lean ====
/-
  Issuing one transfer of a batch whose address is a word of scalar memory: the word is loaded, its side
  condition is discharged, and the copy is started. The transfer takes its own parcel of resources out of what is
  held, and its delivery may keep a part of that parcel the copy itself does not touch.
-/
module

public import Idealize.ShloMosaic.Lib.Batch
public import Idealize.ShloMosaic.Lib.Scf
public import Idealize.ShloMosaic.Lib.Tactic
public import Idealize.ShloMosaic.Lib.ShareLeaves

@[expose] public section

noncomputable section

namespace Cert.Experts

open Idealize.ShloMosaic
open Idealize.SL
open Idealize.SL.BI (sProp Storable bigSep bigSep_insert bigSep_empty bigSep_singleton)
open scoped Idealize.SL.BI
open Idealize.SL.BI.BIBase Idealize.SL.BI.Laws Idealize.SL.Sem Idealize.SL.ProofMode
open Idealize.SL.RA
open Idealize.ShloMosaic.Transfers

variable {nD : Nat} {τ : Topo} {sig : RefSig} {Ix : Type} [DecidableEq Ix] {Val : EltTy → Type} {Name : Type} [DecidableEq Name]
variable {U : Type} [URA U] {Lvl : Type} [Preorder Lvl]

local notation "𝕄" => MT nD τ sig Ix Val Name U Lvl

variable (EC : UEmb Counters (MT nD τ sig Ix Val Name U Lvl))
variable {Λ : Labels} {defs : Defs nD τ sig Val Λ} (𝒱 : Variants) (c : Thread nD τ) (bd : Option 𝒱.V)
variable {α : Type} {Q : α → sProp (MT nD τ sig Ix Val Name U Lvl)} {sp sp' : Space} {s : Shape} {e : EltTy} {n : ℕ}

/-- Starting the batch's next copy from a parcel `R`: the parcel holds the source's elements, the destination's, and a
    remainder `put`; what the copy delivers, with the remainder, is the delivery the batch states. -/
theorem wp_issue [Infinite Name] [EC.LandsIn (upEmb : UEmb _ 𝕄)]
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {fs : Buf Val (src.view.loc c)}
    {fd : Buf Val (dst.view.loc c)} {R put : sProp 𝕄}
    {D : Fin n → sProp 𝕄} {j : ℕ}
    (ι : Ix) (N : ℕ) (hN : dst.view.amount sm = N) (hj : j < n)
    (hR : R ⊢ iprop((src.view.loc c ↦[src.view.set]{q} fs) ∗ (dst.view.loc c ↦[dst.view.set]{fullShare} fd) ∗ put))
    (hD : iprop(put ∗ (dst.view.loc c ↦[dst.view.set]{fullShare} (dst.view.write Val fd (src.view.read Val fs) Finset.univ))
              ∗ (src.view.loc c ↦[src.view.set]{q} fs)) ⊢ D ⟨j, hj⟩) :
    iprop(R ∗ Batch EC c sm ι N D j 0)
      ⊢ iprop((Batch EC c sm ι N D (j + 1) 0 -∗ wp frame (wpE defs 𝒱 c bd) Set.univ (k ⟨⟩) Q)
          -∗ wp frame (wpE defs 𝒱 c bd) Set.univ (.op (.enqueueDma src (.here dst) sm hsrc hdst hsem) k) Q) := by
  unfold Batch
  iintro ⟨HR, ⟨%γ, %γ₀, %κ, #Hinv, HI, H0, Hcred⟩⟩ Hk
  ihave HR' := hR $$ HR
  icases HR' with ⟨Hs, Hd, Hput⟩
  ihave HI' := (show bigSep (pending j) (fun t => count EC (γ t) 0) ⊢ iprop(count EC (γ ⟨j, hj⟩) 0 ∗ bigSep (pending (j + 1)) (fun t => count EC (γ t) 0))
    from Entails.of_eq (by rw [pending_succ hj, bigSep_insert (not_mem_pending_succ hj)]; rfl)) $$ HI
  icases HI' with ⟨Ht, HI⟩
  iapply (wp_enqueueDma 𝒱 c bd Set.univ ι N hN) $$ [Hs Hd] [Ht Hput]
  · isplitl [Hs]; · iexact Hs
    iapply (pointsTo_writeUpdate c (v := dst.view) subset_rfl) $$ Hd
  · iapply (batch_creditUpdate_with EC ⟨j, hj⟩ hD)
    isplitr; · iexact Hinv
    isplitl [Ht]; · iexact Ht
    iexact Hput
  iintro Hcred'
  iapply Hk
  iexists γ, γ₀, κ
  isplitr; · iexact Hinv
  isplitl [HI]; · iexact HI
  isplitl [H0]; · iexact H0
  rw [show (j + 1) * N - 0 = (j * N - 0) + N by rw [Nat.succ_mul]; omega, ← tallyAt_add]
  icombine Hcred Hcred' as H
  iexact H

/-- The issue loop's resources before transfer `j`: the words, the parcels of the transfers still to start, and the
    batch with `j` started. -/
def Issuing (sm : SemLoc sig) (ι : Ix) (N : ℕ) (Wd : sProp 𝕄) (R D : Fin n → sProp 𝕄) (j : ℕ) : sProp 𝕄 :=
  iprop(Wd ∗ bigSep (pending j) R ∗ Batch EC c sm ι N D j 0)

/-- One transfer whose place is read out of a word: load, side condition, copy. -/
theorem wp_issueWord [Infinite Name] [EC.LandsIn (upEmb : UEmb _ 𝕄)] {s₁ : Shape} {e₁ : EltTy}
    {mw : Memref sig c.2.kind .smem s₁ e₁} {r : Rect s₁} {h1 : r.shape.numel = 1} {hp : e₁.packing = 1}
    {qw : PosShare TreeShare} {Sw : Finset (Idx (mw.view.loc c))} {fw : Buf Val (mw.view.loc c)}
    {P : Val e₁ → Prop} {dec : ∀ v, Decidable (P v)}
    {src : ∀ v, PLift (P v) → Memref sig c.2.kind sp s e} {dst : ∀ v, PLift (P v) → Memref sig c.2.kind sp' s e} {sm : SemLoc sig}
    {hsrc : ∀ v h, (src v h).view.WordExact} {hdst : ∀ v h, (dst v h).view.WordExact}
    {hsem : ∀ v h, DmaTarget.Typed (nD := nD) sp sm (.here (dst v h))}
    {k : PUnit → Prog (TpuEff nD τ sig Val Λ c.2) α} {R D : Fin n → sProp 𝕄} {j : ℕ}
    (ι : Ix) (N : ℕ) (hj : j < n)
    (hSw : (mw.access r).set ⊆ Sw)
    (hP : P ((mw.access r).read Val fw (Shape.Idx.first (h1.symm ▸ Nat.one_pos))))
    (hN : ∀ v h, (dst v h).view.amount sm = N)
    (hRD : ∀ v (h : PLift (P v)), v = (mw.access r).read Val fw (Shape.Idx.first (h1.symm ▸ Nat.one_pos)) →
      ∃ (q : PosShare TreeShare) (fs : Buf Val ((src v h).view.loc c)) (fd : Buf Val ((dst v h).view.loc c)) (put : sProp 𝕄),
        (R ⟨j, hj⟩ ⊢ iprop(((src v h).view.loc c ↦[(src v h).view.set]{q} fs) ∗ ((dst v h).view.loc c ↦[(dst v h).view.set]{fullShare} fd) ∗ put))
        ∧ (iprop(put ∗ ((dst v h).view.loc c ↦[(dst v h).view.set]{fullShare} ((dst v h).view.write Val fd ((src v h).view.read Val fs) Finset.univ))
              ∗ ((src v h).view.loc c ↦[(src v h).view.set]{q} fs)) ⊢ D ⟨j, hj⟩)) :
    Issuing EC c sm ι N (mw.view.loc c ↦[Sw]{qw} fw) R D j
      ⊢ iprop((Issuing EC c sm ι N (mw.view.loc c ↦[Sw]{qw} fw) R D (j + 1) -∗ wp frame (wpE defs 𝒱 c bd) Set.univ (k ⟨⟩) Q)
          -∗ wp frame (wpE defs 𝒱 c bd) Set.univ
            (smemLoad mw r h1 hp >>= fun v => Prog.lift (TpuEff.assume (P v) (dec v)) >>= fun h =>
              Prog.lift (TpuEff.enqueueDma (src v h) (.here (dst v h)) sm (hsrc v h) (hdst v h) (hsem v h)) >>= k) Q) := by
  unfold Issuing
  change _ ⊢ iprop(_ -∗ wp frame (wpE defs 𝒱 c bd) Set.univ (smemLoadElt mw r (View.loads_smem_one hp h1) (Shape.Idx.first (h1.symm ▸ Nat.one_pos))
    fun v => .op (.assume (P v) (dec v)) fun h => .op (.enqueueDma (src v h) (.here (dst v h)) sm (hsrc v h) (hdst v h) (hsem v h)) k) Q)
  iintro ⟨HW, HR, HB⟩ Hk
  iapply (wp_smemLoadElt 𝒱 c bd Set.univ (m := mw) (r := r) (S := Sw) (f := fw) hSw) $$ HW
  iintro HW
  iapply (wp_assume 𝒱 c bd Set.univ hP)
  obtain ⟨q, fs, fd, put, h₁, h₂⟩ := hRD _ ⟨hP⟩ rfl
  ihave HR' := (show bigSep (pending j) R ⊢ iprop(R ⟨j, hj⟩ ∗ bigSep (pending (j + 1)) R)
    from Entails.of_eq (by rw [pending_succ hj, bigSep_insert (not_mem_pending_succ hj)]; rfl)) $$ HR
  icases HR' with ⟨Hj, HR⟩
  iapply (wp_issue EC 𝒱 c bd ι N (hN _ _) hj h₁ h₂) $$ [Hj HB]
  · isplitl [Hj]; · iexact Hj
    iexact HB
  iintro HB
  iapply Hk
  isplitl [HW]; · iexact HW
  isplitl [HR]; · iexact HR
  iexact HB

end Cert.Experts

end
-- ==== Proof.Base.lean ====
/-
  The vocabulary of the routed experts' proof: the plan's entries read out of its words, the blocks of sixteen rows a
  copy moves, the arrays a tile's gathers fill and its scatters leave, and the two shapes a semaphore takes between
  the kernel's steps (copies in flight; nothing in flight).
-/
module

public import proofs.«01_k».proof.Proof.Gen.KernelIdeal.Launch
public import proofs.«01_k».proof.Proof.Gen.KernelIdeal.Skeleton
public import proofs.«01_k».proof.Proof.Issue
public import Idealize.ShloMosaic.Lib.Pipeline.FrameSuffixV
public import Idealize.ShloMosaic.Lib.Pipeline.FrameBody
public import Idealize.ShloMosaic.Lib.Pipeline.ValueKit.Geometry

@[expose] public section

noncomputable section

namespace Cert.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

/-- The counters the copies' records live in, as a part of the proof's algebra. -/
abbrev EC : UEmb Counters 𝕄 := countersEmb (U := Pipeline.UD sig nD τ)

/-! ## Indices -/

/-- The shape of `N` rows of 128. -/
abbrev Rows (N : ℕ) : Shape := ⟨2, ![N, 128]⟩

/-- Row `a`, lane `b`. -/
def at2 {N : ℕ} (hN : 0 < N) (a b : ℕ) : (Rows N).Idx
  | 0 => ⟨a % N, Nat.mod_lt _ hN⟩
  | 1 => ⟨b % 128, Nat.mod_lt _ (by decide)⟩
  | ⟨_ + 2, h⟩ => absurd h (Nat.not_lt.2 (Nat.le_add_left _ _))

/-- Word `a` of a vector of `N`. -/
def at1 {N : ℕ} (hN : 0 < N) (a : ℕ) : (⟨1, ![N]⟩ : Shape).Idx
  | 0 => ⟨a % N, Nat.mod_lt _ hN⟩
  | ⟨_ + 1, h⟩ => absurd h (Nat.not_lt.2 (Nat.le_add_left _ _))

/-- The block of sixteen rows beginning at row `16 n`. -/
def blk (N n : ℕ) : Finset (Rows N).Idx := Finset.univ.filter fun i => (i 0).val / 16 = n

theorem mem_blk {N n : ℕ} {i : (Rows N).Idx} : i ∈ blk N n ↔ (i 0).val / 16 = n := by simp [blk]

theorem blk_disjoint {N n n' : ℕ} (h : n ≠ n') : Disjoint (blk N n) (blk N n') := by
  rw [Finset.disjoint_left]; intro i hi hi'; rw [mem_blk] at hi hi'; exact h (hi.symm.trans hi')

/-- The rectangle a copy of sixteen rows goes through. -/
theorem rect_blk {N n : ℕ} {off : Fin 2 → ℕ} {inb : ∀ a, off a + S16x128.size a ≤ (Rows N).size a}
    (h0 : off 0 = 16 * n) (h1 : off 1 = 0) :
    (Rect.unit (s := Rows N) off S16x128.size inb).set = blk N n := by
  ext i
  rw [Rect.mem_set_unit, mem_blk]
  have hi : (i 1).val < 128 := (i 1).isLt
  constructor
  · intro h
    have := h 0
    rw [h0] at this
    have e : S16x128.size 0 = 16 := rfl
    rw [e] at this
    omega
  · intro h a
    match a with
    | 0 => rw [h0]; have e : S16x128.size 0 = 16 := rfl; rw [e]; omega
    | 1 => rw [h1]; have e : S16x128.size 1 = 128 := rfl; rw [e]; omega

/-- Where an element of the block sits in the sixteen rows. -/
def inBlk {N : ℕ} (i : (Rows N).Idx) : S16x128.Idx := at2 (N := 16) (by decide) ((i 0).val % 16) (i 1).val

theorem rect_emb_inBlk {N n : ℕ} {off : Fin 2 → ℕ} {inb : ∀ a, off a + S16x128.size a ≤ (Rows N).size a}
    (h0 : off 0 = 16 * n) (h1 : off 1 = 0) {i : (Rows N).Idx} (hi : (i 0).val / 16 = n) :
    (Rect.unit (s := Rows N) off S16x128.size inb).emb (inBlk i) = i := by
  have hi1 : (i 1).val < 128 := (i 1).isLt
  funext a
  apply Fin.ext
  rw [ValueKit.rect_emb_unit_val]
  match a with
  | 0 =>
    rw [h0]; show 16 * n + ((i 0).val % 16) % 16 = _; omega
  | 1 =>
    rw [h1]; show 0 + (i 1).val % 128 = _; omega

/-- The element of another buffer's block `n'` at the same place. -/
theorem rect_emb_other {N N' n' : ℕ} (hN' : 0 < N') {off : Fin 2 → ℕ} {inb : ∀ a, off a + S16x128.size a ≤ (Rows N').size a}
    (h0 : off 0 = 16 * n') (h1 : off 1 = 0) (i : (Rows N).Idx) :
    (Rect.unit (s := Rows N') off S16x128.size inb).emb (inBlk i) = at2 hN' (16 * n' + (i 0).val % 16) (i 1).val := by
  have hb : off 0 + 16 ≤ N' := inb 0
  have hi1 : (i 1).val < 128 := (i 1).isLt
  funext a
  apply Fin.ext
  rw [ValueKit.rect_emb_unit_val]
  match a with
  | 0 =>
    rw [h0]
    show 16 * n' + ((i 0).val % 16) % 16 = (16 * n' + (i 0).val % 16) % N'
    rw [Nat.mod_eq_of_lt (a := 16 * n' + (i 0).val % 16) (by omega)]; omega
  | 1 =>
    rw [h1]; show 0 + (i 1).val % 128 = (i 1).val % 128; omega

/-! ## The plan's words -/

/-- A plan: two words for each of a tile's 256 rows. -/
abbrev Meta : Type := S165376.Idx → BitVec 32

/-- The word that says where tile `a`'s row `r` is gathered from. -/
def gw (mt : Meta) (a r : ℕ) : BitVec 32 := mt (at1 (N := 165376) (by decide) (512 * a + r))
/-- The word that says where tile `a`'s row `r` is scattered to. -/
def sw (mt : Meta) (a r : ℕ) : BitVec 32 := mt (at1 (N := 165376) (by decide) (512 * a + 256 + r))
/-- The token a row is gathered from. -/
def gi (mt : Meta) (a r : ℕ) : ℕ := (gw mt a r).toNat / 16
/-- The pair a row is scattered to. -/
def si (mt : Meta) (a r : ℕ) : ℕ := (sw mt a r).toNat / 16

/-- The blocks the scatters of number `k` go to: number 0 is the copy of zeros into the spare rows at the start, number
    `a + 1` the scatters of entry `a`. -/
def sd (mt : Meta) : ℕ → Fin 256 → ℕ
  | 0, r => 65536 + r.val
  | a + 1, r => si mt a r.val

/-- What the kernel needs of its plan. -/
structure Plan (te : S320.Idx → BitVec 32) (nu : ℕ) (mt : Meta) : Prop where
  nu_pos : 1 ≤ nu
  nu_le : nu ≤ 320
  te_lt : ∀ i, (te i).toNat < 64
  gw_eq : ∀ a < 323, ∀ r < 256, (gw mt a r).toNat = 16 * gi mt a r
  gi_lt : ∀ a < 323, ∀ r < 256, gi mt a r < 8192
  sw_eq : ∀ a < 323, ∀ r < 256, (sw mt a r).toNat = 16 * si mt a r
  si_lt : ∀ a < 323, ∀ r < 256, si mt a r < 66048
  si_inj : ∀ a ≤ 320, ∀ r r' : Fin 256, r ≠ r' → si mt a r.val ≠ si mt a r'.val
  si_apart : ∀ a < 320, ∀ r r' : Fin 256, si mt a r.val ≠ si mt (a + 1) r'.val

/-- The rows a tile's gathers leave. -/
def gathered (X : S131072x128.Idx → F .f32) (g : ℕ → ℕ) : S4096x128.Idx → F .f32 := fun i =>
  X (at2 (N := 131072) (by decide) (16 * g ((i 0).val / 16) + (i 0).val % 16) (i 1).val)

open Classical in
/-- The array a tile's scatters leave: block `d r` is the tile's row `r`, and the others are as they were. -/
def scat (d : Fin 256 → ℕ) (A : S4096x128.Idx → F .bf16) (Y : S1056768x128.Idx → F .bf16) : S1056768x128.Idx → F .bf16 := fun i =>
  if h : ∃ r : Fin 256, d r = (i 0).val / 16 then
    A (at2 (N := 4096) (by decide) (16 * (Classical.choose h).val + (i 0).val % 16) (i 1).val)
  else Y i

theorem scat_of_mem {d : Fin 256 → ℕ} (hd : ∀ r r', r ≠ r' → d r ≠ d r') (A : S4096x128.Idx → F .bf16) (Y : S1056768x128.Idx → F .bf16)
    {i : S1056768x128.Idx} (r : Fin 256) (hr : (i 0).val / 16 = d r) :
    scat d A Y i = A (at2 (N := 4096) (by decide) (16 * r.val + (i 0).val % 16) (i 1).val) := by
  have h : ∃ r : Fin 256, d r = (i 0).val / 16 := ⟨r, hr.symm⟩
  have hc : Classical.choose h = r := by
    by_contra hne
    exact hd _ _ hne ((Classical.choose_spec h).trans hr)
  unfold scat
  rw [dif_pos h, hc]

theorem scat_of_not_mem {d : Fin 256 → ℕ} (A : S4096x128.Idx → F .bf16) (Y : S1056768x128.Idx → F .bf16)
    {i : S1056768x128.Idx} (h : ∀ r, d r ≠ (i 0).val / 16) : scat d A Y i = Y i := by
  unfold scat; rw [dif_neg]; rintro ⟨r, hr⟩; exact h r hr

/-- The elements scattered to. -/
def dset (d : Fin 256 → ℕ) : Finset S1056768x128.Idx := Finset.univ.biUnion fun r => blk 1056768 (d r)

theorem mem_dset {d : Fin 256 → ℕ} {i : S1056768x128.Idx} : i ∈ dset d ↔ ∃ r, (i 0).val / 16 = d r := by
  simp [dset, mem_blk]

/-! ## Copies in flight -/

/-- A semaphore in flight: one wait of `J` units drains it and hands over `P`. -/
def Flight (c : Dev nD) (sem : DmaSem sig) (J : ℕ) (P : sProp 𝕄) : sProp 𝕄 :=
  iprop(∃ (n : ℕ) (N : ℕ) (D : Fin n → sProp 𝕄), ⌜0 < N ∧ J = N * n ∧ (bigSep Finset.univ D ⊢ P)⌝
    ∗ Batch EC (c : Thread nD τ) (.dma sem) () N D n 0)

theorem Flight.intro {c : Dev nD} {sem : DmaSem sig} {J : ℕ} {P : sProp 𝕄} {n : ℕ} (N : ℕ) (D : Fin n → sProp 𝕄)
    (hN : 0 < N) (hJ : J = N * n) (hP : bigSep Finset.univ D ⊢ P) :
    Batch EC (c : Thread nD τ) (.dma sem) () N D n 0 ⊢ Flight c sem J P := by
  iintro H
  unfold Flight
  iexists n, N, D
  isplitr
  · ipureintro; exact ⟨hN, hJ, hP⟩
  iexact H

/-- Waiting for everything in flight on a semaphore. -/
theorem wp_waitFlight (c : Dev nD) {α : Type} {Q : α → sProp 𝕄} {sp sp' : Space} {s s' : Shape} {e e' : EltTy} {κ' : Kind} {sem : DmaSem sig}
    {srcw : Memref sig .tc sp' s' e'} {dstw : Memref sig κ' sp s e} {hsrc : srcw.view.WordExact} {hdst : dstw.view.WordExact}
    {k : PUnit → Prog (TpuEff nD τ sig (Elt F) Λ₀ .tc) α} {J : ℕ} (hJ : dstw.view.dmaCredit = J) {P : sProp 𝕄} :
    iprop(Flight c sem J P ∗ (∃ W, owes (c : Thread nD τ) 0 W))
      ⊢ iprop((iprop(P ∗ semVal ((c : Thread nD τ), .dma sem) 0 ∗ (∃ W, owes (c : Thread nD τ) 0 W))
            -∗ wp frame (wpE (defs₀ (F := F)) Variants.none c none) Set.univ (k ⟨⟩) Q)
          -∗ wp frame (wpE (defs₀ (F := F)) Variants.none c none) Set.univ (.op (.waitDma2 sem srcw dstw hsrc hdst) k) Q) := by
  unfold Flight
  iintro ⟨⟨%n, %N, %D, %h, HB⟩, ⟨%W, HO⟩⟩ Hk
  obtain ⟨hN, hJN, hP⟩ := h
  iapply (wp_waitBatchAll EC Variants.none (c : Thread nD τ) none () (J := J) hJ hN (n := n) (D := D) (u := 0) (by omega) (W := W)) $$ [HB HO]
  · isplitl [HB] <;> iassumption
  iintro ⟨HD, HV, HO⟩
  iapply Hk
  ihave HP := hP $$ HD
  isplitl [HP]; · iexact HP
  isplitl [HV]; · iexact HV
  iexists _; iexact HO

/-- One copy that nothing else shares its semaphore with: it is in flight, and hands back both ends. -/
theorem wp_startOne (c : Dev nD) {α : Type} {Q : α → sProp 𝕄} {sp sp' : Space} {s : Shape} {e : EltTy} {sem : DmaSem sig}
    {src : Memref sig (c : Thread nD τ).2.kind sp s e} {dst : Memref sig (c : Thread nD τ).2.kind sp' s e}
    {hsrc : src.view.WordExact} {hdst : dst.view.WordExact} {hsem : DmaTarget.Typed (nD := nD) sp (.dma sem) (.here dst)}
    {k : PUnit → Prog (TpuEff nD τ sig (Elt F) Λ₀ (c : Thread nD τ).2) α} {q : PosShare TreeShare} {fs : Buf (Elt F) (src.view.loc (c : Thread nD τ))}
    {fd : Buf (Elt F) (dst.view.loc (c : Thread nD τ))} {R put P : sProp 𝕄} [Storable (upEmb : UEmb _ 𝕄) P] {J : ℕ}
    (hJ : dst.view.amount (.dma sem) = J) (hJ0 : 0 < J)
    (hR : R ⊢ iprop((src.view.loc (c : Thread nD τ) ↦[src.view.set]{q} fs) ∗ (dst.view.loc (c : Thread nD τ) ↦[dst.view.set]{fullShare} fd) ∗ put))
    (hD : iprop(put ∗ (dst.view.loc (c : Thread nD τ) ↦[dst.view.set]{fullShare} (dst.view.write (Elt F) fd (src.view.read (Elt F) fs) Finset.univ))
              ∗ (src.view.loc (c : Thread nD τ) ↦[src.view.set]{q} fs)) ⊢ P) :
    iprop(R ∗ semVal ((c : Thread nD τ), .dma sem) 0)
      ⊢ iprop((Flight c sem J P -∗ wp frame (wpE (defs₀ (F := F)) Variants.none c none) Set.univ (k ⟨⟩) Q)
          -∗ wp frame (wpE (defs₀ (F := F)) Variants.none c none) Set.univ (.op (.enqueueDma src (.here dst) (.dma sem) hsrc hdst hsem) k) Q) := by
  iintro ⟨HR, HV⟩ Hk
  imod (batch_alloc' EC (c : Thread nD τ) () J (fun _ : Fin 1 => P) (E := Set.univ)) $$ HV with HB
  iapply (wp_issue EC Variants.none (c : Thread nD τ) none (n := 1) (D := fun _ => P) () J hJ (j := 0) (by decide) hR hD) $$ [HR HB]
  · isplitl [HR] <;> iassumption
  iintro HB
  iapply Hk
  iapply (Flight.intro (n := 1) J (fun _ => P) hJ0 (by omega) (Entails.of_eq (bigSep_univ_of_subsingleton (0 : Fin 1) (Φ := fun _ : Fin 1 => P)))) $$ HB

end Cert.Experts

end
-- ==== Proof.Parcels.lean ====
/-
  What one row's copy takes and hands over, and a whole loop of such copies: a tile's gathers turn the token rows'
  shares and an arrival buffer into one flight, a tile's scatters turn the blocks they go to and the tile's rows into
  another.
-/
module

public import proofs.«01_k».proof.Proof.Base

@[expose] public section

noncomputable section

namespace Cert.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

/-! ## One copy's parcel -/

/-- What gather `t` takes: its sixteen rows of the arrival buffer, and a share of the token rows. -/
def RG {ℓ ℓx : Loc nD τ sig} (I : Fin 256 → Finset (Idx ℓ)) (f : Buf (Elt F) ℓ) (X : Buf (Elt F) ℓx) (t : Fin 256) : sProp 𝕄 :=
  iprop((ℓ ↦[I t]{fullShare} f) ∗ (ℓx ↦{ShareLeaves.leaf 8 fullShare t} X))

/-- What scatter `t` takes: the block it goes to, and its rows of the tile. -/
def RS {ℓ ℓy : Loc nD τ sig} (J : Fin 256 → Finset (Idx ℓy)) (I : Fin 256 → Finset (Idx ℓ)) (Y : Buf (Elt F) ℓy) (A : Buf (Elt F) ℓ)
    (t : Fin 256) : sProp 𝕄 :=
  iprop((ℓy ↦[J t]{fullShare} Y) ∗ (ℓ ↦[I t]{fullShare} A))

instance RG_storable {ℓ ℓx : Loc nD τ sig} (I : Fin 256 → Finset (Idx ℓ)) (f : Buf (Elt F) ℓ) (X : Buf (Elt F) ℓx) (t : Fin 256) :
    Storable (upEmb : UEmb _ 𝕄) (RG I f X t) := by unfold RG; infer_instance

instance RS_storable {ℓ ℓy : Loc nD τ sig} (J : Fin 256 → Finset (Idx ℓy)) (I : Fin 256 → Finset (Idx ℓ)) (Y : Buf (Elt F) ℓy)
    (A : Buf (Elt F) ℓ) (t : Fin 256) : Storable (upEmb : UEmb _ 𝕄) (RS J I Y A t) := by unfold RS; infer_instance

theorem parcel_gather {c : Thread nD τ} {sp sp' : Space} {s : Shape} {e : EltTy} {src : Memref sig c.2.kind sp s e} {dst : Memref sig c.2.kind sp' s e}
    {I : Fin 256 → Finset (Idx (dst.view.loc c))} {t : Fin 256} {X : Buf (Elt F) (src.view.loc c)} {f G : Buf (Elt F) (dst.view.loc c)}
    (hset : dst.view.set = I t)
    (hval : ∀ i ∈ I t, dst.view.write (Elt F) f (src.view.read (Elt F) X) Finset.univ i = G i) :
    ∃ (q : PosShare TreeShare) (fs : Buf (Elt F) (src.view.loc c)) (fd : Buf (Elt F) (dst.view.loc c)) (put : sProp 𝕄),
      (RG I f X t ⊢ iprop((src.view.loc c ↦[src.view.set]{q} fs) ∗ (dst.view.loc c ↦[dst.view.set]{fullShare} fd) ∗ put))
      ∧ (iprop(put ∗ (dst.view.loc c ↦[dst.view.set]{fullShare} (dst.view.write (Elt F) fd (src.view.read (Elt F) fs) Finset.univ))
            ∗ (src.view.loc c ↦[src.view.set]{q} fs)) ⊢ RG I G X t) := by
  refine ⟨ShareLeaves.leaf 8 fullShare t, X, f, iprop(src.view.loc c ↦[Finset.univ \ src.view.set]{ShareLeaves.leaf 8 fullShare t} X), ?_, ?_⟩
  · unfold RG
    rw [hset]
    iintro ⟨Hd, Hx⟩
    ihave Hx := (pointsTo_split_subset (Finset.subset_univ src.view.set)).1 $$ Hx
    icases Hx with ⟨H1, H2⟩
    isplitl [H1]; · iexact H1
    isplitl [Hd]; · iexact Hd
    iexact H2
  · unfold RG
    rw [hset, pointsTo_congr hval]
    iintro ⟨H2, Hd, H1⟩
    isplitl [Hd]; · iexact Hd
    iapply (pointsTo_split_subset (Finset.subset_univ src.view.set)).2
    isplitl [H1]; · iexact H1
    iexact H2

theorem parcel_scatter {c : Thread nD τ} {sp sp' : Space} {s : Shape} {e : EltTy} {src : Memref sig c.2.kind sp s e} {dst : Memref sig c.2.kind sp' s e}
    {J : Fin 256 → Finset (Idx (dst.view.loc c))} {I : Fin 256 → Finset (Idx (src.view.loc c))} {t : Fin 256}
    {A : Buf (Elt F) (src.view.loc c)} {Y Y' : Buf (Elt F) (dst.view.loc c)}
    (hs : src.view.set = I t) (hd : dst.view.set = J t)
    (hval : ∀ i ∈ J t, dst.view.write (Elt F) Y (src.view.read (Elt F) A) Finset.univ i = Y' i) :
    ∃ (q : PosShare TreeShare) (fs : Buf (Elt F) (src.view.loc c)) (fd : Buf (Elt F) (dst.view.loc c)) (put : sProp 𝕄),
      (RS J I Y A t ⊢ iprop((src.view.loc c ↦[src.view.set]{q} fs) ∗ (dst.view.loc c ↦[dst.view.set]{fullShare} fd) ∗ put))
      ∧ (iprop(put ∗ (dst.view.loc c ↦[dst.view.set]{fullShare} (dst.view.write (Elt F) fd (src.view.read (Elt F) fs) Finset.univ))
            ∗ (src.view.loc c ↦[src.view.set]{q} fs)) ⊢ RS J I Y' A t) := by
  refine ⟨fullShare, A, Y, iprop(emp), ?_, ?_⟩
  · unfold RS
    rw [hs, hd]
    iintro ⟨Hd, Hs⟩
    isplitl [Hs]; · iexact Hs
    isplitl [Hd]; · iexact Hd
    iempintro
  · unfold RS
    rw [hs, hd, pointsTo_congr hval]
    iintro ⟨-, Hd, Hs⟩
    isplitl [Hd]; · iexact Hd
    iexact Hs

/-! ## A loop of copies -/

/-- The gathers of a tile, all started: the words come back, and the buffer and the token rows are in flight. -/
theorem wp_gatherLoop (c : Dev nD) {ℓ ℓx ℓw : Loc nD τ sig} {Sw : Finset (Idx ℓw)} {fw : Buf (Elt F) ℓw} {I : Fin 256 → Finset (Idx ℓ)}
    {f G : Buf (Elt F) ℓ} {X : Buf (Elt F) ℓx} {sem : DmaSem sig}
    (hI : ∀ t t', t ≠ t' → Disjoint (I t) (I t')) (hU : Finset.univ.biUnion I = Finset.univ)
    {w : ℕ} {lb ub st : BitVec w} {hok : Scf.OK lb ub st} {β : Type}
    (htr : Scf.trips lb ub st = 128)
    {body : Fin (Scf.trips lb ub st) → Unit → Prog (TpuEff nD τ sig (Elt F) Λ₀ .tc) Unit}
    (hbody : ∀ t, Issuing EC (c : Thread nD τ) (.dma sem) () 256 (ℓw ↦[Sw]{fullShare} fw) (RG I f X) (RG I G X) (2 * t.val)
      ⊢ wp frame (wpE (defs₀ (F := F)) Variants.none c none) Set.univ (body t ())
          fun _ => Issuing EC (c : Thread nD τ) (.dma sem) () 256 (ℓw ↦[Sw]{fullShare} fw) (RG I f X) (RG I G X) (2 * (t.val + 1)))
    {kk : Unit → Prog (TpuEff nD τ sig (Elt F) Λ₀ .tc) β} {Q : β → sProp 𝕄} :
    iprop((ℓw ↦[Sw]{fullShare} fw) ∗ (ℓ ↦{fullShare} f) ∗ (ℓx ↦{fullShare} X) ∗ semVal ((c : Thread nD τ), .dma sem) 0)
      ⊢ iprop((iprop((ℓw ↦[Sw]{fullShare} fw) ∗ Flight c sem 65536 iprop((ℓ ↦{fullShare} G) ∗ (ℓx ↦{fullShare} X)))
            -∗ wp frame (wpE (defs₀ (F := F)) Variants.none c none) Set.univ (kk ()) Q)
          -∗ wp frame (wpE (defs₀ (F := F)) Variants.none c none) Set.univ (Scf.for lb ub st hok () body >>= kk) Q) := by
  have hsplit : ∀ f : Buf (Elt F) ℓ, (iprop((ℓ ↦{fullShare} f) ∗ (ℓx ↦{fullShare} X)) : sProp 𝕄) = bigSep Finset.univ (RG I f X) := by
    intro f
    show _ = bigSep Finset.univ fun t => iprop((ℓ ↦[I t]{fullShare} f) ∗ (ℓx ↦{ShareLeaves.leaf 8 fullShare t} X))
    rw [bigSep_sep', ← pointsTo_biUnion Finset.univ I (fun t _ t' _ h => hI t t' h), hU]
    congr 1
    exact ShareLeaves.pointsTo_leaves Finset.univ X 8 fullShare
  iintro ⟨Hw, Hf, Hx, Hv⟩ Hk
  ihave HR := (Entails.of_eq (hsplit f)) $$ [Hf Hx]
  · isplitl [Hf] <;> iassumption
  imod (batch_alloc' EC (c : Thread nD τ) () 256 (RG I G X) (E := Set.univ)) $$ Hv with HB
  iapply (Scf.wp_for_bind (M := 𝕄) frame _ _ lb ub st hok () body
    (fun k _ => Issuing EC (c : Thread nD τ) (.dma sem) () 256 (ℓw ↦[Sw]{fullShare} fw) (RG I f X) (RG I G X) (2 * k))
    (fun t _ => hbody t)) $$ [Hw HR HB]
  · unfold Issuing
    isplitl [Hw]; · iexact Hw
    isplitl [HR]; · rw [pending_zero]; iexact HR
    iexact HB
  iintro %acc H
  rw [htr]
  unfold Issuing
  icases H with ⟨Hw, -, HB⟩
  iapply Hk
  isplitl [Hw]; · iexact Hw
  iapply (Flight.intro 256 (RG I G X) (by decide) (by decide) (Entails.of_eq (hsplit G).symm)) $$ HB

/-- The scatters of a tile, all started: the words come back, and the blocks and the tile's rows are in flight. -/
theorem wp_scatterLoop (c : Dev nD) {ℓ ℓy ℓw : Loc nD τ sig} {Sw : Finset (Idx ℓw)} {fw : Buf (Elt F) ℓw} {I : Fin 256 → Finset (Idx ℓ)}
    {J : Fin 256 → Finset (Idx ℓy)} {A : Buf (Elt F) ℓ} {Y Y' : Buf (Elt F) ℓy} {sem : DmaSem sig}
    (hI : ∀ t t', t ≠ t' → Disjoint (I t) (I t')) (hU : Finset.univ.biUnion I = Finset.univ)
    (hJ : ∀ t t', t ≠ t' → Disjoint (J t) (J t'))
    {w : ℕ} {lb ub st : BitVec w} {hok : Scf.OK lb ub st} {β : Type}
    (htr : Scf.trips lb ub st = 128)
    {body : Fin (Scf.trips lb ub st) → Unit → Prog (TpuEff nD τ sig (Elt F) Λ₀ .tc) Unit}
    (hbody : ∀ t, Issuing EC (c : Thread nD τ) (.dma sem) () 128 (ℓw ↦[Sw]{fullShare} fw) (RS J I Y A) (RS J I Y' A) (2 * t.val)
      ⊢ wp frame (wpE (defs₀ (F := F)) Variants.none c none) Set.univ (body t ())
          fun _ => Issuing EC (c : Thread nD τ) (.dma sem) () 128 (ℓw ↦[Sw]{fullShare} fw) (RS J I Y A) (RS J I Y' A) (2 * (t.val + 1)))
    {kk : Unit → Prog (TpuEff nD τ sig (Elt F) Λ₀ .tc) β} {Q : β → sProp 𝕄} :
    iprop((ℓw ↦[Sw]{fullShare} fw) ∗ (ℓy ↦[Finset.univ.biUnion J]{fullShare} Y) ∗ (ℓ ↦{fullShare} A) ∗ semVal ((c : Thread nD τ), .dma sem) 0)
      ⊢ iprop((iprop((ℓw ↦[Sw]{fullShare} fw) ∗ Flight c sem 32768 iprop((ℓy ↦[Finset.univ.biUnion J]{fullShare} Y') ∗ (ℓ ↦{fullShare} A)))
            -∗ wp frame (wpE (defs₀ (F := F)) Variants.none c none) Set.univ (kk ()) Q)
          -∗ wp frame (wpE (defs₀ (F := F)) Variants.none c none) Set.univ (Scf.for lb ub st hok () body >>= kk) Q) := by
  have hsplit : ∀ Y : Buf (Elt F) ℓy, (iprop((ℓy ↦[Finset.univ.biUnion J]{fullShare} Y) ∗ (ℓ ↦{fullShare} A)) : sProp 𝕄) = bigSep Finset.univ (RS J I Y A) := by
    intro Y
    show _ = bigSep Finset.univ fun t => iprop((ℓy ↦[J t]{fullShare} Y) ∗ (ℓ ↦[I t]{fullShare} A))
    rw [bigSep_sep', ← pointsTo_biUnion Finset.univ I (fun t _ t' _ h => hI t t' h), hU,
      ← pointsTo_biUnion Finset.univ J (fun t _ t' _ h => hJ t t' h)]
  iintro ⟨Hw, Hy, Ha, Hv⟩ Hk
  ihave HR := (Entails.of_eq (hsplit Y)) $$ [Hy Ha]
  · isplitl [Hy] <;> iassumption
  imod (batch_alloc' EC (c : Thread nD τ) () 128 (RS J I Y' A) (E := Set.univ)) $$ Hv with HB
  iapply (Scf.wp_for_bind (M := 𝕄) frame _ _ lb ub st hok () body
    (fun k _ => Issuing EC (c : Thread nD τ) (.dma sem) () 128 (ℓw ↦[Sw]{fullShare} fw) (RS J I Y A) (RS J I Y' A) (2 * k))
    (fun t _ => hbody t)) $$ [Hw HR HB]
  · unfold Issuing
    isplitl [Hw]; · iexact Hw
    isplitl [HR]; · rw [pending_zero]; iexact HR
    iexact HB
  iintro %acc H
  rw [htr]
  unfold Issuing
  icases H with ⟨Hw, -, HB⟩
  iapply Hk
  isplitl [Hw]; · iexact Hw
  iapply (Flight.intro 128 (RS J I Y' A) (by decide) (by decide) (Entails.of_eq (hsplit Y').symm)) $$ HB

end Cert.Experts

end
-- ==== Proof.Ring.lean ====
/-
  Where the kernel reads the plan's words: the ring of four entries in scalar memory, its offsets in closed form, and
  the word an address of the ring holds.
-/
module

public import proofs.«01_k».proof.Proof.Parcels

@[expose] public section

noncomputable section

namespace Cert.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

/-! ## Offsets -/

/-- The slot of the ring an entry's number falls on, as the kernel computes it. -/
def slotw (x : BitVec 32) : BitVec 32 :=
  let n := Scalar.select (Scalar.cmpi .eq 4#32 0#32) 1#32 4#32
  let r := Scalar.remsi x n
  Scalar.select (Scalar.andi (Scalar.xori (Scalar.cmpi .slt r 0#32) (Scalar.cmpi .slt n 0#32)) (Scalar.cmpi .ne r 0#32)) (Scalar.addi r n) r

/-- The first word of an entry's slot. -/
def ringw (x : BitVec 32) : BitVec 32 := Scalar.muli (Scalar.muli (slotw x) 2#32) 256#32

theorem slotw_eq : ∀ k : Fin 400, slotw (BitVec.ofNat 32 k.val) = BitVec.ofNat 32 (k.val % 4) := by decide +kernel
theorem ringw_eq : ∀ k : Fin 400, ringw (BitVec.ofNat 32 k.val) = BitVec.ofNat 32 (512 * (k.val % 4)) := by decide +kernel

/-- The word of a trip's first or second row. -/
def rowWord (n : BitVec 32) (r : BitVec 32) : BitVec 32 := Scalar.addi (Scalar.muli 2#32 n) r

theorem rowWord_eq : ∀ (t : Fin 128) (r : Fin 2), rowWord (Scf.iv 0#32 1#32 t) (BitVec.ofNat 32 r.val) = BitVec.ofNat 32 (2 * t.val + r.val) := by
  decide +kernel

theorem addi_ofNat (a b : ℕ) : Scalar.addi (BitVec.ofNat 32 a) (BitVec.ofNat 32 b) = BitVec.ofNat 32 (a + b) := by
  unfold Scalar.addi; exact (BitVec.ofNat_add a b).symm

theorem gather_off {k : ℕ} (hk : k < 400) (t : Fin 128) (r : Fin 2) :
    (Scalar.indexCast (Scalar.addi (ringw (BitVec.ofNat 32 k)) (rowWord (Scf.iv 0#32 1#32 t) (BitVec.ofNat 32 r.val)))).toNat
      = 512 * (k % 4) + (2 * t.val + r.val) := by
  rw [ringw_eq ⟨k, hk⟩, rowWord_eq, addi_ofNat]
  show (BitVec.ofNat 32 _).toNat = _
  rw [BitVec.toNat_ofNat]; have := t.isLt; have := r.isLt; show (512 * (k % 4) + (2 * t.val + r.val)) % _ = _; omega

theorem scatter_off {k : ℕ} (hk : k < 400) (t : Fin 128) (r : Fin 2) :
    (Scalar.indexCast (Scalar.addi (Scalar.addi (ringw (BitVec.ofNat 32 k)) 256#32) (rowWord (Scf.iv 0#32 1#32 t) (BitVec.ofNat 32 r.val)))).toNat
      = 512 * (k % 4) + 256 + (2 * t.val + r.val) := by
  rw [ringw_eq ⟨k, hk⟩, rowWord_eq, addi_ofNat, addi_ofNat]
  show (BitVec.ofNat 32 _).toNat = _
  rw [BitVec.toNat_ofNat]; have := t.isLt; have := r.isLt; show (512 * (k % 4) + 256 + (2 * t.val + r.val)) % _ = _; omega

theorem i_lt (i : grid0.Coords) : (i 0).val < 320 := (i 0).isLt

theorem off13_eq (i : grid0.Coords) (t : Fin k0_t2_loop.trips) : k0_off13 i t = ![512 * (((i 0).val + 2) % 4) + (2 * t.val + 0)] :=
  (show k0_off13 i t = ![(Scalar.indexCast (Scalar.addi (ringw (BitVec.ofNat 32 (i 0).val + 2#32)) (rowWord (Scf.iv 0#32 1#32 t) 0#32))).toNat] from rfl).trans
    (by rw [← BitVec.ofNat_add]; exact congrArg (fun n => ![n]) (gather_off (by have := i_lt i; omega) t 0))
theorem off16_eq (i : grid0.Coords) (t : Fin k0_t2_loop.trips) : k0_off16 i t = ![512 * (((i 0).val + 2) % 4) + (2 * t.val + 1)] :=
  (show k0_off16 i t = ![(Scalar.indexCast (Scalar.addi (ringw (BitVec.ofNat 32 (i 0).val + 2#32)) (rowWord (Scf.iv 0#32 1#32 t) 1#32))).toNat] from rfl).trans
    (by rw [← BitVec.ofNat_add]; exact congrArg (fun n => ![n]) (gather_off (by have := i_lt i; omega) t 1))
theorem off34_eq (i : grid0.Coords) (t : Fin k0_t5_loop.trips) : k0_off34 i t = ![512 * (((i 0).val + 2) % 4) + (2 * t.val + 0)] :=
  (show k0_off34 i t = ![(Scalar.indexCast (Scalar.addi (ringw (BitVec.ofNat 32 (i 0).val + 2#32)) (rowWord (Scf.iv 0#32 1#32 t) 0#32))).toNat] from rfl).trans
    (by rw [← BitVec.ofNat_add]; exact congrArg (fun n => ![n]) (gather_off (by have := i_lt i; omega) t 0))
theorem off37_eq (i : grid0.Coords) (t : Fin k0_t5_loop.trips) : k0_off37 i t = ![512 * (((i 0).val + 2) % 4) + (2 * t.val + 1)] :=
  (show k0_off37 i t = ![(Scalar.indexCast (Scalar.addi (ringw (BitVec.ofNat 32 (i 0).val + 2#32)) (rowWord (Scf.iv 0#32 1#32 t) 1#32))).toNat] from rfl).trans
    (by rw [← BitVec.ofNat_add]; exact congrArg (fun n => ![n]) (gather_off (by have := i_lt i; omega) t 1))

theorem off19_eq (i : grid0.Coords) (t : Fin k0_t3_loop.trips) : k0_off19 i t = ![512 * ((i 0).val % 4) + 256 + (2 * t.val + 0)] :=
  (show k0_off19 i t = ![(Scalar.indexCast (Scalar.addi (Scalar.addi (ringw (BitVec.ofNat 32 (i 0).val)) 256#32) (rowWord (Scf.iv 0#32 1#32 t) 0#32))).toNat] from rfl).trans
    (congrArg (fun n => ![n]) (scatter_off (by have := i_lt i; omega) t 0))
theorem off22_eq (i : grid0.Coords) (t : Fin k0_t3_loop.trips) : k0_off22 i t = ![512 * ((i 0).val % 4) + 256 + (2 * t.val + 1)] :=
  (show k0_off22 i t = ![(Scalar.indexCast (Scalar.addi (Scalar.addi (ringw (BitVec.ofNat 32 (i 0).val)) 256#32) (rowWord (Scf.iv 0#32 1#32 t) 1#32))).toNat] from rfl).trans
    (congrArg (fun n => ![n]) (scatter_off (by have := i_lt i; omega) t 1))
theorem off40_eq (i : grid0.Coords) (t : Fin k0_t6_loop.trips) : k0_off40 i t = ![512 * ((i 0).val % 4) + 256 + (2 * t.val + 0)] :=
  (show k0_off40 i t = ![(Scalar.indexCast (Scalar.addi (Scalar.addi (ringw (BitVec.ofNat 32 (i 0).val)) 256#32) (rowWord (Scf.iv 0#32 1#32 t) 0#32))).toNat] from rfl).trans
    (congrArg (fun n => ![n]) (scatter_off (by have := i_lt i; omega) t 0))
theorem off43_eq (i : grid0.Coords) (t : Fin k0_t6_loop.trips) : k0_off43 i t = ![512 * ((i 0).val % 4) + 256 + (2 * t.val + 1)] :=
  (show k0_off43 i t = ![(Scalar.indexCast (Scalar.addi (Scalar.addi (ringw (BitVec.ofNat 32 (i 0).val)) 256#32) (rowWord (Scf.iv 0#32 1#32 t) 1#32))).toNat] from rfl).trans
    (congrArg (fun n => ![n]) (scatter_off (by have := i_lt i; omega) t 1))

theorem off25_eq (i : grid0.Coords) (t : Fin k0_t4_loop.trips) : k0_off25 i t = ![512 * (((i 0).val + 1) % 4) + 256 + (2 * t.val + 0)] :=
  (show k0_off25 i t = ![(Scalar.indexCast (Scalar.addi (Scalar.addi (ringw (BitVec.ofNat 32 (i 0).val + 1#32)) 256#32) (rowWord (Scf.iv 0#32 1#32 t) 0#32))).toNat] from rfl).trans
    (by rw [← BitVec.ofNat_add]; exact congrArg (fun n => ![n]) (scatter_off (by have := i_lt i; omega) t 0))
theorem off28_eq (i : grid0.Coords) (t : Fin k0_t4_loop.trips) : k0_off28 i t = ![512 * (((i 0).val + 1) % 4) + 256 + (2 * t.val + 1)] :=
  (show k0_off28 i t = ![(Scalar.indexCast (Scalar.addi (Scalar.addi (ringw (BitVec.ofNat 32 (i 0).val + 1#32)) 256#32) (rowWord (Scf.iv 0#32 1#32 t) 1#32))).toNat] from rfl).trans
    (by rw [← BitVec.ofNat_add]; exact congrArg (fun n => ![n]) (scatter_off (by have := i_lt i; omega) t 1))
theorem off46_eq (i : grid0.Coords) (t : Fin k0_t7_loop.trips) : k0_off46 i t = ![512 * (((i 0).val + 1) % 4) + 256 + (2 * t.val + 0)] :=
  (show k0_off46 i t = ![(Scalar.indexCast (Scalar.addi (Scalar.addi (ringw (BitVec.ofNat 32 (i 0).val + 1#32)) 256#32) (rowWord (Scf.iv 0#32 1#32 t) 0#32))).toNat] from rfl).trans
    (by rw [← BitVec.ofNat_add]; exact congrArg (fun n => ![n]) (scatter_off (by have := i_lt i; omega) t 0))
theorem off49_eq (i : grid0.Coords) (t : Fin k0_t7_loop.trips) : k0_off49 i t = ![512 * (((i 0).val + 1) % 4) + 256 + (2 * t.val + 1)] :=
  (show k0_off49 i t = ![(Scalar.indexCast (Scalar.addi (Scalar.addi (ringw (BitVec.ofNat 32 (i 0).val + 1#32)) 256#32) (rowWord (Scf.iv 0#32 1#32 t) 1#32))).toNat] from rfl).trans
    (by rw [← BitVec.ofNat_add]; exact congrArg (fun n => ![n]) (scatter_off (by have := i_lt i; omega) t 1))

/-! ## The ring -/

/-- The words of entry `a`'s slot. -/
def seg (a : ℕ) : Finset S2048.Idx := Finset.univ.filter fun x => (x 0).val / 512 = a % 4

theorem mem_seg {a : ℕ} {x : S2048.Idx} : x ∈ seg a ↔ (x 0).val / 512 = a % 4 := by simp [seg]

/-- What the ring holds of entry `a`. -/
def slotOf (mt : Meta) (a : ℕ) : S2048.Idx → BitVec 32 := fun x => mt (at1 (N := 165376) (by decide) (512 * a + (x 0).val % 512))

/-- One word of the ring lies in its entry's slot. -/
theorem word_sub {off : Fin 1 → ℕ} {inb : ∀ a, off a + S1.size a ≤ S2048.size a} {a b : ℕ} (h0 : off = ![512 * (a % 4) + b]) (hb : b < 512) :
    ((Memref.whole cc0_scratch0 : Memref sig .tc .smem S2048 .i32).access (Rect.unit (s := S2048) off S1.size inb)).set ⊆ seg a := by
  subst h0
  intro x hx
  have hx : x ∈ (Rect.unit (s := S2048) (![512 * (a % 4) + b]) S1.size inb).set := (View.set_slice_whole cc0_scratch0 _) ▸ hx
  rw [Rect.mem_set_unit] at hx
  have h := hx 0
  have e1 : (![512 * (a % 4) + b] : Fin 1 → ℕ) 0 = 512 * (a % 4) + b := rfl
  have e2 : S1.size 0 = 1 := rfl
  rw [e1, e2] at h
  rw [mem_seg]; omega

/-- The word the kernel reads there. -/
theorem word_read (mt : Meta) {off : Fin 1 → ℕ} {inb : ∀ a, off a + S1.size a ≤ S2048.size a} {a b : ℕ} (h0 : off = ![512 * (a % 4) + b]) (hb : b < 512)
    (x : (Rect.unit (s := S2048) off S1.size inb).shape.Idx) :
    ((Memref.whole cc0_scratch0 : Memref sig .tc .smem S2048 .i32).access (Rect.unit (s := S2048) off S1.size inb)).read (Elt F) (slotOf mt a) x
      = mt (at1 (N := 165376) (by decide) (512 * a + b)) := by
  subst h0
  show slotOf mt a ((Rect.unit (s := S2048) (![512 * (a % 4) + b]) S1.size inb).emb x) = _
  unfold slotOf
  congr 2
  rw [ValueKit.rect_emb_unit_val]
  have hx : (x 0).val < 1 := (x 0).isLt
  show 512 * a + (512 * (a % 4) + b + (x 0).val) % 512 = _
  omega

end Cert.Experts

end
-- ==== Proof.Trips.lean ====
/-
  One trip of each copy loop: two rows of a tile, each copied to or from where its word says.
-/
module

public import proofs.«01_k».proof.Proof.Ring

@[expose] public section

noncomputable section

namespace Cert.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

/-! ## The operands -/

abbrev mTe : Memref sig .tc .smem S320 .i32 := Memref.whole main_arg0
abbrev mNu : Memref sig .tc .smem S1 .i32 := Memref.whole main_arg1
abbrev mMeta : Memref sig .tc .hbm S165376 .i32 := Memref.whole main_arg2
abbrev mX : Memref sig .tc .hbm S131072x128 .f32 := Memref.whole main_arg3
abbrev mY : Memref sig .tc .hbm S1056768x128 .bf16 := Memref.whole main_v0
abbrev mRing : Memref sig .tc .smem S2048 .i32 := Memref.whole cc0_scratch0
abbrev mXa : Memref sig .tc .vmem S4096x128 .f32 := Memref.whole cc0_scratch1
abbrev mXb : Memref sig .tc .vmem S4096x128 .f32 := Memref.whole cc0_scratch2
abbrev mYa : Memref sig .tc .vmem S4096x128 .bf16 := Memref.whole cc0_scratch3
abbrev mYb : Memref sig .tc .vmem S4096x128 .bf16 := Memref.whole cc0_scratch4
abbrev mStage : Memref sig .tc .vmem S4096x128 .f32 := Memref.whole cc0_scratch5
abbrev mGu : Memref sig .tc .vmem S2048x1024 .bf16 := Memref.whole cc0_scratch6
abbrev mDn : Memref sig .tc .vmem S512x2048 .bf16 := Memref.whole cc0_scratch7

/-- A buffer of core `c`. -/
abbrev lc (c : Dev nD) (b : Ref sig .tc) : Loc nD τ sig := (c : Thread nD τ).loc b

/-- The sixteen rows of a tile's row `t`. -/
def rowsI (t : Fin 256) : Finset S4096x128.Idx := blk 4096 t.val

theorem rowsI_disjoint (t t' : Fin 256) (h : t ≠ t') : Disjoint (rowsI t) (rowsI t') := blk_disjoint fun e => h (Fin.ext e)

theorem rowsI_union : Finset.univ.biUnion rowsI = Finset.univ := by
  ext i
  have hi : (i 0).val < 4096 := (i 0).isLt
  simp only [Finset.mem_biUnion, Finset.mem_univ, true_and, iff_true]
  exact ⟨⟨(i 0).val / 16, by omega⟩, mem_blk.2 rfl⟩

/-- The words a copy's side condition is about. -/
theorem S16x128_fits {N : ℕ} {off : Fin 2 → ℕ} {n : ℕ} (h : off = ![16 * n, 0]) (hn : 16 * n + 16 ≤ N) : ∀ a, off a + S16x128.size a ≤ (Rows N).size a := by
  subst h
  intro a
  match a with
  | 0 => show 16 * n + 16 ≤ N; exact hn
  | 1 => show 0 + 128 ≤ 128; omega

/-! ## Sixteen rows of a buffer -/

theorem set_Xa {off : Fin 2 → ℕ} {inb} {n : ℕ} (hoff : off = ![16 * n, 0]) :
    ((mXa.slice (Rect.unit (s := S4096x128) off S16x128.size inb) (fun _ => rfl)).view).set = blk 4096 n := by
  subst hoff
  exact (View.set_slice_whole cc0_scratch1 _).trans (rect_blk rfl rfl)

theorem set_Xb {off : Fin 2 → ℕ} {inb} {n : ℕ} (hoff : off = ![16 * n, 0]) :
    ((mXb.slice (Rect.unit (s := S4096x128) off S16x128.size inb) (fun _ => rfl)).view).set = blk 4096 n := by
  subst hoff
  exact (View.set_slice_whole cc0_scratch2 _).trans (rect_blk rfl rfl)

theorem set_Ya {off : Fin 2 → ℕ} {inb} {n : ℕ} (hoff : off = ![16 * n, 0]) :
    ((mYa.slice (Rect.unit (s := S4096x128) off S16x128.size inb) (fun _ => rfl)).view).set = blk 4096 n := by
  subst hoff
  exact (View.set_slice_whole cc0_scratch3 _).trans (rect_blk rfl rfl)

theorem set_Yb {off : Fin 2 → ℕ} {inb} {n : ℕ} (hoff : off = ![16 * n, 0]) :
    ((mYb.slice (Rect.unit (s := S4096x128) off S16x128.size inb) (fun _ => rfl)).view).set = blk 4096 n := by
  subst hoff
  exact (View.set_slice_whole cc0_scratch4 _).trans (rect_blk rfl rfl)

theorem set_Y {off : Fin 2 → ℕ} {inb} {n : ℕ} (hoff : off = ![16 * n, 0]) :
    ((mY.slice (Rect.unit (s := S1056768x128) off S16x128.size inb) (fun _ => rfl)).view).set = blk 1056768 n := by
  subst hoff
  exact (View.set_slice_whole main_v0 _).trans (rect_blk rfl rfl)

theorem val_Xa {off : Fin 2 → ℕ} {inb} {n : ℕ} (hoff : off = ![16 * n, 0]) (f : S4096x128.Idx → F .f32) (w : S16x128.Idx → F .f32)
    {j : S4096x128.Idx} (hj : j ∈ blk 4096 n) :
    (mXa.slice (Rect.unit (s := S4096x128) off S16x128.size inb) (fun _ => rfl)).view.write (Elt F) f w Finset.univ j = w (inBlk j) := by
  subst hoff
  have e := rect_emb_inBlk (N := 4096) (n := n) (off := ![16 * n, 0]) (inb := inb) rfl rfl (mem_blk.1 hj)
  have h := View.write_emb_of_mem (Val := Elt F) (v := (mXa.slice (Rect.unit (s := S4096x128) ![16 * n, 0] S16x128.size inb) (fun _ => rfl)).view)
    f w (M := Finset.univ) (x := inBlk j) (Finset.mem_univ _)
  have e' : (mXa.slice (Rect.unit (s := S4096x128) ![16 * n, 0] S16x128.size inb) (fun _ => rfl)).view.emb (inBlk j) = j := e
  rw [e'] at h
  exact h

theorem val_Xb {off : Fin 2 → ℕ} {inb} {n : ℕ} (hoff : off = ![16 * n, 0]) (f : S4096x128.Idx → F .f32) (w : S16x128.Idx → F .f32)
    {j : S4096x128.Idx} (hj : j ∈ blk 4096 n) :
    (mXb.slice (Rect.unit (s := S4096x128) off S16x128.size inb) (fun _ => rfl)).view.write (Elt F) f w Finset.univ j = w (inBlk j) := by
  subst hoff
  have e := rect_emb_inBlk (N := 4096) (n := n) (off := ![16 * n, 0]) (inb := inb) rfl rfl (mem_blk.1 hj)
  have h := View.write_emb_of_mem (Val := Elt F) (v := (mXb.slice (Rect.unit (s := S4096x128) ![16 * n, 0] S16x128.size inb) (fun _ => rfl)).view)
    f w (M := Finset.univ) (x := inBlk j) (Finset.mem_univ _)
  have e' : (mXb.slice (Rect.unit (s := S4096x128) ![16 * n, 0] S16x128.size inb) (fun _ => rfl)).view.emb (inBlk j) = j := e
  rw [e'] at h
  exact h

theorem val_Y {off : Fin 2 → ℕ} {inb} {n : ℕ} (hoff : off = ![16 * n, 0]) (f : S1056768x128.Idx → F .bf16) (w : S16x128.Idx → F .bf16)
    {j : S1056768x128.Idx} (hj : j ∈ blk 1056768 n) :
    (mY.slice (Rect.unit (s := S1056768x128) off S16x128.size inb) (fun _ => rfl)).view.write (Elt F) f w Finset.univ j = w (inBlk j) := by
  subst hoff
  have e := rect_emb_inBlk (N := 1056768) (n := n) (off := ![16 * n, 0]) (inb := inb) rfl rfl (mem_blk.1 hj)
  have h := View.write_emb_of_mem (Val := Elt F) (v := (mY.slice (Rect.unit (s := S1056768x128) ![16 * n, 0] S16x128.size inb) (fun _ => rfl)).view)
    f w (M := Finset.univ) (x := inBlk j) (Finset.mem_univ _)
  have e' : (mY.slice (Rect.unit (s := S1056768x128) ![16 * n, 0] S16x128.size inb) (fun _ => rfl)).view.emb (inBlk j) = j := e
  rw [e'] at h
  exact h

theorem read_Ya {off : Fin 2 → ℕ} {inb} {n : ℕ} (hoff : off = ![16 * n, 0]) (A : S4096x128.Idx → F .bf16) (j : S1056768x128.Idx) :
    (mYa.slice (Rect.unit (s := S4096x128) off S16x128.size inb) (fun _ => rfl)).view.read (Elt F) A (inBlk j)
      = A (at2 (N := 4096) (by decide) (16 * n + (j 0).val % 16) (j 1).val) := by
  subst hoff
  show A ((Rect.unit (s := S4096x128) ![16 * n, 0] S16x128.size inb).emb (inBlk j)) = _
  rw [rect_emb_other (by decide) (n' := n) rfl rfl]

theorem read_Yb {off : Fin 2 → ℕ} {inb} {n : ℕ} (hoff : off = ![16 * n, 0]) (A : S4096x128.Idx → F .bf16) (j : S1056768x128.Idx) :
    (mYb.slice (Rect.unit (s := S4096x128) off S16x128.size inb) (fun _ => rfl)).view.read (Elt F) A (inBlk j)
      = A (at2 (N := 4096) (by decide) (16 * n + (j 0).val % 16) (j 1).val) := by
  subst hoff
  show A ((Rect.unit (s := S4096x128) ![16 * n, 0] S16x128.size inb).emb (inBlk j)) = _
  rw [rect_emb_other (by decide) (n' := n) rfl rfl]

/-- The gathered rows, written through a row's slice. -/
theorem gather_val {b : ℕ} {X : S131072x128.Idx → F .f32} {g : ℕ → ℕ} {n : ℕ} {f : S4096x128.Idx → F .f32} {off : Fin 2 → ℕ} {inb}
    (hg : b = 16 * g n) (hoff : off = ![b, 0]) (j : S4096x128.Idx) (hj : (j 0).val / 16 = n)  :
    ((mX.slice (Rect.unit (s := S131072x128) off S16x128.size inb) (fun _ => rfl)).view.read (Elt F) X) (inBlk j) = gathered X g j := by
  subst hoff
  show X ((Rect.unit (s := S131072x128) ![b, 0] S16x128.size inb).emb (inBlk j)) = _
  rw [rect_emb_other (by decide) (n' := g n) hg rfl]
  unfold gathered
  rw [hj]

variable (c : Dev nD) {te : S320.Idx → BitVec 32} {nu : ℕ} {mt : Meta} (hp : Plan te nu mt) (i : grid0.Coords)
  (arg5 : Memref sig .tc .vmem S1x2048x1024 .f32) (harg5 : arg5.IsWhole) (arg6 : Memref sig .tc .vmem S1x512x2048 .f32) (harg6 : arg6.IsWhole)

include hp in
theorem gw_ok {a r : ℕ} (ha : a < 323) (hr : r < 256) : 16 ∣ (gw mt a r).toNat ∧ (gw mt a r).toNat + 16 ≤ 131072 ∧ (gw mt a r).toNat = 16 * gi mt a r := by
  have h1 := hp.gw_eq a ha r hr
  have h2 := hp.gi_lt a ha r hr
  rw [h1]; exact ⟨⟨_, rfl⟩, by omega, rfl⟩

include hp in
theorem sw_ok {a r : ℕ} (ha : a < 323) (hr : r < 256) : 16 ∣ (sw mt a r).toNat ∧ 16 * si mt a r + 16 ≤ 1056768 ∧ (sw mt a r).toNat = 16 * si mt a r := by
  have h1 := hp.sw_eq a ha r hr
  have h2 := hp.si_lt a ha r hr
  rw [h1]; exact ⟨⟨_, rfl⟩, by omega, rfl⟩

include hp in
/-- The blocks an entry scatters to are different. -/
theorem sd_inj {k : ℕ} (hk : k ≤ 321) (r r' : Fin 256) (h : r ≠ r') : sd mt k r ≠ sd mt k r' := by
  match k with
  | 0 => show 65536 + r.val ≠ 65536 + r'.val; have : r.val ≠ r'.val := fun e => h (Fin.ext e); omega
  | k + 1 => exact hp.si_inj k (by omega) r r' h

/-- Sixteen rows whose first is a multiple of sixteen begin and end on a word. -/
theorem whole_words {n : ℕ} {off : Fin 2 → ℕ} (hoff : off = ![16 * n, 0]) (inb : ∀ a, off a + S16x128.size a ≤ S1056768x128.size a) :
    (Rect.unit (s := S1056768x128) off S16x128.size inb).WholeWords (EltTy.packing .bf16) := by
  subst hoff
  have h2 : 2 ≤ S1056768x128.rank := by decide
  have hd : 2 ∣ 16 * n := ⟨8 * n, by omega⟩
  exact Affine.words_of_packed (Affine.packed_dvd h2 hd (by decide : 2 ∣ 16))

include hp in
theorem trip_t1 (h1 : k0_cond1 i = 1#1) (f : S4096x128.Idx → F .f32) (X : S131072x128.Idx → F .f32)
    (t : Fin k0_t1_loop.trips) :
    Issuing EC (c : Thread nD τ) (.dma 8) () 256 (lc c cc0_scratch0 ↦[seg 1]{fullShare} slotOf mt 1)
        (RG (ℓ := lc c cc0_scratch1) (ℓx := lc c main_arg3) rowsI f X) (RG (ℓ := lc c cc0_scratch1) (ℓx := lc c main_arg3) rowsI (gathered X (gi mt 1)) X) (2 * t.val)
      ⊢ wp frame (wpE (defs₀ (F := F)) Variants.none c none) Set.univ
          (k0_t1_body (F := F) i mTe (Memref.isWhole_whole _) mNu (Memref.isWhole_whole _) mMeta (Memref.isWhole_whole _) mX (Memref.isWhole_whole _) arg5 harg5 arg6 harg6
            mY (Memref.isWhole_whole _) mRing (Memref.isWhole_whole _) mXa (Memref.isWhole_whole _) mXb (Memref.isWhole_whole _) mYa (Memref.isWhole_whole _) mYb (Memref.isWhole_whole _)
            mStage (Memref.isWhole_whole _) mGu (Memref.isWhole_whole _) mDn (Memref.isWhole_whole _) cc0_scratch8 cc0_scratch9 cc0_scratch10
            h1 t ())
          fun _ => Issuing EC (c : Thread nD τ) (.dma 8) () 256 (lc c cc0_scratch0 ↦[seg 1]{fullShare} slotOf mt 1)
        (RG (ℓ := lc c cc0_scratch1) (ℓx := lc c main_arg3) rowsI f X) (RG (ℓ := lc c cc0_scratch1) (ℓx := lc c main_arg3) rowsI (gathered X (gi mt 1)) X) (2 * (t.val + 1)) := by
  have ht : t.val < 128 := t.isLt
  have hi := i_lt i
  unfold k0_t1_body
  iintro H
  iapply (wp_issueWord EC Variants.none (c : Thread nD τ) none () 256 (n := 256) (j := 2 * t.val) (by omega)
    (word_sub (a := 1) (b := 2 * t.val + 0) ((k0_off2_eq t).trans (congrArg (fun n => ![n]) (by omega))) (by omega)) ?_ ?_ ?_) $$ H
  · rw [word_read mt (a := 1) (b := 2 * t.val + 0) ((k0_off2_eq t).trans (congrArg (fun n => ![n]) (by omega))) (by omega)]
    have hw := gw_ok hp (a := 1) (r := 2 * t.val + 0) (by omega) (by omega)
    exact ⟨fun _ => hw.1, fun _ => S16x128_fits (N := 131072) (n := gi mt 1 (2 * t.val + 0)) (congrArg (fun n => ![n, 0]) hw.2.2) (by have := hw.2.1; have := hw.2.2; omega)⟩
  · intro v h; rfl
  · intro v h hv
    rw [word_read mt (a := 1) (b := 2 * t.val + 0) ((k0_off2_eq t).trans (congrArg (fun n => ![n]) (by omega))) (by omega)] at hv
    have hw := gw_ok hp (a := 1) (r := 2 * t.val + 0) (by omega) (by omega)
    have ho : k0_off3 t = ![16 * (2 * t.val + 0), 0] := by rw [k0_off3_eq]; congr 1; omega
    refine parcel_gather (set_Xa ho) fun j hj => ?_
    have hj' : j ∈ blk 4096 (2 * t.val + 0) := hj
    refine (val_Xa ho f _ hj').trans (gather_val (f := f) (b := v.toNat) (g := gi mt 1) ?_ rfl j (mem_blk.1 hj'))
    rw [hv]; exact hw.2.2
  iintro H
  iapply (wp_issueWord EC Variants.none (c : Thread nD τ) none () 256 (n := 256) (j := 2 * t.val + 1) (by omega)
    (word_sub (a := 1) (b := 2 * t.val + 1) ((k0_off5_eq t).trans (congrArg (fun n => ![n]) (by omega))) (by omega)) ?_ ?_ ?_) $$ H
  · rw [word_read mt (a := 1) (b := 2 * t.val + 1) ((k0_off5_eq t).trans (congrArg (fun n => ![n]) (by omega))) (by omega)]
    have hw := gw_ok hp (a := 1) (r := 2 * t.val + 1) (by omega) (by omega)
    exact ⟨fun _ => hw.1, fun _ => S16x128_fits (N := 131072) (n := gi mt 1 (2 * t.val + 1)) (congrArg (fun n => ![n, 0]) hw.2.2) (by have := hw.2.1; have := hw.2.2; omega)⟩
  · intro v h; rfl
  · intro v h hv
    rw [word_read mt (a := 1) (b := 2 * t.val + 1) ((k0_off5_eq t).trans (congrArg (fun n => ![n]) (by omega))) (by omega)] at hv
    have hw := gw_ok hp (a := 1) (r := 2 * t.val + 1) (by omega) (by omega)
    have ho : k0_off6 t = ![16 * (2 * t.val + 1), 0] := by rw [k0_off6_eq]; congr 1; omega
    refine parcel_gather (set_Xa ho) fun j hj => ?_
    have hj' : j ∈ blk 4096 (2 * t.val + 1) := hj
    refine (val_Xa ho f _ hj').trans (gather_val (f := f) (b := v.toNat) (g := gi mt 1) ?_ rfl j (mem_blk.1 hj'))
    rw [hv]; exact hw.2.2
  iintro H
  rw [show (Pure.pure PUnit.unit : Prog (TpuEff nD τ sig (Elt F) Λ₀ .tc) Unit) = Prog.ret () from rfl, wp_ret]
  imodintro
  iexact H

include hp in
theorem trip_t2 (v0 : BitVec 32) (h2 : k0_cond2 i v0 = 1#1) (h4 : k0_cond4 i = 1#1) (f : S4096x128.Idx → F .f32) (X : S131072x128.Idx → F .f32)
    (t : Fin k0_t2_loop.trips) :
    Issuing EC (c : Thread nD τ) (.dma 9) () 256 (lc c cc0_scratch0 ↦[seg ((i 0).val + 2)]{fullShare} slotOf mt ((i 0).val + 2))
        (RG (ℓ := lc c cc0_scratch2) (ℓx := lc c main_arg3) rowsI f X) (RG (ℓ := lc c cc0_scratch2) (ℓx := lc c main_arg3) rowsI (gathered X (gi mt ((i 0).val + 2))) X) (2 * t.val)
      ⊢ wp frame (wpE (defs₀ (F := F)) Variants.none c none) Set.univ
          (k0_t2_body (F := F) i mTe (Memref.isWhole_whole _) mNu (Memref.isWhole_whole _) mMeta (Memref.isWhole_whole _) mX (Memref.isWhole_whole _) arg5 harg5 arg6 harg6
            mY (Memref.isWhole_whole _) mRing (Memref.isWhole_whole _) mXa (Memref.isWhole_whole _) mXb (Memref.isWhole_whole _) mYa (Memref.isWhole_whole _) mYb (Memref.isWhole_whole _)
            mStage (Memref.isWhole_whole _) mGu (Memref.isWhole_whole _) mDn (Memref.isWhole_whole _) cc0_scratch8 cc0_scratch9 cc0_scratch10
            (BitVec.ofNat 32 (i 0).val) v0 h2 h4 t ())
          fun _ => Issuing EC (c : Thread nD τ) (.dma 9) () 256 (lc c cc0_scratch0 ↦[seg ((i 0).val + 2)]{fullShare} slotOf mt ((i 0).val + 2))
        (RG (ℓ := lc c cc0_scratch2) (ℓx := lc c main_arg3) rowsI f X) (RG (ℓ := lc c cc0_scratch2) (ℓx := lc c main_arg3) rowsI (gathered X (gi mt ((i 0).val + 2))) X) (2 * (t.val + 1)) := by
  have ht : t.val < 128 := t.isLt
  have hi := i_lt i
  unfold k0_t2_body
  iintro H
  iapply (wp_issueWord EC Variants.none (c : Thread nD τ) none () 256 (n := 256) (j := 2 * t.val) (by omega)
    (word_sub (a := ((i 0).val + 2)) (b := 2 * t.val + 0) (off13_eq i t) (by omega)) ?_ ?_ ?_) $$ H
  · rw [word_read mt (a := ((i 0).val + 2)) (b := 2 * t.val + 0) (off13_eq i t) (by omega)]
    have hw := gw_ok hp (a := ((i 0).val + 2)) (r := 2 * t.val + 0) (by omega) (by omega)
    exact ⟨fun _ _ => hw.1, fun _ _ => S16x128_fits (N := 131072) (n := gi mt ((i 0).val + 2) (2 * t.val + 0)) (congrArg (fun n => ![n, 0]) hw.2.2) (by have := hw.2.1; have := hw.2.2; omega)⟩
  · intro v h; rfl
  · intro v h hv
    rw [word_read mt (a := ((i 0).val + 2)) (b := 2 * t.val + 0) (off13_eq i t) (by omega)] at hv
    have hw := gw_ok hp (a := ((i 0).val + 2)) (r := 2 * t.val + 0) (by omega) (by omega)
    have ho : k0_off14 t = ![16 * (2 * t.val + 0), 0] := by rw [k0_off14_eq]; congr 1; omega
    refine parcel_gather (set_Xb ho) fun j hj => ?_
    have hj' : j ∈ blk 4096 (2 * t.val + 0) := hj
    refine (val_Xb ho f _ hj').trans (gather_val (f := f) (b := v.toNat) (g := gi mt ((i 0).val + 2)) ?_ rfl j (mem_blk.1 hj'))
    rw [hv]; exact hw.2.2
  iintro H
  iapply (wp_issueWord EC Variants.none (c : Thread nD τ) none () 256 (n := 256) (j := 2 * t.val + 1) (by omega)
    (word_sub (a := ((i 0).val + 2)) (b := 2 * t.val + 1) (off16_eq i t) (by omega)) ?_ ?_ ?_) $$ H
  · rw [word_read mt (a := ((i 0).val + 2)) (b := 2 * t.val + 1) (off16_eq i t) (by omega)]
    have hw := gw_ok hp (a := ((i 0).val + 2)) (r := 2 * t.val + 1) (by omega) (by omega)
    exact ⟨fun _ _ => hw.1, fun _ _ => S16x128_fits (N := 131072) (n := gi mt ((i 0).val + 2) (2 * t.val + 1)) (congrArg (fun n => ![n, 0]) hw.2.2) (by have := hw.2.1; have := hw.2.2; omega)⟩
  · intro v h; rfl
  · intro v h hv
    rw [word_read mt (a := ((i 0).val + 2)) (b := 2 * t.val + 1) (off16_eq i t) (by omega)] at hv
    have hw := gw_ok hp (a := ((i 0).val + 2)) (r := 2 * t.val + 1) (by omega) (by omega)
    have ho : k0_off17 t = ![16 * (2 * t.val + 1), 0] := by rw [k0_off17_eq]; congr 1; omega
    refine parcel_gather (set_Xb ho) fun j hj => ?_
    have hj' : j ∈ blk 4096 (2 * t.val + 1) := hj
    refine (val_Xb ho f _ hj').trans (gather_val (f := f) (b := v.toNat) (g := gi mt ((i 0).val + 2)) ?_ rfl j (mem_blk.1 hj'))
    rw [hv]; exact hw.2.2
  iintro H
  rw [show (Pure.pure PUnit.unit : Prog (TpuEff nD τ sig (Elt F) Λ₀ .tc) Unit) = Prog.ret () from rfl, wp_ret]
  imodintro
  iexact H

include hp in
theorem trip_t5 (v0 : BitVec 32) (h2 : k0_cond2 i v0 = 1#1) (h6 : k0_cond6 i = 1#1) (f : S4096x128.Idx → F .f32) (X : S131072x128.Idx → F .f32)
    (t : Fin k0_t5_loop.trips) :
    Issuing EC (c : Thread nD τ) (.dma 8) () 256 (lc c cc0_scratch0 ↦[seg ((i 0).val + 2)]{fullShare} slotOf mt ((i 0).val + 2))
        (RG (ℓ := lc c cc0_scratch1) (ℓx := lc c main_arg3) rowsI f X) (RG (ℓ := lc c cc0_scratch1) (ℓx := lc c main_arg3) rowsI (gathered X (gi mt ((i 0).val + 2))) X) (2 * t.val)
      ⊢ wp frame (wpE (defs₀ (F := F)) Variants.none c none) Set.univ
          (k0_t5_body (F := F) i mTe (Memref.isWhole_whole _) mNu (Memref.isWhole_whole _) mMeta (Memref.isWhole_whole _) mX (Memref.isWhole_whole _) arg5 harg5 arg6 harg6
            mY (Memref.isWhole_whole _) mRing (Memref.isWhole_whole _) mXa (Memref.isWhole_whole _) mXb (Memref.isWhole_whole _) mYa (Memref.isWhole_whole _) mYb (Memref.isWhole_whole _)
            mStage (Memref.isWhole_whole _) mGu (Memref.isWhole_whole _) mDn (Memref.isWhole_whole _) cc0_scratch8 cc0_scratch9 cc0_scratch10
            (BitVec.ofNat 32 (i 0).val) v0 h2 h6 t ())
          fun _ => Issuing EC (c : Thread nD τ) (.dma 8) () 256 (lc c cc0_scratch0 ↦[seg ((i 0).val + 2)]{fullShare} slotOf mt ((i 0).val + 2))
        (RG (ℓ := lc c cc0_scratch1) (ℓx := lc c main_arg3) rowsI f X) (RG (ℓ := lc c cc0_scratch1) (ℓx := lc c main_arg3) rowsI (gathered X (gi mt ((i 0).val + 2))) X) (2 * (t.val + 1)) := by
  have ht : t.val < 128 := t.isLt
  have hi := i_lt i
  unfold k0_t5_body
  iintro H
  iapply (wp_issueWord EC Variants.none (c : Thread nD τ) none () 256 (n := 256) (j := 2 * t.val) (by omega)
    (word_sub (a := ((i 0).val + 2)) (b := 2 * t.val + 0) (off34_eq i t) (by omega)) ?_ ?_ ?_) $$ H
  · rw [word_read mt (a := ((i 0).val + 2)) (b := 2 * t.val + 0) (off34_eq i t) (by omega)]
    have hw := gw_ok hp (a := ((i 0).val + 2)) (r := 2 * t.val + 0) (by omega) (by omega)
    exact ⟨fun _ _ => hw.1, fun _ _ => S16x128_fits (N := 131072) (n := gi mt ((i 0).val + 2) (2 * t.val + 0)) (congrArg (fun n => ![n, 0]) hw.2.2) (by have := hw.2.1; have := hw.2.2; omega)⟩
  · intro v h; rfl
  · intro v h hv
    rw [word_read mt (a := ((i 0).val + 2)) (b := 2 * t.val + 0) (off34_eq i t) (by omega)] at hv
    have hw := gw_ok hp (a := ((i 0).val + 2)) (r := 2 * t.val + 0) (by omega) (by omega)
    have ho : k0_off35 t = ![16 * (2 * t.val + 0), 0] := by rw [k0_off35_eq]; congr 1; omega
    refine parcel_gather (set_Xa ho) fun j hj => ?_
    have hj' : j ∈ blk 4096 (2 * t.val + 0) := hj
    refine (val_Xa ho f _ hj').trans (gather_val (f := f) (b := v.toNat) (g := gi mt ((i 0).val + 2)) ?_ rfl j (mem_blk.1 hj'))
    rw [hv]; exact hw.2.2
  iintro H
  iapply (wp_issueWord EC Variants.none (c : Thread nD τ) none () 256 (n := 256) (j := 2 * t.val + 1) (by omega)
    (word_sub (a := ((i 0).val + 2)) (b := 2 * t.val + 1) (off37_eq i t) (by omega)) ?_ ?_ ?_) $$ H
  · rw [word_read mt (a := ((i 0).val + 2)) (b := 2 * t.val + 1) (off37_eq i t) (by omega)]
    have hw := gw_ok hp (a := ((i 0).val + 2)) (r := 2 * t.val + 1) (by omega) (by omega)
    exact ⟨fun _ _ => hw.1, fun _ _ => S16x128_fits (N := 131072) (n := gi mt ((i 0).val + 2) (2 * t.val + 1)) (congrArg (fun n => ![n, 0]) hw.2.2) (by have := hw.2.1; have := hw.2.2; omega)⟩
  · intro v h; rfl
  · intro v h hv
    rw [word_read mt (a := ((i 0).val + 2)) (b := 2 * t.val + 1) (off37_eq i t) (by omega)] at hv
    have hw := gw_ok hp (a := ((i 0).val + 2)) (r := 2 * t.val + 1) (by omega) (by omega)
    have ho : k0_off38 t = ![16 * (2 * t.val + 1), 0] := by rw [k0_off38_eq]; congr 1; omega
    refine parcel_gather (set_Xa ho) fun j hj => ?_
    have hj' : j ∈ blk 4096 (2 * t.val + 1) := hj
    refine (val_Xa ho f _ hj').trans (gather_val (f := f) (b := v.toNat) (g := gi mt ((i 0).val + 2)) ?_ rfl j (mem_blk.1 hj'))
    rw [hv]; exact hw.2.2
  iintro H
  rw [show (Pure.pure PUnit.unit : Prog (TpuEff nD τ sig (Elt F) Λ₀ .tc) Unit) = Prog.ret () from rfl, wp_ret]
  imodintro
  iexact H

include hp in
theorem trip_t3 (v111 c2 : BitVec 32) (v0 : BitVec 32) (h2 : k0_cond2 i v0 = 1#1) (h4 : k0_cond4 i = 1#1) (A : S4096x128.Idx → F .bf16) (Y : S1056768x128.Idx → F .bf16)
    (t : Fin k0_t3_loop.trips) :
    Issuing EC (c : Thread nD τ) (.dma 11) () 128 (lc c cc0_scratch0 ↦[seg (i 0).val]{fullShare} slotOf mt (i 0).val)
        (RS (ℓy := lc c main_v0) (ℓ := lc c cc0_scratch4) (fun r => blk 1056768 (sd mt ((i 0).val + 1) r)) rowsI Y A) (RS (ℓy := lc c main_v0) (ℓ := lc c cc0_scratch4) (fun r => blk 1056768 (sd mt ((i 0).val + 1) r)) rowsI (scat (sd mt ((i 0).val + 1)) A Y) A) (2 * t.val)
      ⊢ wp frame (wpE (defs₀ (F := F)) Variants.none c none) Set.univ
          (k0_t3_body (F := F) i mTe (Memref.isWhole_whole _) mNu (Memref.isWhole_whole _) mMeta (Memref.isWhole_whole _) mX (Memref.isWhole_whole _) arg5 harg5 arg6 harg6
            mY (Memref.isWhole_whole _) mRing (Memref.isWhole_whole _) mXa (Memref.isWhole_whole _) mXb (Memref.isWhole_whole _) mYa (Memref.isWhole_whole _) mYb (Memref.isWhole_whole _)
            mStage (Memref.isWhole_whole _) mGu (Memref.isWhole_whole _) mDn (Memref.isWhole_whole _) cc0_scratch8 cc0_scratch9 cc0_scratch10
            v0 h2 h4 v111 c2 t ())
          fun _ => Issuing EC (c : Thread nD τ) (.dma 11) () 128 (lc c cc0_scratch0 ↦[seg (i 0).val]{fullShare} slotOf mt (i 0).val)
        (RS (ℓy := lc c main_v0) (ℓ := lc c cc0_scratch4) (fun r => blk 1056768 (sd mt ((i 0).val + 1) r)) rowsI Y A) (RS (ℓy := lc c main_v0) (ℓ := lc c cc0_scratch4) (fun r => blk 1056768 (sd mt ((i 0).val + 1) r)) rowsI (scat (sd mt ((i 0).val + 1)) A Y) A) (2 * (t.val + 1)) := by
  have ht : t.val < 128 := t.isLt
  have hi := i_lt i
  unfold k0_t3_body
  iintro H
  iapply (wp_issueWord EC Variants.none (c : Thread nD τ) none () 128 (n := 256) (j := 2 * t.val) (by omega)
    (word_sub (a := (i 0).val) (b := 256 + (2 * t.val + 0)) ((off19_eq i t).trans (congrArg (fun n => ![n]) (Nat.add_assoc _ _ _))) (by omega)) ?_ ?_ ?_) $$ H
  · rw [word_read mt (a := (i 0).val) (b := 256 + (2 * t.val + 0)) ((off19_eq i t).trans (congrArg (fun n => ![n]) (Nat.add_assoc _ _ _))) (by omega), ← Nat.add_assoc]
    have hw := sw_ok hp (a := (i 0).val) (r := 2 * t.val + 0) (by omega) (by omega)
    exact ⟨fun _ _ => hw.1, fun _ _ => S16x128_fits (N := 1056768) (n := si mt (i 0).val (2 * t.val + 0)) (congrArg (fun n => ![n, 0]) hw.2.2) hw.2.1,
      fun _ _ inb => whole_words (n := si mt (i 0).val (2 * t.val + 0)) (congrArg (fun n => ![n, 0]) hw.2.2) inb⟩
  · intro v h; rfl
  · intro v h hv
    rw [word_read mt (a := (i 0).val) (b := 256 + (2 * t.val + 0)) ((off19_eq i t).trans (congrArg (fun n => ![n]) (Nat.add_assoc _ _ _))) (by omega), ← Nat.add_assoc] at hv
    have hw := sw_ok hp (a := (i 0).val) (r := 2 * t.val + 0) (by omega) (by omega)
    have ho : k0_off21 t = ![16 * (2 * t.val + 0), 0] := by rw [k0_off21_eq]; congr 1; omega
    have hv' : (![v.toNat, 0] : Fin 2 → ℕ) = ![16 * si mt (i 0).val (2 * t.val + 0), 0] := by rw [hv]; exact congrArg (fun n => ![n, 0]) hw.2.2
    refine parcel_scatter (set_Yb ho) (set_Y hv') fun j hj => ?_
    have hj' : j ∈ blk 1056768 (si mt (i 0).val (2 * t.val + 0)) := hj
    refine (val_Y hv' Y _ hj').trans ((read_Yb ho A j).trans (scat_of_mem (sd_inj hp (k := (i 0).val + 1) (by omega)) A Y ⟨2 * t.val + 0, by omega⟩ (mem_blk.1 hj')).symm)
  iintro H
  iapply (wp_issueWord EC Variants.none (c : Thread nD τ) none () 128 (n := 256) (j := 2 * t.val + 1) (by omega)
    (word_sub (a := (i 0).val) (b := 256 + (2 * t.val + 1)) ((off22_eq i t).trans (congrArg (fun n => ![n]) (Nat.add_assoc _ _ _))) (by omega)) ?_ ?_ ?_) $$ H
  · rw [word_read mt (a := (i 0).val) (b := 256 + (2 * t.val + 1)) ((off22_eq i t).trans (congrArg (fun n => ![n]) (Nat.add_assoc _ _ _))) (by omega), ← Nat.add_assoc]
    have hw := sw_ok hp (a := (i 0).val) (r := 2 * t.val + 1) (by omega) (by omega)
    exact ⟨fun _ _ => hw.1, fun _ _ => S16x128_fits (N := 1056768) (n := si mt (i 0).val (2 * t.val + 1)) (congrArg (fun n => ![n, 0]) hw.2.2) hw.2.1,
      fun _ _ inb => whole_words (n := si mt (i 0).val (2 * t.val + 1)) (congrArg (fun n => ![n, 0]) hw.2.2) inb⟩
  · intro v h; rfl
  · intro v h hv
    rw [word_read mt (a := (i 0).val) (b := 256 + (2 * t.val + 1)) ((off22_eq i t).trans (congrArg (fun n => ![n]) (Nat.add_assoc _ _ _))) (by omega), ← Nat.add_assoc] at hv
    have hw := sw_ok hp (a := (i 0).val) (r := 2 * t.val + 1) (by omega) (by omega)
    have ho : k0_off24 t = ![16 * (2 * t.val + 1), 0] := by rw [k0_off24_eq]; congr 1; omega
    have hv' : (![v.toNat, 0] : Fin 2 → ℕ) = ![16 * si mt (i 0).val (2 * t.val + 1), 0] := by rw [hv]; exact congrArg (fun n => ![n, 0]) hw.2.2
    refine parcel_scatter (set_Yb ho) (set_Y hv') fun j hj => ?_
    have hj' : j ∈ blk 1056768 (si mt (i 0).val (2 * t.val + 1)) := hj
    refine (val_Y hv' Y _ hj').trans ((read_Yb ho A j).trans (scat_of_mem (sd_inj hp (k := (i 0).val + 1) (by omega)) A Y ⟨2 * t.val + 1, by omega⟩ (mem_blk.1 hj')).symm)
  iintro H
  rw [show (Pure.pure PUnit.unit : Prog (TpuEff nD τ sig (Elt F) Λ₀ .tc) Unit) = Prog.ret () from rfl, wp_ret]
  imodintro
  iexact H

include hp in
theorem trip_t6 (v111 c2 : BitVec 32) (v0 : BitVec 32) (h2 : k0_cond2 i v0 = 1#1) (h6 : k0_cond6 i = 1#1) (A : S4096x128.Idx → F .bf16) (Y : S1056768x128.Idx → F .bf16)
    (t : Fin k0_t6_loop.trips) :
    Issuing EC (c : Thread nD τ) (.dma 10) () 128 (lc c cc0_scratch0 ↦[seg (i 0).val]{fullShare} slotOf mt (i 0).val)
        (RS (ℓy := lc c main_v0) (ℓ := lc c cc0_scratch3) (fun r => blk 1056768 (sd mt ((i 0).val + 1) r)) rowsI Y A) (RS (ℓy := lc c main_v0) (ℓ := lc c cc0_scratch3) (fun r => blk 1056768 (sd mt ((i 0).val + 1) r)) rowsI (scat (sd mt ((i 0).val + 1)) A Y) A) (2 * t.val)
      ⊢ wp frame (wpE (defs₀ (F := F)) Variants.none c none) Set.univ
          (k0_t6_body (F := F) i mTe (Memref.isWhole_whole _) mNu (Memref.isWhole_whole _) mMeta (Memref.isWhole_whole _) mX (Memref.isWhole_whole _) arg5 harg5 arg6 harg6
            mY (Memref.isWhole_whole _) mRing (Memref.isWhole_whole _) mXa (Memref.isWhole_whole _) mXb (Memref.isWhole_whole _) mYa (Memref.isWhole_whole _) mYb (Memref.isWhole_whole _)
            mStage (Memref.isWhole_whole _) mGu (Memref.isWhole_whole _) mDn (Memref.isWhole_whole _) cc0_scratch8 cc0_scratch9 cc0_scratch10
            v0 h2 h6 v111 c2 t ())
          fun _ => Issuing EC (c : Thread nD τ) (.dma 10) () 128 (lc c cc0_scratch0 ↦[seg (i 0).val]{fullShare} slotOf mt (i 0).val)
        (RS (ℓy := lc c main_v0) (ℓ := lc c cc0_scratch3) (fun r => blk 1056768 (sd mt ((i 0).val + 1) r)) rowsI Y A) (RS (ℓy := lc c main_v0) (ℓ := lc c cc0_scratch3) (fun r => blk 1056768 (sd mt ((i 0).val + 1) r)) rowsI (scat (sd mt ((i 0).val + 1)) A Y) A) (2 * (t.val + 1)) := by
  have ht : t.val < 128 := t.isLt
  have hi := i_lt i
  unfold k0_t6_body
  iintro H
  iapply (wp_issueWord EC Variants.none (c : Thread nD τ) none () 128 (n := 256) (j := 2 * t.val) (by omega)
    (word_sub (a := (i 0).val) (b := 256 + (2 * t.val + 0)) ((off40_eq i t).trans (congrArg (fun n => ![n]) (Nat.add_assoc _ _ _))) (by omega)) ?_ ?_ ?_) $$ H
  · rw [word_read mt (a := (i 0).val) (b := 256 + (2 * t.val + 0)) ((off40_eq i t).trans (congrArg (fun n => ![n]) (Nat.add_assoc _ _ _))) (by omega), ← Nat.add_assoc]
    have hw := sw_ok hp (a := (i 0).val) (r := 2 * t.val + 0) (by omega) (by omega)
    exact ⟨fun _ _ => hw.1, fun _ _ => S16x128_fits (N := 1056768) (n := si mt (i 0).val (2 * t.val + 0)) (congrArg (fun n => ![n, 0]) hw.2.2) hw.2.1,
      fun _ _ inb => whole_words (n := si mt (i 0).val (2 * t.val + 0)) (congrArg (fun n => ![n, 0]) hw.2.2) inb⟩
  · intro v h; rfl
  · intro v h hv
    rw [word_read mt (a := (i 0).val) (b := 256 + (2 * t.val + 0)) ((off40_eq i t).trans (congrArg (fun n => ![n]) (Nat.add_assoc _ _ _))) (by omega), ← Nat.add_assoc] at hv
    have hw := sw_ok hp (a := (i 0).val) (r := 2 * t.val + 0) (by omega) (by omega)
    have ho : k0_off42 t = ![16 * (2 * t.val + 0), 0] := by rw [k0_off42_eq]; congr 1; omega
    have hv' : (![v.toNat, 0] : Fin 2 → ℕ) = ![16 * si mt (i 0).val (2 * t.val + 0), 0] := by rw [hv]; exact congrArg (fun n => ![n, 0]) hw.2.2
    refine parcel_scatter (set_Ya ho) (set_Y hv') fun j hj => ?_
    have hj' : j ∈ blk 1056768 (si mt (i 0).val (2 * t.val + 0)) := hj
    refine (val_Y hv' Y _ hj').trans ((read_Ya ho A j).trans (scat_of_mem (sd_inj hp (k := (i 0).val + 1) (by omega)) A Y ⟨2 * t.val + 0, by omega⟩ (mem_blk.1 hj')).symm)
  iintro H
  iapply (wp_issueWord EC Variants.none (c : Thread nD τ) none () 128 (n := 256) (j := 2 * t.val + 1) (by omega)
    (word_sub (a := (i 0).val) (b := 256 + (2 * t.val + 1)) ((off43_eq i t).trans (congrArg (fun n => ![n]) (Nat.add_assoc _ _ _))) (by omega)) ?_ ?_ ?_) $$ H
  · rw [word_read mt (a := (i 0).val) (b := 256 + (2 * t.val + 1)) ((off43_eq i t).trans (congrArg (fun n => ![n]) (Nat.add_assoc _ _ _))) (by omega), ← Nat.add_assoc]
    have hw := sw_ok hp (a := (i 0).val) (r := 2 * t.val + 1) (by omega) (by omega)
    exact ⟨fun _ _ => hw.1, fun _ _ => S16x128_fits (N := 1056768) (n := si mt (i 0).val (2 * t.val + 1)) (congrArg (fun n => ![n, 0]) hw.2.2) hw.2.1,
      fun _ _ inb => whole_words (n := si mt (i 0).val (2 * t.val + 1)) (congrArg (fun n => ![n, 0]) hw.2.2) inb⟩
  · intro v h; rfl
  · intro v h hv
    rw [word_read mt (a := (i 0).val) (b := 256 + (2 * t.val + 1)) ((off43_eq i t).trans (congrArg (fun n => ![n]) (Nat.add_assoc _ _ _))) (by omega), ← Nat.add_assoc] at hv
    have hw := sw_ok hp (a := (i 0).val) (r := 2 * t.val + 1) (by omega) (by omega)
    have ho : k0_off45 t = ![16 * (2 * t.val + 1), 0] := by rw [k0_off45_eq]; congr 1; omega
    have hv' : (![v.toNat, 0] : Fin 2 → ℕ) = ![16 * si mt (i 0).val (2 * t.val + 1), 0] := by rw [hv]; exact congrArg (fun n => ![n, 0]) hw.2.2
    refine parcel_scatter (set_Ya ho) (set_Y hv') fun j hj => ?_
    have hj' : j ∈ blk 1056768 (si mt (i 0).val (2 * t.val + 1)) := hj
    refine (val_Y hv' Y _ hj').trans ((read_Ya ho A j).trans (scat_of_mem (sd_inj hp (k := (i 0).val + 1) (by omega)) A Y ⟨2 * t.val + 1, by omega⟩ (mem_blk.1 hj')).symm)
  iintro H
  rw [show (Pure.pure PUnit.unit : Prog (TpuEff nD τ sig (Elt F) Λ₀ .tc) Unit) = Prog.ret () from rfl, wp_ret]
  imodintro
  iexact H

include hp in
theorem trip_t4 (v0 : BitVec 32) (h2 : k0_cond2 i v0 = 1#1) (h4 : k0_cond4 i = 1#1) (h5 : k0_cond5 i v0 = 1#1) (A : S4096x128.Idx → F .bf16) (Y : S1056768x128.Idx → F .bf16)
    (t : Fin k0_t4_loop.trips) :
    Issuing EC (c : Thread nD τ) (.dma 10) () 128 (lc c cc0_scratch0 ↦[seg ((i 0).val + 1)]{fullShare} slotOf mt ((i 0).val + 1))
        (RS (ℓy := lc c main_v0) (ℓ := lc c cc0_scratch3) (fun r => blk 1056768 (sd mt (((i 0).val + 1) + 1) r)) rowsI Y A) (RS (ℓy := lc c main_v0) (ℓ := lc c cc0_scratch3) (fun r => blk 1056768 (sd mt (((i 0).val + 1) + 1) r)) rowsI (scat (sd mt (((i 0).val + 1) + 1)) A Y) A) (2 * t.val)
      ⊢ wp frame (wpE (defs₀ (F := F)) Variants.none c none) Set.univ
          (k0_t4_body (F := F) i mTe (Memref.isWhole_whole _) mNu (Memref.isWhole_whole _) mMeta (Memref.isWhole_whole _) mX (Memref.isWhole_whole _) arg5 harg5 arg6 harg6
            mY (Memref.isWhole_whole _) mRing (Memref.isWhole_whole _) mXa (Memref.isWhole_whole _) mXb (Memref.isWhole_whole _) mYa (Memref.isWhole_whole _) mYb (Memref.isWhole_whole _)
            mStage (Memref.isWhole_whole _) mGu (Memref.isWhole_whole _) mDn (Memref.isWhole_whole _) cc0_scratch8 cc0_scratch9 cc0_scratch10
            (BitVec.ofNat 32 (i 0).val) v0 h2 h4 h5 t ())
          fun _ => Issuing EC (c : Thread nD τ) (.dma 10) () 128 (lc c cc0_scratch0 ↦[seg ((i 0).val + 1)]{fullShare} slotOf mt ((i 0).val + 1))
        (RS (ℓy := lc c main_v0) (ℓ := lc c cc0_scratch3) (fun r => blk 1056768 (sd mt (((i 0).val + 1) + 1) r)) rowsI Y A) (RS (ℓy := lc c main_v0) (ℓ := lc c cc0_scratch3) (fun r => blk 1056768 (sd mt (((i 0).val + 1) + 1) r)) rowsI (scat (sd mt (((i 0).val + 1) + 1)) A Y) A) (2 * (t.val + 1)) := by
  have ht : t.val < 128 := t.isLt
  have hi := i_lt i
  unfold k0_t4_body
  iintro H
  iapply (wp_issueWord EC Variants.none (c : Thread nD τ) none () 128 (n := 256) (j := 2 * t.val) (by omega)
    (word_sub (a := ((i 0).val + 1)) (b := 256 + (2 * t.val + 0)) ((off25_eq i t).trans (congrArg (fun n => ![n]) (Nat.add_assoc _ _ _))) (by omega)) ?_ ?_ ?_) $$ H
  · rw [word_read mt (a := ((i 0).val + 1)) (b := 256 + (2 * t.val + 0)) ((off25_eq i t).trans (congrArg (fun n => ![n]) (Nat.add_assoc _ _ _))) (by omega), ← Nat.add_assoc]
    have hw := sw_ok hp (a := ((i 0).val + 1)) (r := 2 * t.val + 0) (by omega) (by omega)
    exact ⟨fun _ _ _ => hw.1, fun _ _ _ => S16x128_fits (N := 1056768) (n := si mt ((i 0).val + 1) (2 * t.val + 0)) (congrArg (fun n => ![n, 0]) hw.2.2) hw.2.1,
      fun _ _ _ inb => whole_words (n := si mt ((i 0).val + 1) (2 * t.val + 0)) (congrArg (fun n => ![n, 0]) hw.2.2) inb⟩
  · intro v h; rfl
  · intro v h hv
    rw [word_read mt (a := ((i 0).val + 1)) (b := 256 + (2 * t.val + 0)) ((off25_eq i t).trans (congrArg (fun n => ![n]) (Nat.add_assoc _ _ _))) (by omega), ← Nat.add_assoc] at hv
    have hw := sw_ok hp (a := ((i 0).val + 1)) (r := 2 * t.val + 0) (by omega) (by omega)
    have ho : k0_off27 t = ![16 * (2 * t.val + 0), 0] := by rw [k0_off27_eq]; congr 1; omega
    have hv' : (![v.toNat, 0] : Fin 2 → ℕ) = ![16 * si mt ((i 0).val + 1) (2 * t.val + 0), 0] := by rw [hv]; exact congrArg (fun n => ![n, 0]) hw.2.2
    refine parcel_scatter (set_Ya ho) (set_Y hv') fun j hj => ?_
    have hj' : j ∈ blk 1056768 (si mt ((i 0).val + 1) (2 * t.val + 0)) := hj
    refine (val_Y hv' Y _ hj').trans ((read_Ya ho A j).trans (scat_of_mem (sd_inj hp (k := ((i 0).val + 1) + 1) (by omega)) A Y ⟨2 * t.val + 0, by omega⟩ (mem_blk.1 hj')).symm)
  iintro H
  iapply (wp_issueWord EC Variants.none (c : Thread nD τ) none () 128 (n := 256) (j := 2 * t.val + 1) (by omega)
    (word_sub (a := ((i 0).val + 1)) (b := 256 + (2 * t.val + 1)) ((off28_eq i t).trans (congrArg (fun n => ![n]) (Nat.add_assoc _ _ _))) (by omega)) ?_ ?_ ?_) $$ H
  · rw [word_read mt (a := ((i 0).val + 1)) (b := 256 + (2 * t.val + 1)) ((off28_eq i t).trans (congrArg (fun n => ![n]) (Nat.add_assoc _ _ _))) (by omega), ← Nat.add_assoc]
    have hw := sw_ok hp (a := ((i 0).val + 1)) (r := 2 * t.val + 1) (by omega) (by omega)
    exact ⟨fun _ _ _ => hw.1, fun _ _ _ => S16x128_fits (N := 1056768) (n := si mt ((i 0).val + 1) (2 * t.val + 1)) (congrArg (fun n => ![n, 0]) hw.2.2) hw.2.1,
      fun _ _ _ inb => whole_words (n := si mt ((i 0).val + 1) (2 * t.val + 1)) (congrArg (fun n => ![n, 0]) hw.2.2) inb⟩
  · intro v h; rfl
  · intro v h hv
    rw [word_read mt (a := ((i 0).val + 1)) (b := 256 + (2 * t.val + 1)) ((off28_eq i t).trans (congrArg (fun n => ![n]) (Nat.add_assoc _ _ _))) (by omega), ← Nat.add_assoc] at hv
    have hw := sw_ok hp (a := ((i 0).val + 1)) (r := 2 * t.val + 1) (by omega) (by omega)
    have ho : k0_off30 t = ![16 * (2 * t.val + 1), 0] := by rw [k0_off30_eq]; congr 1; omega
    have hv' : (![v.toNat, 0] : Fin 2 → ℕ) = ![16 * si mt ((i 0).val + 1) (2 * t.val + 1), 0] := by rw [hv]; exact congrArg (fun n => ![n, 0]) hw.2.2
    refine parcel_scatter (set_Ya ho) (set_Y hv') fun j hj => ?_
    have hj' : j ∈ blk 1056768 (si mt ((i 0).val + 1) (2 * t.val + 1)) := hj
    refine (val_Y hv' Y _ hj').trans ((read_Ya ho A j).trans (scat_of_mem (sd_inj hp (k := ((i 0).val + 1) + 1) (by omega)) A Y ⟨2 * t.val + 1, by omega⟩ (mem_blk.1 hj')).symm)
  iintro H
  rw [show (Pure.pure PUnit.unit : Prog (TpuEff nD τ sig (Elt F) Λ₀ .tc) Unit) = Prog.ret () from rfl, wp_ret]
  imodintro
  iexact H

include hp in
theorem trip_t7 (v0 : BitVec 32) (h2 : k0_cond2 i v0 = 1#1) (h6 : k0_cond6 i = 1#1) (h7 : k0_cond7 i v0 = 1#1) (A : S4096x128.Idx → F .bf16) (Y : S1056768x128.Idx → F .bf16)
    (t : Fin k0_t7_loop.trips) :
    Issuing EC (c : Thread nD τ) (.dma 11) () 128 (lc c cc0_scratch0 ↦[seg ((i 0).val + 1)]{fullShare} slotOf mt ((i 0).val + 1))
        (RS (ℓy := lc c main_v0) (ℓ := lc c cc0_scratch4) (fun r => blk 1056768 (sd mt (((i 0).val + 1) + 1) r)) rowsI Y A) (RS (ℓy := lc c main_v0) (ℓ := lc c cc0_scratch4) (fun r => blk 1056768 (sd mt (((i 0).val + 1) + 1) r)) rowsI (scat (sd mt (((i 0).val + 1) + 1)) A Y) A) (2 * t.val)
      ⊢ wp frame (wpE (defs₀ (F := F)) Variants.none c none) Set.univ
          (k0_t7_body (F := F) i mTe (Memref.isWhole_whole _) mNu (Memref.isWhole_whole _) mMeta (Memref.isWhole_whole _) mX (Memref.isWhole_whole _) arg5 harg5 arg6 harg6
            mY (Memref.isWhole_whole _) mRing (Memref.isWhole_whole _) mXa (Memref.isWhole_whole _) mXb (Memref.isWhole_whole _) mYa (Memref.isWhole_whole _) mYb (Memref.isWhole_whole _)
            mStage (Memref.isWhole_whole _) mGu (Memref.isWhole_whole _) mDn (Memref.isWhole_whole _) cc0_scratch8 cc0_scratch9 cc0_scratch10
            (BitVec.ofNat 32 (i 0).val) v0 h2 h6 h7 t ())
          fun _ => Issuing EC (c : Thread nD τ) (.dma 11) () 128 (lc c cc0_scratch0 ↦[seg ((i 0).val + 1)]{fullShare} slotOf mt ((i 0).val + 1))
        (RS (ℓy := lc c main_v0) (ℓ := lc c cc0_scratch4) (fun r => blk 1056768 (sd mt (((i 0).val + 1) + 1) r)) rowsI Y A) (RS (ℓy := lc c main_v0) (ℓ := lc c cc0_scratch4) (fun r => blk 1056768 (sd mt (((i 0).val + 1) + 1) r)) rowsI (scat (sd mt (((i 0).val + 1) + 1)) A Y) A) (2 * (t.val + 1)) := by
  have ht : t.val < 128 := t.isLt
  have hi := i_lt i
  unfold k0_t7_body
  iintro H
  iapply (wp_issueWord EC Variants.none (c : Thread nD τ) none () 128 (n := 256) (j := 2 * t.val) (by omega)
    (word_sub (a := ((i 0).val + 1)) (b := 256 + (2 * t.val + 0)) ((off46_eq i t).trans (congrArg (fun n => ![n]) (Nat.add_assoc _ _ _))) (by omega)) ?_ ?_ ?_) $$ H
  · rw [word_read mt (a := ((i 0).val + 1)) (b := 256 + (2 * t.val + 0)) ((off46_eq i t).trans (congrArg (fun n => ![n]) (Nat.add_assoc _ _ _))) (by omega), ← Nat.add_assoc]
    have hw := sw_ok hp (a := ((i 0).val + 1)) (r := 2 * t.val + 0) (by omega) (by omega)
    exact ⟨fun _ _ _ => hw.1, fun _ _ _ => S16x128_fits (N := 1056768) (n := si mt ((i 0).val + 1) (2 * t.val + 0)) (congrArg (fun n => ![n, 0]) hw.2.2) hw.2.1,
      fun _ _ _ inb => whole_words (n := si mt ((i 0).val + 1) (2 * t.val + 0)) (congrArg (fun n => ![n, 0]) hw.2.2) inb⟩
  · intro v h; rfl
  · intro v h hv
    rw [word_read mt (a := ((i 0).val + 1)) (b := 256 + (2 * t.val + 0)) ((off46_eq i t).trans (congrArg (fun n => ![n]) (Nat.add_assoc _ _ _))) (by omega), ← Nat.add_assoc] at hv
    have hw := sw_ok hp (a := ((i 0).val + 1)) (r := 2 * t.val + 0) (by omega) (by omega)
    have ho : k0_off48 t = ![16 * (2 * t.val + 0), 0] := by rw [k0_off48_eq]; congr 1; omega
    have hv' : (![v.toNat, 0] : Fin 2 → ℕ) = ![16 * si mt ((i 0).val + 1) (2 * t.val + 0), 0] := by rw [hv]; exact congrArg (fun n => ![n, 0]) hw.2.2
    refine parcel_scatter (set_Yb ho) (set_Y hv') fun j hj => ?_
    have hj' : j ∈ blk 1056768 (si mt ((i 0).val + 1) (2 * t.val + 0)) := hj
    refine (val_Y hv' Y _ hj').trans ((read_Yb ho A j).trans (scat_of_mem (sd_inj hp (k := ((i 0).val + 1) + 1) (by omega)) A Y ⟨2 * t.val + 0, by omega⟩ (mem_blk.1 hj')).symm)
  iintro H
  iapply (wp_issueWord EC Variants.none (c : Thread nD τ) none () 128 (n := 256) (j := 2 * t.val + 1) (by omega)
    (word_sub (a := ((i 0).val + 1)) (b := 256 + (2 * t.val + 1)) ((off49_eq i t).trans (congrArg (fun n => ![n]) (Nat.add_assoc _ _ _))) (by omega)) ?_ ?_ ?_) $$ H
  · rw [word_read mt (a := ((i 0).val + 1)) (b := 256 + (2 * t.val + 1)) ((off49_eq i t).trans (congrArg (fun n => ![n]) (Nat.add_assoc _ _ _))) (by omega), ← Nat.add_assoc]
    have hw := sw_ok hp (a := ((i 0).val + 1)) (r := 2 * t.val + 1) (by omega) (by omega)
    exact ⟨fun _ _ _ => hw.1, fun _ _ _ => S16x128_fits (N := 1056768) (n := si mt ((i 0).val + 1) (2 * t.val + 1)) (congrArg (fun n => ![n, 0]) hw.2.2) hw.2.1,
      fun _ _ _ inb => whole_words (n := si mt ((i 0).val + 1) (2 * t.val + 1)) (congrArg (fun n => ![n, 0]) hw.2.2) inb⟩
  · intro v h; rfl
  · intro v h hv
    rw [word_read mt (a := ((i 0).val + 1)) (b := 256 + (2 * t.val + 1)) ((off49_eq i t).trans (congrArg (fun n => ![n]) (Nat.add_assoc _ _ _))) (by omega), ← Nat.add_assoc] at hv
    have hw := sw_ok hp (a := ((i 0).val + 1)) (r := 2 * t.val + 1) (by omega) (by omega)
    have ho : k0_off51 t = ![16 * (2 * t.val + 1), 0] := by rw [k0_off51_eq]; congr 1; omega
    have hv' : (![v.toNat, 0] : Fin 2 → ℕ) = ![16 * si mt ((i 0).val + 1) (2 * t.val + 1), 0] := by rw [hv]; exact congrArg (fun n => ![n, 0]) hw.2.2
    refine parcel_scatter (set_Yb ho) (set_Y hv') fun j hj => ?_
    have hj' : j ∈ blk 1056768 (si mt ((i 0).val + 1) (2 * t.val + 1)) := hj
    refine (val_Y hv' Y _ hj').trans ((read_Yb ho A j).trans (scat_of_mem (sd_inj hp (k := ((i 0).val + 1) + 1) (by omega)) A Y ⟨2 * t.val + 1, by omega⟩ (mem_blk.1 hj')).symm)
  iintro H
  rw [show (Pure.pure PUnit.unit : Prog (TpuEff nD τ sig (Elt F) Λ₀ .tc) Unit) = Prog.ret () from rfl, wp_ret]
  imodintro
  iexact H

end Cert.Experts

end
-- ==== Proof.Conds.lean ====
/-
  The kernel's conditions and the offsets of its plan copies, as numbers: the first step, the steps below the number of
  used tiles, the last of them, the even and the odd ones, and the ring slot and the row of the plan an entry has.
-/
module

public import proofs.«01_k».proof.Proof.Ring

@[expose] public section

noncomputable section

namespace Cert.Experts

open Cert.KernelIdeal Cert.KernelIdeal.Gen
open Idealize.ShloMosaic Idealize.ShloMosaic.TcCoe

variable (i : grid0.Coords)

/-- A condition as the kernel states it: the bit widened and compared with zero. -/
theorem cond_bit (b : BitVec 1) : Scalar.cmpi .ne (Scalar.extui b : BitVec 32) 0#32 = b := by revert b; decide

theorem slt_small {a : ℕ} {v : BitVec 32} (ha : a < 320) (hv : v.toNat ≤ 320) : Scalar.cmpi .slt (BitVec.ofNat 32 a) v = BitVec.ofBool (decide (a < v.toNat)) := by
  have e : (BitVec.ofNat 32 a).slt v = decide (a < v.toNat) := by
    rw [BitVec.slt_eq_decide, BitVec.toInt_eq_toNat_of_lt (by rw [BitVec.toNat_ofNat]; omega), BitVec.toInt_eq_toNat_of_lt (by omega), BitVec.toNat_ofNat,
      Nat.mod_eq_of_lt (by omega)]
    simp
  show BitVec.ofBool _ = _
  exact congrArg BitVec.ofBool e

theorem ofBool_one {p : Prop} [Decidable p] : BitVec.ofBool (decide p) = 1#1 ↔ p := by
  by_cases h : p <;> simp [h]

theorem cond2_iff {v : BitVec 32} (hv : v.toNat ≤ 320) : k0_cond2 i v = 1#1 ↔ (i 0).val < v.toNat := by
  show Scalar.cmpi .ne (Scalar.extui (Scalar.cmpi .slt (BitVec.ofNat 32 (i 0).val) v) : BitVec 32) 0#32 = 1#1 ↔ _
  rw [cond_bit, slt_small (i_lt i) hv, ofBool_one]

theorem last_eq {a : ℕ} {v : BitVec 32} (ha : a < 320) (hv : v.toNat ≤ 320) (h1 : 1 ≤ v.toNat) :
    Scalar.cmpi .eq (BitVec.ofNat 32 a) (Scalar.subi v 1#32) = BitVec.ofBool (decide (a + 1 = v.toNat)) := by
  have e : (BitVec.ofNat 32 a == v - 1#32) = decide (a + 1 = v.toNat) := by
    rw [Bool.eq_iff_iff]
    simp only [beq_iff_eq, decide_eq_true_eq]
    rw [← BitVec.toNat_inj, BitVec.toNat_sub, BitVec.toNat_ofNat]
    show a % 2 ^ 32 = (2 ^ 32 - 1 + v.toNat) % 2 ^ 32 ↔ _
    omega
  show BitVec.ofBool _ = _
  exact congrArg BitVec.ofBool e

theorem cond5_iff {v : BitVec 32} (hv : v.toNat ≤ 320) (h1 : 1 ≤ v.toNat) : k0_cond5 i v = 1#1 ↔ (i 0).val + 1 = v.toNat := by
  show Scalar.cmpi .ne (Scalar.extui (Scalar.cmpi .eq (BitVec.ofNat 32 (i 0).val) (Scalar.subi v 1#32)) : BitVec 32) 0#32 = 1#1 ↔ _
  rw [cond_bit, last_eq (i_lt i) hv h1, ofBool_one]
theorem cond7_iff {v : BitVec 32} (hv : v.toNat ≤ 320) (h1 : 1 ≤ v.toNat) : k0_cond7 i v = 1#1 ↔ (i 0).val + 1 = v.toNat := by
  show Scalar.cmpi .ne (Scalar.extui (Scalar.cmpi .eq (BitVec.ofNat 32 (i 0).val) (Scalar.subi v 1#32)) : BitVec 32) 0#32 = 1#1 ↔ _
  rw [cond_bit, last_eq (i_lt i) hv h1, ofBool_one]

theorem first_bit : ∀ a : Fin 320, Scalar.cmpi .eq (BitVec.ofNat 32 a.val) 0#32 = BitVec.ofBool (decide (a.val = 0)) := by decide +kernel

theorem cond1_iff : k0_cond1 i = 1#1 ↔ (i 0).val = 0 := by
  show Scalar.cmpi .ne (Scalar.extui (Scalar.cmpi .eq (BitVec.ofNat 32 (i 0).val) 0#32) : BitVec 32) 0#32 = 1#1 ↔ _
  rw [cond_bit, first_bit ⟨(i 0).val, i_lt i⟩, ofBool_one]

/-- A step's remainder by two, as the kernel computes it. -/
def parw (x : BitVec 32) : BitVec 32 :=
  let n := Scalar.select (Scalar.cmpi .eq 2#32 0#32) 1#32 2#32
  let r := Scalar.remsi x n
  Scalar.select (Scalar.andi (Scalar.xori (Scalar.cmpi .slt r 0#32) (Scalar.cmpi .slt n 0#32)) (Scalar.cmpi .ne r 0#32)) (Scalar.addi r n) r

theorem par0 : ∀ a : Fin 320, Scalar.cmpi .eq (parw (BitVec.ofNat 32 a.val)) 0#32 = BitVec.ofBool (decide (a.val % 2 = 0)) := by decide +kernel
theorem par1 : ∀ a : Fin 320, Scalar.cmpi .eq (parw (BitVec.ofNat 32 a.val)) 1#32 = BitVec.ofBool (decide (a.val % 2 = 1)) := by decide +kernel

theorem cond4_iff : k0_cond4 i = 1#1 ↔ (i 0).val % 2 = 0 := by
  show Scalar.cmpi .ne (Scalar.extui (Scalar.cmpi .eq (parw (BitVec.ofNat 32 (i 0).val)) 0#32) : BitVec 32) 0#32 = 1#1 ↔ _
  rw [cond_bit, par0 ⟨(i 0).val, i_lt i⟩, ofBool_one]
theorem cond6_iff : k0_cond6 i = 1#1 ↔ (i 0).val % 2 = 1 := by
  show Scalar.cmpi .ne (Scalar.extui (Scalar.cmpi .eq (parw (BitVec.ofNat 32 (i 0).val)) 1#32) : BitVec 32) 0#32 = 1#1 ↔ _
  rw [cond_bit, par1 ⟨(i 0).val, i_lt i⟩, ofBool_one]

/-! ## The plan copies' offsets -/

theorem slot_at {k : ℕ} (hk : k < 400) : (slotw (BitVec.ofNat 32 k)).toNat = k % 4 := by
  rw [slotw_eq ⟨k, hk⟩, BitVec.toNat_ofNat]; show k % 4 % _ = _; omega
theorem ring_at {k : ℕ} (hk : k < 400) : (ringw (BitVec.ofNat 32 k)).toNat = 512 * (k % 4) := by
  rw [ringw_eq ⟨k, hk⟩, BitVec.toNat_ofNat]; show 512 * (k % 4) % _ = _; omega

theorem off8_2 : k0_off8 i 2#32 = ![((i 0).val + 2) % 4] :=
  (show k0_off8 i 2#32 = ![(slotw (BitVec.ofNat 32 (i 0).val + 2#32)).toNat] from rfl).trans
    (by rw [← BitVec.ofNat_add, slot_at (by have := i_lt i; omega)])
theorem off8_3 : k0_off8 i 3#32 = ![((i 0).val + 3) % 4] :=
  (show k0_off8 i 3#32 = ![(slotw (BitVec.ofNat 32 (i 0).val + 3#32)).toNat] from rfl).trans
    (by rw [← BitVec.ofNat_add, slot_at (by have := i_lt i; omega)])
theorem off31_eq : k0_off31 i = ![((i 0).val + 3) % 4] :=
  (show k0_off31 i = ![(slotw (BitVec.ofNat 32 (i 0).val + 3#32)).toNat] from rfl).trans
    (by rw [← BitVec.ofNat_add, slot_at (by have := i_lt i; omega)])
theorem off52_eq : k0_off52 i = ![((i 0).val + 3) % 4] :=
  (show k0_off52 i = ![(slotw (BitVec.ofNat 32 (i 0).val + 3#32)).toNat] from rfl).trans
    (by rw [← BitVec.ofNat_add, slot_at (by have := i_lt i; omega)])
theorem off9_2 : k0_off9 i 2#32 = ![512 * (((i 0).val + 2) % 4)] :=
  (show k0_off9 i 2#32 = ![(ringw (BitVec.ofNat 32 (i 0).val + 2#32)).toNat] from rfl).trans
    (by rw [← BitVec.ofNat_add, ring_at (by have := i_lt i; omega)])
theorem off9_3 : k0_off9 i 3#32 = ![512 * (((i 0).val + 3) % 4)] :=
  (show k0_off9 i 3#32 = ![(ringw (BitVec.ofNat 32 (i 0).val + 3#32)).toNat] from rfl).trans
    (by rw [← BitVec.ofNat_add, ring_at (by have := i_lt i; omega)])
theorem off32_eq : k0_off32 i = ![512 * (((i 0).val + 3) % 4)] :=
  (show k0_off32 i = ![(ringw (BitVec.ofNat 32 (i 0).val + 3#32)).toNat] from rfl).trans
    (by rw [← BitVec.ofNat_add, ring_at (by have := i_lt i; omega)])
theorem off53_eq : k0_off53 i = ![512 * (((i 0).val + 3) % 4)] :=
  (show k0_off53 i = ![(ringw (BitVec.ofNat 32 (i 0).val + 3#32)).toNat] from rfl).trans
    (by rw [← BitVec.ofNat_add, ring_at (by have := i_lt i; omega)])
theorem off10_3 : k0_off10 i 3#32 = ![512 * ((i 0).val + 3)] := (k0_off10_eq i 1).trans (congrArg (fun n => ![n]) (by show _ + 512 * 1 + _ = _; omega))

theorem prev_word : ∀ a : Fin 320, (Scalar.indexCast (Scalar.maxsi (Scalar.subi (BitVec.ofNat 32 a.val) 1#32) 0#32)).toNat = a.val - 1 := by decide +kernel

theorem off12_eq : k0_off12 i = ![(i 0).val - 1] :=
  (show k0_off12 i = ![(Scalar.indexCast (Scalar.maxsi (Scalar.subi (BitVec.ofNat 32 (i 0).val) 1#32) 0#32)).toNat] from rfl).trans
    (congrArg (fun n => ![n]) (prev_word ⟨(i 0).val, i_lt i⟩))

end Cert.Experts

end
-- ==== Proof.Ledger.lean ====
/-
  The plan's entries in scalar memory: an entry's slot of the ring held, in flight, or free, and the copy that brings an
  entry in.
-/
module

public import proofs.«01_k».proof.Proof.Trips
public import proofs.«01_k».proof.Proof.Conds

@[expose] public section

noncomputable section

namespace Cert.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

/-- The number of an entry's slot. -/
def slotNo (a : ℕ) : Fin 4 := ⟨a % 4, Nat.mod_lt _ (by decide)⟩

/-- The semaphore of an entry's slot. -/
def metaSem (a : ℕ) : DmaSem sig := ![4, 5, 6, 7] (slotNo a)

/-- The part of the plan in main memory that an entry's copy reads under. -/
def metaShare (a : ℕ) : PosShare TreeShare := ShareLeaves.leaf 2 fullShare (slotNo a)

/-- What a slot's copy counts. -/
def metaJ : ℕ := (mRing.slice (Rect.unit (s := S2048) ![0] S512.size inb_S2048_S512_0) (fun _ => rfl)).view.dmaCredit

theorem metaJ_pos : 0 < metaJ := View.dmaCredit_pos _ (by decide)

variable (c : Dev nD) (mt : Meta)

/-- Entry `a` is in the ring. -/
def MHeld (a : ℕ) : sProp 𝕄 :=
  iprop((lc c cc0_scratch0 ↦[seg a]{fullShare} slotOf mt a) ∗ (lc c main_arg2 ↦{metaShare a} mt) ∗ semVal ((c : Thread nD τ), .dma (metaSem a)) 0)

/-- Entry `a` is on its way. -/
def MFly (a : ℕ) : sProp 𝕄 :=
  Flight c (metaSem a) metaJ iprop((lc c cc0_scratch0 ↦[seg a]{fullShare} slotOf mt a) ∗ (lc c main_arg2 ↦{metaShare a} mt))

/-- Entry `a`'s slot is free. -/
def MFree (a : ℕ) : sProp 𝕄 :=
  iprop((∃ f : S2048.Idx → BitVec 32, lc c cc0_scratch0 ↦[seg a]{fullShare} f) ∗ (lc c main_arg2 ↦{metaShare a} mt)
    ∗ semVal ((c : Thread nD τ), .dma (metaSem a)) 0)

theorem slotNo_add (a : ℕ) : slotNo (a + 4) = slotNo a := Fin.ext (by show (a + 4) % 4 = a % 4; omega)

theorem seg_add (a : ℕ) : seg (a + 4) = seg a := by ext x; rw [mem_seg, mem_seg]; omega

/-- An entry's slot serves the entry four further on. -/
theorem MHeld.free (a : ℕ) : MHeld (F := F) c mt a ⊢ MFree c mt (a + 4) := by
  unfold MHeld MFree metaSem metaShare
  rw [slotNo_add, seg_add]
  iintro ⟨H, H2, H3⟩
  isplitl [H]
  · iexists _; iexact H
  isplitl [H2] <;> iassumption

theorem sem_at {off : Fin 1 → ℕ} {inb} {sq} {a : ℕ} (h : off = ![a % 4]) :
    ((cc0_scratch8.slice (Rect.unit (s := S4) off S1.size inb)).squeeze S_ sq).sem = metaSem a := by
  subst h
  have hs : ∀ k : Fin 4, metaSem k.val = ⟨4 + k.val, by have := k.isLt; show 4 + k.val < 12; omega⟩ := by decide
  have hr : ∀ x : S4.Idx, (S4.rowMajor x).val = (x 0).val := by decide
  have hm : metaSem a = metaSem (slotNo a).val := by unfold metaSem; congr 1; exact Fin.ext (Nat.mod_mod _ _).symm
  rw [hm, hs]
  apply Fin.ext
  show 4 + (S4.rowMajor _).val = 4 + a % 4
  rw [hr, ValueKit.rect_emb_unit_val]
  have hz : ∀ y : S1.Idx, (y 0).val = 0 := by decide
  rw [hz]
  rfl

theorem set_slot {off : Fin 1 → ℕ} {inb} {a : ℕ} (h : off = ![512 * (a % 4)]) :
    (mRing.slice (Rect.unit (s := S2048) off S512.size inb) (fun _ => rfl)).view.set = seg a := by
  subst h
  refine (View.set_slice_whole cc0_scratch0 _).trans ?_
  ext x
  rw [Rect.mem_set_unit, mem_seg]
  constructor
  · intro h
    have h := h 0
    have e1 : (![512 * (a % 4)] : Fin 1 → ℕ) 0 = 512 * (a % 4) := rfl
    have e2 : S512.size 0 = 512 := rfl
    rw [e1, e2] at h
    omega
  · intro h b
    match b with
    | 0 =>
      have e1 : (![512 * (a % 4)] : Fin 1 → ℕ) 0 = 512 * (a % 4) := rfl
      have e2 : S512.size 0 = 512 := rfl
      rw [e1, e2]; omega

theorem val_slot {off off' : Fin 1 → ℕ} {inb inb'} {a : ℕ} (h : off = ![512 * (a % 4)]) (h' : off' = ![512 * a]) (f : S2048.Idx → BitVec 32)
    {x : S2048.Idx} (hx : x ∈ seg a) :
    (mRing.slice (Rect.unit (s := S2048) off S512.size inb) (fun _ => rfl)).view.write (Elt F) f
        ((mMeta.slice (Rect.unit (s := S165376) off' S512.size inb') (fun _ => rfl)).view.read (Elt F) mt) Finset.univ x = slotOf mt a x := by
  subst h h'
  rw [mem_seg] at hx
  have e : (mRing.slice (Rect.unit (s := S2048) ![512 * (a % 4)] S512.size inb) (fun _ => rfl)).view.emb (at1 (N := 512) (by decide) ((x 0).val % 512) : S512.Idx) = x := by
    show (Rect.unit (s := S2048) ![512 * (a % 4)] S512.size inb).emb (at1 (N := 512) (by decide) ((x 0).val % 512)) = x
    funext b
    apply Fin.ext
    rw [ValueKit.rect_emb_unit_val]
    match b with
    | 0 => show 512 * (a % 4) + ((x 0).val % 512) % 512 = _; omega
  have hw := View.write_emb_of_mem (Val := Elt F) (v := (mRing.slice (Rect.unit (s := S2048) ![512 * (a % 4)] S512.size inb) (fun _ => rfl)).view)
    f ((mMeta.slice (Rect.unit (s := S165376) ![512 * a] S512.size inb') (fun _ => rfl)).view.read (Elt F) mt) (M := Finset.univ)
    (x := (at1 (N := 512) (by decide) ((x 0).val % 512) : S512.Idx)) (Finset.mem_univ _)
  rw [e] at hw
  refine hw.trans ?_
  show mt ((Rect.unit (s := S165376) ![512 * a] S512.size inb').emb (at1 (N := 512) (by decide) ((x 0).val % 512))) = _
  unfold slotOf
  congr 1
  have hb : 512 * a + 512 ≤ 165376 := inb' 0
  funext b
  apply Fin.ext
  rw [ValueKit.rect_emb_unit_val]
  match b with
  | 0 => show 512 * a + ((x 0).val % 512) % 512 = (512 * a + (x 0).val % 512) % 165376; omega

/-- Starting an entry's copy. -/
theorem wp_metaStart {α : Type} {Q : α → sProp 𝕄} {k : PUnit → Prog (TpuEff nD τ sig (Elt F) Λ₀ .tc) α} {sem : DmaSem sig} {off9 off10 : Fin 1 → ℕ} {inb9 inb10} {a : ℕ} (h8 : sem = metaSem a) (h9 : off9 = ![512 * (a % 4)]) (h10 : off10 = ![512 * a])
    {hs hd ht} :
    MFree (F := F) c mt a
      ⊢ iprop((MFly c mt a -∗ wp frame (wpE (defs₀ (F := F)) Variants.none c none) Set.univ (k ⟨⟩) Q)
          -∗ wp frame (wpE (defs₀ (F := F)) Variants.none c none) Set.univ
            (.op (.enqueueDma (mMeta.slice (Rect.unit (s := S165376) off10 S512.size inb10) (fun _ => rfl))
                (.here (mRing.slice (Rect.unit (s := S2048) off9 S512.size inb9) (fun _ => rfl)))
                (.dma sem) hs hd ht) k) Q) := by
  subst h8
  unfold MFree MFly
  iintro ⟨⟨%f, Hr⟩, Hm, Hv⟩ Hk
  iapply (wp_startOne (F := F) c (J := metaJ) (q := metaShare a) (fs := mt) (fd := f)
    (R := iprop((lc c cc0_scratch0 ↦[seg a]{fullShare} f) ∗ (lc c main_arg2 ↦{metaShare a} mt)))
    (put := iprop(lc c main_arg2 ↦[Finset.univ \ (mMeta.slice (Rect.unit (s := S165376) off10 S512.size inb10) (fun _ => rfl)).view.set]{metaShare a} mt))
    (P := iprop((lc c cc0_scratch0 ↦[seg a]{fullShare} slotOf mt a) ∗ (lc c main_arg2 ↦{metaShare a} mt))) (by rfl) metaJ_pos ?_ ?_) $$ [Hr Hm Hv]
  · rw [set_slot h9]
    iintro ⟨Hr, Hm⟩
    ihave Hm := (pointsTo_split_subset (Finset.subset_univ (mMeta.slice (Rect.unit (s := S165376) off10 S512.size inb10) (fun _ => rfl)).view.set)).1 $$ Hm
    icases Hm with ⟨H1, H2⟩
    isplitl [H1]; · iexact H1
    isplitl [Hr]; · iexact Hr
    iexact H2
  · have hv : ∀ x ∈ seg a, (mRing.slice (Rect.unit (s := S2048) off9 S512.size inb9) (fun _ => rfl)).view.write (Elt F) f
        ((mMeta.slice (Rect.unit (s := S165376) off10 S512.size inb10) (fun _ => rfl)).view.read (Elt F) mt) Finset.univ x = slotOf mt a x :=
      fun x hx => val_slot (F := F) mt h9 h10 f hx
    have hc := pointsTo_congr (Ix := Unit) (Name := ℕ) (U := Pipeline.UD sig nD τ) (Lvl := ℕ) (ℓ := lc c cc0_scratch0) (q := fullShare) hv
    rw [set_slot h9, hc]
    iintro ⟨H2, Hr, H1⟩
    isplitl [Hr]; · iexact Hr
    iapply (pointsTo_split_subset (Finset.subset_univ (mMeta.slice (Rect.unit (s := S165376) off10 S512.size inb10) (fun _ => rfl)).view.set)).2
    isplitl [H1]; · iexact H1
    iexact H2
  · isplitl [Hr Hm]
    · isplitl [Hr] <;> iassumption
    iexact Hv
  iexact Hk

/-- Waiting for an entry. -/
theorem wp_metaWait {α : Type} {Q : α → sProp 𝕄} {k : PUnit → Prog (TpuEff nD τ sig (Elt F) Λ₀ .tc) α} {sem : DmaSem sig} {off9 off10 : Fin 1 → ℕ} {inb9 inb10} {a : ℕ} (h8 : sem = metaSem a) {hs hd} :
    iprop(MFly (F := F) c mt a ∗ (∃ W, owes (c : Thread nD τ) 0 W))
      ⊢ iprop((iprop(MHeld c mt a ∗ (∃ W, owes (c : Thread nD τ) 0 W)) -∗ wp frame (wpE (defs₀ (F := F)) Variants.none c none) Set.univ (k ⟨⟩) Q)
          -∗ wp frame (wpE (defs₀ (F := F)) Variants.none c none) Set.univ
            (.op (.waitDma2 sem
                (mMeta.slice (Rect.unit (s := S165376) off10 S512.size inb10) (fun _ => rfl))
                (mRing.slice (Rect.unit (s := S2048) off9 S512.size inb9) (fun _ => rfl)) hs hd) k) Q) := by
  subst h8
  unfold MFly MHeld
  iintro H Hk
  iapply (wp_waitFlight (F := F) c (J := metaJ) (by rfl)) $$ H
  iintro ⟨⟨H1, H2⟩, H3, H4⟩
  iapply Hk
  isplitl [H1 H2 H3]
  · isplitl [H1]; · iexact H1
    isplitl [H2]; · iexact H2
    iexact H3
  iexact H4

end Cert.Experts

end
-- ==== Proof.Tile.lean ====
/-
  A tile's computation: the sixteen strided reads, the gated product, the sixteen strided writes and the rounded tile.
-/
module

public import proofs.«01_k».proof.Proof.Ledger

@[expose] public section

noncomputable section

namespace Cert.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

/-- Every sixteenth row from row `k` on. -/
abbrev rct (k : ℕ) (h : ∀ a, S256x128.size a = 0 ∨ (![k, 0] : Fin 2 → ℕ) a + (![16, 1] : Fin 2 → ℕ) a * (S256x128.size a - 1) < S4096x128.size a) :
    LoadRect S4096x128 := ⟨![k, 0], S256x128.size, ![16, 1], h⟩

/-- What a strided read at `k` reads. -/
def ldx (k : ℕ) (h : ∀ a, S256x128.size a = 0 ∨ (![k, 0] : Fin 2 → ℕ) a + (![16, 1] : Fin 2 → ℕ) a * (S256x128.size a - 1) < S4096x128.size a)
    (G : S4096x128.Idx → F .f32) : Vec F S256x128 .f32 := fun j => G ((rct k h).idx j)

/-- The tile's gated product, one row a token. -/
def prodOf (G : S4096x128.Idx → F .f32) (gu : S2048x1024.Idx → F .bf16) (dn : S512x2048.Idx → F .bf16) : FVec F S256x2048 .f32 :=
  k0_pay7 (ldx 0 inb_S4096x128_S256x128_0_0_s_16_1 G) (ldx 1 inb_S4096x128_S256x128_1_0_s_16_1 G) (ldx 2 inb_S4096x128_S256x128_2_0_s_16_1 G) (ldx 3 inb_S4096x128_S256x128_3_0_s_16_1 G) (ldx 4 inb_S4096x128_S256x128_4_0_s_16_1 G) (ldx 5 inb_S4096x128_S256x128_5_0_s_16_1 G) (ldx 6 inb_S4096x128_S256x128_6_0_s_16_1 G) (ldx 7 inb_S4096x128_S256x128_7_0_s_16_1 G) (ldx 8 inb_S4096x128_S256x128_8_0_s_16_1 G) (ldx 9 inb_S4096x128_S256x128_9_0_s_16_1 G) (ldx 10 inb_S4096x128_S256x128_10_0_s_16_1 G) (ldx 11 inb_S4096x128_S256x128_11_0_s_16_1 G) (ldx 12 inb_S4096x128_S256x128_12_0_s_16_1 G) (ldx 13 inb_S4096x128_S256x128_13_0_s_16_1 G) (ldx 14 inb_S4096x128_S256x128_14_0_s_16_1 G) (ldx 15 inb_S4096x128_S256x128_15_0_s_16_1 G) gu dn

/-- Sixteen blocks interleaved, row by row. -/
def stageOf (W : Fin 16 → Vec F S256x128 .f32) : Vec F S4096x128 .f32 := fun i =>
  W ⟨(i 0).val % 16, Nat.mod_lt _ (by decide)⟩ (at2 (N := 256) (by decide) ((i 0).val / 16) (i 1).val)

/-- A tile's sixteen blocks, from its product. -/
def blocksOf (O : FVec F S256x2048 .f32) : Fin 16 → Vec F S256x128 .f32 :=
  ![k0_pay13 (extractStridedSlice S256x128 ![0, 0] O slices_S256x2048_o0_0_S256x128),
    k0_pay13 (extractStridedSlice S256x128 ![0, 128] O slices_S256x2048_o0_128_S256x128),
    k0_pay13 (extractStridedSlice S256x128 ![0, 256] O slices_S256x2048_o0_256_S256x128),
    k0_pay13 (extractStridedSlice S256x128 ![0, 384] O slices_S256x2048_o0_384_S256x128),
    k0_pay13 (extractStridedSlice S256x128 ![0, 512] O slices_S256x2048_o0_512_S256x128),
    k0_pay14 O, k0_pay15 O, k0_pay16 O, k0_pay17 O, k0_pay18 O, k0_pay19 O, k0_pay20 O, k0_pay21 O,
    k0_pay41 (k0_pay22 O), k0_pay42 O, k0_pay43 O]

/-- The rounded tile. -/
def tileOut (G : S4096x128.Idx → F .f32) (gu : S2048x1024.Idx → F .bf16) (dn : S512x2048.Idx → F .bf16) : S4096x128.Idx → F .bf16 :=
  k0_pay44 (stageOf (blocksOf (prodOf G gu dn)))

/-- The end of a program. -/
theorem wp_done (c : Dev nD) {α : Type} {a : α} {Q : α → sProp 𝕄} :
    Q a ⊢ wp frame (wpE (defs₀ (F := F)) Variants.none c none) Set.univ (Prog.ret a : Prog (TpuEff nD τ sig (Elt F) Λ₀ .tc) α) Q := by
  rw [wp_ret]
  iintro H
  imodintro
  iexact H

/-- The stage after a strided write at `k`. -/
abbrev stw (k : ℕ) (h : ∀ a, S256x128.size a = 0 ∨ (![k, 0] : Fin 2 → ℕ) a + (![16, 1] : Fin 2 → ℕ) a * (S256x128.size a - 1) < S4096x128.size a)
    (w : Vec F S256x128 .f32) (f : S4096x128.Idx → F .f32) : S4096x128.Idx → F .f32 :=
  (mStage.access ⟨rct k h, spos_16_1⟩).write (Elt F) f w Finset.univ

theorem stw_apply {k : ℕ} (hk : k < 16) (h) (w : Vec F S256x128 .f32) (f : S4096x128.Idx → F .f32) (i : S4096x128.Idx) :
    stw k h w f i = if (i 0).val % 16 = k then w (at2 (N := 256) (by decide) ((i 0).val / 16) (i 1).val) else f i := by
  have h0 : (i 0).val < 4096 := (i 0).isLt
  have h1 : (i 1).val < 128 := (i 1).isLt
  split
  · rename_i hm
    have he : (mStage.access ⟨rct k h, spos_16_1⟩).emb (at2 (N := 256) (by decide) ((i 0).val / 16) (i 1).val) = i := by
      funext a
      apply Fin.ext
      match a with
      | 0 =>
        show k + 16 * (((i 0).val / 16) % 256) = (i 0).val
        omega
      | 1 =>
        show 0 + 1 * ((i 1).val % 128) = (i 1).val
        omega
    conv_lhs => rw [← he]
    exact View.write_emb_of_mem (v := mStage.access ⟨rct k h, spos_16_1⟩) (Val := Elt F) f w (M := Finset.univ) (Finset.mem_univ _)
  · rename_i hm
    refine View.write_of_not_mem (v := mStage.access ⟨rct k h, spos_16_1⟩) (Val := Elt F) f w Finset.univ fun hi => hm ?_
    obtain ⟨x, -, hx⟩ := Finset.mem_map.1 hi
    rw [← hx]
    show (k + 16 * (x 0).val) % 16 = k
    omega

/-- A choice among sixteen. -/
theorem pick (W : Fin 16 → Vec F S256x128 .f32) (x : S256x128.Idx) (e : Elt F .f32) (p : Fin 16) :
    (if p.val = 15 then W 15 x else if p.val = 14 then W 14 x else if p.val = 13 then W 13 x else if p.val = 12 then W 12 x else if p.val = 11 then W 11 x else if p.val = 10 then W 10 x else if p.val = 9 then W 9 x else if p.val = 8 then W 8 x else if p.val = 7 then W 7 x else if p.val = 6 then W 6 x else if p.val = 5 then W 5 x else if p.val = 4 then W 4 x else if p.val = 3 then W 3 x else if p.val = 2 then W 2 x else if p.val = 1 then W 1 x else if p.val = 0 then W 0 x else e) = W p x := by
  match p with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl
  | ⟨12, _⟩ => rfl
  | ⟨13, _⟩ => rfl
  | ⟨14, _⟩ => rfl
  | ⟨15, _⟩ => rfl
  | ⟨n + 16, h⟩ => exact absurd h (by omega)

/-- The sixteen strided writes fill the stage. -/
theorem stage_full (W : Fin 16 → Vec F S256x128 .f32) (f : S4096x128.Idx → F .f32) :
    stw 15 inb_S4096x128_S256x128_15_0_s_16_1 (W 15) (stw 14 inb_S4096x128_S256x128_14_0_s_16_1 (W 14) (stw 13 inb_S4096x128_S256x128_13_0_s_16_1 (W 13) (stw 12 inb_S4096x128_S256x128_12_0_s_16_1 (W 12) (stw 11 inb_S4096x128_S256x128_11_0_s_16_1 (W 11) (stw 10 inb_S4096x128_S256x128_10_0_s_16_1 (W 10) (stw 9 inb_S4096x128_S256x128_9_0_s_16_1 (W 9) (stw 8 inb_S4096x128_S256x128_8_0_s_16_1 (W 8) (stw 7 inb_S4096x128_S256x128_7_0_s_16_1 (W 7) (stw 6 inb_S4096x128_S256x128_6_0_s_16_1 (W 6) (stw 5 inb_S4096x128_S256x128_5_0_s_16_1 (W 5) (stw 4 inb_S4096x128_S256x128_4_0_s_16_1 (W 4) (stw 3 inb_S4096x128_S256x128_3_0_s_16_1 (W 3) (stw 2 inb_S4096x128_S256x128_2_0_s_16_1 (W 2) (stw 1 inb_S4096x128_S256x128_1_0_s_16_1 (W 1) (stw 0 inb_S4096x128_S256x128_0_0_s_16_1 (W 0) (f)))))))))))))))) = stageOf W := by
  funext i
  rw [stw_apply (k := 15) (by decide), stw_apply (k := 14) (by decide), stw_apply (k := 13) (by decide), stw_apply (k := 12) (by decide), stw_apply (k := 11) (by decide), stw_apply (k := 10) (by decide), stw_apply (k := 9) (by decide), stw_apply (k := 8) (by decide), stw_apply (k := 7) (by decide), stw_apply (k := 6) (by decide), stw_apply (k := 5) (by decide), stw_apply (k := 4) (by decide), stw_apply (k := 3) (by decide), stw_apply (k := 2) (by decide), stw_apply (k := 1) (by decide), stw_apply (k := 0) (by decide)]
  exact pick W _ (f i) ⟨(i 0).val % 16, Nat.mod_lt _ (by decide)⟩

/-- A strided write. -/
theorem wp_stw (c : Dev nD) (k : ℕ) (h : ∀ a, S256x128.size a = 0 ∨ (![k, 0] : Fin 2 → ℕ) a + (![16, 1] : Fin 2 → ℕ) a * (S256x128.size a - 1) < S4096x128.size a) (w : Vec F S256x128 .f32) {f : S4096x128.Idx → F .f32} {α : Type} {Q : α → sProp 𝕄}
    {hx : (mStage.access ⟨rct k h, spos_16_1⟩).Stores Finset.univ} {hm : (Finset.univ : Finset (⟨rct k h, spos_16_1⟩ : Rect S4096x128).shape.Idx) = Finset.univ ∨ ∀ a, (⟨rct k h, spos_16_1⟩ : Rect S4096x128).stride a = 1}
    {kk : PUnit → Prog (TpuEff nD τ sig (Elt F) Λ₀ .tc) α} :
    (lc c cc0_scratch5 ↦{fullShare} f)
      ⊢ iprop((iprop(lc c cc0_scratch5 ↦{fullShare} stw k h w f) -∗ wp frame (wpE (defs₀ (F := F)) Variants.none c none) Set.univ (kk ⟨⟩) Q)
        -∗ wp frame (wpE (defs₀ (F := F)) Variants.none c none) Set.univ (.op (.store mStage ⟨rct k h, spos_16_1⟩ w Finset.univ hx hm) kk) Q) :=
  wp_store (Γ := .empty) (defs := defs₀ (F := F)) Variants.none (c : Thread nD τ) none Set.univ (Q := Q) (m := mStage) (r := ⟨rct k h, spos_16_1⟩)
    (w := w) (Mk := Finset.univ) (hx := hx) (hm := hm) (k := kk) (S := Finset.univ) (f := f) (Finset.subset_univ _)

theorem zeros2 : (![0, 0] : Fin 2 → ℕ) = fun _ => 0 := funext fun a => match a with
  | 0 => rfl
  | 1 => rfl

/-- A read of all of Gu. -/
theorem wp_ldGu (c : Dev nD) {f : S2048x1024.Idx → F .bf16} {inb} {hl} {α : Type} {Q : α → sProp 𝕄}
    {kk : (S2048x1024.Idx → Elt F .bf16) → Prog (TpuEff nD τ sig (Elt F) Λ₀ .tc) α} :
    (lc c cc0_scratch6 ↦{fullShare} f)
      ⊢ iprop((iprop(lc c cc0_scratch6 ↦{fullShare} f) -∗ wp frame (wpE (defs₀ (F := F)) Variants.none c none) Set.univ (kk f) Q)
        -∗ wp frame (wpE (defs₀ (F := F)) Variants.none c none) Set.univ (.op (.load mGu (Rect.unit (s := S2048x1024) ![0, 0] S2048x1024.size inb).toLoadRect hl) kk) Q) := by
  have h := wp_load (Γ := .empty) (defs := defs₀ (F := F)) Variants.none (c : Thread nD τ) none Set.univ (Q := Q) (m := mGu) (r := (Rect.unit (s := S2048x1024) ![0, 0] S2048x1024.size inb).toLoadRect)
    (hl := hl) (k := kk) (S := Finset.univ) (q := fullShare) (f := f) (Finset.subset_univ _)
  have e : mGu.view.readAt (Elt F) (Rect.unit (s := S2048x1024) ![0, 0] S2048x1024.size inb).toLoadRect f = f := Memref.readAt_unit_zero (Elt F) cc0_scratch6 zeros2 inb f
  rw [e] at h
  exact h

/-- A write of all of Gu. -/
theorem wp_stGu (c : Dev nD) {f w : S2048x1024.Idx → F .bf16} {inb} {hx} {hm} {α : Type} {Q : α → sProp 𝕄}
    {kk : PUnit → Prog (TpuEff nD τ sig (Elt F) Λ₀ .tc) α} :
    (lc c cc0_scratch6 ↦{fullShare} f)
      ⊢ iprop((iprop(lc c cc0_scratch6 ↦{fullShare} w) -∗ wp frame (wpE (defs₀ (F := F)) Variants.none c none) Set.univ (kk ⟨⟩) Q)
        -∗ wp frame (wpE (defs₀ (F := F)) Variants.none c none) Set.univ (.op (.store mGu (Rect.unit (s := S2048x1024) ![0, 0] S2048x1024.size inb) w Finset.univ hx hm) kk) Q) := by
  have h := wp_store (Γ := .empty) (defs := defs₀ (F := F)) Variants.none (c : Thread nD τ) none Set.univ (Q := Q) (m := mGu) (r := Rect.unit (s := S2048x1024) ![0, 0] S2048x1024.size inb)
    (w := w) (Mk := Finset.univ) (hx := hx) (hm := hm) (k := kk) (S := Finset.univ) (f := f) (Finset.subset_univ _)
  have e : (mGu.access (Rect.unit (s := S2048x1024) ![0, 0] S2048x1024.size inb)).write (Elt F) f w Finset.univ = w := Memref.write_access_unit_zero_univ (Elt F) cc0_scratch6 zeros2 inb f w
  rw [e] at h
  exact h

/-- A read of all of Dn. -/
theorem wp_ldDn (c : Dev nD) {f : S512x2048.Idx → F .bf16} {inb} {hl} {α : Type} {Q : α → sProp 𝕄}
    {kk : (S512x2048.Idx → Elt F .bf16) → Prog (TpuEff nD τ sig (Elt F) Λ₀ .tc) α} :
    (lc c cc0_scratch7 ↦{fullShare} f)
      ⊢ iprop((iprop(lc c cc0_scratch7 ↦{fullShare} f) -∗ wp frame (wpE (defs₀ (F := F)) Variants.none c none) Set.univ (kk f) Q)
        -∗ wp frame (wpE (defs₀ (F := F)) Variants.none c none) Set.univ (.op (.load mDn (Rect.unit (s := S512x2048) ![0, 0] S512x2048.size inb).toLoadRect hl) kk) Q) := by
  have h := wp_load (Γ := .empty) (defs := defs₀ (F := F)) Variants.none (c : Thread nD τ) none Set.univ (Q := Q) (m := mDn) (r := (Rect.unit (s := S512x2048) ![0, 0] S512x2048.size inb).toLoadRect)
    (hl := hl) (k := kk) (S := Finset.univ) (q := fullShare) (f := f) (Finset.subset_univ _)
  have e : mDn.view.readAt (Elt F) (Rect.unit (s := S512x2048) ![0, 0] S512x2048.size inb).toLoadRect f = f := Memref.readAt_unit_zero (Elt F) cc0_scratch7 zeros2 inb f
  rw [e] at h
  exact h

/-- A write of all of Dn. -/
theorem wp_stDn (c : Dev nD) {f w : S512x2048.Idx → F .bf16} {inb} {hx} {hm} {α : Type} {Q : α → sProp 𝕄}
    {kk : PUnit → Prog (TpuEff nD τ sig (Elt F) Λ₀ .tc) α} :
    (lc c cc0_scratch7 ↦{fullShare} f)
      ⊢ iprop((iprop(lc c cc0_scratch7 ↦{fullShare} w) -∗ wp frame (wpE (defs₀ (F := F)) Variants.none c none) Set.univ (kk ⟨⟩) Q)
        -∗ wp frame (wpE (defs₀ (F := F)) Variants.none c none) Set.univ (.op (.store mDn (Rect.unit (s := S512x2048) ![0, 0] S512x2048.size inb) w Finset.univ hx hm) kk) Q) := by
  have h := wp_store (Γ := .empty) (defs := defs₀ (F := F)) Variants.none (c : Thread nD τ) none Set.univ (Q := Q) (m := mDn) (r := Rect.unit (s := S512x2048) ![0, 0] S512x2048.size inb)
    (w := w) (Mk := Finset.univ) (hx := hx) (hm := hm) (k := kk) (S := Finset.univ) (f := f) (Finset.subset_univ _)
  have e : (mDn.access (Rect.unit (s := S512x2048) ![0, 0] S512x2048.size inb)).write (Elt F) f w Finset.univ = w := Memref.write_access_unit_zero_univ (Elt F) cc0_scratch7 zeros2 inb f w
  rw [e] at h
  exact h

/-- A read of all of Stage. -/
theorem wp_ldStage (c : Dev nD) {f : S4096x128.Idx → F .f32} {inb} {hl} {α : Type} {Q : α → sProp 𝕄}
    {kk : (S4096x128.Idx → Elt F .f32) → Prog (TpuEff nD τ sig (Elt F) Λ₀ .tc) α} :
    (lc c cc0_scratch5 ↦{fullShare} f)
      ⊢ iprop((iprop(lc c cc0_scratch5 ↦{fullShare} f) -∗ wp frame (wpE (defs₀ (F := F)) Variants.none c none) Set.univ (kk f) Q)
        -∗ wp frame (wpE (defs₀ (F := F)) Variants.none c none) Set.univ (.op (.load mStage (Rect.unit (s := S4096x128) ![0, 0] S4096x128.size inb).toLoadRect hl) kk) Q) := by
  have h := wp_load (Γ := .empty) (defs := defs₀ (F := F)) Variants.none (c : Thread nD τ) none Set.univ (Q := Q) (m := mStage) (r := (Rect.unit (s := S4096x128) ![0, 0] S4096x128.size inb).toLoadRect)
    (hl := hl) (k := kk) (S := Finset.univ) (q := fullShare) (f := f) (Finset.subset_univ _)
  have e : mStage.view.readAt (Elt F) (Rect.unit (s := S4096x128) ![0, 0] S4096x128.size inb).toLoadRect f = f := Memref.readAt_unit_zero (Elt F) cc0_scratch5 zeros2 inb f
  rw [e] at h
  exact h

/-- A write of all of Stage. -/
theorem wp_stStage (c : Dev nD) {f w : S4096x128.Idx → F .f32} {inb} {hx} {hm} {α : Type} {Q : α → sProp 𝕄}
    {kk : PUnit → Prog (TpuEff nD τ sig (Elt F) Λ₀ .tc) α} :
    (lc c cc0_scratch5 ↦{fullShare} f)
      ⊢ iprop((iprop(lc c cc0_scratch5 ↦{fullShare} w) -∗ wp frame (wpE (defs₀ (F := F)) Variants.none c none) Set.univ (kk ⟨⟩) Q)
        -∗ wp frame (wpE (defs₀ (F := F)) Variants.none c none) Set.univ (.op (.store mStage (Rect.unit (s := S4096x128) ![0, 0] S4096x128.size inb) w Finset.univ hx hm) kk) Q) := by
  have h := wp_store (Γ := .empty) (defs := defs₀ (F := F)) Variants.none (c : Thread nD τ) none Set.univ (Q := Q) (m := mStage) (r := Rect.unit (s := S4096x128) ![0, 0] S4096x128.size inb)
    (w := w) (Mk := Finset.univ) (hx := hx) (hm := hm) (k := kk) (S := Finset.univ) (f := f) (Finset.subset_univ _)
  have e : (mStage.access (Rect.unit (s := S4096x128) ![0, 0] S4096x128.size inb)).write (Elt F) f w Finset.univ = w := Memref.write_access_unit_zero_univ (Elt F) cc0_scratch5 zeros2 inb f w
  rw [e] at h
  exact h

/-- A read of all of Ya. -/
theorem wp_ldYa (c : Dev nD) {f : S4096x128.Idx → F .bf16} {inb} {hl} {α : Type} {Q : α → sProp 𝕄}
    {kk : (S4096x128.Idx → Elt F .bf16) → Prog (TpuEff nD τ sig (Elt F) Λ₀ .tc) α} :
    (lc c cc0_scratch3 ↦{fullShare} f)
      ⊢ iprop((iprop(lc c cc0_scratch3 ↦{fullShare} f) -∗ wp frame (wpE (defs₀ (F := F)) Variants.none c none) Set.univ (kk f) Q)
        -∗ wp frame (wpE (defs₀ (F := F)) Variants.none c none) Set.univ (.op (.load mYa (Rect.unit (s := S4096x128) ![0, 0] S4096x128.size inb).toLoadRect hl) kk) Q) := by
  have h := wp_load (Γ := .empty) (defs := defs₀ (F := F)) Variants.none (c : Thread nD τ) none Set.univ (Q := Q) (m := mYa) (r := (Rect.unit (s := S4096x128) ![0, 0] S4096x128.size inb).toLoadRect)
    (hl := hl) (k := kk) (S := Finset.univ) (q := fullShare) (f := f) (Finset.subset_univ _)
  have e : mYa.view.readAt (Elt F) (Rect.unit (s := S4096x128) ![0, 0] S4096x128.size inb).toLoadRect f = f := Memref.readAt_unit_zero (Elt F) cc0_scratch3 zeros2 inb f
  rw [e] at h
  exact h

/-- A write of all of Ya. -/
theorem wp_stYa (c : Dev nD) {f w : S4096x128.Idx → F .bf16} {inb} {hx} {hm} {α : Type} {Q : α → sProp 𝕄}
    {kk : PUnit → Prog (TpuEff nD τ sig (Elt F) Λ₀ .tc) α} :
    (lc c cc0_scratch3 ↦{fullShare} f)
      ⊢ iprop((iprop(lc c cc0_scratch3 ↦{fullShare} w) -∗ wp frame (wpE (defs₀ (F := F)) Variants.none c none) Set.univ (kk ⟨⟩) Q)
        -∗ wp frame (wpE (defs₀ (F := F)) Variants.none c none) Set.univ (.op (.store mYa (Rect.unit (s := S4096x128) ![0, 0] S4096x128.size inb) w Finset.univ hx hm) kk) Q) := by
  have h := wp_store (Γ := .empty) (defs := defs₀ (F := F)) Variants.none (c : Thread nD τ) none Set.univ (Q := Q) (m := mYa) (r := Rect.unit (s := S4096x128) ![0, 0] S4096x128.size inb)
    (w := w) (Mk := Finset.univ) (hx := hx) (hm := hm) (k := kk) (S := Finset.univ) (f := f) (Finset.subset_univ _)
  have e : (mYa.access (Rect.unit (s := S4096x128) ![0, 0] S4096x128.size inb)).write (Elt F) f w Finset.univ = w := Memref.write_access_unit_zero_univ (Elt F) cc0_scratch3 zeros2 inb f w
  rw [e] at h
  exact h

/-- A read of all of Yb. -/
theorem wp_ldYb (c : Dev nD) {f : S4096x128.Idx → F .bf16} {inb} {hl} {α : Type} {Q : α → sProp 𝕄}
    {kk : (S4096x128.Idx → Elt F .bf16) → Prog (TpuEff nD τ sig (Elt F) Λ₀ .tc) α} :
    (lc c cc0_scratch4 ↦{fullShare} f)
      ⊢ iprop((iprop(lc c cc0_scratch4 ↦{fullShare} f) -∗ wp frame (wpE (defs₀ (F := F)) Variants.none c none) Set.univ (kk f) Q)
        -∗ wp frame (wpE (defs₀ (F := F)) Variants.none c none) Set.univ (.op (.load mYb (Rect.unit (s := S4096x128) ![0, 0] S4096x128.size inb).toLoadRect hl) kk) Q) := by
  have h := wp_load (Γ := .empty) (defs := defs₀ (F := F)) Variants.none (c : Thread nD τ) none Set.univ (Q := Q) (m := mYb) (r := (Rect.unit (s := S4096x128) ![0, 0] S4096x128.size inb).toLoadRect)
    (hl := hl) (k := kk) (S := Finset.univ) (q := fullShare) (f := f) (Finset.subset_univ _)
  have e : mYb.view.readAt (Elt F) (Rect.unit (s := S4096x128) ![0, 0] S4096x128.size inb).toLoadRect f = f := Memref.readAt_unit_zero (Elt F) cc0_scratch4 zeros2 inb f
  rw [e] at h
  exact h

/-- A write of all of Yb. -/
theorem wp_stYb (c : Dev nD) {f w : S4096x128.Idx → F .bf16} {inb} {hx} {hm} {α : Type} {Q : α → sProp 𝕄}
    {kk : PUnit → Prog (TpuEff nD τ sig (Elt F) Λ₀ .tc) α} :
    (lc c cc0_scratch4 ↦{fullShare} f)
      ⊢ iprop((iprop(lc c cc0_scratch4 ↦{fullShare} w) -∗ wp frame (wpE (defs₀ (F := F)) Variants.none c none) Set.univ (kk ⟨⟩) Q)
        -∗ wp frame (wpE (defs₀ (F := F)) Variants.none c none) Set.univ (.op (.store mYb (Rect.unit (s := S4096x128) ![0, 0] S4096x128.size inb) w Finset.univ hx hm) kk) Q) := by
  have h := wp_store (Γ := .empty) (defs := defs₀ (F := F)) Variants.none (c : Thread nD τ) none Set.univ (Q := Q) (m := mYb) (r := Rect.unit (s := S4096x128) ![0, 0] S4096x128.size inb)
    (w := w) (Mk := Finset.univ) (hx := hx) (hm := hm) (k := kk) (S := Finset.univ) (f := f) (Finset.subset_univ _)
  have e : (mYb.access (Rect.unit (s := S4096x128) ![0, 0] S4096x128.size inb)).write (Elt F) f w Finset.univ = w := Memref.write_access_unit_zero_univ (Elt F) cc0_scratch4 zeros2 inb f w
  rw [e] at h
  exact h

variable (c : Dev nD) (i : grid0.Coords)
  (arg5 : Memref sig .tc .vmem S1x2048x1024 .f32) (harg5 : arg5.IsWhole) (arg6 : Memref sig .tc .vmem S1x512x2048 .f32) (harg6 : arg6.IsWhole)

/-- The product, and the first four strided writes. -/
theorem part5_run (v116 v117 v118 v119 v120 v121 v122 v123 v124 v125 v126 v127 v128 v129 v130 v131 : Vec F S256x128 .f32) (gu : S2048x1024.Idx → F .bf16) (dn : S512x2048.Idx → F .bf16) (f : S4096x128.Idx → F .f32)
    {α : Type} {k : (Σ' (_ : FVec F S256x2048 .f32), FVec F S256x128 .f32) → Prog (TpuEff nD τ sig (Elt F) Λ₀ .tc) α} {Q : α → sProp 𝕄} :
    iprop((lc c cc0_scratch6 ↦{fullShare} gu) ∗ (lc c cc0_scratch7 ↦{fullShare} dn) ∗ (lc c cc0_scratch5 ↦{fullShare} f))
      ⊢ iprop((iprop((lc c cc0_scratch6 ↦{fullShare} gu) ∗ (lc c cc0_scratch7 ↦{fullShare} dn)
          ∗ (lc c cc0_scratch5 ↦{fullShare} (stw 3 inb_S4096x128_S256x128_3_0_s_16_1 (k0_pay11 v116 v117 v118 v119 v120 v121 v122 v123 v124 v125 v126 v127 v128 v129 v130 v131 gu dn) (stw 2 inb_S4096x128_S256x128_2_0_s_16_1 (k0_pay10 v116 v117 v118 v119 v120 v121 v122 v123 v124 v125 v126 v127 v128 v129 v130 v131 gu dn) (stw 1 inb_S4096x128_S256x128_1_0_s_16_1 (k0_pay9 v116 v117 v118 v119 v120 v121 v122 v123 v124 v125 v126 v127 v128 v129 v130 v131 gu dn) (stw 0 inb_S4096x128_S256x128_0_0_s_16_1 (k0_pay8 v116 v117 v118 v119 v120 v121 v122 v123 v124 v125 v126 v127 v128 v129 v130 v131 gu dn) (f)))))))
          -∗ wp frame (wpE (defs₀ (F := F)) Variants.none c none) Set.univ (k ⟨k0_pay7 v116 v117 v118 v119 v120 v121 v122 v123 v124 v125 v126 v127 v128 v129 v130 v131 gu dn, k0_pay12 v116 v117 v118 v119 v120 v121 v122 v123 v124 v125 v126 v127 v128 v129 v130 v131 gu dn⟩) Q)
        -∗ wp frame (wpE (defs₀ (F := F)) Variants.none c none) Set.univ (k0_part5 (F := F) i mTe (Memref.isWhole_whole _) mNu (Memref.isWhole_whole _) mMeta (Memref.isWhole_whole _) mX (Memref.isWhole_whole _) arg5 harg5 arg6 harg6 mY (Memref.isWhole_whole _) mRing (Memref.isWhole_whole _) mXa (Memref.isWhole_whole _) mXb (Memref.isWhole_whole _) mYa (Memref.isWhole_whole _) mYb (Memref.isWhole_whole _) mStage (Memref.isWhole_whole _) mGu (Memref.isWhole_whole _) mDn (Memref.isWhole_whole _) cc0_scratch8 cc0_scratch9 cc0_scratch10 v116 v117 v118 v119 v120 v121 v122 v123 v124 v125 v126 v127 v128 v129 v130 v131 >>= k) Q) := by
  rw [wp_bind]
  rw [k0_part5_eq_skeleton]
  unfold k0_part5_skel
  iintro ⟨Hg, Hd, Hs⟩ Hk
  iapply (wp_ldGu c) $$ Hg
  iintro Hg
  iapply (wp_ldDn c) $$ Hd
  iintro Hd
  iapply (wp_load Variants.none (c : Thread nD τ) none Set.univ (m := mStage) (S := Finset.univ) (q := fullShare) (f := _) (Finset.subset_univ _)) $$ Hs
  iintro Hs
  iapply (wp_stw c 0 inb_S4096x128_S256x128_0_0_s_16_1 _) $$ Hs
  iintro Hs
  iapply (wp_load Variants.none (c : Thread nD τ) none Set.univ (m := mStage) (S := Finset.univ) (q := fullShare) (f := _) (Finset.subset_univ _)) $$ Hs
  iintro Hs
  iapply (wp_stw c 1 inb_S4096x128_S256x128_1_0_s_16_1 _) $$ Hs
  iintro Hs
  iapply (wp_load Variants.none (c : Thread nD τ) none Set.univ (m := mStage) (S := Finset.univ) (q := fullShare) (f := _) (Finset.subset_univ _)) $$ Hs
  iintro Hs
  iapply (wp_stw c 2 inb_S4096x128_S256x128_2_0_s_16_1 _) $$ Hs
  iintro Hs
  iapply (wp_load Variants.none (c : Thread nD τ) none Set.univ (m := mStage) (S := Finset.univ) (q := fullShare) (f := _) (Finset.subset_univ _)) $$ Hs
  iintro Hs
  iapply (wp_stw c 3 inb_S4096x128_S256x128_3_0_s_16_1 _) $$ Hs
  iintro Hs
  iapply (wp_load Variants.none (c : Thread nD τ) none Set.univ (m := mStage) (S := Finset.univ) (q := fullShare) (f := _) (Finset.subset_univ _)) $$ Hs
  iintro Hs
  iapply (wp_done c)
  iapply Hk
  isplitl [Hg]; · iexact Hg
  isplitl [Hd]; · iexact Hd
  iexact Hs

/-- The next nine strided writes. -/
theorem part6_run (O : FVec F S256x2048 .f32) (u : FVec F S256x128 .f32) (f : S4096x128.Idx → F .f32)
    {α : Type} {k : FVec F S256x128 .f32 → Prog (TpuEff nD τ sig (Elt F) Λ₀ .tc) α} {Q : α → sProp 𝕄} :
    (lc c cc0_scratch5 ↦{fullShare} f)
      ⊢ iprop((iprop(lc c cc0_scratch5 ↦{fullShare} (stw 12 inb_S4096x128_S256x128_12_0_s_16_1 (k0_pay21 O) (stw 11 inb_S4096x128_S256x128_11_0_s_16_1 (k0_pay20 O) (stw 10 inb_S4096x128_S256x128_10_0_s_16_1 (k0_pay19 O) (stw 9 inb_S4096x128_S256x128_9_0_s_16_1 (k0_pay18 O) (stw 8 inb_S4096x128_S256x128_8_0_s_16_1 (k0_pay17 O) (stw 7 inb_S4096x128_S256x128_7_0_s_16_1 (k0_pay16 O) (stw 6 inb_S4096x128_S256x128_6_0_s_16_1 (k0_pay15 O) (stw 5 inb_S4096x128_S256x128_5_0_s_16_1 (k0_pay14 O) (stw 4 inb_S4096x128_S256x128_4_0_s_16_1 (k0_pay13 u) (f)))))))))))
          -∗ wp frame (wpE (defs₀ (F := F)) Variants.none c none) Set.univ (k (k0_pay22 O)) Q)
        -∗ wp frame (wpE (defs₀ (F := F)) Variants.none c none) Set.univ (k0_part6 (F := F) i mTe (Memref.isWhole_whole _) mNu (Memref.isWhole_whole _) mMeta (Memref.isWhole_whole _) mX (Memref.isWhole_whole _) arg5 harg5 arg6 harg6 mY (Memref.isWhole_whole _) mRing (Memref.isWhole_whole _) mXa (Memref.isWhole_whole _) mXb (Memref.isWhole_whole _) mYa (Memref.isWhole_whole _) mYb (Memref.isWhole_whole _) mStage (Memref.isWhole_whole _) mGu (Memref.isWhole_whole _) mDn (Memref.isWhole_whole _) cc0_scratch8 cc0_scratch9 cc0_scratch10 O u >>= k) Q) := by
  rw [wp_bind]
  rw [k0_part6_eq_skeleton]
  unfold k0_part6_skel
  iintro Hs Hk
  iapply (wp_stw c 4 inb_S4096x128_S256x128_4_0_s_16_1 _) $$ Hs
  iintro Hs
  iapply (wp_load Variants.none (c : Thread nD τ) none Set.univ (m := mStage) (S := Finset.univ) (q := fullShare) (f := _) (Finset.subset_univ _)) $$ Hs
  iintro Hs
  iapply (wp_stw c 5 inb_S4096x128_S256x128_5_0_s_16_1 _) $$ Hs
  iintro Hs
  iapply (wp_load Variants.none (c : Thread nD τ) none Set.univ (m := mStage) (S := Finset.univ) (q := fullShare) (f := _) (Finset.subset_univ _)) $$ Hs
  iintro Hs
  iapply (wp_stw c 6 inb_S4096x128_S256x128_6_0_s_16_1 _) $$ Hs
  iintro Hs
  iapply (wp_load Variants.none (c : Thread nD τ) none Set.univ (m := mStage) (S := Finset.univ) (q := fullShare) (f := _) (Finset.subset_univ _)) $$ Hs
  iintro Hs
  iapply (wp_stw c 7 inb_S4096x128_S256x128_7_0_s_16_1 _) $$ Hs
  iintro Hs
  iapply (wp_load Variants.none (c : Thread nD τ) none Set.univ (m := mStage) (S := Finset.univ) (q := fullShare) (f := _) (Finset.subset_univ _)) $$ Hs
  iintro Hs
  iapply (wp_stw c 8 inb_S4096x128_S256x128_8_0_s_16_1 _) $$ Hs
  iintro Hs
  iapply (wp_load Variants.none (c : Thread nD τ) none Set.univ (m := mStage) (S := Finset.univ) (q := fullShare) (f := _) (Finset.subset_univ _)) $$ Hs
  iintro Hs
  iapply (wp_stw c 9 inb_S4096x128_S256x128_9_0_s_16_1 _) $$ Hs
  iintro Hs
  iapply (wp_load Variants.none (c : Thread nD τ) none Set.univ (m := mStage) (S := Finset.univ) (q := fullShare) (f := _) (Finset.subset_univ _)) $$ Hs
  iintro Hs
  iapply (wp_stw c 10 inb_S4096x128_S256x128_10_0_s_16_1 _) $$ Hs
  iintro Hs
  iapply (wp_load Variants.none (c : Thread nD τ) none Set.univ (m := mStage) (S := Finset.univ) (q := fullShare) (f := _) (Finset.subset_univ _)) $$ Hs
  iintro Hs
  iapply (wp_stw c 11 inb_S4096x128_S256x128_11_0_s_16_1 _) $$ Hs
  iintro Hs
  iapply (wp_load Variants.none (c : Thread nD τ) none Set.univ (m := mStage) (S := Finset.univ) (q := fullShare) (f := _) (Finset.subset_univ _)) $$ Hs
  iintro Hs
  iapply (wp_stw c 12 inb_S4096x128_S256x128_12_0_s_16_1 _) $$ Hs
  iintro Hs
  iapply (wp_done c)
  iapply Hk
  iexact Hs

/-- The product, and the first four strided writes. -/
theorem part10_run (v116 v117 v118 v119 v120 v121 v122 v123 v124 v125 v126 v127 v128 v129 v130 v131 : Vec F S256x128 .f32) (gu : S2048x1024.Idx → F .bf16) (dn : S512x2048.Idx → F .bf16) (f : S4096x128.Idx → F .f32)
    {α : Type} {k : (Σ' (_ : FVec F S256x2048 .f32), FVec F S256x128 .f32) → Prog (TpuEff nD τ sig (Elt F) Λ₀ .tc) α} {Q : α → sProp 𝕄} :
    iprop((lc c cc0_scratch6 ↦{fullShare} gu) ∗ (lc c cc0_scratch7 ↦{fullShare} dn) ∗ (lc c cc0_scratch5 ↦{fullShare} f))
      ⊢ iprop((iprop((lc c cc0_scratch6 ↦{fullShare} gu) ∗ (lc c cc0_scratch7 ↦{fullShare} dn)
          ∗ (lc c cc0_scratch5 ↦{fullShare} (stw 3 inb_S4096x128_S256x128_3_0_s_16_1 (k0_pay27 v116 v117 v118 v119 v120 v121 v122 v123 v124 v125 v126 v127 v128 v129 v130 v131 gu dn) (stw 2 inb_S4096x128_S256x128_2_0_s_16_1 (k0_pay26 v116 v117 v118 v119 v120 v121 v122 v123 v124 v125 v126 v127 v128 v129 v130 v131 gu dn) (stw 1 inb_S4096x128_S256x128_1_0_s_16_1 (k0_pay25 v116 v117 v118 v119 v120 v121 v122 v123 v124 v125 v126 v127 v128 v129 v130 v131 gu dn) (stw 0 inb_S4096x128_S256x128_0_0_s_16_1 (k0_pay24 v116 v117 v118 v119 v120 v121 v122 v123 v124 v125 v126 v127 v128 v129 v130 v131 gu dn) (f)))))))
          -∗ wp frame (wpE (defs₀ (F := F)) Variants.none c none) Set.univ (k ⟨k0_pay23 v116 v117 v118 v119 v120 v121 v122 v123 v124 v125 v126 v127 v128 v129 v130 v131 gu dn, k0_pay28 v116 v117 v118 v119 v120 v121 v122 v123 v124 v125 v126 v127 v128 v129 v130 v131 gu dn⟩) Q)
        -∗ wp frame (wpE (defs₀ (F := F)) Variants.none c none) Set.univ (k0_part10 (F := F) i mTe (Memref.isWhole_whole _) mNu (Memref.isWhole_whole _) mMeta (Memref.isWhole_whole _) mX (Memref.isWhole_whole _) arg5 harg5 arg6 harg6 mY (Memref.isWhole_whole _) mRing (Memref.isWhole_whole _) mXa (Memref.isWhole_whole _) mXb (Memref.isWhole_whole _) mYa (Memref.isWhole_whole _) mYb (Memref.isWhole_whole _) mStage (Memref.isWhole_whole _) mGu (Memref.isWhole_whole _) mDn (Memref.isWhole_whole _) cc0_scratch8 cc0_scratch9 cc0_scratch10 v116 v117 v118 v119 v120 v121 v122 v123 v124 v125 v126 v127 v128 v129 v130 v131 >>= k) Q) := by
  rw [wp_bind]
  rw [k0_part10_eq_skeleton]
  unfold k0_part10_skel
  iintro ⟨Hg, Hd, Hs⟩ Hk
  iapply (wp_ldGu c) $$ Hg
  iintro Hg
  iapply (wp_ldDn c) $$ Hd
  iintro Hd
  iapply (wp_load Variants.none (c : Thread nD τ) none Set.univ (m := mStage) (S := Finset.univ) (q := fullShare) (f := _) (Finset.subset_univ _)) $$ Hs
  iintro Hs
  iapply (wp_stw c 0 inb_S4096x128_S256x128_0_0_s_16_1 _) $$ Hs
  iintro Hs
  iapply (wp_load Variants.none (c : Thread nD τ) none Set.univ (m := mStage) (S := Finset.univ) (q := fullShare) (f := _) (Finset.subset_univ _)) $$ Hs
  iintro Hs
  iapply (wp_stw c 1 inb_S4096x128_S256x128_1_0_s_16_1 _) $$ Hs
  iintro Hs
  iapply (wp_load Variants.none (c : Thread nD τ) none Set.univ (m := mStage) (S := Finset.univ) (q := fullShare) (f := _) (Finset.subset_univ _)) $$ Hs
  iintro Hs
  iapply (wp_stw c 2 inb_S4096x128_S256x128_2_0_s_16_1 _) $$ Hs
  iintro Hs
  iapply (wp_load Variants.none (c : Thread nD τ) none Set.univ (m := mStage) (S := Finset.univ) (q := fullShare) (f := _) (Finset.subset_univ _)) $$ Hs
  iintro Hs
  iapply (wp_stw c 3 inb_S4096x128_S256x128_3_0_s_16_1 _) $$ Hs
  iintro Hs
  iapply (wp_load Variants.none (c : Thread nD τ) none Set.univ (m := mStage) (S := Finset.univ) (q := fullShare) (f := _) (Finset.subset_univ _)) $$ Hs
  iintro Hs
  iapply (wp_done c)
  iapply Hk
  isplitl [Hg]; · iexact Hg
  isplitl [Hd]; · iexact Hd
  iexact Hs

/-- The next nine strided writes. -/
theorem part11_run (O : FVec F S256x2048 .f32) (u : FVec F S256x128 .f32) (f : S4096x128.Idx → F .f32)
    {α : Type} {k : FVec F S256x128 .f32 → Prog (TpuEff nD τ sig (Elt F) Λ₀ .tc) α} {Q : α → sProp 𝕄} :
    (lc c cc0_scratch5 ↦{fullShare} f)
      ⊢ iprop((iprop(lc c cc0_scratch5 ↦{fullShare} (stw 12 inb_S4096x128_S256x128_12_0_s_16_1 (k0_pay37 O) (stw 11 inb_S4096x128_S256x128_11_0_s_16_1 (k0_pay36 O) (stw 10 inb_S4096x128_S256x128_10_0_s_16_1 (k0_pay35 O) (stw 9 inb_S4096x128_S256x128_9_0_s_16_1 (k0_pay34 O) (stw 8 inb_S4096x128_S256x128_8_0_s_16_1 (k0_pay33 O) (stw 7 inb_S4096x128_S256x128_7_0_s_16_1 (k0_pay32 O) (stw 6 inb_S4096x128_S256x128_6_0_s_16_1 (k0_pay31 O) (stw 5 inb_S4096x128_S256x128_5_0_s_16_1 (k0_pay30 O) (stw 4 inb_S4096x128_S256x128_4_0_s_16_1 (k0_pay29 u) (f)))))))))))
          -∗ wp frame (wpE (defs₀ (F := F)) Variants.none c none) Set.univ (k (k0_pay38 O)) Q)
        -∗ wp frame (wpE (defs₀ (F := F)) Variants.none c none) Set.univ (k0_part11 (F := F) i mTe (Memref.isWhole_whole _) mNu (Memref.isWhole_whole _) mMeta (Memref.isWhole_whole _) mX (Memref.isWhole_whole _) arg5 harg5 arg6 harg6 mY (Memref.isWhole_whole _) mRing (Memref.isWhole_whole _) mXa (Memref.isWhole_whole _) mXb (Memref.isWhole_whole _) mYa (Memref.isWhole_whole _) mYb (Memref.isWhole_whole _) mStage (Memref.isWhole_whole _) mGu (Memref.isWhole_whole _) mDn (Memref.isWhole_whole _) cc0_scratch8 cc0_scratch9 cc0_scratch10 O u >>= k) Q) := by
  rw [wp_bind]
  rw [k0_part11_eq_skeleton]
  unfold k0_part11_skel
  iintro Hs Hk
  iapply (wp_stw c 4 inb_S4096x128_S256x128_4_0_s_16_1 _) $$ Hs
  iintro Hs
  iapply (wp_load Variants.none (c : Thread nD τ) none Set.univ (m := mStage) (S := Finset.univ) (q := fullShare) (f := _) (Finset.subset_univ _)) $$ Hs
  iintro Hs
  iapply (wp_stw c 5 inb_S4096x128_S256x128_5_0_s_16_1 _) $$ Hs
  iintro Hs
  iapply (wp_load Variants.none (c : Thread nD τ) none Set.univ (m := mStage) (S := Finset.univ) (q := fullShare) (f := _) (Finset.subset_univ _)) $$ Hs
  iintro Hs
  iapply (wp_stw c 6 inb_S4096x128_S256x128_6_0_s_16_1 _) $$ Hs
  iintro Hs
  iapply (wp_load Variants.none (c : Thread nD τ) none Set.univ (m := mStage) (S := Finset.univ) (q := fullShare) (f := _) (Finset.subset_univ _)) $$ Hs
  iintro Hs
  iapply (wp_stw c 7 inb_S4096x128_S256x128_7_0_s_16_1 _) $$ Hs
  iintro Hs
  iapply (wp_load Variants.none (c : Thread nD τ) none Set.univ (m := mStage) (S := Finset.univ) (q := fullShare) (f := _) (Finset.subset_univ _)) $$ Hs
  iintro Hs
  iapply (wp_stw c 8 inb_S4096x128_S256x128_8_0_s_16_1 _) $$ Hs
  iintro Hs
  iapply (wp_load Variants.none (c : Thread nD τ) none Set.univ (m := mStage) (S := Finset.univ) (q := fullShare) (f := _) (Finset.subset_univ _)) $$ Hs
  iintro Hs
  iapply (wp_stw c 9 inb_S4096x128_S256x128_9_0_s_16_1 _) $$ Hs
  iintro Hs
  iapply (wp_load Variants.none (c : Thread nD τ) none Set.univ (m := mStage) (S := Finset.univ) (q := fullShare) (f := _) (Finset.subset_univ _)) $$ Hs
  iintro Hs
  iapply (wp_stw c 10 inb_S4096x128_S256x128_10_0_s_16_1 _) $$ Hs
  iintro Hs
  iapply (wp_load Variants.none (c : Thread nD τ) none Set.univ (m := mStage) (S := Finset.univ) (q := fullShare) (f := _) (Finset.subset_univ _)) $$ Hs
  iintro Hs
  iapply (wp_stw c 11 inb_S4096x128_S256x128_11_0_s_16_1 _) $$ Hs
  iintro Hs
  iapply (wp_load Variants.none (c : Thread nD τ) none Set.univ (m := mStage) (S := Finset.univ) (q := fullShare) (f := _) (Finset.subset_univ _)) $$ Hs
  iintro Hs
  iapply (wp_stw c 12 inb_S4096x128_S256x128_12_0_s_16_1 _) $$ Hs
  iintro Hs
  iapply (wp_done c)
  iapply Hk
  iexact Hs

end Cert.Experts

end
-- ==== Proof.Half.lean ====
/-
  The copies of one step: a tile's gathers waited for, the scatters of two tiles ago waited for, the next gathers and
  scatters started, and the last step's own scatters and waits.
-/
module

public import proofs.«01_k».proof.Proof.Tile

@[expose] public section

noncomputable section

namespace Cert.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable (c : Dev nD) {te : S320.Idx → BitVec 32} {nu : ℕ} {mt : Meta} (hp : Plan te nu mt) (i : grid0.Coords)
  (arg5 : Memref sig .tc .vmem S1x2048x1024 .f32) (harg5 : arg5.IsWhole) (arg6 : Memref sig .tc .vmem S1x512x2048 .f32) (harg6 : arg6.IsWhole)

/-- The segment of the ring that holds entry `a`. -/
abbrev RHeld (c : Dev nD) (mt : Meta) (a : ℕ) : sProp 𝕄 := lc c cc0_scratch0 ↦[seg a]{fullShare} slotOf mt a

include hp in
/-- The gathers and the scatters of two steps ago waited for, the next gathers started (even steps). -/
theorem part3_run (v0 : BitVec 32) (h2 : k0_cond2 i v0 = 1#1) (h4 : k0_cond4 i = 1#1) (G f : S4096x128.Idx → F .f32) (X : S131072x128.Idx → F .f32)
    (P : sProp 𝕄) {α : Type} {k : (Σ' (_ : BitVec 32), BitVec 32) → Prog (TpuEff nD τ sig (Elt F) Λ₀ .tc) α} {Q : α → sProp 𝕄} :
    iprop((∃ W, owes (c : Thread nD τ) 0 W) ∗ Flight c 8 65536 iprop((lc c cc0_scratch1 ↦{fullShare} G) ∗ (lc c main_arg3 ↦{fullShare} X)) ∗ Flight c 10 32768 P
        ∗ RHeld c mt ((i 0).val + 2) ∗ (lc c cc0_scratch2 ↦{fullShare} f) ∗ semVal ((c : Thread nD τ), .dma 9) 0)
      ⊢ iprop((∀ r, iprop((∃ W, owes (c : Thread nD τ) 0 W) ∗ semVal ((c : Thread nD τ), .dma 8) 0 ∗ semVal ((c : Thread nD τ), .dma 10) 0 ∗ (lc c cc0_scratch1 ↦{fullShare} G) ∗ P ∗ RHeld c mt ((i 0).val + 2)
          ∗ Flight c 9 65536 iprop((lc c cc0_scratch2 ↦{fullShare} gathered X (gi mt ((i 0).val + 2))) ∗ (lc c main_arg3 ↦{fullShare} X)))
          -∗ wp frame (wpE (defs₀ (F := F)) Variants.none c none) Set.univ (k r) Q)
        -∗ wp frame (wpE (defs₀ (F := F)) Variants.none c none) Set.univ (k0_part3 (F := F) i mTe (Memref.isWhole_whole _) mNu (Memref.isWhole_whole _) mMeta (Memref.isWhole_whole _) mX (Memref.isWhole_whole _) arg5 harg5 arg6 harg6 mY (Memref.isWhole_whole _) mRing (Memref.isWhole_whole _) mXa (Memref.isWhole_whole _) mXb (Memref.isWhole_whole _) mYa (Memref.isWhole_whole _) mYb (Memref.isWhole_whole _) mStage (Memref.isWhole_whole _) mGu (Memref.isWhole_whole _) mDn (Memref.isWhole_whole _) cc0_scratch8 cc0_scratch9 cc0_scratch10 (BitVec.ofNat 32 (i 0).val) v0 h2 h4 >>= k) Q) := by
  rw [wp_bind, k0_part3_eq_skeleton]
  unfold k0_part3_skel
  iintro ⟨HO, HG, HS, HR, Hf, Hv⟩ Hk
  iapply (wp_waitFlight c (sem := 8) (J := 65536) (by rfl)) $$ [HG HO]
  · isplitl [HG] <;> iassumption
  iintro ⟨⟨HG, HX⟩, Hg0, HO⟩
  iapply (wp_waitFlight c (sem := 10) (J := 32768) (by rfl)) $$ [HS HO]
  · isplitl [HS] <;> iassumption
  iintro ⟨HP, Hs0, HO⟩
  iapply (wp_gatherLoop c (ℓ := lc c cc0_scratch2) (ℓx := lc c main_arg3) (ℓw := lc c cc0_scratch0) (I := rowsI) (f := f)
    (G := gathered X (gi mt ((i 0).val + 2))) (X := X) (sem := 9) rowsI_disjoint rowsI_union (by decide)
    (fun t => trip_t2 c hp i arg5 harg5 arg6 harg6 v0 h2 h4 f X t)) $$ [HR Hf HX Hv]
  · isplitl [HR]; · iexact HR
    isplitl [Hf]; · iexact Hf
    isplitl [HX] <;> iassumption
  iintro ⟨HR, HF⟩
  iapply (wp_done c)
  iapply Hk
  isplitl [HO]; · iexact HO
  isplitl [Hg0]; · iexact Hg0
  isplitl [Hs0]; · iexact Hs0
  isplitl [HG]; · iexact HG
  isplitl [HP]; · iexact HP
  isplitl [HR]; · iexact HR
  iexact HF

include hp in
/-- The scatters of the tile before started, and the tile's rows read (even steps). -/
theorem part4_run (v111 c2 : BitVec 32) (v0 : BitVec 32) (h2 : k0_cond2 i v0 = 1#1) (h4 : k0_cond4 i = 1#1) (G : S4096x128.Idx → F .f32)
    (A : S4096x128.Idx → F .bf16) (Y : S1056768x128.Idx → F .bf16)
    {α : Type} {k : _ → Prog (TpuEff nD τ sig (Elt F) Λ₀ .tc) α} {Q : α → sProp 𝕄} :
    iprop(RHeld c mt (i 0).val ∗ (lc c main_v0 ↦[dset (sd mt ((i 0).val + 1))]{fullShare} Y) ∗ (lc c cc0_scratch4 ↦{fullShare} A) ∗ semVal ((c : Thread nD τ), .dma 11) 0 ∗ (lc c cc0_scratch1 ↦{fullShare} G))
      ⊢ iprop((iprop(RHeld c mt (i 0).val
          ∗ Flight c 11 32768 iprop((lc c main_v0 ↦[dset (sd mt ((i 0).val + 1))]{fullShare} scat (sd mt ((i 0).val + 1)) A Y) ∗ (lc c cc0_scratch4 ↦{fullShare} A))
          ∗ (lc c cc0_scratch1 ↦{fullShare} G))
          -∗ wp frame (wpE (defs₀ (F := F)) Variants.none c none) Set.univ (k ⟨ldx 0 inb_S4096x128_S256x128_0_0_s_16_1 G, ldx 1 inb_S4096x128_S256x128_1_0_s_16_1 G, ldx 2 inb_S4096x128_S256x128_2_0_s_16_1 G, ldx 3 inb_S4096x128_S256x128_3_0_s_16_1 G, ldx 4 inb_S4096x128_S256x128_4_0_s_16_1 G, ldx 5 inb_S4096x128_S256x128_5_0_s_16_1 G, ldx 6 inb_S4096x128_S256x128_6_0_s_16_1 G, ldx 7 inb_S4096x128_S256x128_7_0_s_16_1 G, ldx 8 inb_S4096x128_S256x128_8_0_s_16_1 G, ldx 9 inb_S4096x128_S256x128_9_0_s_16_1 G, ldx 10 inb_S4096x128_S256x128_10_0_s_16_1 G, ldx 11 inb_S4096x128_S256x128_11_0_s_16_1 G, ldx 12 inb_S4096x128_S256x128_12_0_s_16_1 G, ldx 13 inb_S4096x128_S256x128_13_0_s_16_1 G, ldx 14 inb_S4096x128_S256x128_14_0_s_16_1 G, ldx 15 inb_S4096x128_S256x128_15_0_s_16_1 G⟩) Q)
        -∗ wp frame (wpE (defs₀ (F := F)) Variants.none c none) Set.univ (k0_part4 (F := F) i mTe (Memref.isWhole_whole _) mNu (Memref.isWhole_whole _) mMeta (Memref.isWhole_whole _) mX (Memref.isWhole_whole _) arg5 harg5 arg6 harg6 mY (Memref.isWhole_whole _) mRing (Memref.isWhole_whole _) mXa (Memref.isWhole_whole _) mXb (Memref.isWhole_whole _) mYa (Memref.isWhole_whole _) mYb (Memref.isWhole_whole _) mStage (Memref.isWhole_whole _) mGu (Memref.isWhole_whole _) mDn (Memref.isWhole_whole _) cc0_scratch8 cc0_scratch9 cc0_scratch10 v0 h2 h4 v111 c2 >>= k) Q) := by
  have hi := i_lt i
  rw [wp_bind, k0_part4_eq_skeleton]
  unfold k0_part4_skel
  iintro ⟨HR, HY, HA, Hv, HG⟩ Hk
  iapply (wp_scatterLoop c (ℓ := lc c cc0_scratch4) (ℓy := lc c main_v0) (ℓw := lc c cc0_scratch0) (I := rowsI) (A := A) (J := (fun r => blk 1056768 (sd mt ((i 0).val + 1) r)))
    (Y := Y) (Y' := scat (sd mt ((i 0).val + 1)) A Y) (sem := 11) rowsI_disjoint rowsI_union
    (fun r r' h => blk_disjoint (sd_inj hp (k := (i 0).val + 1) (by omega) r r' h)) (by decide)
    (fun t => trip_t3 c hp i arg5 harg5 arg6 harg6 v111 c2 v0 h2 h4 A Y t)) $$ [HR HY HA Hv]
  · isplitl [HR]; · iexact HR
    isplitl [HY]; · iexact HY
    isplitl [HA] <;> iassumption
  iintro ⟨HR, HF⟩
  iapply (wp_load Variants.none (c : Thread nD τ) none Set.univ (m := mXa) (S := Finset.univ) (q := fullShare) (f := G) (Finset.subset_univ _)) $$ HG
  iintro HG
  iapply (wp_load Variants.none (c : Thread nD τ) none Set.univ (m := mXa) (S := Finset.univ) (q := fullShare) (f := G) (Finset.subset_univ _)) $$ HG
  iintro HG
  iapply (wp_load Variants.none (c : Thread nD τ) none Set.univ (m := mXa) (S := Finset.univ) (q := fullShare) (f := G) (Finset.subset_univ _)) $$ HG
  iintro HG
  iapply (wp_load Variants.none (c : Thread nD τ) none Set.univ (m := mXa) (S := Finset.univ) (q := fullShare) (f := G) (Finset.subset_univ _)) $$ HG
  iintro HG
  iapply (wp_load Variants.none (c : Thread nD τ) none Set.univ (m := mXa) (S := Finset.univ) (q := fullShare) (f := G) (Finset.subset_univ _)) $$ HG
  iintro HG
  iapply (wp_load Variants.none (c : Thread nD τ) none Set.univ (m := mXa) (S := Finset.univ) (q := fullShare) (f := G) (Finset.subset_univ _)) $$ HG
  iintro HG
  iapply (wp_load Variants.none (c : Thread nD τ) none Set.univ (m := mXa) (S := Finset.univ) (q := fullShare) (f := G) (Finset.subset_univ _)) $$ HG
  iintro HG
  iapply (wp_load Variants.none (c : Thread nD τ) none Set.univ (m := mXa) (S := Finset.univ) (q := fullShare) (f := G) (Finset.subset_univ _)) $$ HG
  iintro HG
  iapply (wp_load Variants.none (c : Thread nD τ) none Set.univ (m := mXa) (S := Finset.univ) (q := fullShare) (f := G) (Finset.subset_univ _)) $$ HG
  iintro HG
  iapply (wp_load Variants.none (c : Thread nD τ) none Set.univ (m := mXa) (S := Finset.univ) (q := fullShare) (f := G) (Finset.subset_univ _)) $$ HG
  iintro HG
  iapply (wp_load Variants.none (c : Thread nD τ) none Set.univ (m := mXa) (S := Finset.univ) (q := fullShare) (f := G) (Finset.subset_univ _)) $$ HG
  iintro HG
  iapply (wp_load Variants.none (c : Thread nD τ) none Set.univ (m := mXa) (S := Finset.univ) (q := fullShare) (f := G) (Finset.subset_univ _)) $$ HG
  iintro HG
  iapply (wp_load Variants.none (c : Thread nD τ) none Set.univ (m := mXa) (S := Finset.univ) (q := fullShare) (f := G) (Finset.subset_univ _)) $$ HG
  iintro HG
  iapply (wp_load Variants.none (c : Thread nD τ) none Set.univ (m := mXa) (S := Finset.univ) (q := fullShare) (f := G) (Finset.subset_univ _)) $$ HG
  iintro HG
  iapply (wp_load Variants.none (c : Thread nD τ) none Set.univ (m := mXa) (S := Finset.univ) (q := fullShare) (f := G) (Finset.subset_univ _)) $$ HG
  iintro HG
  iapply (wp_load Variants.none (c : Thread nD τ) none Set.univ (m := mXa) (S := Finset.univ) (q := fullShare) (f := G) (Finset.subset_univ _)) $$ HG
  iintro HG
  iapply (wp_done c)
  iapply Hk
  isplitl [HR]; · iexact HR
  isplitl [HF]; · iexact HF
  iexact HG

include hp in
/-- The last step's own scatters, and every copy still in flight waited for (even steps). -/
theorem part2_run (v0 : BitVec 32) (h2 : k0_cond2 i v0 = 1#1) (h4 : k0_cond4 i = 1#1) (h5 : k0_cond5 i v0 = 1#1)
    (A : S4096x128.Idx → F .bf16) (Y : S1056768x128.Idx → F .bf16) (P P' : sProp 𝕄)
    {α : Type} {k : (Σ' (_ : BitVec 32) (_ : BitVec 32), BitVec 32) → Prog (TpuEff nD τ sig (Elt F) Λ₀ .tc) α} {Q : α → sProp 𝕄} :
    iprop((∃ W, owes (c : Thread nD τ) 0 W) ∗ RHeld c mt ((i 0).val + 1) ∗ (lc c main_v0 ↦[dset (sd mt ((i 0).val + 1 + 1))]{fullShare} Y) ∗ (lc c cc0_scratch3 ↦{fullShare} A) ∗ semVal ((c : Thread nD τ), .dma 10) 0
        ∗ Flight c 11 32768 P ∗ Flight c 9 65536 P')
      ⊢ iprop((∀ r, iprop((∃ W, owes (c : Thread nD τ) 0 W) ∗ RHeld c mt ((i 0).val + 1)
          ∗ (lc c main_v0 ↦[dset (sd mt ((i 0).val + 1 + 1))]{fullShare} scat (sd mt ((i 0).val + 1 + 1)) A Y) ∗ (lc c cc0_scratch3 ↦{fullShare} A)
          ∗ semVal ((c : Thread nD τ), .dma 10) 0 ∗ semVal ((c : Thread nD τ), .dma 11) 0 ∗ semVal ((c : Thread nD τ), .dma 9) 0 ∗ P ∗ P')
          -∗ wp frame (wpE (defs₀ (F := F)) Variants.none c none) Set.univ (k r) Q)
        -∗ wp frame (wpE (defs₀ (F := F)) Variants.none c none) Set.univ (k0_part2 (F := F) i mTe (Memref.isWhole_whole _) mNu (Memref.isWhole_whole _) mMeta (Memref.isWhole_whole _) mX (Memref.isWhole_whole _) arg5 harg5 arg6 harg6 mY (Memref.isWhole_whole _) mRing (Memref.isWhole_whole _) mXa (Memref.isWhole_whole _) mXb (Memref.isWhole_whole _) mYa (Memref.isWhole_whole _) mYb (Memref.isWhole_whole _) mStage (Memref.isWhole_whole _) mGu (Memref.isWhole_whole _) mDn (Memref.isWhole_whole _) cc0_scratch8 cc0_scratch9 cc0_scratch10 (BitVec.ofNat 32 (i 0).val) v0 h2 h4 h5 >>= k) Q) := by
  have hi := i_lt i
  rw [wp_bind, k0_part2_eq_skeleton]
  unfold k0_part2_skel
  iintro ⟨HO, HR, HY, HA, Hv, HP, HP'⟩ Hk
  iapply (wp_scatterLoop c (ℓ := lc c cc0_scratch3) (ℓy := lc c main_v0) (ℓw := lc c cc0_scratch0) (I := rowsI) (A := A) (J := (fun r => blk 1056768 (sd mt ((i 0).val + 1 + 1) r)))
    (Y := Y) (Y' := scat (sd mt ((i 0).val + 1 + 1)) A Y) (sem := 10) rowsI_disjoint rowsI_union
    (fun r r' h => blk_disjoint (sd_inj hp (k := (i 0).val + 1 + 1) (by omega) r r' h)) (by decide)
    (fun t => trip_t4 c hp i arg5 harg5 arg6 harg6 v0 h2 h4 h5 A Y t)) $$ [HR HY HA Hv]
  · isplitl [HR]; · iexact HR
    isplitl [HY]; · iexact HY
    isplitl [HA] <;> iassumption
  iintro ⟨HR, HF⟩
  iapply (wp_waitFlight c (sem := 11) (J := 32768) (by rfl)) $$ [HP HO]
  · isplitl [HP] <;> iassumption
  iintro ⟨HP, Hs1, HO⟩
  iapply (wp_waitFlight c (sem := 10) (J := 32768) (by rfl)) $$ [HF HO]
  · isplitl [HF] <;> iassumption
  iintro ⟨⟨HY, HA⟩, Hs0, HO⟩
  iapply (wp_waitFlight c (sem := 9) (J := 65536) (by rfl)) $$ [HP' HO]
  · isplitl [HP'] <;> iassumption
  iintro ⟨HP', Hg1, HO⟩
  iapply (wp_done c)
  iapply Hk
  isplitl [HO]; · iexact HO
  isplitl [HR]; · iexact HR
  isplitl [HY]; · iexact HY
  isplitl [HA]; · iexact HA
  isplitl [Hs0]; · iexact Hs0
  isplitl [Hs1]; · iexact Hs1
  isplitl [Hg1]; · iexact Hg1
  isplitl [HP] <;> iassumption

include hp in
/-- The gathers and the scatters of two steps ago waited for, the next gathers started (odd steps). -/
theorem part8_run (v0 : BitVec 32) (h2 : k0_cond2 i v0 = 1#1) (h6 : k0_cond6 i = 1#1) (G f : S4096x128.Idx → F .f32) (X : S131072x128.Idx → F .f32)
    (P : sProp 𝕄) {α : Type} {k : (Σ' (_ : BitVec 32), BitVec 32) → Prog (TpuEff nD τ sig (Elt F) Λ₀ .tc) α} {Q : α → sProp 𝕄} :
    iprop((∃ W, owes (c : Thread nD τ) 0 W) ∗ Flight c 9 65536 iprop((lc c cc0_scratch2 ↦{fullShare} G) ∗ (lc c main_arg3 ↦{fullShare} X)) ∗ Flight c 11 32768 P
        ∗ RHeld c mt ((i 0).val + 2) ∗ (lc c cc0_scratch1 ↦{fullShare} f) ∗ semVal ((c : Thread nD τ), .dma 8) 0)
      ⊢ iprop((∀ r, iprop((∃ W, owes (c : Thread nD τ) 0 W) ∗ semVal ((c : Thread nD τ), .dma 9) 0 ∗ semVal ((c : Thread nD τ), .dma 11) 0 ∗ (lc c cc0_scratch2 ↦{fullShare} G) ∗ P ∗ RHeld c mt ((i 0).val + 2)
          ∗ Flight c 8 65536 iprop((lc c cc0_scratch1 ↦{fullShare} gathered X (gi mt ((i 0).val + 2))) ∗ (lc c main_arg3 ↦{fullShare} X)))
          -∗ wp frame (wpE (defs₀ (F := F)) Variants.none c none) Set.univ (k r) Q)
        -∗ wp frame (wpE (defs₀ (F := F)) Variants.none c none) Set.univ (k0_part8 (F := F) i mTe (Memref.isWhole_whole _) mNu (Memref.isWhole_whole _) mMeta (Memref.isWhole_whole _) mX (Memref.isWhole_whole _) arg5 harg5 arg6 harg6 mY (Memref.isWhole_whole _) mRing (Memref.isWhole_whole _) mXa (Memref.isWhole_whole _) mXb (Memref.isWhole_whole _) mYa (Memref.isWhole_whole _) mYb (Memref.isWhole_whole _) mStage (Memref.isWhole_whole _) mGu (Memref.isWhole_whole _) mDn (Memref.isWhole_whole _) cc0_scratch8 cc0_scratch9 cc0_scratch10 (BitVec.ofNat 32 (i 0).val) v0 h2 h6 >>= k) Q) := by
  rw [wp_bind, k0_part8_eq_skeleton]
  unfold k0_part8_skel
  iintro ⟨HO, HG, HS, HR, Hf, Hv⟩ Hk
  iapply (wp_waitFlight c (sem := 9) (J := 65536) (by rfl)) $$ [HG HO]
  · isplitl [HG] <;> iassumption
  iintro ⟨⟨HG, HX⟩, Hg0, HO⟩
  iapply (wp_waitFlight c (sem := 11) (J := 32768) (by rfl)) $$ [HS HO]
  · isplitl [HS] <;> iassumption
  iintro ⟨HP, Hs0, HO⟩
  iapply (wp_gatherLoop c (ℓ := lc c cc0_scratch1) (ℓx := lc c main_arg3) (ℓw := lc c cc0_scratch0) (I := rowsI) (f := f)
    (G := gathered X (gi mt ((i 0).val + 2))) (X := X) (sem := 8) rowsI_disjoint rowsI_union (by decide)
    (fun t => trip_t5 c hp i arg5 harg5 arg6 harg6 v0 h2 h6 f X t)) $$ [HR Hf HX Hv]
  · isplitl [HR]; · iexact HR
    isplitl [Hf]; · iexact Hf
    isplitl [HX] <;> iassumption
  iintro ⟨HR, HF⟩
  iapply (wp_done c)
  iapply Hk
  isplitl [HO]; · iexact HO
  isplitl [Hg0]; · iexact Hg0
  isplitl [Hs0]; · iexact Hs0
  isplitl [HG]; · iexact HG
  isplitl [HP]; · iexact HP
  isplitl [HR]; · iexact HR
  iexact HF

include hp in
/-- The scatters of the tile before started, and the tile's rows read (odd steps). -/
theorem part9_run (v111 c2 : BitVec 32) (v0 : BitVec 32) (h2 : k0_cond2 i v0 = 1#1) (h6 : k0_cond6 i = 1#1) (G : S4096x128.Idx → F .f32)
    (A : S4096x128.Idx → F .bf16) (Y : S1056768x128.Idx → F .bf16)
    {α : Type} {k : _ → Prog (TpuEff nD τ sig (Elt F) Λ₀ .tc) α} {Q : α → sProp 𝕄} :
    iprop(RHeld c mt (i 0).val ∗ (lc c main_v0 ↦[dset (sd mt ((i 0).val + 1))]{fullShare} Y) ∗ (lc c cc0_scratch3 ↦{fullShare} A) ∗ semVal ((c : Thread nD τ), .dma 10) 0 ∗ (lc c cc0_scratch2 ↦{fullShare} G))
      ⊢ iprop((iprop(RHeld c mt (i 0).val
          ∗ Flight c 10 32768 iprop((lc c main_v0 ↦[dset (sd mt ((i 0).val + 1))]{fullShare} scat (sd mt ((i 0).val + 1)) A Y) ∗ (lc c cc0_scratch3 ↦{fullShare} A))
          ∗ (lc c cc0_scratch2 ↦{fullShare} G))
          -∗ wp frame (wpE (defs₀ (F := F)) Variants.none c none) Set.univ (k ⟨ldx 0 inb_S4096x128_S256x128_0_0_s_16_1 G, ldx 1 inb_S4096x128_S256x128_1_0_s_16_1 G, ldx 2 inb_S4096x128_S256x128_2_0_s_16_1 G, ldx 3 inb_S4096x128_S256x128_3_0_s_16_1 G, ldx 4 inb_S4096x128_S256x128_4_0_s_16_1 G, ldx 5 inb_S4096x128_S256x128_5_0_s_16_1 G, ldx 6 inb_S4096x128_S256x128_6_0_s_16_1 G, ldx 7 inb_S4096x128_S256x128_7_0_s_16_1 G, ldx 8 inb_S4096x128_S256x128_8_0_s_16_1 G, ldx 9 inb_S4096x128_S256x128_9_0_s_16_1 G, ldx 10 inb_S4096x128_S256x128_10_0_s_16_1 G, ldx 11 inb_S4096x128_S256x128_11_0_s_16_1 G, ldx 12 inb_S4096x128_S256x128_12_0_s_16_1 G, ldx 13 inb_S4096x128_S256x128_13_0_s_16_1 G, ldx 14 inb_S4096x128_S256x128_14_0_s_16_1 G, ldx 15 inb_S4096x128_S256x128_15_0_s_16_1 G⟩) Q)
        -∗ wp frame (wpE (defs₀ (F := F)) Variants.none c none) Set.univ (k0_part9 (F := F) i mTe (Memref.isWhole_whole _) mNu (Memref.isWhole_whole _) mMeta (Memref.isWhole_whole _) mX (Memref.isWhole_whole _) arg5 harg5 arg6 harg6 mY (Memref.isWhole_whole _) mRing (Memref.isWhole_whole _) mXa (Memref.isWhole_whole _) mXb (Memref.isWhole_whole _) mYa (Memref.isWhole_whole _) mYb (Memref.isWhole_whole _) mStage (Memref.isWhole_whole _) mGu (Memref.isWhole_whole _) mDn (Memref.isWhole_whole _) cc0_scratch8 cc0_scratch9 cc0_scratch10 v0 h2 h6 v111 c2 >>= k) Q) := by
  have hi := i_lt i
  rw [wp_bind, k0_part9_eq_skeleton]
  unfold k0_part9_skel
  iintro ⟨HR, HY, HA, Hv, HG⟩ Hk
  iapply (wp_scatterLoop c (ℓ := lc c cc0_scratch3) (ℓy := lc c main_v0) (ℓw := lc c cc0_scratch0) (I := rowsI) (A := A) (J := (fun r => blk 1056768 (sd mt ((i 0).val + 1) r)))
    (Y := Y) (Y' := scat (sd mt ((i 0).val + 1)) A Y) (sem := 10) rowsI_disjoint rowsI_union
    (fun r r' h => blk_disjoint (sd_inj hp (k := (i 0).val + 1) (by omega) r r' h)) (by decide)
    (fun t => trip_t6 c hp i arg5 harg5 arg6 harg6 v111 c2 v0 h2 h6 A Y t)) $$ [HR HY HA Hv]
  · isplitl [HR]; · iexact HR
    isplitl [HY]; · iexact HY
    isplitl [HA] <;> iassumption
  iintro ⟨HR, HF⟩
  iapply (wp_load Variants.none (c : Thread nD τ) none Set.univ (m := mXb) (S := Finset.univ) (q := fullShare) (f := G) (Finset.subset_univ _)) $$ HG
  iintro HG
  iapply (wp_load Variants.none (c : Thread nD τ) none Set.univ (m := mXb) (S := Finset.univ) (q := fullShare) (f := G) (Finset.subset_univ _)) $$ HG
  iintro HG
  iapply (wp_load Variants.none (c : Thread nD τ) none Set.univ (m := mXb) (S := Finset.univ) (q := fullShare) (f := G) (Finset.subset_univ _)) $$ HG
  iintro HG
  iapply (wp_load Variants.none (c : Thread nD τ) none Set.univ (m := mXb) (S := Finset.univ) (q := fullShare) (f := G) (Finset.subset_univ _)) $$ HG
  iintro HG
  iapply (wp_load Variants.none (c : Thread nD τ) none Set.univ (m := mXb) (S := Finset.univ) (q := fullShare) (f := G) (Finset.subset_univ _)) $$ HG
  iintro HG
  iapply (wp_load Variants.none (c : Thread nD τ) none Set.univ (m := mXb) (S := Finset.univ) (q := fullShare) (f := G) (Finset.subset_univ _)) $$ HG
  iintro HG
  iapply (wp_load Variants.none (c : Thread nD τ) none Set.univ (m := mXb) (S := Finset.univ) (q := fullShare) (f := G) (Finset.subset_univ _)) $$ HG
  iintro HG
  iapply (wp_load Variants.none (c : Thread nD τ) none Set.univ (m := mXb) (S := Finset.univ) (q := fullShare) (f := G) (Finset.subset_univ _)) $$ HG
  iintro HG
  iapply (wp_load Variants.none (c : Thread nD τ) none Set.univ (m := mXb) (S := Finset.univ) (q := fullShare) (f := G) (Finset.subset_univ _)) $$ HG
  iintro HG
  iapply (wp_load Variants.none (c : Thread nD τ) none Set.univ (m := mXb) (S := Finset.univ) (q := fullShare) (f := G) (Finset.subset_univ _)) $$ HG
  iintro HG
  iapply (wp_load Variants.none (c : Thread nD τ) none Set.univ (m := mXb) (S := Finset.univ) (q := fullShare) (f := G) (Finset.subset_univ _)) $$ HG
  iintro HG
  iapply (wp_load Variants.none (c : Thread nD τ) none Set.univ (m := mXb) (S := Finset.univ) (q := fullShare) (f := G) (Finset.subset_univ _)) $$ HG
  iintro HG
  iapply (wp_load Variants.none (c : Thread nD τ) none Set.univ (m := mXb) (S := Finset.univ) (q := fullShare) (f := G) (Finset.subset_univ _)) $$ HG
  iintro HG
  iapply (wp_load Variants.none (c : Thread nD τ) none Set.univ (m := mXb) (S := Finset.univ) (q := fullShare) (f := G) (Finset.subset_univ _)) $$ HG
  iintro HG
  iapply (wp_load Variants.none (c : Thread nD τ) none Set.univ (m := mXb) (S := Finset.univ) (q := fullShare) (f := G) (Finset.subset_univ _)) $$ HG
  iintro HG
  iapply (wp_load Variants.none (c : Thread nD τ) none Set.univ (m := mXb) (S := Finset.univ) (q := fullShare) (f := G) (Finset.subset_univ _)) $$ HG
  iintro HG
  iapply (wp_done c)
  iapply Hk
  isplitl [HR]; · iexact HR
  isplitl [HF]; · iexact HF
  iexact HG

include hp in
/-- The last step's own scatters, and every copy still in flight waited for (odd steps). -/
theorem part7_run (v0 : BitVec 32) (h2 : k0_cond2 i v0 = 1#1) (h6 : k0_cond6 i = 1#1) (h7 : k0_cond7 i v0 = 1#1)
    (A : S4096x128.Idx → F .bf16) (Y : S1056768x128.Idx → F .bf16) (P P' : sProp 𝕄)
    {α : Type} {k : (Σ' (_ : BitVec 32) (_ : BitVec 32), BitVec 32) → Prog (TpuEff nD τ sig (Elt F) Λ₀ .tc) α} {Q : α → sProp 𝕄} :
    iprop((∃ W, owes (c : Thread nD τ) 0 W) ∗ RHeld c mt ((i 0).val + 1) ∗ (lc c main_v0 ↦[dset (sd mt ((i 0).val + 1 + 1))]{fullShare} Y) ∗ (lc c cc0_scratch4 ↦{fullShare} A) ∗ semVal ((c : Thread nD τ), .dma 11) 0
        ∗ Flight c 10 32768 P ∗ Flight c 8 65536 P')
      ⊢ iprop((∀ r, iprop((∃ W, owes (c : Thread nD τ) 0 W) ∗ RHeld c mt ((i 0).val + 1)
          ∗ (lc c main_v0 ↦[dset (sd mt ((i 0).val + 1 + 1))]{fullShare} scat (sd mt ((i 0).val + 1 + 1)) A Y) ∗ (lc c cc0_scratch4 ↦{fullShare} A)
          ∗ semVal ((c : Thread nD τ), .dma 11) 0 ∗ semVal ((c : Thread nD τ), .dma 10) 0 ∗ semVal ((c : Thread nD τ), .dma 8) 0 ∗ P ∗ P')
          -∗ wp frame (wpE (defs₀ (F := F)) Variants.none c none) Set.univ (k r) Q)
        -∗ wp frame (wpE (defs₀ (F := F)) Variants.none c none) Set.univ (k0_part7 (F := F) i mTe (Memref.isWhole_whole _) mNu (Memref.isWhole_whole _) mMeta (Memref.isWhole_whole _) mX (Memref.isWhole_whole _) arg5 harg5 arg6 harg6 mY (Memref.isWhole_whole _) mRing (Memref.isWhole_whole _) mXa (Memref.isWhole_whole _) mXb (Memref.isWhole_whole _) mYa (Memref.isWhole_whole _) mYb (Memref.isWhole_whole _) mStage (Memref.isWhole_whole _) mGu (Memref.isWhole_whole _) mDn (Memref.isWhole_whole _) cc0_scratch8 cc0_scratch9 cc0_scratch10 (BitVec.ofNat 32 (i 0).val) v0 h2 h6 h7 >>= k) Q) := by
  have hi := i_lt i
  rw [wp_bind, k0_part7_eq_skeleton]
  unfold k0_part7_skel
  iintro ⟨HO, HR, HY, HA, Hv, HP, HP'⟩ Hk
  iapply (wp_scatterLoop c (ℓ := lc c cc0_scratch4) (ℓy := lc c main_v0) (ℓw := lc c cc0_scratch0) (I := rowsI) (A := A) (J := (fun r => blk 1056768 (sd mt ((i 0).val + 1 + 1) r)))
    (Y := Y) (Y' := scat (sd mt ((i 0).val + 1 + 1)) A Y) (sem := 11) rowsI_disjoint rowsI_union
    (fun r r' h => blk_disjoint (sd_inj hp (k := (i 0).val + 1 + 1) (by omega) r r' h)) (by decide)
    (fun t => trip_t7 c hp i arg5 harg5 arg6 harg6 v0 h2 h6 h7 A Y t)) $$ [HR HY HA Hv]
  · isplitl [HR]; · iexact HR
    isplitl [HY]; · iexact HY
    isplitl [HA] <;> iassumption
  iintro ⟨HR, HF⟩
  iapply (wp_waitFlight c (sem := 10) (J := 32768) (by rfl)) $$ [HP HO]
  · isplitl [HP] <;> iassumption
  iintro ⟨HP, Hs1, HO⟩
  iapply (wp_waitFlight c (sem := 11) (J := 32768) (by rfl)) $$ [HF HO]
  · isplitl [HF] <;> iassumption
  iintro ⟨⟨HY, HA⟩, Hs0, HO⟩
  iapply (wp_waitFlight c (sem := 8) (J := 65536) (by rfl)) $$ [HP' HO]
  · isplitl [HP'] <;> iassumption
  iintro ⟨HP', Hg1, HO⟩
  iapply (wp_done c)
  iapply Hk
  isplitl [HO]; · iexact HO
  isplitl [HR]; · iexact HR
  isplitl [HY]; · iexact HY
  isplitl [HA]; · iexact HA
  isplitl [Hs0]; · iexact Hs0
  isplitl [Hs1]; · iexact Hs1
  isplitl [Hg1]; · iexact Hg1
  isplitl [HP] <;> iassumption

end Cert.Experts

end
-- ==== Proof.Phase.lean ====
/-
  The state between two steps: what is in flight, what the buffers hold, and what of the result is written.
-/
module

public import proofs.«01_k».proof.Proof.Half

@[expose] public section

noncomputable section

namespace Cert.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

/-- What one launch reads: the plan, the token rows, each expert's blocks of weights, and the result array's first contents. -/
structure Env (F : FTy → Type) where
  te : S320.Idx → BitVec 32
  nu : ℕ
  mt : Meta
  X : S131072x128.Idx → F .f32
  gub : ℕ → S1x2048x1024.Idx → F .f32
  dnb : ℕ → S1x512x2048.Idx → F .f32
  Y0 : S1056768x128.Idx → F .bf16

namespace Env
variable (E : Env F)

/-- Tile `j`'s expert. -/
def ex (j : ℕ) : ℕ := (E.te (at1 (N := 320) (by decide) j)).toNat

/-- Tile `j`'s rows. -/
def tile (j : ℕ) : S4096x128.Idx → F .bf16 :=
  tileOut (gathered E.X (gi E.mt (j + 1))) (k0_pay39 (E.gub (E.ex j))) (k0_pay40 (E.dnb (E.ex j)))

/-- What scatter number `k` writes: zeros twice, then the tiles in order. -/
def row : ℕ → S4096x128.Idx → F .bf16
  | 0 => k0_pay5
  | 1 => k0_pay6
  | j + 2 => E.tile j

/-- The result array after `k` scatters. -/
def Y : ℕ → S1056768x128.Idx → F .bf16
  | 0 => E.Y0
  | k + 1 => scat (sd E.mt k) (E.row k) (Y k)

end Env

/-- Nothing is in flight: every buffer is held, and the result array holds `Z`. -/
def Idle (c : Dev nD) (E : Env F) (Z : S1056768x128.Idx → F .bf16) : sProp 𝕄 :=
  iprop((lc c main_arg3 ↦{fullShare} E.X) ∗ (∃ f : S4096x128.Idx → F .f32, lc c cc0_scratch1 ↦{fullShare} f) ∗ (∃ f : S4096x128.Idx → F .f32, lc c cc0_scratch2 ↦{fullShare} f)
    ∗ (∃ f : S4096x128.Idx → F .bf16, lc c cc0_scratch3 ↦{fullShare} f) ∗ (∃ f : S4096x128.Idx → F .bf16, lc c cc0_scratch4 ↦{fullShare} f)
    ∗ semVal ((c : Thread nD τ), .dma 8) 0 ∗ semVal ((c : Thread nD τ), .dma 9) 0 ∗ semVal ((c : Thread nD τ), .dma 10) 0 ∗ semVal ((c : Thread nD τ), .dma 11) 0 ∗ (lc c main_v0 ↦{fullShare} Z)
    ∗ MFree c E.mt 0 ∗ MFree c E.mt 1 ∗ MFree c E.mt 2 ∗ MFree c E.mt 3)

/-- The weights of the tile before, once there is one, and the stage. -/
def Held (c : Dev nD) (E : Env F) (j : ℕ) : sProp 𝕄 :=
  iprop((∃ (g : S2048x1024.Idx → F .bf16) (d : S512x2048.Idx → F .bf16), ⌜j = 0 ∨ E.nu < j ∨ (g = k0_pay39 (E.gub (E.ex (j - 1))) ∧ d = k0_pay40 (E.dnb (E.ex (j - 1))))⌝
      ∗ (lc c cc0_scratch6 ↦{fullShare} g) ∗ (lc c cc0_scratch7 ↦{fullShare} d))
    ∗ ∃ f : S4096x128.Idx → F .f32, lc c cc0_scratch5 ↦{fullShare} f)

/-- Before an even step `j`: its gathers and scatter number `j` are in flight. -/
def CopiesE (c : Dev nD) (E : Env F) (j : ℕ) : sProp 𝕄 :=
  iprop(Flight c 8 65536 iprop((lc c cc0_scratch1 ↦{fullShare} gathered E.X (gi E.mt (j + 1))) ∗ (lc c main_arg3 ↦{fullShare} E.X))
    ∗ (∃ f : S4096x128.Idx → F .f32, lc c cc0_scratch2 ↦{fullShare} f) ∗ semVal ((c : Thread nD τ), .dma 9) 0
    ∗ Flight c 10 32768 iprop((lc c main_v0 ↦[dset (sd E.mt j)]{fullShare} E.Y (j + 1)) ∗ (lc c cc0_scratch3 ↦{fullShare} E.row j))
    ∗ (lc c main_v0 ↦[Finset.univ \ dset (sd E.mt j)]{fullShare} E.Y (j + 1)) ∗ (lc c cc0_scratch4 ↦{fullShare} E.row (j + 1)) ∗ semVal ((c : Thread nD τ), .dma 11) 0)

/-- Before an odd step `j`: its gathers and scatter number `j` are in flight. -/
def CopiesO (c : Dev nD) (E : Env F) (j : ℕ) : sProp 𝕄 :=
  iprop(Flight c 9 65536 iprop((lc c cc0_scratch2 ↦{fullShare} gathered E.X (gi E.mt (j + 1))) ∗ (lc c main_arg3 ↦{fullShare} E.X))
    ∗ (∃ f : S4096x128.Idx → F .f32, lc c cc0_scratch1 ↦{fullShare} f) ∗ semVal ((c : Thread nD τ), .dma 8) 0
    ∗ Flight c 11 32768 iprop((lc c main_v0 ↦[dset (sd E.mt j)]{fullShare} E.Y (j + 1)) ∗ (lc c cc0_scratch4 ↦{fullShare} E.row j))
    ∗ (lc c main_v0 ↦[Finset.univ \ dset (sd E.mt j)]{fullShare} E.Y (j + 1)) ∗ (lc c cc0_scratch3 ↦{fullShare} E.row (j + 1)) ∗ semVal ((c : Thread nD τ), .dma 10) 0)

/-- The plan's entries before step `j`. -/
def Entries (c : Dev nD) (mt : Meta) (j : ℕ) : sProp 𝕄 :=
  iprop(MHeld (F := F) c mt j ∗ MHeld c mt (j + 1) ∗ MFly c mt (j + 2) ∗ MFree c mt (j + 3))

/-- The copies and entries before step `j`. -/
def Flow (c : Dev nD) (E : Env F) (j : ℕ) : sProp 𝕄 :=
  if j = 0 then Idle c E E.Y0
  else if j < E.nu then iprop((if j % 2 = 0 then CopiesE c E j else CopiesO c E j) ∗ Entries c E.mt j)
  else Idle c E (E.Y (E.nu + 2))

theorem MFree_add (c : Dev nD) (mt : Meta) (a : ℕ) : MFree (F := F) c mt (a + 4) = MFree c mt a := by
  unfold MFree metaSem metaShare
  rw [slotNo_add, seg_add]

/-- Four free slots, whichever entry they are counted from. -/
theorem free_rotate (c : Dev nD) (mt : Meta) (a : ℕ) :
    iprop(MFree (F := F) c mt a ∗ MFree c mt (a + 1) ∗ MFree c mt (a + 2) ∗ MFree c mt (a + 3))
      ⊢ iprop(MFree c mt 0 ∗ MFree c mt 1 ∗ MFree c mt 2 ∗ MFree c mt 3) := by
  induction a with
  | zero => exact .rfl
  | succ a ih =>
    refine BIBase.Entails.trans ?_ ih
    rw [show a + 1 + 3 = a + 4 from rfl, MFree_add, show a + 1 + 1 = a + 2 from rfl, show a + 1 + 2 = a + 3 from rfl]
    iintro ⟨H1, H2, H3, H0⟩
    isplitl [H0]; · iexact H0
    isplitl [H1]; · iexact H1
    isplitl [H2] <;> iassumption

/-- What a scatter leaves alone. -/
theorem Y_off (c : Dev nD) (E : Env F) {S : Finset S1056768x128.Idx} {k : ℕ} (hS : ∀ i ∈ S, i ∉ dset (sd E.mt k)) :
    (lc c main_v0 ↦[S]{fullShare} E.Y k : sProp 𝕄) = (lc c main_v0 ↦[S]{fullShare} E.Y (k + 1)) := by
  refine pointsTo_congr (Ix := Unit) (Name := ℕ) (U := Pipeline.UD sig nD τ) (Lvl := ℕ) (ℓ := lc c main_v0) (q := fullShare) fun i hi => ?_
  exact (scat_of_not_mem _ _ fun r hr => hS i hi (mem_dset.2 ⟨r, hr.symm⟩)).symm

/-- Part of the result array and the rest of it. -/
theorem Y_split (c : Dev nD) (Z : S1056768x128.Idx → F .bf16) {I S : Finset S1056768x128.Idx} (h : I ⊆ S) :
    (lc c main_v0 ↦[S]{fullShare} Z : sProp 𝕄) ⊢ iprop((lc c main_v0 ↦[I]{fullShare} Z) ∗ (lc c main_v0 ↦[S \ I]{fullShare} Z)) :=
  (pointsTo_split_subset (ℓ := lc c main_v0) h).1

theorem Y_join (c : Dev nD) (Z : S1056768x128.Idx → F .bf16) {I S : Finset S1056768x128.Idx} (h : I ⊆ S) :
    iprop((lc c main_v0 ↦[I]{fullShare} Z) ∗ (lc c main_v0 ↦[S \ I]{fullShare} Z)) ⊢ (lc c main_v0 ↦[S]{fullShare} Z : sProp 𝕄) :=
  (pointsTo_split_subset (ℓ := lc c main_v0) h).2

end Cert.Experts

end
-- ==== Proof.Setup.lean ====
/-
  The parts of a step around its copies: the first step's setting up, the plan entry fetched ahead, the words of the
  two tables, and how the result array is split between the scatters.
-/
module

public import proofs.«01_k».proof.Proof.Phase

@[expose] public section

noncomputable section

namespace Cert.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

/-- A conditional block that keeps its own account. -/
theorem wp_block (c : Dev nD) {p : Prop} [Decidable p] {t : p → Prog (TpuEff nD τ sig (Elt F) Λ₀ .tc) PUnit} {e : ¬p → Prog (TpuEff nD τ sig (Elt F) Λ₀ .tc) PUnit}
    (R R' : sProp 𝕄) {α : Type} {k : PUnit → Prog (TpuEff nD τ sig (Elt F) Λ₀ .tc) α} {Q : α → sProp 𝕄}
    (ht : ∀ h, R ⊢ wp frame (wpE (defs₀ (F := F)) Variants.none c none) Set.univ (t h) fun _ => R') (he : ∀ h, R ⊢ wp frame (wpE (defs₀ (F := F)) Variants.none c none) Set.univ (e h) fun _ => R') :
    R ⊢ iprop((R' -∗ wp frame (wpE (defs₀ (F := F)) Variants.none c none) Set.univ (k ⟨⟩) Q) -∗ wp frame (wpE (defs₀ (F := F)) Variants.none c none) Set.univ (dite p t e >>= k) Q) := by
  rw [wp_bind]
  by_cases h : p
  · rw [dif_pos h]
    iintro HR Hk
    ihave HR := (ht h) $$ HR
    iapply (wp_wand _ _ _) $$ HR
    iintro %_ HR
    iapply Hk $$ HR
  · rw [dif_neg h]
    iintro HR Hk
    ihave HR := (he h) $$ HR
    iapply (wp_wand _ _ _) $$ HR
    iintro %_ HR
    iapply Hk $$ HR

/-- A word of the table of the tiles' experts. -/
theorem wp_teWord (c : Dev nD) {q : PosShare TreeShare} (te : S320.Idx → BitVec 32) {off : Fin 1 → ℕ} {inb} {n1} {hp} {a : ℕ} (ha : off = ![a]) (h : a < 320)
    {α : Type} {k : BitVec 32 → Prog (TpuEff nD τ sig (Elt F) Λ₀ .tc) α} {Q : α → sProp 𝕄} :
    (lc c main_arg0 ↦{q} te)
      ⊢ iprop((iprop(lc c main_arg0 ↦{q} te) -∗ wp frame (wpE (defs₀ (F := F)) Variants.none c none) Set.univ (k (te (at1 (N := 320) (by decide) a))) Q)
        -∗ wp frame (wpE (defs₀ (F := F)) Variants.none c none) Set.univ (smemLoad mTe (Rect.unit (s := S320) off S1.size inb) n1 hp >>= k) Q) := by
  subst ha
  have hr : (mTe.access (Rect.unit (s := S320) ![a] S1.size inb)).read (Elt F) te (Shape.Idx.first (n1.symm ▸ Nat.one_pos)) = te (at1 (N := 320) (by decide) a) := by
    show te ((Rect.unit (s := S320) ![a] S1.size inb).emb _) = _
    congr 1
    have hz : ∀ y : S1.Idx, (y 0).val = 0 := by decide
    funext b; apply Fin.ext
    rw [ValueKit.rect_emb_unit_val]
    match b with
    | 0 => rw [hz]; show a + 0 = a % 320; omega
  have h := wp_smemLoadElt (Γ := .empty) (defs := defs₀ (F := F)) Variants.none (c : Thread nD τ) none Set.univ (Q := Q) (m := mTe) (r := Rect.unit (s := S320) ![a] S1.size inb)
    (hw := View.loads_smem_one hp n1) (x := Shape.Idx.first (n1.symm ▸ Nat.one_pos)) (k := k) (S := Finset.univ) (q := q) (f := te) (Finset.subset_univ _)
  rw [hr] at h
  exact h

/-- The word of the table of the number of tiles. -/
theorem wp_nuWord (c : Dev nD) {q : PosShare TreeShare} (nu : S1.Idx → BitVec 32) {inb} {n1} {hp}
    {α : Type} {k : BitVec 32 → Prog (TpuEff nD τ sig (Elt F) Λ₀ .tc) α} {Q : α → sProp 𝕄} :
    (lc c main_arg1 ↦{q} nu)
      ⊢ iprop((iprop(lc c main_arg1 ↦{q} nu) -∗ wp frame (wpE (defs₀ (F := F)) Variants.none c none) Set.univ (k (nu (at1 (N := 1) (by decide) 0))) Q)
        -∗ wp frame (wpE (defs₀ (F := F)) Variants.none c none) Set.univ (smemLoad mNu (Rect.unit (s := S1) ![0] S1.size inb) n1 hp >>= k) Q) := by
  have hr : (mNu.access (Rect.unit (s := S1) ![0] S1.size inb)).read (Elt F) nu (Shape.Idx.first (n1.symm ▸ Nat.one_pos)) = nu (at1 (N := 1) (by decide) 0) := by
    show nu ((Rect.unit (s := S1) ![0] S1.size inb).emb _) = _
    congr 1
    have hz : ∀ y : S1.Idx, (y 0).val = 0 := by decide
    funext b; apply Fin.ext
    rw [ValueKit.rect_emb_unit_val]
    match b with
    | 0 => rw [hz]; rfl
  have h := wp_smemLoadElt (Γ := .empty) (defs := defs₀ (F := F)) Variants.none (c : Thread nD τ) none Set.univ (Q := Q) (m := mNu) (r := Rect.unit (s := S1) ![0] S1.size inb)
    (hw := View.loads_smem_one hp n1) (x := Shape.Idx.first (n1.symm ▸ Nat.one_pos)) (k := k) (S := Finset.univ) (q := q) (f := nu) (Finset.subset_univ _)
  rw [hr] at h
  exact h

theorem zeros3 : (![0, 0, 0] : Fin 3 → ℕ) = fun _ => 0 := funext fun a => match a with
  | 0 => rfl
  | 1 => rfl
  | 2 => rfl

/-- A read of a whole block of weights. -/
theorem wp_ldGate (c : Dev nD) {m : Memref sig .tc .vmem S1x2048x1024 .f32} {B : S1x2048x1024.Idx → F .f32} {inb} {hl} {α : Type} {Q : α → sProp 𝕄}
    {kk : (S1x2048x1024.Idx → Elt F .f32) → Prog (TpuEff nD τ sig (Elt F) Λ₀ .tc) α} :
    owns (c : Thread nD τ) m fullShare B
      ⊢ iprop((iprop(owns (c : Thread nD τ) m fullShare B) -∗ wp frame (wpE (defs₀ (F := F)) Variants.none c none) Set.univ (kk B) Q)
        -∗ wp frame (wpE (defs₀ (F := F)) Variants.none c none) Set.univ (.op (.load m (Rect.unit (s := S1x2048x1024) ![0, 0, 0] S1x2048x1024.size inb).toLoadRect hl) kk) Q) := by
  unfold Idealize.ShloMosaic.owns
  iintro ⟨%f, %hf, H⟩ Hk
  iapply (wp_load (Γ := .empty) (defs := defs₀ (F := F)) Variants.none (c : Thread nD τ) none Set.univ (Q := Q) (m := m) (r := (Rect.unit (s := S1x2048x1024) ![0, 0, 0] S1x2048x1024.size inb).toLoadRect)
    (hl := hl) (k := kk) (S := m.view.set) (q := fullShare) (f := f) (View.setOn_subset_set _ _)) $$ H
  iintro H
  have e : m.view.readAt (Elt F) (Rect.unit (s := S1x2048x1024) ![0, 0, 0] S1x2048x1024.size inb).toLoadRect f = B := by
    have hz : ∀ x, (Rect.unit (s := S1x2048x1024) ![0, 0, 0] S1x2048x1024.size inb).toLoadRect.idx x = x := fun x => by
      funext b; apply Fin.ext
      show (![0, 0, 0] : Fin 3 → ℕ) b + 1 * (x b).val = (x b).val
      have := congrFun zeros3 b; omega
    rw [← hf]
    exact funext fun x => congrArg (m.view.read (Elt F) f) (hz x)
  rw [e]
  iapply Hk
  iexists f
  isplitr
  · ipureintro; exact hf
  iexact H

/-- A read of a whole block of weights. -/
theorem wp_ldBack (c : Dev nD) {m : Memref sig .tc .vmem S1x512x2048 .f32} {B : S1x512x2048.Idx → F .f32} {inb} {hl} {α : Type} {Q : α → sProp 𝕄}
    {kk : (S1x512x2048.Idx → Elt F .f32) → Prog (TpuEff nD τ sig (Elt F) Λ₀ .tc) α} :
    owns (c : Thread nD τ) m fullShare B
      ⊢ iprop((iprop(owns (c : Thread nD τ) m fullShare B) -∗ wp frame (wpE (defs₀ (F := F)) Variants.none c none) Set.univ (kk B) Q)
        -∗ wp frame (wpE (defs₀ (F := F)) Variants.none c none) Set.univ (.op (.load m (Rect.unit (s := S1x512x2048) ![0, 0, 0] S1x512x2048.size inb).toLoadRect hl) kk) Q) := by
  unfold Idealize.ShloMosaic.owns
  iintro ⟨%f, %hf, H⟩ Hk
  iapply (wp_load (Γ := .empty) (defs := defs₀ (F := F)) Variants.none (c : Thread nD τ) none Set.univ (Q := Q) (m := m) (r := (Rect.unit (s := S1x512x2048) ![0, 0, 0] S1x512x2048.size inb).toLoadRect)
    (hl := hl) (k := kk) (S := m.view.set) (q := fullShare) (f := f) (View.setOn_subset_set _ _)) $$ H
  iintro H
  have e : m.view.readAt (Elt F) (Rect.unit (s := S1x512x2048) ![0, 0, 0] S1x512x2048.size inb).toLoadRect f = B := by
    have hz : ∀ x, (Rect.unit (s := S1x512x2048) ![0, 0, 0] S1x512x2048.size inb).toLoadRect.idx x = x := fun x => by
      funext b; apply Fin.ext
      show (![0, 0, 0] : Fin 3 → ℕ) b + 1 * (x b).val = (x b).val
      have := congrFun zeros3 b; omega
    rw [← hf]
    exact funext fun x => congrArg (m.view.read (Elt F) f) (hz x)
  rw [e]
  iapply Hk
  iexists f
  isplitr
  · ipureintro; exact hf
  iexact H

/-! ## The result array between the scatters -/

section Split
variable {nu : ℕ} (c : Dev nD) (E : Env F)

/-- A scatter done: its rows rejoin, and the next scatter's rows are set apart. -/
theorem Y_next (j : ℕ) :
    iprop((lc c main_v0 ↦[dset (sd E.mt j)]{fullShare} E.Y (j + 1)) ∗ (lc c main_v0 ↦[Finset.univ \ dset (sd E.mt j)]{fullShare} E.Y (j + 1)))
      ⊢ iprop((lc c main_v0 ↦[dset (sd E.mt (j + 1))]{fullShare} E.Y (j + 1)) ∗ (lc c main_v0 ↦[Finset.univ \ dset (sd E.mt (j + 1))]{fullShare} E.Y (j + 2)) : sProp 𝕄) := by
  have e := Y_off c E (S := Finset.univ \ dset (sd E.mt (j + 1))) (k := j + 1) (fun i hi => (Finset.mem_sdiff.1 hi).2)
  rw [← e]
  exact (Y_join c _ (Finset.subset_univ _)).trans (Y_split c _ (Finset.subset_univ _))

theorem last_sub (hp : Plan E.te E.nu E.mt) {j : ℕ} (hj : j < 320) : dset (sd E.mt (j + 2)) ⊆ Finset.univ \ dset (sd E.mt (j + 1)) := by
  intro x hx
  rw [Finset.mem_sdiff]
  refine ⟨Finset.mem_univ _, fun hy => ?_⟩
  obtain ⟨r', hr'⟩ := mem_dset.1 hx
  obtain ⟨r, hr⟩ := mem_dset.1 hy
  exact hp.si_apart j hj r r' (hr.symm.trans hr')

/-- The last scatter's rows set apart from what the one before leaves. -/
theorem Y_last (hp : Plan E.te E.nu E.mt) {j : ℕ} (hj : j < 320) :
    (lc c main_v0 ↦[Finset.univ \ dset (sd E.mt (j + 1))]{fullShare} E.Y (j + 2) : sProp 𝕄)
      ⊢ iprop((lc c main_v0 ↦[dset (sd E.mt (j + 2))]{fullShare} E.Y (j + 2)) ∗ (lc c main_v0 ↦[(Finset.univ \ dset (sd E.mt (j + 1))) \ dset (sd E.mt (j + 2))]{fullShare} E.Y (j + 2))) :=
  Y_split c _ (last_sub E hp hj)

/-- Both last scatters done: the whole result. -/
theorem Y_all (hp : Plan E.te E.nu E.mt) {j : ℕ} (hj : j < 320) :
    iprop((lc c main_v0 ↦[dset (sd E.mt (j + 1))]{fullShare} E.Y (j + 2)) ∗ (lc c main_v0 ↦[dset (sd E.mt (j + 2))]{fullShare} E.Y (j + 3))
        ∗ (lc c main_v0 ↦[(Finset.univ \ dset (sd E.mt (j + 1))) \ dset (sd E.mt (j + 2))]{fullShare} E.Y (j + 2)))
      ⊢ (lc c main_v0 ↦{fullShare} E.Y (j + 3) : sProp 𝕄) := by
  have hs := last_sub E hp hj
  have e := Y_off c E (S := (Finset.univ \ dset (sd E.mt (j + 1))) \ dset (sd E.mt (j + 2))) (k := j + 2) (fun i hi => (Finset.mem_sdiff.1 hi).2)
  have e' := Y_off c E (S := dset (sd E.mt (j + 1))) (k := j + 2) (fun i hi h => (Finset.mem_sdiff.1 (hs h)).2 hi)
  rw [e, e']
  iintro ⟨H1, H2, H3⟩
  iapply (Y_join c _ (Finset.subset_univ (dset (sd E.mt (j + 1)))))
  isplitl [H1]; · iexact H1
  iapply (Y_join c _ hs)
  isplitl [H2] <;> iassumption

end Split

/-! ## The first step's setting up -/

theorem zero_set : (mY.slice (Rect.unit (s := S1056768x128) ![1048576, 0] S4096x128.size inb_S1056768x128_S4096x128_1048576_0) (fun _ => rfl)).view.set = dset (sd (fun _ => 0#32) 0) := by
  refine (View.set_slice_whole main_v0 _).trans ?_
  ext x
  rw [Rect.mem_set_unit, mem_dset]
  constructor
  · intro h
    have h := h 0
    have e1 : (![1048576, 0] : Fin 2 → ℕ) 0 = 1048576 := rfl
    have e2 : S4096x128.size 0 = 4096 := rfl
    rw [e1, e2] at h
    refine ⟨⟨(x 0).val / 16 - 65536, by omega⟩, ?_⟩
    show _ = 65536 + ((x 0).val / 16 - 65536)
    omega
  · rintro ⟨r, hr⟩ b
    have hr : (x 0).val / 16 = 65536 + r.val := hr
    have := r.isLt
    match b with
    | 0 => show 1048576 ≤ (x 0).val ∧ (x 0).val < 1048576 + 4096; omega
    | 1 => have := (x 1).isLt; exact ⟨Nat.zero_le _, by show _ < 0 + 128; exact this.trans_eq (by rfl)⟩

theorem zero_val (E : Env F) {x : S1056768x128.Idx} (hx : x ∈ dset (sd E.mt 0)) :
    (mY.slice (Rect.unit (s := S1056768x128) ![1048576, 0] S4096x128.size inb_S1056768x128_S4096x128_1048576_0) (fun _ => rfl)).view.write (Elt F) E.Y0
      (mYa.view.read (Elt F) (k0_pay5 (F := F))) Finset.univ x = E.Y 1 x := by
  obtain ⟨r, hr⟩ := mem_dset.1 hx
  have hd : ∀ r r' : Fin 256, r ≠ r' → sd E.mt 0 r ≠ sd E.mt 0 r' := fun r r' h => by
    show 65536 + r.val ≠ 65536 + r'.val; have : r.val ≠ r'.val := fun e => h (Fin.ext e); omega
  refine Eq.trans ?_ (scat_of_mem hd (k0_pay5 (F := F)) E.Y0 r hr).symm
  have hx' : x ∈ (mY.slice (Rect.unit (s := S1056768x128) ![1048576, 0] S4096x128.size inb_S1056768x128_S4096x128_1048576_0) (fun _ => rfl)).view.set := by
    rw [zero_set]; exact hx
  obtain ⟨y, -, hy⟩ := Finset.mem_map.1 hx'
  rw [← hy]
  exact (View.write_emb_of_mem (Val := Elt F) (v := (mY.slice (Rect.unit (s := S1056768x128) ![1048576, 0] S4096x128.size inb_S1056768x128_S4096x128_1048576_0) (fun _ => rfl)).view)
    E.Y0 (mYa.view.read (Elt F) (k0_pay5 (F := F))) (M := Finset.univ) (x := y) (Finset.mem_univ _)).trans rfl

variable (c : Dev nD) (E : Env F) (hp : Plan E.te E.nu E.mt) (i : grid0.Coords)
  (arg5 : Memref sig .tc .vmem S1x2048x1024 .f32) (harg5 : arg5.IsWhole) (arg6 : Memref sig .tc .vmem S1x512x2048 .f32) (harg6 : arg6.IsWhole)

/-- The two result buffers cleared, the spare rows' zeros started, three plan entries fetched and the first waited for. -/
theorem part1_run {α : Type} {k : PUnit → Prog (TpuEff nD τ sig (Elt F) Λ₀ .tc) α} {Q : α → sProp 𝕄} :
    iprop((∃ W, owes (c : Thread nD τ) 0 W) ∗ (∃ f : S4096x128.Idx → F .bf16, lc c cc0_scratch3 ↦{fullShare} f) ∗ (∃ f : S4096x128.Idx → F .bf16, lc c cc0_scratch4 ↦{fullShare} f) ∗ semVal ((c : Thread nD τ), .dma 10) 0 ∗ (lc c main_v0 ↦{fullShare} E.Y0)
        ∗ MFree c E.mt 0 ∗ MFree c E.mt 1 ∗ MFree c E.mt 2)
      ⊢ iprop((iprop((∃ W, owes (c : Thread nD τ) 0 W) ∗ Flight c 10 32768 iprop((lc c main_v0 ↦[dset (sd E.mt 0)]{fullShare} E.Y (0 + 1)) ∗ (lc c cc0_scratch3 ↦{fullShare} E.row 0))
          ∗ (lc c main_v0 ↦[Finset.univ \ dset (sd E.mt 0)]{fullShare} E.Y (0 + 1)) ∗ (lc c cc0_scratch4 ↦{fullShare} E.row (0 + 1))
          ∗ MHeld c E.mt 0 ∗ MFly c E.mt 1 ∗ MFly c E.mt 2)
          -∗ wp frame (wpE (defs₀ (F := F)) Variants.none c none) Set.univ (k ⟨⟩) Q)
        -∗ wp frame (wpE (defs₀ (F := F)) Variants.none c none) Set.univ (k0_part1 (F := F) i mTe (Memref.isWhole_whole _) mNu (Memref.isWhole_whole _) mMeta (Memref.isWhole_whole _) mX (Memref.isWhole_whole _) arg5 harg5 arg6 harg6 mY (Memref.isWhole_whole _) mRing (Memref.isWhole_whole _) mXa (Memref.isWhole_whole _) mXb (Memref.isWhole_whole _) mYa (Memref.isWhole_whole _) mYb (Memref.isWhole_whole _) mStage (Memref.isWhole_whole _) mGu (Memref.isWhole_whole _) mDn (Memref.isWhole_whole _) cc0_scratch8 cc0_scratch9 cc0_scratch10 >>= k) Q) := by
  rw [wp_bind, k0_part1_eq_skeleton]
  unfold k0_part1_skel
  iintro ⟨HO, ⟨%fa, Ha⟩, ⟨%fb, Hb⟩, Hs, HY, M0, M1, M2⟩ Hk
  iapply (wp_ldYa c) $$ Ha
  iintro Ha
  iapply (wp_stYa c) $$ Ha
  iintro Ha
  iapply (wp_ldYb c) $$ Hb
  iintro Hb
  iapply (wp_stYb c) $$ Hb
  iintro Hb
  ihave HY := (Y_split c E.Y0 (Finset.subset_univ (dset (sd E.mt 0)))) $$ HY
  icases HY with ⟨HY, HR⟩
  iapply (wp_startOne (F := F) c (J := 32768) (q := fullShare) (fs := k0_pay5 (F := F)) (fd := E.Y0)
    (R := iprop((lc c main_v0 ↦[dset (sd E.mt 0)]{fullShare} E.Y0) ∗ (lc c cc0_scratch3 ↦{fullShare} (k0_pay5 (F := F) : S4096x128.Idx → F .bf16)))) (put := iprop(emp))
    (P := iprop((lc c main_v0 ↦[dset (sd E.mt 0)]{fullShare} E.Y (0 + 1)) ∗ (lc c cc0_scratch3 ↦{fullShare} E.row 0))) (by rfl) (by decide) ?_ ?_) $$ [Ha HY Hs]
  · have hz : dset (sd (fun _ => 0#32) 0) = dset (sd E.mt 0) := rfl
    rw [zero_set, hz, (Memref.isWhole_whole cc0_scratch3).set_eq_univ]
    iintro ⟨H1, H2⟩
    isplitl [H2]; · iexact H2
    isplitl [H1]; · iexact H1
    iempintro
  · have hz : dset (sd (fun _ => 0#32) 0) = dset (sd E.mt 0) := rfl
    have hc := pointsTo_congr (Ix := Unit) (Name := ℕ) (U := Pipeline.UD sig nD τ) (Lvl := ℕ) (ℓ := lc c main_v0) (q := fullShare) fun x hx => zero_val E hx
    rw [zero_set, hz, (Memref.isWhole_whole cc0_scratch3).set_eq_univ, hc]
    iintro ⟨-, H1, H2⟩
    isplitl [H1]; · iexact H1
    iexact H2
  · isplitl [Ha HY]
    · isplitl [HY] <;> iassumption
    iexact Hs
  iintro HF
  iapply (wp_metaStart c E.mt (a := 0) (sem_at (a := 0) rfl) rfl rfl) $$ M0
  iintro M0
  iapply (wp_metaStart c E.mt (a := 1) (sem_at (a := 1) rfl) rfl rfl) $$ M1
  iintro M1
  iapply (wp_metaStart c E.mt (a := 2) (sem_at (a := 2) rfl) rfl rfl) $$ M2
  iintro M2
  iapply (wp_metaWait c E.mt (a := 0) (sem_at (a := 0) rfl)) $$ [M0 HO]
  · isplitl [M0] <;> iassumption
  iintro ⟨M0, HO⟩
  iapply (wp_done c)
  iapply Hk
  isplitl [HO]; · iexact HO
  isplitl [HF]; · iexact HF
  isplitl [HR]
  · rw [← Y_off c E (S := Finset.univ \ dset (sd E.mt 0)) (k := 0) (fun i hi => (Finset.mem_sdiff.1 hi).2)]
    iexact HR
  isplitl [Hb]; · iexact Hb
  isplitl [M0]; · iexact M0
  isplitl [M1] <;> iassumption

/-- The plan entry three steps ahead fetched. -/
theorem part12_run (v : BitVec 32) {α : Type} {k : PUnit → Prog (TpuEff nD τ sig (Elt F) Λ₀ .tc) α} {Q : α → sProp 𝕄} :
    MFree (F := F) c E.mt ((i 0).val + 3)
      ⊢ iprop((MFly c E.mt ((i 0).val + 3) -∗ wp frame (wpE (defs₀ (F := F)) Variants.none c none) Set.univ (k ⟨⟩) Q)
        -∗ wp frame (wpE (defs₀ (F := F)) Variants.none c none) Set.univ (k0_part12 (F := F) i mTe (Memref.isWhole_whole _) mNu (Memref.isWhole_whole _) mMeta (Memref.isWhole_whole _) mX (Memref.isWhole_whole _) arg5 harg5 arg6 harg6 mY (Memref.isWhole_whole _) mRing (Memref.isWhole_whole _) mXa (Memref.isWhole_whole _) mXb (Memref.isWhole_whole _) mYa (Memref.isWhole_whole _) mYb (Memref.isWhole_whole _) mStage (Memref.isWhole_whole _) mGu (Memref.isWhole_whole _) mDn (Memref.isWhole_whole _) cc0_scratch8 cc0_scratch9 cc0_scratch10 v >>= k) Q) := by
  rw [wp_bind, k0_part12_eq_skeleton]
  unfold k0_part12_skel
  iintro H Hk
  iapply (wp_metaStart c E.mt (a := (i 0).val + 3) (sem_at (off8_3 i)) (off9_3 i) (off10_3 i)) $$ H
  iintro H
  iapply (wp_done c)
  iapply Hk $$ H

end Cert.Experts

end
-- ==== Proof.Turn.lean ====
/-
  One step of the kernel: the weights refreshed where the expert changes, the tile of the step, and the copies around it.
-/
module

public import proofs.«01_k».proof.Proof.Setup

@[expose] public section

noncomputable section

namespace Cert.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

/-- A conditional block before the rest of a program. -/
theorem wp_jp (c : Dev nD) {p : Prop} [Decidable p] {α : Type} {Q : α → sProp 𝕄} {t : p → Prog (TpuEff nD τ sig (Elt F) Λ₀ .tc) α} {J : Prog (TpuEff nD τ sig (Elt F) Λ₀ .tc) α}
    (R R' : sProp 𝕄) (ht : ∀ h, R ⊢ iprop((R' -∗ wp frame (wpE (defs₀ (F := F)) Variants.none c none) Set.univ J Q) -∗ wp frame (wpE (defs₀ (F := F)) Variants.none c none) Set.univ (t h) Q)) (he : ¬p → (R ⊢ R')) :
    R ⊢ iprop((R' -∗ wp frame (wpE (defs₀ (F := F)) Variants.none c none) Set.univ J Q) -∗ wp frame (wpE (defs₀ (F := F)) Variants.none c none) Set.univ (dite p t fun _ => J) Q) := by
  by_cases h : p
  · rw [dif_pos h]
    exact ht h
  · rw [dif_neg h]
    iintro HR Hk
    iapply Hk
    iapply (he h) $$ HR

/-- The same where the block doesn't name its condition. -/
theorem wp_jpIf (c : Dev nD) {p : Prop} [Decidable p] {α : Type} {Q : α → sProp 𝕄} {t J : Prog (TpuEff nD τ sig (Elt F) Λ₀ .tc) α}
    (R R' : sProp 𝕄) (ht : p → (R ⊢ iprop((R' -∗ wp frame (wpE (defs₀ (F := F)) Variants.none c none) Set.univ J Q) -∗ wp frame (wpE (defs₀ (F := F)) Variants.none c none) Set.univ t Q))) (he : ¬p → (R ⊢ R')) :
    R ⊢ iprop((R' -∗ wp frame (wpE (defs₀ (F := F)) Variants.none c none) Set.univ J Q) -∗ wp frame (wpE (defs₀ (F := F)) Variants.none c none) Set.univ (ite p t J) Q) := by
  by_cases h : p
  · rw [if_pos h]
    exact ht h
  · rw [if_neg h]
    iintro HR Hk
    iapply Hk
    iapply (he h) $$ HR

theorem fresh_iff (i : grid0.Coords) (x y : BitVec 32) :
    Scalar.cmpi .ne (Scalar.extui (Scalar.ori (Scalar.cmpi .eq (BitVec.ofNat 32 (i 0).val) 0#32) (Scalar.cmpi .ne x y)) : BitVec 32) 0#32 = 1#1 ↔ ((i 0).val = 0 ∨ x ≠ y) := by
  rw [cond_bit, first_bit ⟨(i 0).val, i_lt i⟩]
  have e : Scalar.cmpi .ne x y = BitVec.ofBool (decide (x ≠ y)) := by
    show BitVec.ofBool _ = _
    congr 1
    by_cases h : x = y <;> simp [h]
  rw [e]
  by_cases h : (i 0).val = 0 <;> by_cases h' : x = y <;> simp [h, h'] <;> decide

/-- The weights that a tile uses, in their buffers. -/
def Weights (c : Dev nD) (E : Env F) (j : ℕ) : sProp 𝕄 :=
  iprop((lc c cc0_scratch6 ↦{fullShare} (k0_pay39 (E.gub (E.ex j)) : S2048x1024.Idx → F .bf16)) ∗ (lc c cc0_scratch7 ↦{fullShare} (k0_pay40 (E.dnb (E.ex j)) : S512x2048.Idx → F .bf16)))

/-- The copies before step `j`, once the first step has set up. -/
def Run (c : Dev nD) (E : Env F) (j : ℕ) : sProp 𝕄 :=
  if j < E.nu then iprop((if j % 2 = 0 then CopiesE c E j else CopiesO c E j) ∗ Entries c E.mt j) else Idle c E (E.Y (E.nu + 2))

/-- The entries during step `j`. -/
def Four (c : Dev nD) (mt : Meta) (j : ℕ) : sProp 𝕄 :=
  iprop(MHeld (F := F) c mt j ∗ MHeld c mt (j + 1) ∗ MHeld c mt (j + 2) ∗ MFly c mt (j + 3))

theorem MHeld.split (c : Dev nD) (mt : Meta) (a : ℕ) : MHeld (F := F) c mt a
    ⊢ iprop(RHeld c mt a ∗ (lc c main_arg2 ↦{metaShare a} mt) ∗ semVal ((c : Thread nD τ), .dma (metaSem a)) 0) := .rfl

theorem Flow_succ (c : Dev nD) (E : Env F) (j : ℕ) : Flow c E (j + 1) = Run c E (j + 1) := by
  unfold Flow Run; rw [if_neg (Nat.succ_ne_zero j)]

theorem Flow_of_ne (c : Dev nD) (E : Env F) {j : ℕ} (h : j ≠ 0) : Flow c E j = Run c E j := by
  unfold Flow Run; rw [if_neg h]

variable (c : Dev nD) (E : Env F) (hp : Plan E.te E.nu E.mt) (i : grid0.Coords)
  (arg5 : Memref sig .tc .vmem S1x2048x1024 .f32) (harg5 : arg5.IsWhole) (arg6 : Memref sig .tc .vmem S1x512x2048 .f32) (harg6 : arg6.IsWhole)

/-- The stage after all sixteen writes of an even step holds the tile. -/
theorem tile_even (G : S4096x128.Idx → F .f32) (gu : S2048x1024.Idx → F .bf16) (dn : S512x2048.Idx → F .bf16) (f : S4096x128.Idx → F .f32) :
    k0_pay44 (stw 15 inb_S4096x128_S256x128_15_0_s_16_1 (k0_pay43 (k0_pay7 (ldx 0 inb_S4096x128_S256x128_0_0_s_16_1 G) (ldx 1 inb_S4096x128_S256x128_1_0_s_16_1 G) (ldx 2 inb_S4096x128_S256x128_2_0_s_16_1 G) (ldx 3 inb_S4096x128_S256x128_3_0_s_16_1 G) (ldx 4 inb_S4096x128_S256x128_4_0_s_16_1 G) (ldx 5 inb_S4096x128_S256x128_5_0_s_16_1 G) (ldx 6 inb_S4096x128_S256x128_6_0_s_16_1 G) (ldx 7 inb_S4096x128_S256x128_7_0_s_16_1 G) (ldx 8 inb_S4096x128_S256x128_8_0_s_16_1 G) (ldx 9 inb_S4096x128_S256x128_9_0_s_16_1 G) (ldx 10 inb_S4096x128_S256x128_10_0_s_16_1 G) (ldx 11 inb_S4096x128_S256x128_11_0_s_16_1 G) (ldx 12 inb_S4096x128_S256x128_12_0_s_16_1 G) (ldx 13 inb_S4096x128_S256x128_13_0_s_16_1 G) (ldx 14 inb_S4096x128_S256x128_14_0_s_16_1 G) (ldx 15 inb_S4096x128_S256x128_15_0_s_16_1 G) gu dn)) (stw 14 inb_S4096x128_S256x128_14_0_s_16_1 (k0_pay42 (k0_pay7 (ldx 0 inb_S4096x128_S256x128_0_0_s_16_1 G) (ldx 1 inb_S4096x128_S256x128_1_0_s_16_1 G) (ldx 2 inb_S4096x128_S256x128_2_0_s_16_1 G) (ldx 3 inb_S4096x128_S256x128_3_0_s_16_1 G) (ldx 4 inb_S4096x128_S256x128_4_0_s_16_1 G) (ldx 5 inb_S4096x128_S256x128_5_0_s_16_1 G) (ldx 6 inb_S4096x128_S256x128_6_0_s_16_1 G) (ldx 7 inb_S4096x128_S256x128_7_0_s_16_1 G) (ldx 8 inb_S4096x128_S256x128_8_0_s_16_1 G) (ldx 9 inb_S4096x128_S256x128_9_0_s_16_1 G) (ldx 10 inb_S4096x128_S256x128_10_0_s_16_1 G) (ldx 11 inb_S4096x128_S256x128_11_0_s_16_1 G) (ldx 12 inb_S4096x128_S256x128_12_0_s_16_1 G) (ldx 13 inb_S4096x128_S256x128_13_0_s_16_1 G) (ldx 14 inb_S4096x128_S256x128_14_0_s_16_1 G) (ldx 15 inb_S4096x128_S256x128_15_0_s_16_1 G) gu dn)) (stw 13 inb_S4096x128_S256x128_13_0_s_16_1 (k0_pay41 (k0_pay22 (k0_pay7 (ldx 0 inb_S4096x128_S256x128_0_0_s_16_1 G) (ldx 1 inb_S4096x128_S256x128_1_0_s_16_1 G) (ldx 2 inb_S4096x128_S256x128_2_0_s_16_1 G) (ldx 3 inb_S4096x128_S256x128_3_0_s_16_1 G) (ldx 4 inb_S4096x128_S256x128_4_0_s_16_1 G) (ldx 5 inb_S4096x128_S256x128_5_0_s_16_1 G) (ldx 6 inb_S4096x128_S256x128_6_0_s_16_1 G) (ldx 7 inb_S4096x128_S256x128_7_0_s_16_1 G) (ldx 8 inb_S4096x128_S256x128_8_0_s_16_1 G) (ldx 9 inb_S4096x128_S256x128_9_0_s_16_1 G) (ldx 10 inb_S4096x128_S256x128_10_0_s_16_1 G) (ldx 11 inb_S4096x128_S256x128_11_0_s_16_1 G) (ldx 12 inb_S4096x128_S256x128_12_0_s_16_1 G) (ldx 13 inb_S4096x128_S256x128_13_0_s_16_1 G) (ldx 14 inb_S4096x128_S256x128_14_0_s_16_1 G) (ldx 15 inb_S4096x128_S256x128_15_0_s_16_1 G) gu dn))) (stw 12 inb_S4096x128_S256x128_12_0_s_16_1 (k0_pay21 (k0_pay7 (ldx 0 inb_S4096x128_S256x128_0_0_s_16_1 G) (ldx 1 inb_S4096x128_S256x128_1_0_s_16_1 G) (ldx 2 inb_S4096x128_S256x128_2_0_s_16_1 G) (ldx 3 inb_S4096x128_S256x128_3_0_s_16_1 G) (ldx 4 inb_S4096x128_S256x128_4_0_s_16_1 G) (ldx 5 inb_S4096x128_S256x128_5_0_s_16_1 G) (ldx 6 inb_S4096x128_S256x128_6_0_s_16_1 G) (ldx 7 inb_S4096x128_S256x128_7_0_s_16_1 G) (ldx 8 inb_S4096x128_S256x128_8_0_s_16_1 G) (ldx 9 inb_S4096x128_S256x128_9_0_s_16_1 G) (ldx 10 inb_S4096x128_S256x128_10_0_s_16_1 G) (ldx 11 inb_S4096x128_S256x128_11_0_s_16_1 G) (ldx 12 inb_S4096x128_S256x128_12_0_s_16_1 G) (ldx 13 inb_S4096x128_S256x128_13_0_s_16_1 G) (ldx 14 inb_S4096x128_S256x128_14_0_s_16_1 G) (ldx 15 inb_S4096x128_S256x128_15_0_s_16_1 G) gu dn)) (stw 11 inb_S4096x128_S256x128_11_0_s_16_1 (k0_pay20 (k0_pay7 (ldx 0 inb_S4096x128_S256x128_0_0_s_16_1 G) (ldx 1 inb_S4096x128_S256x128_1_0_s_16_1 G) (ldx 2 inb_S4096x128_S256x128_2_0_s_16_1 G) (ldx 3 inb_S4096x128_S256x128_3_0_s_16_1 G) (ldx 4 inb_S4096x128_S256x128_4_0_s_16_1 G) (ldx 5 inb_S4096x128_S256x128_5_0_s_16_1 G) (ldx 6 inb_S4096x128_S256x128_6_0_s_16_1 G) (ldx 7 inb_S4096x128_S256x128_7_0_s_16_1 G) (ldx 8 inb_S4096x128_S256x128_8_0_s_16_1 G) (ldx 9 inb_S4096x128_S256x128_9_0_s_16_1 G) (ldx 10 inb_S4096x128_S256x128_10_0_s_16_1 G) (ldx 11 inb_S4096x128_S256x128_11_0_s_16_1 G) (ldx 12 inb_S4096x128_S256x128_12_0_s_16_1 G) (ldx 13 inb_S4096x128_S256x128_13_0_s_16_1 G) (ldx 14 inb_S4096x128_S256x128_14_0_s_16_1 G) (ldx 15 inb_S4096x128_S256x128_15_0_s_16_1 G) gu dn)) (stw 10 inb_S4096x128_S256x128_10_0_s_16_1 (k0_pay19 (k0_pay7 (ldx 0 inb_S4096x128_S256x128_0_0_s_16_1 G) (ldx 1 inb_S4096x128_S256x128_1_0_s_16_1 G) (ldx 2 inb_S4096x128_S256x128_2_0_s_16_1 G) (ldx 3 inb_S4096x128_S256x128_3_0_s_16_1 G) (ldx 4 inb_S4096x128_S256x128_4_0_s_16_1 G) (ldx 5 inb_S4096x128_S256x128_5_0_s_16_1 G) (ldx 6 inb_S4096x128_S256x128_6_0_s_16_1 G) (ldx 7 inb_S4096x128_S256x128_7_0_s_16_1 G) (ldx 8 inb_S4096x128_S256x128_8_0_s_16_1 G) (ldx 9 inb_S4096x128_S256x128_9_0_s_16_1 G) (ldx 10 inb_S4096x128_S256x128_10_0_s_16_1 G) (ldx 11 inb_S4096x128_S256x128_11_0_s_16_1 G) (ldx 12 inb_S4096x128_S256x128_12_0_s_16_1 G) (ldx 13 inb_S4096x128_S256x128_13_0_s_16_1 G) (ldx 14 inb_S4096x128_S256x128_14_0_s_16_1 G) (ldx 15 inb_S4096x128_S256x128_15_0_s_16_1 G) gu dn)) (stw 9 inb_S4096x128_S256x128_9_0_s_16_1 (k0_pay18 (k0_pay7 (ldx 0 inb_S4096x128_S256x128_0_0_s_16_1 G) (ldx 1 inb_S4096x128_S256x128_1_0_s_16_1 G) (ldx 2 inb_S4096x128_S256x128_2_0_s_16_1 G) (ldx 3 inb_S4096x128_S256x128_3_0_s_16_1 G) (ldx 4 inb_S4096x128_S256x128_4_0_s_16_1 G) (ldx 5 inb_S4096x128_S256x128_5_0_s_16_1 G) (ldx 6 inb_S4096x128_S256x128_6_0_s_16_1 G) (ldx 7 inb_S4096x128_S256x128_7_0_s_16_1 G) (ldx 8 inb_S4096x128_S256x128_8_0_s_16_1 G) (ldx 9 inb_S4096x128_S256x128_9_0_s_16_1 G) (ldx 10 inb_S4096x128_S256x128_10_0_s_16_1 G) (ldx 11 inb_S4096x128_S256x128_11_0_s_16_1 G) (ldx 12 inb_S4096x128_S256x128_12_0_s_16_1 G) (ldx 13 inb_S4096x128_S256x128_13_0_s_16_1 G) (ldx 14 inb_S4096x128_S256x128_14_0_s_16_1 G) (ldx 15 inb_S4096x128_S256x128_15_0_s_16_1 G) gu dn)) (stw 8 inb_S4096x128_S256x128_8_0_s_16_1 (k0_pay17 (k0_pay7 (ldx 0 inb_S4096x128_S256x128_0_0_s_16_1 G) (ldx 1 inb_S4096x128_S256x128_1_0_s_16_1 G) (ldx 2 inb_S4096x128_S256x128_2_0_s_16_1 G) (ldx 3 inb_S4096x128_S256x128_3_0_s_16_1 G) (ldx 4 inb_S4096x128_S256x128_4_0_s_16_1 G) (ldx 5 inb_S4096x128_S256x128_5_0_s_16_1 G) (ldx 6 inb_S4096x128_S256x128_6_0_s_16_1 G) (ldx 7 inb_S4096x128_S256x128_7_0_s_16_1 G) (ldx 8 inb_S4096x128_S256x128_8_0_s_16_1 G) (ldx 9 inb_S4096x128_S256x128_9_0_s_16_1 G) (ldx 10 inb_S4096x128_S256x128_10_0_s_16_1 G) (ldx 11 inb_S4096x128_S256x128_11_0_s_16_1 G) (ldx 12 inb_S4096x128_S256x128_12_0_s_16_1 G) (ldx 13 inb_S4096x128_S256x128_13_0_s_16_1 G) (ldx 14 inb_S4096x128_S256x128_14_0_s_16_1 G) (ldx 15 inb_S4096x128_S256x128_15_0_s_16_1 G) gu dn)) (stw 7 inb_S4096x128_S256x128_7_0_s_16_1 (k0_pay16 (k0_pay7 (ldx 0 inb_S4096x128_S256x128_0_0_s_16_1 G) (ldx 1 inb_S4096x128_S256x128_1_0_s_16_1 G) (ldx 2 inb_S4096x128_S256x128_2_0_s_16_1 G) (ldx 3 inb_S4096x128_S256x128_3_0_s_16_1 G) (ldx 4 inb_S4096x128_S256x128_4_0_s_16_1 G) (ldx 5 inb_S4096x128_S256x128_5_0_s_16_1 G) (ldx 6 inb_S4096x128_S256x128_6_0_s_16_1 G) (ldx 7 inb_S4096x128_S256x128_7_0_s_16_1 G) (ldx 8 inb_S4096x128_S256x128_8_0_s_16_1 G) (ldx 9 inb_S4096x128_S256x128_9_0_s_16_1 G) (ldx 10 inb_S4096x128_S256x128_10_0_s_16_1 G) (ldx 11 inb_S4096x128_S256x128_11_0_s_16_1 G) (ldx 12 inb_S4096x128_S256x128_12_0_s_16_1 G) (ldx 13 inb_S4096x128_S256x128_13_0_s_16_1 G) (ldx 14 inb_S4096x128_S256x128_14_0_s_16_1 G) (ldx 15 inb_S4096x128_S256x128_15_0_s_16_1 G) gu dn)) (stw 6 inb_S4096x128_S256x128_6_0_s_16_1 (k0_pay15 (k0_pay7 (ldx 0 inb_S4096x128_S256x128_0_0_s_16_1 G) (ldx 1 inb_S4096x128_S256x128_1_0_s_16_1 G) (ldx 2 inb_S4096x128_S256x128_2_0_s_16_1 G) (ldx 3 inb_S4096x128_S256x128_3_0_s_16_1 G) (ldx 4 inb_S4096x128_S256x128_4_0_s_16_1 G) (ldx 5 inb_S4096x128_S256x128_5_0_s_16_1 G) (ldx 6 inb_S4096x128_S256x128_6_0_s_16_1 G) (ldx 7 inb_S4096x128_S256x128_7_0_s_16_1 G) (ldx 8 inb_S4096x128_S256x128_8_0_s_16_1 G) (ldx 9 inb_S4096x128_S256x128_9_0_s_16_1 G) (ldx 10 inb_S4096x128_S256x128_10_0_s_16_1 G) (ldx 11 inb_S4096x128_S256x128_11_0_s_16_1 G) (ldx 12 inb_S4096x128_S256x128_12_0_s_16_1 G) (ldx 13 inb_S4096x128_S256x128_13_0_s_16_1 G) (ldx 14 inb_S4096x128_S256x128_14_0_s_16_1 G) (ldx 15 inb_S4096x128_S256x128_15_0_s_16_1 G) gu dn)) (stw 5 inb_S4096x128_S256x128_5_0_s_16_1 (k0_pay14 (k0_pay7 (ldx 0 inb_S4096x128_S256x128_0_0_s_16_1 G) (ldx 1 inb_S4096x128_S256x128_1_0_s_16_1 G) (ldx 2 inb_S4096x128_S256x128_2_0_s_16_1 G) (ldx 3 inb_S4096x128_S256x128_3_0_s_16_1 G) (ldx 4 inb_S4096x128_S256x128_4_0_s_16_1 G) (ldx 5 inb_S4096x128_S256x128_5_0_s_16_1 G) (ldx 6 inb_S4096x128_S256x128_6_0_s_16_1 G) (ldx 7 inb_S4096x128_S256x128_7_0_s_16_1 G) (ldx 8 inb_S4096x128_S256x128_8_0_s_16_1 G) (ldx 9 inb_S4096x128_S256x128_9_0_s_16_1 G) (ldx 10 inb_S4096x128_S256x128_10_0_s_16_1 G) (ldx 11 inb_S4096x128_S256x128_11_0_s_16_1 G) (ldx 12 inb_S4096x128_S256x128_12_0_s_16_1 G) (ldx 13 inb_S4096x128_S256x128_13_0_s_16_1 G) (ldx 14 inb_S4096x128_S256x128_14_0_s_16_1 G) (ldx 15 inb_S4096x128_S256x128_15_0_s_16_1 G) gu dn)) (stw 4 inb_S4096x128_S256x128_4_0_s_16_1 (k0_pay13 (k0_pay12 (ldx 0 inb_S4096x128_S256x128_0_0_s_16_1 G) (ldx 1 inb_S4096x128_S256x128_1_0_s_16_1 G) (ldx 2 inb_S4096x128_S256x128_2_0_s_16_1 G) (ldx 3 inb_S4096x128_S256x128_3_0_s_16_1 G) (ldx 4 inb_S4096x128_S256x128_4_0_s_16_1 G) (ldx 5 inb_S4096x128_S256x128_5_0_s_16_1 G) (ldx 6 inb_S4096x128_S256x128_6_0_s_16_1 G) (ldx 7 inb_S4096x128_S256x128_7_0_s_16_1 G) (ldx 8 inb_S4096x128_S256x128_8_0_s_16_1 G) (ldx 9 inb_S4096x128_S256x128_9_0_s_16_1 G) (ldx 10 inb_S4096x128_S256x128_10_0_s_16_1 G) (ldx 11 inb_S4096x128_S256x128_11_0_s_16_1 G) (ldx 12 inb_S4096x128_S256x128_12_0_s_16_1 G) (ldx 13 inb_S4096x128_S256x128_13_0_s_16_1 G) (ldx 14 inb_S4096x128_S256x128_14_0_s_16_1 G) (ldx 15 inb_S4096x128_S256x128_15_0_s_16_1 G) gu dn)) (stw 3 inb_S4096x128_S256x128_3_0_s_16_1 (k0_pay11 (ldx 0 inb_S4096x128_S256x128_0_0_s_16_1 G) (ldx 1 inb_S4096x128_S256x128_1_0_s_16_1 G) (ldx 2 inb_S4096x128_S256x128_2_0_s_16_1 G) (ldx 3 inb_S4096x128_S256x128_3_0_s_16_1 G) (ldx 4 inb_S4096x128_S256x128_4_0_s_16_1 G) (ldx 5 inb_S4096x128_S256x128_5_0_s_16_1 G) (ldx 6 inb_S4096x128_S256x128_6_0_s_16_1 G) (ldx 7 inb_S4096x128_S256x128_7_0_s_16_1 G) (ldx 8 inb_S4096x128_S256x128_8_0_s_16_1 G) (ldx 9 inb_S4096x128_S256x128_9_0_s_16_1 G) (ldx 10 inb_S4096x128_S256x128_10_0_s_16_1 G) (ldx 11 inb_S4096x128_S256x128_11_0_s_16_1 G) (ldx 12 inb_S4096x128_S256x128_12_0_s_16_1 G) (ldx 13 inb_S4096x128_S256x128_13_0_s_16_1 G) (ldx 14 inb_S4096x128_S256x128_14_0_s_16_1 G) (ldx 15 inb_S4096x128_S256x128_15_0_s_16_1 G) gu dn) (stw 2 inb_S4096x128_S256x128_2_0_s_16_1 (k0_pay10 (ldx 0 inb_S4096x128_S256x128_0_0_s_16_1 G) (ldx 1 inb_S4096x128_S256x128_1_0_s_16_1 G) (ldx 2 inb_S4096x128_S256x128_2_0_s_16_1 G) (ldx 3 inb_S4096x128_S256x128_3_0_s_16_1 G) (ldx 4 inb_S4096x128_S256x128_4_0_s_16_1 G) (ldx 5 inb_S4096x128_S256x128_5_0_s_16_1 G) (ldx 6 inb_S4096x128_S256x128_6_0_s_16_1 G) (ldx 7 inb_S4096x128_S256x128_7_0_s_16_1 G) (ldx 8 inb_S4096x128_S256x128_8_0_s_16_1 G) (ldx 9 inb_S4096x128_S256x128_9_0_s_16_1 G) (ldx 10 inb_S4096x128_S256x128_10_0_s_16_1 G) (ldx 11 inb_S4096x128_S256x128_11_0_s_16_1 G) (ldx 12 inb_S4096x128_S256x128_12_0_s_16_1 G) (ldx 13 inb_S4096x128_S256x128_13_0_s_16_1 G) (ldx 14 inb_S4096x128_S256x128_14_0_s_16_1 G) (ldx 15 inb_S4096x128_S256x128_15_0_s_16_1 G) gu dn) (stw 1 inb_S4096x128_S256x128_1_0_s_16_1 (k0_pay9 (ldx 0 inb_S4096x128_S256x128_0_0_s_16_1 G) (ldx 1 inb_S4096x128_S256x128_1_0_s_16_1 G) (ldx 2 inb_S4096x128_S256x128_2_0_s_16_1 G) (ldx 3 inb_S4096x128_S256x128_3_0_s_16_1 G) (ldx 4 inb_S4096x128_S256x128_4_0_s_16_1 G) (ldx 5 inb_S4096x128_S256x128_5_0_s_16_1 G) (ldx 6 inb_S4096x128_S256x128_6_0_s_16_1 G) (ldx 7 inb_S4096x128_S256x128_7_0_s_16_1 G) (ldx 8 inb_S4096x128_S256x128_8_0_s_16_1 G) (ldx 9 inb_S4096x128_S256x128_9_0_s_16_1 G) (ldx 10 inb_S4096x128_S256x128_10_0_s_16_1 G) (ldx 11 inb_S4096x128_S256x128_11_0_s_16_1 G) (ldx 12 inb_S4096x128_S256x128_12_0_s_16_1 G) (ldx 13 inb_S4096x128_S256x128_13_0_s_16_1 G) (ldx 14 inb_S4096x128_S256x128_14_0_s_16_1 G) (ldx 15 inb_S4096x128_S256x128_15_0_s_16_1 G) gu dn) (stw 0 inb_S4096x128_S256x128_0_0_s_16_1 (k0_pay8 (ldx 0 inb_S4096x128_S256x128_0_0_s_16_1 G) (ldx 1 inb_S4096x128_S256x128_1_0_s_16_1 G) (ldx 2 inb_S4096x128_S256x128_2_0_s_16_1 G) (ldx 3 inb_S4096x128_S256x128_3_0_s_16_1 G) (ldx 4 inb_S4096x128_S256x128_4_0_s_16_1 G) (ldx 5 inb_S4096x128_S256x128_5_0_s_16_1 G) (ldx 6 inb_S4096x128_S256x128_6_0_s_16_1 G) (ldx 7 inb_S4096x128_S256x128_7_0_s_16_1 G) (ldx 8 inb_S4096x128_S256x128_8_0_s_16_1 G) (ldx 9 inb_S4096x128_S256x128_9_0_s_16_1 G) (ldx 10 inb_S4096x128_S256x128_10_0_s_16_1 G) (ldx 11 inb_S4096x128_S256x128_11_0_s_16_1 G) (ldx 12 inb_S4096x128_S256x128_12_0_s_16_1 G) (ldx 13 inb_S4096x128_S256x128_13_0_s_16_1 G) (ldx 14 inb_S4096x128_S256x128_14_0_s_16_1 G) (ldx 15 inb_S4096x128_S256x128_15_0_s_16_1 G) gu dn) f)))))))))))))))) = tileOut G gu dn := by
  unfold tileOut
  rw [← stage_full (blocksOf (prodOf G gu dn)) f]
  rfl

/-- The stage after all sixteen writes of an odd step holds the tile. -/
theorem tile_odd (G : S4096x128.Idx → F .f32) (gu : S2048x1024.Idx → F .bf16) (dn : S512x2048.Idx → F .bf16) (f : S4096x128.Idx → F .f32) :
    k0_pay4 (stw 15 inb_S4096x128_S256x128_15_0_s_16_1 (k0_pay3 (k0_pay23 (ldx 0 inb_S4096x128_S256x128_0_0_s_16_1 G) (ldx 1 inb_S4096x128_S256x128_1_0_s_16_1 G) (ldx 2 inb_S4096x128_S256x128_2_0_s_16_1 G) (ldx 3 inb_S4096x128_S256x128_3_0_s_16_1 G) (ldx 4 inb_S4096x128_S256x128_4_0_s_16_1 G) (ldx 5 inb_S4096x128_S256x128_5_0_s_16_1 G) (ldx 6 inb_S4096x128_S256x128_6_0_s_16_1 G) (ldx 7 inb_S4096x128_S256x128_7_0_s_16_1 G) (ldx 8 inb_S4096x128_S256x128_8_0_s_16_1 G) (ldx 9 inb_S4096x128_S256x128_9_0_s_16_1 G) (ldx 10 inb_S4096x128_S256x128_10_0_s_16_1 G) (ldx 11 inb_S4096x128_S256x128_11_0_s_16_1 G) (ldx 12 inb_S4096x128_S256x128_12_0_s_16_1 G) (ldx 13 inb_S4096x128_S256x128_13_0_s_16_1 G) (ldx 14 inb_S4096x128_S256x128_14_0_s_16_1 G) (ldx 15 inb_S4096x128_S256x128_15_0_s_16_1 G) gu dn)) (stw 14 inb_S4096x128_S256x128_14_0_s_16_1 (k0_pay2 (k0_pay23 (ldx 0 inb_S4096x128_S256x128_0_0_s_16_1 G) (ldx 1 inb_S4096x128_S256x128_1_0_s_16_1 G) (ldx 2 inb_S4096x128_S256x128_2_0_s_16_1 G) (ldx 3 inb_S4096x128_S256x128_3_0_s_16_1 G) (ldx 4 inb_S4096x128_S256x128_4_0_s_16_1 G) (ldx 5 inb_S4096x128_S256x128_5_0_s_16_1 G) (ldx 6 inb_S4096x128_S256x128_6_0_s_16_1 G) (ldx 7 inb_S4096x128_S256x128_7_0_s_16_1 G) (ldx 8 inb_S4096x128_S256x128_8_0_s_16_1 G) (ldx 9 inb_S4096x128_S256x128_9_0_s_16_1 G) (ldx 10 inb_S4096x128_S256x128_10_0_s_16_1 G) (ldx 11 inb_S4096x128_S256x128_11_0_s_16_1 G) (ldx 12 inb_S4096x128_S256x128_12_0_s_16_1 G) (ldx 13 inb_S4096x128_S256x128_13_0_s_16_1 G) (ldx 14 inb_S4096x128_S256x128_14_0_s_16_1 G) (ldx 15 inb_S4096x128_S256x128_15_0_s_16_1 G) gu dn)) (stw 13 inb_S4096x128_S256x128_13_0_s_16_1 (k0_pay1 (k0_pay38 (k0_pay23 (ldx 0 inb_S4096x128_S256x128_0_0_s_16_1 G) (ldx 1 inb_S4096x128_S256x128_1_0_s_16_1 G) (ldx 2 inb_S4096x128_S256x128_2_0_s_16_1 G) (ldx 3 inb_S4096x128_S256x128_3_0_s_16_1 G) (ldx 4 inb_S4096x128_S256x128_4_0_s_16_1 G) (ldx 5 inb_S4096x128_S256x128_5_0_s_16_1 G) (ldx 6 inb_S4096x128_S256x128_6_0_s_16_1 G) (ldx 7 inb_S4096x128_S256x128_7_0_s_16_1 G) (ldx 8 inb_S4096x128_S256x128_8_0_s_16_1 G) (ldx 9 inb_S4096x128_S256x128_9_0_s_16_1 G) (ldx 10 inb_S4096x128_S256x128_10_0_s_16_1 G) (ldx 11 inb_S4096x128_S256x128_11_0_s_16_1 G) (ldx 12 inb_S4096x128_S256x128_12_0_s_16_1 G) (ldx 13 inb_S4096x128_S256x128_13_0_s_16_1 G) (ldx 14 inb_S4096x128_S256x128_14_0_s_16_1 G) (ldx 15 inb_S4096x128_S256x128_15_0_s_16_1 G) gu dn))) (stw 12 inb_S4096x128_S256x128_12_0_s_16_1 (k0_pay37 (k0_pay23 (ldx 0 inb_S4096x128_S256x128_0_0_s_16_1 G) (ldx 1 inb_S4096x128_S256x128_1_0_s_16_1 G) (ldx 2 inb_S4096x128_S256x128_2_0_s_16_1 G) (ldx 3 inb_S4096x128_S256x128_3_0_s_16_1 G) (ldx 4 inb_S4096x128_S256x128_4_0_s_16_1 G) (ldx 5 inb_S4096x128_S256x128_5_0_s_16_1 G) (ldx 6 inb_S4096x128_S256x128_6_0_s_16_1 G) (ldx 7 inb_S4096x128_S256x128_7_0_s_16_1 G) (ldx 8 inb_S4096x128_S256x128_8_0_s_16_1 G) (ldx 9 inb_S4096x128_S256x128_9_0_s_16_1 G) (ldx 10 inb_S4096x128_S256x128_10_0_s_16_1 G) (ldx 11 inb_S4096x128_S256x128_11_0_s_16_1 G) (ldx 12 inb_S4096x128_S256x128_12_0_s_16_1 G) (ldx 13 inb_S4096x128_S256x128_13_0_s_16_1 G) (ldx 14 inb_S4096x128_S256x128_14_0_s_16_1 G) (ldx 15 inb_S4096x128_S256x128_15_0_s_16_1 G) gu dn)) (stw 11 inb_S4096x128_S256x128_11_0_s_16_1 (k0_pay36 (k0_pay23 (ldx 0 inb_S4096x128_S256x128_0_0_s_16_1 G) (ldx 1 inb_S4096x128_S256x128_1_0_s_16_1 G) (ldx 2 inb_S4096x128_S256x128_2_0_s_16_1 G) (ldx 3 inb_S4096x128_S256x128_3_0_s_16_1 G) (ldx 4 inb_S4096x128_S256x128_4_0_s_16_1 G) (ldx 5 inb_S4096x128_S256x128_5_0_s_16_1 G) (ldx 6 inb_S4096x128_S256x128_6_0_s_16_1 G) (ldx 7 inb_S4096x128_S256x128_7_0_s_16_1 G) (ldx 8 inb_S4096x128_S256x128_8_0_s_16_1 G) (ldx 9 inb_S4096x128_S256x128_9_0_s_16_1 G) (ldx 10 inb_S4096x128_S256x128_10_0_s_16_1 G) (ldx 11 inb_S4096x128_S256x128_11_0_s_16_1 G) (ldx 12 inb_S4096x128_S256x128_12_0_s_16_1 G) (ldx 13 inb_S4096x128_S256x128_13_0_s_16_1 G) (ldx 14 inb_S4096x128_S256x128_14_0_s_16_1 G) (ldx 15 inb_S4096x128_S256x128_15_0_s_16_1 G) gu dn)) (stw 10 inb_S4096x128_S256x128_10_0_s_16_1 (k0_pay35 (k0_pay23 (ldx 0 inb_S4096x128_S256x128_0_0_s_16_1 G) (ldx 1 inb_S4096x128_S256x128_1_0_s_16_1 G) (ldx 2 inb_S4096x128_S256x128_2_0_s_16_1 G) (ldx 3 inb_S4096x128_S256x128_3_0_s_16_1 G) (ldx 4 inb_S4096x128_S256x128_4_0_s_16_1 G) (ldx 5 inb_S4096x128_S256x128_5_0_s_16_1 G) (ldx 6 inb_S4096x128_S256x128_6_0_s_16_1 G) (ldx 7 inb_S4096x128_S256x128_7_0_s_16_1 G) (ldx 8 inb_S4096x128_S256x128_8_0_s_16_1 G) (ldx 9 inb_S4096x128_S256x128_9_0_s_16_1 G) (ldx 10 inb_S4096x128_S256x128_10_0_s_16_1 G) (ldx 11 inb_S4096x128_S256x128_11_0_s_16_1 G) (ldx 12 inb_S4096x128_S256x128_12_0_s_16_1 G) (ldx 13 inb_S4096x128_S256x128_13_0_s_16_1 G) (ldx 14 inb_S4096x128_S256x128_14_0_s_16_1 G) (ldx 15 inb_S4096x128_S256x128_15_0_s_16_1 G) gu dn)) (stw 9 inb_S4096x128_S256x128_9_0_s_16_1 (k0_pay34 (k0_pay23 (ldx 0 inb_S4096x128_S256x128_0_0_s_16_1 G) (ldx 1 inb_S4096x128_S256x128_1_0_s_16_1 G) (ldx 2 inb_S4096x128_S256x128_2_0_s_16_1 G) (ldx 3 inb_S4096x128_S256x128_3_0_s_16_1 G) (ldx 4 inb_S4096x128_S256x128_4_0_s_16_1 G) (ldx 5 inb_S4096x128_S256x128_5_0_s_16_1 G) (ldx 6 inb_S4096x128_S256x128_6_0_s_16_1 G) (ldx 7 inb_S4096x128_S256x128_7_0_s_16_1 G) (ldx 8 inb_S4096x128_S256x128_8_0_s_16_1 G) (ldx 9 inb_S4096x128_S256x128_9_0_s_16_1 G) (ldx 10 inb_S4096x128_S256x128_10_0_s_16_1 G) (ldx 11 inb_S4096x128_S256x128_11_0_s_16_1 G) (ldx 12 inb_S4096x128_S256x128_12_0_s_16_1 G) (ldx 13 inb_S4096x128_S256x128_13_0_s_16_1 G) (ldx 14 inb_S4096x128_S256x128_14_0_s_16_1 G) (ldx 15 inb_S4096x128_S256x128_15_0_s_16_1 G) gu dn)) (stw 8 inb_S4096x128_S256x128_8_0_s_16_1 (k0_pay33 (k0_pay23 (ldx 0 inb_S4096x128_S256x128_0_0_s_16_1 G) (ldx 1 inb_S4096x128_S256x128_1_0_s_16_1 G) (ldx 2 inb_S4096x128_S256x128_2_0_s_16_1 G) (ldx 3 inb_S4096x128_S256x128_3_0_s_16_1 G) (ldx 4 inb_S4096x128_S256x128_4_0_s_16_1 G) (ldx 5 inb_S4096x128_S256x128_5_0_s_16_1 G) (ldx 6 inb_S4096x128_S256x128_6_0_s_16_1 G) (ldx 7 inb_S4096x128_S256x128_7_0_s_16_1 G) (ldx 8 inb_S4096x128_S256x128_8_0_s_16_1 G) (ldx 9 inb_S4096x128_S256x128_9_0_s_16_1 G) (ldx 10 inb_S4096x128_S256x128_10_0_s_16_1 G) (ldx 11 inb_S4096x128_S256x128_11_0_s_16_1 G) (ldx 12 inb_S4096x128_S256x128_12_0_s_16_1 G) (ldx 13 inb_S4096x128_S256x128_13_0_s_16_1 G) (ldx 14 inb_S4096x128_S256x128_14_0_s_16_1 G) (ldx 15 inb_S4096x128_S256x128_15_0_s_16_1 G) gu dn)) (stw 7 inb_S4096x128_S256x128_7_0_s_16_1 (k0_pay32 (k0_pay23 (ldx 0 inb_S4096x128_S256x128_0_0_s_16_1 G) (ldx 1 inb_S4096x128_S256x128_1_0_s_16_1 G) (ldx 2 inb_S4096x128_S256x128_2_0_s_16_1 G) (ldx 3 inb_S4096x128_S256x128_3_0_s_16_1 G) (ldx 4 inb_S4096x128_S256x128_4_0_s_16_1 G) (ldx 5 inb_S4096x128_S256x128_5_0_s_16_1 G) (ldx 6 inb_S4096x128_S256x128_6_0_s_16_1 G) (ldx 7 inb_S4096x128_S256x128_7_0_s_16_1 G) (ldx 8 inb_S4096x128_S256x128_8_0_s_16_1 G) (ldx 9 inb_S4096x128_S256x128_9_0_s_16_1 G) (ldx 10 inb_S4096x128_S256x128_10_0_s_16_1 G) (ldx 11 inb_S4096x128_S256x128_11_0_s_16_1 G) (ldx 12 inb_S4096x128_S256x128_12_0_s_16_1 G) (ldx 13 inb_S4096x128_S256x128_13_0_s_16_1 G) (ldx 14 inb_S4096x128_S256x128_14_0_s_16_1 G) (ldx 15 inb_S4096x128_S256x128_15_0_s_16_1 G) gu dn)) (stw 6 inb_S4096x128_S256x128_6_0_s_16_1 (k0_pay31 (k0_pay23 (ldx 0 inb_S4096x128_S256x128_0_0_s_16_1 G) (ldx 1 inb_S4096x128_S256x128_1_0_s_16_1 G) (ldx 2 inb_S4096x128_S256x128_2_0_s_16_1 G) (ldx 3 inb_S4096x128_S256x128_3_0_s_16_1 G) (ldx 4 inb_S4096x128_S256x128_4_0_s_16_1 G) (ldx 5 inb_S4096x128_S256x128_5_0_s_16_1 G) (ldx 6 inb_S4096x128_S256x128_6_0_s_16_1 G) (ldx 7 inb_S4096x128_S256x128_7_0_s_16_1 G) (ldx 8 inb_S4096x128_S256x128_8_0_s_16_1 G) (ldx 9 inb_S4096x128_S256x128_9_0_s_16_1 G) (ldx 10 inb_S4096x128_S256x128_10_0_s_16_1 G) (ldx 11 inb_S4096x128_S256x128_11_0_s_16_1 G) (ldx 12 inb_S4096x128_S256x128_12_0_s_16_1 G) (ldx 13 inb_S4096x128_S256x128_13_0_s_16_1 G) (ldx 14 inb_S4096x128_S256x128_14_0_s_16_1 G) (ldx 15 inb_S4096x128_S256x128_15_0_s_16_1 G) gu dn)) (stw 5 inb_S4096x128_S256x128_5_0_s_16_1 (k0_pay30 (k0_pay23 (ldx 0 inb_S4096x128_S256x128_0_0_s_16_1 G) (ldx 1 inb_S4096x128_S256x128_1_0_s_16_1 G) (ldx 2 inb_S4096x128_S256x128_2_0_s_16_1 G) (ldx 3 inb_S4096x128_S256x128_3_0_s_16_1 G) (ldx 4 inb_S4096x128_S256x128_4_0_s_16_1 G) (ldx 5 inb_S4096x128_S256x128_5_0_s_16_1 G) (ldx 6 inb_S4096x128_S256x128_6_0_s_16_1 G) (ldx 7 inb_S4096x128_S256x128_7_0_s_16_1 G) (ldx 8 inb_S4096x128_S256x128_8_0_s_16_1 G) (ldx 9 inb_S4096x128_S256x128_9_0_s_16_1 G) (ldx 10 inb_S4096x128_S256x128_10_0_s_16_1 G) (ldx 11 inb_S4096x128_S256x128_11_0_s_16_1 G) (ldx 12 inb_S4096x128_S256x128_12_0_s_16_1 G) (ldx 13 inb_S4096x128_S256x128_13_0_s_16_1 G) (ldx 14 inb_S4096x128_S256x128_14_0_s_16_1 G) (ldx 15 inb_S4096x128_S256x128_15_0_s_16_1 G) gu dn)) (stw 4 inb_S4096x128_S256x128_4_0_s_16_1 (k0_pay29 (k0_pay28 (ldx 0 inb_S4096x128_S256x128_0_0_s_16_1 G) (ldx 1 inb_S4096x128_S256x128_1_0_s_16_1 G) (ldx 2 inb_S4096x128_S256x128_2_0_s_16_1 G) (ldx 3 inb_S4096x128_S256x128_3_0_s_16_1 G) (ldx 4 inb_S4096x128_S256x128_4_0_s_16_1 G) (ldx 5 inb_S4096x128_S256x128_5_0_s_16_1 G) (ldx 6 inb_S4096x128_S256x128_6_0_s_16_1 G) (ldx 7 inb_S4096x128_S256x128_7_0_s_16_1 G) (ldx 8 inb_S4096x128_S256x128_8_0_s_16_1 G) (ldx 9 inb_S4096x128_S256x128_9_0_s_16_1 G) (ldx 10 inb_S4096x128_S256x128_10_0_s_16_1 G) (ldx 11 inb_S4096x128_S256x128_11_0_s_16_1 G) (ldx 12 inb_S4096x128_S256x128_12_0_s_16_1 G) (ldx 13 inb_S4096x128_S256x128_13_0_s_16_1 G) (ldx 14 inb_S4096x128_S256x128_14_0_s_16_1 G) (ldx 15 inb_S4096x128_S256x128_15_0_s_16_1 G) gu dn)) (stw 3 inb_S4096x128_S256x128_3_0_s_16_1 (k0_pay27 (ldx 0 inb_S4096x128_S256x128_0_0_s_16_1 G) (ldx 1 inb_S4096x128_S256x128_1_0_s_16_1 G) (ldx 2 inb_S4096x128_S256x128_2_0_s_16_1 G) (ldx 3 inb_S4096x128_S256x128_3_0_s_16_1 G) (ldx 4 inb_S4096x128_S256x128_4_0_s_16_1 G) (ldx 5 inb_S4096x128_S256x128_5_0_s_16_1 G) (ldx 6 inb_S4096x128_S256x128_6_0_s_16_1 G) (ldx 7 inb_S4096x128_S256x128_7_0_s_16_1 G) (ldx 8 inb_S4096x128_S256x128_8_0_s_16_1 G) (ldx 9 inb_S4096x128_S256x128_9_0_s_16_1 G) (ldx 10 inb_S4096x128_S256x128_10_0_s_16_1 G) (ldx 11 inb_S4096x128_S256x128_11_0_s_16_1 G) (ldx 12 inb_S4096x128_S256x128_12_0_s_16_1 G) (ldx 13 inb_S4096x128_S256x128_13_0_s_16_1 G) (ldx 14 inb_S4096x128_S256x128_14_0_s_16_1 G) (ldx 15 inb_S4096x128_S256x128_15_0_s_16_1 G) gu dn) (stw 2 inb_S4096x128_S256x128_2_0_s_16_1 (k0_pay26 (ldx 0 inb_S4096x128_S256x128_0_0_s_16_1 G) (ldx 1 inb_S4096x128_S256x128_1_0_s_16_1 G) (ldx 2 inb_S4096x128_S256x128_2_0_s_16_1 G) (ldx 3 inb_S4096x128_S256x128_3_0_s_16_1 G) (ldx 4 inb_S4096x128_S256x128_4_0_s_16_1 G) (ldx 5 inb_S4096x128_S256x128_5_0_s_16_1 G) (ldx 6 inb_S4096x128_S256x128_6_0_s_16_1 G) (ldx 7 inb_S4096x128_S256x128_7_0_s_16_1 G) (ldx 8 inb_S4096x128_S256x128_8_0_s_16_1 G) (ldx 9 inb_S4096x128_S256x128_9_0_s_16_1 G) (ldx 10 inb_S4096x128_S256x128_10_0_s_16_1 G) (ldx 11 inb_S4096x128_S256x128_11_0_s_16_1 G) (ldx 12 inb_S4096x128_S256x128_12_0_s_16_1 G) (ldx 13 inb_S4096x128_S256x128_13_0_s_16_1 G) (ldx 14 inb_S4096x128_S256x128_14_0_s_16_1 G) (ldx 15 inb_S4096x128_S256x128_15_0_s_16_1 G) gu dn) (stw 1 inb_S4096x128_S256x128_1_0_s_16_1 (k0_pay25 (ldx 0 inb_S4096x128_S256x128_0_0_s_16_1 G) (ldx 1 inb_S4096x128_S256x128_1_0_s_16_1 G) (ldx 2 inb_S4096x128_S256x128_2_0_s_16_1 G) (ldx 3 inb_S4096x128_S256x128_3_0_s_16_1 G) (ldx 4 inb_S4096x128_S256x128_4_0_s_16_1 G) (ldx 5 inb_S4096x128_S256x128_5_0_s_16_1 G) (ldx 6 inb_S4096x128_S256x128_6_0_s_16_1 G) (ldx 7 inb_S4096x128_S256x128_7_0_s_16_1 G) (ldx 8 inb_S4096x128_S256x128_8_0_s_16_1 G) (ldx 9 inb_S4096x128_S256x128_9_0_s_16_1 G) (ldx 10 inb_S4096x128_S256x128_10_0_s_16_1 G) (ldx 11 inb_S4096x128_S256x128_11_0_s_16_1 G) (ldx 12 inb_S4096x128_S256x128_12_0_s_16_1 G) (ldx 13 inb_S4096x128_S256x128_13_0_s_16_1 G) (ldx 14 inb_S4096x128_S256x128_14_0_s_16_1 G) (ldx 15 inb_S4096x128_S256x128_15_0_s_16_1 G) gu dn) (stw 0 inb_S4096x128_S256x128_0_0_s_16_1 (k0_pay24 (ldx 0 inb_S4096x128_S256x128_0_0_s_16_1 G) (ldx 1 inb_S4096x128_S256x128_1_0_s_16_1 G) (ldx 2 inb_S4096x128_S256x128_2_0_s_16_1 G) (ldx 3 inb_S4096x128_S256x128_3_0_s_16_1 G) (ldx 4 inb_S4096x128_S256x128_4_0_s_16_1 G) (ldx 5 inb_S4096x128_S256x128_5_0_s_16_1 G) (ldx 6 inb_S4096x128_S256x128_6_0_s_16_1 G) (ldx 7 inb_S4096x128_S256x128_7_0_s_16_1 G) (ldx 8 inb_S4096x128_S256x128_8_0_s_16_1 G) (ldx 9 inb_S4096x128_S256x128_9_0_s_16_1 G) (ldx 10 inb_S4096x128_S256x128_10_0_s_16_1 G) (ldx 11 inb_S4096x128_S256x128_11_0_s_16_1 G) (ldx 12 inb_S4096x128_S256x128_12_0_s_16_1 G) (ldx 13 inb_S4096x128_S256x128_13_0_s_16_1 G) (ldx 14 inb_S4096x128_S256x128_14_0_s_16_1 G) (ldx 15 inb_S4096x128_S256x128_15_0_s_16_1 G) gu dn) f)))))))))))))))) = tileOut G gu dn := by
  unfold tileOut
  rw [← stage_full (blocksOf (prodOf G gu dn)) f]
  rfl

include hp in
/-- An even step: the weights, then the tile. -/
theorem part13_even (v0 : BitVec 32) (hv : v0.toNat = E.nu) (h2 : k0_cond2 i v0 = 1#1) (h4 : k0_cond4 i = 1#1) (hj : (i 0).val < E.nu) {q : PosShare TreeShare}
    {α : Type} {k : (Σ' (_ : BitVec 32), BitVec 32) → Prog (TpuEff nD τ sig (Elt F) Λ₀ .tc) α} {Q : α → sProp 𝕄} :
    iprop((∃ W, owes (c : Thread nD τ) 0 W) ∗ (lc c main_arg0 ↦{q} E.te) ∗ owns (c : Thread nD τ) arg5 fullShare (E.gub (E.ex (i 0).val)) ∗ owns (c : Thread nD τ) arg6 fullShare (E.dnb (E.ex (i 0).val)) ∗ Held c E (i 0).val ∗ MHeld c E.mt (i 0).val ∗ MHeld c E.mt ((i 0).val + 1) ∗ MFly c E.mt ((i 0).val + 2) ∗ MFly c E.mt ((i 0).val + 3) ∗ CopiesE c E (i 0).val)
      ⊢ iprop((∀ r, iprop((∃ W, owes (c : Thread nD τ) 0 W) ∗ (lc c main_arg0 ↦{q} E.te) ∗ owns (c : Thread nD τ) arg5 fullShare (E.gub (E.ex (i 0).val)) ∗ owns (c : Thread nD τ) arg6 fullShare (E.dnb (E.ex (i 0).val))
            ∗ Run c E ((i 0).val + 1) ∗ Weights c E (i 0).val ∗ (∃ f : S4096x128.Idx → F .f32, lc c cc0_scratch5 ↦{fullShare} f))
            -∗ wp frame (wpE (defs₀ (F := F)) Variants.none c none) Set.univ (k r) Q)
        -∗ wp frame (wpE (defs₀ (F := F)) Variants.none c none) Set.univ (k0_part13 (F := F) i mTe (Memref.isWhole_whole _) mNu (Memref.isWhole_whole _) mMeta (Memref.isWhole_whole _) mX (Memref.isWhole_whole _) arg5 harg5 arg6 harg6 mY (Memref.isWhole_whole _) mRing (Memref.isWhole_whole _) mXa (Memref.isWhole_whole _) mXb (Memref.isWhole_whole _) mYa (Memref.isWhole_whole _) mYb (Memref.isWhole_whole _) mStage (Memref.isWhole_whole _) mGu (Memref.isWhole_whole _) mDn (Memref.isWhole_whole _) cc0_scratch8 cc0_scratch9 cc0_scratch10 (BitVec.ofNat 32 (i 0).val) v0 h2 >>= k) Q) := by
  rw [wp_bind, k0_part13_eq_skeleton]
  unfold k0_part13_skel Held
  iintro ⟨HO, Hte, H5, H6, ⟨⟨%g, %d, %hgd, Hgu, Hdn⟩, %f5, Hf⟩, M0, M1, M2, M3, HC⟩ Hk
  iapply (wp_metaWait c E.mt (a := (i 0).val + 2) (sem_at (off8_2 i))) $$ [M2 HO]
  · isplitl [M2] <;> iassumption
  iintro ⟨M2, HO⟩
  iapply (wp_teWord (n1 := numel1_S1) (hp := rfl) c E.te (k0_off11_eq i) (i_lt i)) $$ Hte
  iintro Hte
  iapply (wp_teWord (n1 := numel1_S1) (hp := rfl) c E.te (off12_eq i) (by have := i_lt i; omega)) $$ Hte
  iintro Hte
  iapply (wp_jpIf c iprop(owns (c : Thread nD τ) arg5 fullShare (E.gub (E.ex (i 0).val)) ∗ owns (c : Thread nD τ) arg6 fullShare (E.dnb (E.ex (i 0).val)) ∗ (lc c cc0_scratch6 ↦{fullShare} g) ∗ (lc c cc0_scratch7 ↦{fullShare} d))
    iprop(owns (c : Thread nD τ) arg5 fullShare (E.gub (E.ex (i 0).val)) ∗ owns (c : Thread nD τ) arg6 fullShare (E.dnb (E.ex (i 0).val)) ∗ Weights c E (i 0).val) ?_ ?_) $$ [H5 H6 Hgu Hdn]
  · intro _
    iintro ⟨H5, H6, Hgu, Hdn⟩ Hk
    iapply (wp_ldGate c) $$ H5
    iintro H5
    iapply (wp_ldGu c) $$ Hgu
    iintro Hgu
    iapply (wp_stGu c) $$ Hgu
    iintro Hgu
    iapply (wp_ldBack c) $$ H6
    iintro H6
    iapply (wp_ldDn c) $$ Hdn
    iintro Hdn
    iapply (wp_stDn c) $$ Hdn
    iintro Hdn
    iapply Hk
    isplitl [H5]; · iexact H5
    isplitl [H6]; · iexact H6
    unfold Weights
    isplitl [Hgu] <;> iassumption
  · intro h
    have h := mt (fresh_iff i _ _).2 h
    obtain ⟨h0, ht⟩ := not_or.1 h
    have he : E.ex ((i 0).val - 1) = E.ex (i 0).val := congrArg BitVec.toNat (not_not.1 ht).symm
    obtain ⟨hg, hd⟩ := (hgd.resolve_left h0).resolve_left (by omega)
    rw [he] at hg hd
    subst hg hd
    iintro ⟨H5, H6, Hgu, Hdn⟩
    isplitl [H5]; · iexact H5
    isplitl [H6]; · iexact H6
    unfold Weights
    isplitl [Hgu] <;> iassumption
  · isplitl [H5]; · iexact H5
    isplitl [H6]; · iexact H6
    isplitl [Hgu] <;> iassumption
  iintro ⟨H5, H6, HW⟩
  have hpar := (cond4_iff i).1 h4
  rw [dif_pos h4]
  unfold CopiesE Weights
  ihave H4 : Four (F := F) c E.mt (i 0).val $$ [M0 M1 M2 M3]
  · unfold Four
    isplitl [M0]; · iexact M0
    isplitl [M1]; · iexact M1
    isplitl [M2] <;> iassumption
  unfold Four
  icases HW with ⟨Hgu, Hdn⟩
  icases HC with ⟨HG, ⟨%fx, Hx⟩, Hgn, HS, HR, Hyp, Hsn⟩
  icases H4 with ⟨M0, M1, M2, M3⟩
  ihave M0 := (MHeld.split c E.mt ((i 0).val)) $$ M0
  icases M0 with ⟨M0, A0, V0⟩
  ihave M2 := (MHeld.split c E.mt ((i 0).val + 2)) $$ M2
  icases M2 with ⟨M2, A2, V2⟩
  iapply (part3_run c hp i arg5 harg5 arg6 harg6 v0 h2 h4 (gathered E.X (gi E.mt ((i 0).val + 1))) fx E.X _) $$ [HO HG HS M2 Hx Hgn]
  · isplitl [HO]; · iexact HO
    isplitl [HG]; · iexact HG
    isplitl [HS]; · iexact HS
    isplitl [M2]; · iexact M2
    isplitl [Hx] <;> iassumption
  iintro %r3 ⟨HO, Hgs, Hss, HG, ⟨HY, Hys⟩, M2, HF⟩
  ihave HY := (Y_next c E (i 0).val) $$ [HY HR]
  · isplitl [HY] <;> iassumption
  icases HY with ⟨HY, HR⟩
  iapply (part4_run c hp i arg5 harg5 arg6 harg6 r3.1 r3.2 v0 h2 h4 (gathered E.X (gi E.mt ((i 0).val + 1))) (E.row ((i 0).val + 1)) (E.Y ((i 0).val + 1))) $$ [M0 HY Hyp Hsn HG]
  · isplitl [M0]; · iexact M0
    isplitl [HY]; · iexact HY
    isplitl [Hyp]; · iexact Hyp
    isplitl [Hsn] <;> iassumption
  iintro ⟨M0, HS, HG⟩
  iapply (part5_run c i arg5 harg5 arg6 harg6 _ _ _ _ _ _ _ _ _ _ _ _ _ _ _ _ (k0_pay39 (E.gub (E.ex (i 0).val))) (k0_pay40 (E.dnb (E.ex (i 0).val))) f5) $$ [Hgu Hdn Hf]
  · isplitl [Hgu]; · iexact Hgu
    isplitl [Hdn] <;> iassumption
  iintro ⟨Hgu, Hdn, Hf⟩
  iapply (part6_run c i arg5 harg5 arg6 harg6 _ _ _) $$ Hf
  iintro Hf
  iapply (wp_load Variants.none (c : Thread nD τ) none Set.univ (m := mStage) (S := Finset.univ) (q := fullShare) (f := _) (Finset.subset_univ _)) $$ Hf
  iintro Hf
  iapply (wp_stw c 13 inb_S4096x128_S256x128_13_0_s_16_1 _) $$ Hf
  iintro Hf
  iapply (wp_load Variants.none (c : Thread nD τ) none Set.univ (m := mStage) (S := Finset.univ) (q := fullShare) (f := _) (Finset.subset_univ _)) $$ Hf
  iintro Hf
  iapply (wp_stw c 14 inb_S4096x128_S256x128_14_0_s_16_1 _) $$ Hf
  iintro Hf
  iapply (wp_load Variants.none (c : Thread nD τ) none Set.univ (m := mStage) (S := Finset.univ) (q := fullShare) (f := _) (Finset.subset_univ _)) $$ Hf
  iintro Hf
  iapply (wp_stw c 15 inb_S4096x128_S256x128_15_0_s_16_1 _) $$ Hf
  iintro Hf
  iapply (wp_ldStage c) $$ Hf
  iintro Hf
  iapply (wp_ldYa c) $$ Hys
  iintro Hys
  iapply (wp_stYa c) $$ Hys
  iintro Hys
  rw [tile_even]
  iapply (wp_jp c iprop((∃ W, owes (c : Thread nD τ) 0 W) ∗ Four (F := F) c E.mt (i 0).val ∗ (lc c cc0_scratch1 ↦{fullShare} gathered E.X (gi E.mt ((i 0).val + 1))) ∗ semVal ((c : Thread nD τ), .dma 8) 0 ∗ semVal ((c : Thread nD τ), .dma 10) 0
      ∗ Flight c 9 65536 iprop((lc c cc0_scratch2 ↦{fullShare} gathered E.X (gi E.mt ((i 0).val + 2))) ∗ (lc c main_arg3 ↦{fullShare} E.X))
      ∗ Flight c 11 32768 iprop((lc c main_v0 ↦[dset (sd E.mt ((i 0).val + 1))]{fullShare} E.Y ((i 0).val + 2)) ∗ (lc c cc0_scratch4 ↦{fullShare} E.row ((i 0).val + 1)))
      ∗ (lc c main_v0 ↦[Finset.univ \ dset (sd E.mt ((i 0).val + 1))]{fullShare} E.Y ((i 0).val + 2)) ∗ (lc c cc0_scratch3 ↦{fullShare} E.row ((i 0).val + 2)))
    iprop((∃ W, owes (c : Thread nD τ) 0 W) ∗ Run c E ((i 0).val + 1)) ?_ ?_) $$ [HO M0 A0 V0 M1 M2 A2 V2 M3 HG Hgs Hss HF HS HR Hys]
  · intro h5
    have hl : (i 0).val + 1 = E.nu := by
      have := (cond5_iff (v := v0) i (by rw [hv]; exact hp.nu_le) (by rw [hv]; exact hp.nu_pos)).1 h5
      rw [hv] at this; exact this
    unfold Four
    iintro ⟨HO, ⟨M0, M1, M2, M3⟩, HG, Hgs, Hss, HF, HS, HR, Hys⟩ Hk
    ihave M1 := (MHeld.split c E.mt ((i 0).val + 1)) $$ M1
    icases M1 with ⟨M1, A1, V1⟩
    ihave HR := (Y_last c E hp (j := (i 0).val) (i_lt i)) $$ HR
    icases HR with ⟨HY, HR⟩
    iapply (part2_run c hp i arg5 harg5 arg6 harg6 v0 h2 h4 h5 (E.row ((i 0).val + 2)) (E.Y ((i 0).val + 2)) _ _) $$ [HO M1 HY Hys Hss HS HF]
    · isplitl [HO]; · iexact HO
      isplitl [M1]; · iexact M1
      isplitl [HY]; · iexact HY
      isplitl [Hys]; · iexact Hys
      isplitl [Hss]; · iexact Hss
      isplitl [HS] <;> iassumption
    iintro %r2 ⟨HO, M1, HY, Hys, Hss, Hsn, Hgn, ⟨HY1, Hyp⟩, Hxn, HX⟩
    iapply (wp_metaWait c E.mt (a := (i 0).val + 3) (sem_at (off31_eq i))) $$ [M3 HO]
    · isplitl [M3] <;> iassumption
    iintro ⟨M3, HO⟩
    iapply Hk
    isplitl [HO]; · iexact HO
    unfold Run
    rw [if_neg (show ¬ (i 0).val + 1 < E.nu by omega), ← hl]
    ihave HY := (Y_all c E hp (j := (i 0).val) (i_lt i)) $$ [HY HY1 HR]
    · isplitl [HY1]; · iexact HY1
      isplitl [HY]; · iexact HY
      iexact HR
    ihave M0 := (MHeld.free c E.mt (i 0).val) $$ M0
    ihave M1 := (MHeld.free c E.mt ((i 0).val + 1)) $$ [M1 A1 V1]
    · unfold MHeld
      isplitl [M1]; · iexact M1
      isplitl [A1] <;> iassumption
    ihave M2 := (MHeld.free c E.mt ((i 0).val + 2)) $$ M2
    ihave M3 := (MHeld.free c E.mt ((i 0).val + 3)) $$ M3
    ihave MM := (free_rotate c E.mt ((i 0).val + 4)) $$ [M0 M1 M2 M3]
    · isplitl [M0]; · iexact M0
      isplitl [M1]; · iexact M1
      isplitl [M2] <;> iassumption
    unfold Idle
    isplitl [HX]; · iexact HX
    isplitl [HG]; · iexists _; iexact HG
    isplitl [Hxn]; · iexists _; iexact Hxn
    isplitl [Hys]; · iexists _; iexact Hys
    isplitl [Hyp]; · iexists _; iexact Hyp
    isplitl [Hgs]; · iexact Hgs
    isplitl [Hgn]; · iexact Hgn
    isplitl [Hss]; · iexact Hss
    isplitl [Hsn]; · iexact Hsn
    isplitl [HY]; · iexact HY
    iexact MM
  · intro h5
    have hl : (i 0).val + 1 < E.nu := by
      have h := mt ((cond5_iff (v := v0) i (by rw [hv]; exact hp.nu_le) (by rw [hv]; exact hp.nu_pos)).2) h5
      rw [hv] at h; omega
    unfold Four
    iintro ⟨HO, ⟨M0, M1, M2, M3⟩, HG, Hgs, Hss, HF, HS, HR, Hys⟩
    isplitl [HO]; · iexact HO
    unfold Run
    rw [if_pos hl, if_neg (show ¬ ((i 0).val + 1) % 2 = 0 by omega)]
    isplitl [HG Hgs Hss HF HS HR Hys]
    · unfold CopiesO
      isplitl [HF]; · iexact HF
      isplitl [HG]; · iexists _; iexact HG
      isplitl [Hgs]; · iexact Hgs
      isplitl [HS]; · iexact HS
      isplitl [HR]; · iexact HR
      isplitl [Hys] <;> iassumption
    unfold Entries
    isplitl [M1]; · iexact M1
    isplitl [M2]; · iexact M2
    isplitl [M3]; · iexact M3
    iapply (MHeld.free c E.mt (i 0).val) $$ M0
  · isplitl [HO]; · iexact HO
    isplitl [M0 A0 V0 M1 M2 A2 V2 M3]
    · unfold Four
      isplitl [M0 A0 V0]
      · unfold MHeld
        isplitl [M0]; · iexact M0
        isplitl [A0] <;> iassumption
      isplitl [M1]; · iexact M1
      isplitl [M2 A2 V2]
      · unfold MHeld
        isplitl [M2]; · iexact M2
        isplitl [A2] <;> iassumption
      iexact M3
    isplitl [HG]; · iexact HG
    isplitl [Hgs]; · iexact Hgs
    isplitl [Hss]; · iexact Hss
    isplitl [HF]; · iexact HF
    isplitl [HS]; · iexact HS
    isplitl [HR]; · iexact HR
    iexact Hys
  iintro ⟨HO, HRun⟩
  iapply (wp_done c)
  iapply Hk
  isplitl [HO]; · iexact HO
  isplitl [Hte]; · iexact Hte
  isplitl [H5]; · iexact H5
  isplitl [H6]; · iexact H6
  isplitl [HRun]; · iexact HRun
  isplitl [Hgu Hdn]
  · isplitl [Hgu] <;> iassumption
  iexists _; iexact Hf

include hp in
/-- An odd step's weights. -/
theorem part13_odd (v0 : BitVec 32) (hv : v0.toNat = E.nu) (h2 : k0_cond2 i v0 = 1#1) (h4 : ¬ k0_cond4 i = 1#1) (hj : (i 0).val < E.nu) {q : PosShare TreeShare}
    {α : Type} {k : (Σ' (_ : BitVec 32), BitVec 32) → Prog (TpuEff nD τ sig (Elt F) Λ₀ .tc) α} {Q : α → sProp 𝕄} :
    iprop((∃ W, owes (c : Thread nD τ) 0 W) ∗ (lc c main_arg0 ↦{q} E.te) ∗ owns (c : Thread nD τ) arg5 fullShare (E.gub (E.ex (i 0).val)) ∗ owns (c : Thread nD τ) arg6 fullShare (E.dnb (E.ex (i 0).val)) ∗ Held c E (i 0).val ∗ MHeld c E.mt (i 0).val ∗ MHeld c E.mt ((i 0).val + 1) ∗ MFly c E.mt ((i 0).val + 2) ∗ MFly c E.mt ((i 0).val + 3))
      ⊢ iprop((∀ r, iprop((∃ W, owes (c : Thread nD τ) 0 W) ∗ (lc c main_arg0 ↦{q} E.te) ∗ owns (c : Thread nD τ) arg5 fullShare (E.gub (E.ex (i 0).val)) ∗ owns (c : Thread nD τ) arg6 fullShare (E.dnb (E.ex (i 0).val))
            ∗ Four (F := F) c E.mt (i 0).val ∗ Weights c E (i 0).val ∗ (∃ f : S4096x128.Idx → F .f32, lc c cc0_scratch5 ↦{fullShare} f))
            -∗ wp frame (wpE (defs₀ (F := F)) Variants.none c none) Set.univ (k r) Q)
        -∗ wp frame (wpE (defs₀ (F := F)) Variants.none c none) Set.univ (k0_part13 (F := F) i mTe (Memref.isWhole_whole _) mNu (Memref.isWhole_whole _) mMeta (Memref.isWhole_whole _) mX (Memref.isWhole_whole _) arg5 harg5 arg6 harg6 mY (Memref.isWhole_whole _) mRing (Memref.isWhole_whole _) mXa (Memref.isWhole_whole _) mXb (Memref.isWhole_whole _) mYa (Memref.isWhole_whole _) mYb (Memref.isWhole_whole _) mStage (Memref.isWhole_whole _) mGu (Memref.isWhole_whole _) mDn (Memref.isWhole_whole _) cc0_scratch8 cc0_scratch9 cc0_scratch10 (BitVec.ofNat 32 (i 0).val) v0 h2 >>= k) Q) := by
  rw [wp_bind, k0_part13_eq_skeleton]
  unfold k0_part13_skel Held
  iintro ⟨HO, Hte, H5, H6, ⟨⟨%g, %d, %hgd, Hgu, Hdn⟩, %f5, Hf⟩, M0, M1, M2, M3⟩ Hk
  iapply (wp_metaWait c E.mt (a := (i 0).val + 2) (sem_at (off8_2 i))) $$ [M2 HO]
  · isplitl [M2] <;> iassumption
  iintro ⟨M2, HO⟩
  iapply (wp_teWord (n1 := numel1_S1) (hp := rfl) c E.te (k0_off11_eq i) (i_lt i)) $$ Hte
  iintro Hte
  iapply (wp_teWord (n1 := numel1_S1) (hp := rfl) c E.te (off12_eq i) (by have := i_lt i; omega)) $$ Hte
  iintro Hte
  iapply (wp_jpIf c iprop(owns (c : Thread nD τ) arg5 fullShare (E.gub (E.ex (i 0).val)) ∗ owns (c : Thread nD τ) arg6 fullShare (E.dnb (E.ex (i 0).val)) ∗ (lc c cc0_scratch6 ↦{fullShare} g) ∗ (lc c cc0_scratch7 ↦{fullShare} d))
    iprop(owns (c : Thread nD τ) arg5 fullShare (E.gub (E.ex (i 0).val)) ∗ owns (c : Thread nD τ) arg6 fullShare (E.dnb (E.ex (i 0).val)) ∗ Weights c E (i 0).val) ?_ ?_) $$ [H5 H6 Hgu Hdn]
  · intro _
    iintro ⟨H5, H6, Hgu, Hdn⟩ Hk
    iapply (wp_ldGate c) $$ H5
    iintro H5
    iapply (wp_ldGu c) $$ Hgu
    iintro Hgu
    iapply (wp_stGu c) $$ Hgu
    iintro Hgu
    iapply (wp_ldBack c) $$ H6
    iintro H6
    iapply (wp_ldDn c) $$ Hdn
    iintro Hdn
    iapply (wp_stDn c) $$ Hdn
    iintro Hdn
    iapply Hk
    isplitl [H5]; · iexact H5
    isplitl [H6]; · iexact H6
    unfold Weights
    isplitl [Hgu] <;> iassumption
  · intro h
    have h := mt (fresh_iff i _ _).2 h
    obtain ⟨h0, ht⟩ := not_or.1 h
    have he : E.ex ((i 0).val - 1) = E.ex (i 0).val := congrArg BitVec.toNat (not_not.1 ht).symm
    obtain ⟨hg, hd⟩ := (hgd.resolve_left h0).resolve_left (by omega)
    rw [he] at hg hd
    subst hg hd
    iintro ⟨H5, H6, Hgu, Hdn⟩
    isplitl [H5]; · iexact H5
    isplitl [H6]; · iexact H6
    unfold Weights
    isplitl [Hgu] <;> iassumption
  · isplitl [H5]; · iexact H5
    isplitl [H6]; · iexact H6
    isplitl [Hgu] <;> iassumption
  iintro ⟨H5, H6, HW⟩
  rw [dif_neg h4]
  iapply (wp_done c)
  iapply Hk
  isplitl [HO]; · iexact HO
  isplitl [Hte]; · iexact Hte
  isplitl [H5]; · iexact H5
  isplitl [H6]; · iexact H6
  isplitl [M0 M1 M2 M3]
  · unfold Four
    isplitl [M0]; · iexact M0
    isplitl [M1]; · iexact M1
    isplitl [M2] <;> iassumption
  isplitl [HW]; · iexact HW
  iexists _; iexact Hf

end Cert.Experts

end
-- ==== Proof.Step.lean ====
/-
  The whole step: the first step's setting up, then the even or the odd half, or nothing once the tiles are done.
-/
module

public import proofs.«01_k».proof.Proof.Turn

@[expose] public section

noncomputable section

namespace Cert.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable (c : Dev nD) (E : Env F) (hp : Plan E.te E.nu E.mt) (i : grid0.Coords)
  (arg5 : Memref sig .tc .vmem S1x2048x1024 .f32) (harg5 : arg5.IsWhole) (arg6 : Memref sig .tc .vmem S1x512x2048 .f32) (harg6 : arg6.IsWhole)

theorem grid_lt (h : k0_cond1 i = 1#1) : (i 0).val = 0 := (cond1_iff i).1 h

include hp in
/-- One step. -/
theorem step_run (nuw : S1.Idx → BitVec 32) (hn : (nuw (at1 (N := 1) (by decide) 0)).toNat = E.nu) {q q' : PosShare TreeShare} :
    iprop((∃ W, owes (c : Thread nD τ) 0 W) ∗ (lc c main_arg0 ↦{q} E.te) ∗ (lc c main_arg1 ↦{q'} nuw) ∗ owns (c : Thread nD τ) arg5 fullShare (E.gub (E.ex (i 0).val)) ∗ owns (c : Thread nD τ) arg6 fullShare (E.dnb (E.ex (i 0).val))
        ∗ Held c E (i 0).val ∗ Flow c E (i 0).val)
      ⊢ wp frame (wpE (defs₀ (F := F)) Variants.none c none) Set.univ (cc0_routed_experts (F := F) i mTe (Memref.isWhole_whole _) mNu (Memref.isWhole_whole _) mMeta (Memref.isWhole_whole _) mX (Memref.isWhole_whole _) arg5 harg5 arg6 harg6 mY (Memref.isWhole_whole _) mRing (Memref.isWhole_whole _) mXa (Memref.isWhole_whole _) mXb (Memref.isWhole_whole _) mYa (Memref.isWhole_whole _) mYb (Memref.isWhole_whole _) mStage (Memref.isWhole_whole _) mGu (Memref.isWhole_whole _) mDn (Memref.isWhole_whole _) cc0_scratch8 cc0_scratch9 cc0_scratch10) fun _ =>
          iprop((∃ W, owes (c : Thread nD τ) 0 W) ∗ (lc c main_arg0 ↦{q} E.te) ∗ (lc c main_arg1 ↦{q'} nuw) ∗ owns (c : Thread nD τ) arg5 fullShare (E.gub (E.ex (i 0).val)) ∗ owns (c : Thread nD τ) arg6 fullShare (E.dnb (E.ex (i 0).val))
            ∗ Held c E ((i 0).val + 1) ∗ Flow c E ((i 0).val + 1)) := by
  have hv := hn
  generalize hv0 : nuw (at1 (N := 1) (by decide) 0) = v0 at hv
  rw [cc0_routed_experts_eq_skeleton]
  unfold cc0_routed_experts_skel
  iintro ⟨HO, Hte, Hnu, H5, H6, HH, HFl⟩
  iapply (wp_nuWord (n1 := numel1_S1) (hp := rfl) c nuw) $$ Hnu
  iintro Hnu
  rw [hv0]
  iapply (wp_jp c iprop((∃ W, owes (c : Thread nD τ) 0 W) ∗ Flow c E (i 0).val) iprop((∃ W, owes (c : Thread nD τ) 0 W) ∗ Run c E (i 0).val) ?_ ?_) $$ [HO HFl]
  · intro h1
    have h0 := (cond1_iff i).1 h1
    rw [h0]
    have hnu := hp.nu_pos
    unfold Flow Run Idle
    rw [if_pos rfl, if_pos (show 0 < E.nu by omega), if_pos (show 0 % 2 = 0 from rfl)]
    iintro ⟨HO, HX, ⟨%fx, Hx⟩, Hxn, Hya, Hyb, G0, G1, S0, S1, HY, M0, M1, M2, M3⟩ Hk
    iapply (part1_run c E i arg5 harg5 arg6 harg6) $$ [HO Hya Hyb S0 HY M0 M1 M2]
    · isplitl [HO]; · iexact HO
      isplitl [Hya]; · iexact Hya
      isplitl [Hyb]; · iexact Hyb
      isplitl [S0]; · iexact S0
      isplitl [HY]; · iexact HY
      isplitl [M0]; · iexact M0
      isplitl [M1] <;> iassumption
    iintro ⟨HO, HS, HR, Hyb, M0, M1, M2⟩
    iapply (wp_metaWait c E.mt (a := 1) (sem_at (a := 1) rfl)) $$ [M1 HO]
    · isplitl [M1] <;> iassumption
    iintro ⟨M1, HO⟩
    ihave M1 := (MHeld.split c E.mt 1) $$ M1
    icases M1 with ⟨M1, A1, V1⟩
    iapply (wp_gatherLoop c (ℓ := lc c cc0_scratch1) (ℓx := lc c main_arg3) (ℓw := lc c cc0_scratch0) (I := rowsI) (f := fx)
      (G := gathered E.X (gi E.mt 1)) (X := E.X) (sem := 8) rowsI_disjoint rowsI_union (by decide)
      (fun t => trip_t1 c hp i arg5 harg5 arg6 harg6 h1 fx E.X t)) $$ [M1 Hx HX G0]
    · isplitl [M1]; · iexact M1
      isplitl [Hx]; · iexact Hx
      isplitl [HX] <;> iassumption
    iintro ⟨M1, HF⟩
    iapply Hk
    isplitl [HO]; · iexact HO
    isplitl [HF Hxn G1 HS HR Hyb S1]
    · unfold CopiesE
      isplitl [HF]; · iexact HF
      isplitl [Hxn]; · iexact Hxn
      isplitl [G1]; · iexact G1
      isplitl [HS]; · iexact HS
      isplitl [HR]; · iexact HR
      isplitl [Hyb]; · iexact Hyb
      iexact S1
    unfold Entries
    isplitl [M0]; · iexact M0
    isplitl [M1 A1 V1]
    · unfold MHeld
      isplitl [M1]; · iexact M1
      isplitl [A1] <;> iassumption
    isplitl [M2] <;> iassumption
  · intro h1
    have h0 := mt (cond1_iff i).2 h1
    rw [Flow_of_ne c E h0]
  · isplitl [HO] <;> iassumption
  iintro ⟨HO, HRun⟩
  iapply (wp_jp c iprop((∃ W, owes (c : Thread nD τ) 0 W) ∗ (lc c main_arg0 ↦{q} E.te) ∗ owns (c : Thread nD τ) arg5 fullShare (E.gub (E.ex (i 0).val)) ∗ owns (c : Thread nD τ) arg6 fullShare (E.dnb (E.ex (i 0).val))
        ∗ Held c E (i 0).val ∗ Run c E (i 0).val)
      iprop((∃ W, owes (c : Thread nD τ) 0 W) ∗ (lc c main_arg0 ↦{q} E.te) ∗ owns (c : Thread nD τ) arg5 fullShare (E.gub (E.ex (i 0).val)) ∗ owns (c : Thread nD τ) arg6 fullShare (E.dnb (E.ex (i 0).val))
        ∗ Held c E ((i 0).val + 1) ∗ Run c E ((i 0).val + 1)) ?_ ?_) $$ [HO Hte H5 H6 HH HRun]
  · intro h2
    have hj : (i 0).val < E.nu := by
      have := (cond2_iff i (v := v0) (by rw [hv]; exact hp.nu_le)).1 h2
      rw [hv] at this; exact this
    have hrun : Run c E (i 0).val = iprop((if (i 0).val % 2 = 0 then CopiesE c E (i 0).val else CopiesO c E (i 0).val) ∗ Entries c E.mt (i 0).val) := by
      unfold Run; rw [if_pos hj]
    by_cases h4 : k0_cond4 i = 1#1
    · have hpar := (cond4_iff i).1 h4
      have h6 : ¬ k0_cond6 i = 1#1 := fun h => by have := (cond6_iff i).1 h; omega
      rw [hrun, if_pos hpar]
      unfold Entries
      iintro ⟨HO, Hte, H5, H6, HH, HC, M0, M1, M2, M3⟩ Hk
      iapply (part12_run c E i arg5 harg5 arg6 harg6 _) $$ M3
      iintro M3
      iapply (part13_even c E hp i arg5 harg5 arg6 harg6 v0 hv h2 h4 hj) $$ [HO Hte H5 H6 HH HC M0 M1 M2 M3]
      · isplitl [HO]; · iexact HO
        isplitl [Hte]; · iexact Hte
        isplitl [H5]; · iexact H5
        isplitl [H6]; · iexact H6
        isplitl [HH]; · iexact HH
        isplitl [M0]; · iexact M0
        isplitl [M1]; · iexact M1
        isplitl [M2]; · iexact M2
        isplitl [M3] <;> iassumption
      unfold Weights
      iintro %r13 ⟨HO, Hte, H5, H6, HRun, ⟨Hgu, Hdn⟩, Hf⟩
      rw [dif_neg h6]
      iapply Hk
      isplitl [HO]; · iexact HO
      isplitl [Hte]; · iexact Hte
      isplitl [H5]; · iexact H5
      isplitl [H6]; · iexact H6
      isplitl [Hgu Hdn Hf]
      · unfold Held
        isplitl [Hgu Hdn]
        · iexists (k0_pay39 (E.gub (E.ex (i 0).val))), (k0_pay40 (E.dnb (E.ex (i 0).val)))
          isplitr
          · ipureintro; exact Or.inr (Or.inr ⟨rfl, rfl⟩)
          isplitl [Hgu]; · iexact Hgu
          iexact Hdn
        iexact Hf
      iexact HRun
    · have hpar : (i 0).val % 2 = 1 := by have := mt (cond4_iff i).2 h4; omega
      have h6 : k0_cond6 i = 1#1 := (cond6_iff i).2 hpar
      rw [hrun, if_neg (show ¬ (i 0).val % 2 = 0 by omega)]
      unfold Entries
      iintro ⟨HO, Hte, H5, H6, HH, HC, M0, M1, M2, M3⟩ Hk
      iapply (part12_run c E i arg5 harg5 arg6 harg6 _) $$ M3
      iintro M3
      iapply (part13_odd c E hp i arg5 harg5 arg6 harg6 v0 hv h2 h4 hj) $$ [HO Hte H5 H6 HH M0 M1 M2 M3]
      · isplitl [HO]; · iexact HO
        isplitl [Hte]; · iexact Hte
        isplitl [H5]; · iexact H5
        isplitl [H6]; · iexact H6
        isplitl [HH]; · iexact HH
        isplitl [M0]; · iexact M0
        isplitl [M1]; · iexact M1
        isplitl [M2] <;> iassumption
      unfold Four Weights CopiesO
      iintro %r13 ⟨HO, Hte, H5, H6, H4, HW, %f5, Hf⟩
      rw [dif_pos h6]
      icases HW with ⟨Hgu, Hdn⟩
      icases HC with ⟨HG, ⟨%fx, Hx⟩, Hgn, HS, HR, Hyp, Hsn⟩
      icases H4 with ⟨M0, M1, M2, M3⟩
      ihave M0 := (MHeld.split c E.mt ((i 0).val)) $$ M0
      icases M0 with ⟨M0, A0, V0⟩
      ihave M2 := (MHeld.split c E.mt ((i 0).val + 2)) $$ M2
      icases M2 with ⟨M2, A2, V2⟩
      iapply (part8_run c hp i arg5 harg5 arg6 harg6 v0 h2 h6 (gathered E.X (gi E.mt ((i 0).val + 1))) fx E.X _) $$ [HO HG HS M2 Hx Hgn]
      · isplitl [HO]; · iexact HO
        isplitl [HG]; · iexact HG
        isplitl [HS]; · iexact HS
        isplitl [M2]; · iexact M2
        isplitl [Hx] <;> iassumption
      iintro %r3 ⟨HO, Hgs, Hss, HG, ⟨HY, Hys⟩, M2, HF⟩
      ihave HY := (Y_next c E (i 0).val) $$ [HY HR]
      · isplitl [HY] <;> iassumption
      icases HY with ⟨HY, HR⟩
      iapply (part9_run c hp i arg5 harg5 arg6 harg6 r3.1 r3.2 v0 h2 h6 (gathered E.X (gi E.mt ((i 0).val + 1))) (E.row ((i 0).val + 1)) (E.Y ((i 0).val + 1))) $$ [M0 HY Hyp Hsn HG]
      · isplitl [M0]; · iexact M0
        isplitl [HY]; · iexact HY
        isplitl [Hyp]; · iexact Hyp
        isplitl [Hsn] <;> iassumption
      iintro ⟨M0, HS, HG⟩
      iapply (part10_run c i arg5 harg5 arg6 harg6 _ _ _ _ _ _ _ _ _ _ _ _ _ _ _ _ (k0_pay39 (E.gub (E.ex (i 0).val))) (k0_pay40 (E.dnb (E.ex (i 0).val))) f5) $$ [Hgu Hdn Hf]
      · isplitl [Hgu]; · iexact Hgu
        isplitl [Hdn] <;> iassumption
      iintro ⟨Hgu, Hdn, Hf⟩
      iapply (part11_run c i arg5 harg5 arg6 harg6 _ _ _) $$ Hf
      iintro Hf
      iapply (wp_load Variants.none (c : Thread nD τ) none Set.univ (m := mStage) (S := Finset.univ) (q := fullShare) (f := _) (Finset.subset_univ _)) $$ Hf
      iintro Hf
      iapply (wp_stw c 13 inb_S4096x128_S256x128_13_0_s_16_1 _) $$ Hf
      iintro Hf
      iapply (wp_load Variants.none (c : Thread nD τ) none Set.univ (m := mStage) (S := Finset.univ) (q := fullShare) (f := _) (Finset.subset_univ _)) $$ Hf
      iintro Hf
      iapply (wp_stw c 14 inb_S4096x128_S256x128_14_0_s_16_1 _) $$ Hf
      iintro Hf
      iapply (wp_load Variants.none (c : Thread nD τ) none Set.univ (m := mStage) (S := Finset.univ) (q := fullShare) (f := _) (Finset.subset_univ _)) $$ Hf
      iintro Hf
      iapply (wp_stw c 15 inb_S4096x128_S256x128_15_0_s_16_1 _) $$ Hf
      iintro Hf
      iapply (wp_ldStage c) $$ Hf
      iintro Hf
      iapply (wp_ldYb c) $$ Hys
      iintro Hys
      iapply (wp_stYb c) $$ Hys
      iintro Hys
      rw [tile_odd]
      iapply (wp_jp c iprop((∃ W, owes (c : Thread nD τ) 0 W) ∗ Four (F := F) c E.mt (i 0).val ∗ (lc c cc0_scratch2 ↦{fullShare} gathered E.X (gi E.mt ((i 0).val + 1))) ∗ semVal ((c : Thread nD τ), .dma 9) 0 ∗ semVal ((c : Thread nD τ), .dma 11) 0
          ∗ Flight c 8 65536 iprop((lc c cc0_scratch1 ↦{fullShare} gathered E.X (gi E.mt ((i 0).val + 2))) ∗ (lc c main_arg3 ↦{fullShare} E.X))
          ∗ Flight c 10 32768 iprop((lc c main_v0 ↦[dset (sd E.mt ((i 0).val + 1))]{fullShare} E.Y ((i 0).val + 2)) ∗ (lc c cc0_scratch3 ↦{fullShare} E.row ((i 0).val + 1)))
          ∗ (lc c main_v0 ↦[Finset.univ \ dset (sd E.mt ((i 0).val + 1))]{fullShare} E.Y ((i 0).val + 2)) ∗ (lc c cc0_scratch4 ↦{fullShare} E.row ((i 0).val + 2)))
        iprop((∃ W, owes (c : Thread nD τ) 0 W) ∗ Run c E ((i 0).val + 1)) ?_ ?_) $$ [HO M0 A0 V0 M1 M2 A2 V2 M3 HG Hgs Hss HF HS HR Hys]
      · intro h7
        have hl : (i 0).val + 1 = E.nu := by
          have := (cond7_iff (v := v0) i (by rw [hv]; exact hp.nu_le) (by rw [hv]; exact hp.nu_pos)).1 h7
          rw [hv] at this; exact this
        unfold Four
        iintro ⟨HO, ⟨M0, M1, M2, M3⟩, HG, Hgs, Hss, HF, HS, HR, Hys⟩ Hk
        ihave M1 := (MHeld.split c E.mt ((i 0).val + 1)) $$ M1
        icases M1 with ⟨M1, A1, V1⟩
        ihave HR := (Y_last c E hp (j := (i 0).val) (i_lt i)) $$ HR
        icases HR with ⟨HY, HR⟩
        iapply (part7_run c hp i arg5 harg5 arg6 harg6 v0 h2 h6 h7 (E.row ((i 0).val + 2)) (E.Y ((i 0).val + 2)) _ _) $$ [HO M1 HY Hys Hss HS HF]
        · isplitl [HO]; · iexact HO
          isplitl [M1]; · iexact M1
          isplitl [HY]; · iexact HY
          isplitl [Hys]; · iexact Hys
          isplitl [Hss]; · iexact Hss
          isplitl [HS] <;> iassumption
        iintro %r2 ⟨HO, M1, HY, Hys, Hss, Hsn, Hgn, ⟨HY1, Hyp⟩, Hxn, HX⟩
        iapply (wp_metaWait c E.mt (a := (i 0).val + 3) (sem_at (off52_eq i))) $$ [M3 HO]
        · isplitl [M3] <;> iassumption
        iintro ⟨M3, HO⟩
        iapply Hk
        isplitl [HO]; · iexact HO
        unfold Run
        rw [if_neg (show ¬ (i 0).val + 1 < E.nu by omega), ← hl]
        ihave HY := (Y_all c E hp (j := (i 0).val) (i_lt i)) $$ [HY HY1 HR]
        · isplitl [HY1]; · iexact HY1
          isplitl [HY]; · iexact HY
          iexact HR
        ihave M0 := (MHeld.free c E.mt (i 0).val) $$ M0
        ihave M1 := (MHeld.free c E.mt ((i 0).val + 1)) $$ [M1 A1 V1]
        · unfold MHeld
          isplitl [M1]; · iexact M1
          isplitl [A1] <;> iassumption
        ihave M2 := (MHeld.free c E.mt ((i 0).val + 2)) $$ M2
        ihave M3 := (MHeld.free c E.mt ((i 0).val + 3)) $$ M3
        ihave MM := (free_rotate c E.mt ((i 0).val + 4)) $$ [M0 M1 M2 M3]
        · isplitl [M0]; · iexact M0
          isplitl [M1]; · iexact M1
          isplitl [M2] <;> iassumption
        unfold Idle
        isplitl [HX]; · iexact HX
        isplitl [Hxn]; · iexists _; iexact Hxn
        isplitl [HG]; · iexists _; iexact HG
        isplitl [Hyp]; · iexists _; iexact Hyp
        isplitl [Hys]; · iexists _; iexact Hys
        isplitl [Hgn]; · iexact Hgn
        isplitl [Hgs]; · iexact Hgs
        isplitl [Hsn]; · iexact Hsn
        isplitl [Hss]; · iexact Hss
        isplitl [HY]; · iexact HY
        iexact MM
      · intro h7
        have hl : (i 0).val + 1 < E.nu := by
          have h := mt ((cond7_iff (v := v0) i (by rw [hv]; exact hp.nu_le) (by rw [hv]; exact hp.nu_pos)).2) h7
          rw [hv] at h; omega
        unfold Four
        iintro ⟨HO, ⟨M0, M1, M2, M3⟩, HG, Hgs, Hss, HF, HS, HR, Hys⟩
        isplitl [HO]; · iexact HO
        unfold Run
        rw [if_pos hl, if_pos (show ((i 0).val + 1) % 2 = 0 by omega)]
        isplitl [HG Hgs Hss HF HS HR Hys]
        · unfold CopiesE
          isplitl [HF]; · iexact HF
          isplitl [HG]; · iexists _; iexact HG
          isplitl [Hgs]; · iexact Hgs
          isplitl [HS]; · iexact HS
          isplitl [HR]; · iexact HR
          isplitl [Hys] <;> iassumption
        unfold Entries
        isplitl [M1]; · iexact M1
        isplitl [M2]; · iexact M2
        isplitl [M3]; · iexact M3
        iapply (MHeld.free c E.mt (i 0).val) $$ M0
      · isplitl [HO]; · iexact HO
        isplitl [M0 A0 V0 M1 M2 A2 V2 M3]
        · unfold Four
          isplitl [M0 A0 V0]
          · unfold MHeld
            isplitl [M0]; · iexact M0
            isplitl [A0] <;> iassumption
          isplitl [M1]; · iexact M1
          isplitl [M2 A2 V2]
          · unfold MHeld
            isplitl [M2]; · iexact M2
            isplitl [A2] <;> iassumption
          iexact M3
        isplitl [HG]; · iexact HG
        isplitl [Hgs]; · iexact Hgs
        isplitl [Hss]; · iexact Hss
        isplitl [HF]; · iexact HF
        isplitl [HS]; · iexact HS
        isplitl [HR]; · iexact HR
        iexact Hys
      iintro ⟨HO, HRun⟩
      iapply Hk
      isplitl [HO]; · iexact HO
      isplitl [Hte]; · iexact Hte
      isplitl [H5]; · iexact H5
      isplitl [H6]; · iexact H6
      isplitl [Hgu Hdn Hf]
      · unfold Held
        isplitl [Hgu Hdn]
        · iexists (k0_pay39 (E.gub (E.ex (i 0).val))), (k0_pay40 (E.dnb (E.ex (i 0).val)))
          isplitr
          · ipureintro; exact Or.inr (Or.inr ⟨rfl, rfl⟩)
          isplitl [Hgu]; · iexact Hgu
          iexact Hdn
        iexists _; iexact Hf
      iexact HRun
  · intro h2
    have hj : ¬ (i 0).val < E.nu := by
      have := mt (cond2_iff i (v := v0) (by rw [hv]; exact hp.nu_le)).2 h2
      rw [hv] at this; exact this
    unfold Run Held
    rw [if_neg hj, if_neg (show ¬ (i 0).val + 1 < E.nu by omega)]
    iintro ⟨HO, Hte, H5, H6, ⟨⟨%g, %d, -, Hgu, Hdn⟩, Hf⟩, HI⟩
    isplitl [HO]; · iexact HO
    isplitl [Hte]; · iexact Hte
    isplitl [H5]; · iexact H5
    isplitl [H6]; · iexact H6
    isplitl [Hgu Hdn Hf]
    · isplitl [Hgu Hdn]
      · iexists g, d
        isplitr
        · ipureintro; exact Or.inr (Or.inl (by omega))
        isplitl [Hgu] <;> iassumption
      iexact Hf
    iexact HI
  · isplitl [HO]; · iexact HO
    isplitl [Hte]; · iexact Hte
    isplitl [H5]; · iexact H5
    isplitl [H6]; · iexact H6
    isplitl [HH] <;> iassumption
  iintro ⟨HO, Hte, H5, H6, HH, HRun⟩
  iapply (wp_done c)
  isplitl [HO]; · iexact HO
  isplitl [Hte]; · iexact Hte
  isplitl [Hnu]; · iexact Hnu
  isplitl [H5]; · iexact H5
  isplitl [H6]; · iexact H6
  isplitl [HH]; · iexact HH
  rw [Flow_succ]
  iexact HRun

end Cert.Experts

end
-- ==== Proof.Data.lean ====
/-
  What a launch reads of memory: the plan, the rows, the weights; and what each window's buffer holds.
-/
module

public import proofs.«01_k».proof.Proof.Step

@[expose] public section

noncomputable section

namespace Cert.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

open Idealize.ShloMosaic.Pipeline (Dat BodyObligationLoose)

/-- An index of a rank-3 array. -/
def at3 {A B C : ℕ} (hA : 0 < A) (hB : 0 < B) (hC : 0 < C) (a b c : ℕ) : (⟨3, ![A, B, C]⟩ : Shape).Idx
  | 0 => ⟨a % A, Nat.mod_lt _ hA⟩
  | 1 => ⟨b % B, Nat.mod_lt _ hB⟩
  | 2 => ⟨c % C, Nat.mod_lt _ hC⟩
  | ⟨_ + 3, h⟩ => absurd h (Nat.not_lt.2 (Nat.le_add_left _ _))

variable (m : (ℓ : Loc nD τ sig) → Buf (Elt F) ℓ)

/-- What the launch reads. -/
def envOf (c : Dev nD) : Env F where
  te := m (lc c main_arg0)
  nu := ((m (lc c main_arg1) : S1.Idx → BitVec 32) (at1 (N := 1) (by decide) 0)).toNat
  mt := m (lc c main_arg2)
  X := m (lc c main_arg3)
  gub e := fun y => (m (lc c main_arg4) : S64x2048x1024.Idx → F .f32) (at3 (A := 64) (B := 2048) (C := 1024) (by decide) (by decide) (by decide) e (y 1).val (y 2).val)
  dnb e := fun y => (m (lc c main_arg5) : S64x512x2048.Idx → F .f32) (at3 (A := 64) (B := 512) (C := 2048) (by decide) (by decide) (by decide) e (y 1).val (y 2).val)
  Y0 := m (lc c main_v0)

/-- The prefetched tables. -/
def tables : pre0.Contents (Elt F) := fun k => m (lc (0 : Dev nD) (pre0.ref k))

/-- The table's word at a grid point. -/
theorem tables_at (i : grid0.Coords) {inb} {n1 : S1.numel = 1} :
    ((m (lc (0 : Dev nD) main_arg0) : S320.Idx → BitVec 32) ((Rect.unit (s := S320) ![(Scalar.indexCast (BitVec.ofNat 32 (i 0).val) : Index).toNat] S1.size inb).emb (Shape.Idx.first (n1.symm ▸ Nat.one_pos)))).toNat = (envOf m 0).ex (i 0).val := by
  have hi := i_lt i
  show _ = ((m (lc (0 : Dev nD) main_arg0) : S320.Idx → BitVec 32) (at1 (N := 320) (by decide) (i 0).val)).toNat
  congr 2
  have hz : ∀ y : S1.Idx, (y 0).val = 0 := by decide
  funext b; apply Fin.ext
  rw [ValueKit.rect_emb_unit_val]
  match b with
  | 0 =>
    rw [hz]
    have e : ((k0_off1 i) 0) = (i 0).val := by rw [k0_off1_eq]; rfl
    have e' : (![(Scalar.indexCast (BitVec.ofNat 32 (i 0).val) : Index).toNat] : Fin 1 → ℕ) 0 = (i 0).val := e
    show (![(Scalar.indexCast (BitVec.ofNat 32 (i 0).val) : Index).toNat] : Fin 1 → ℕ) 0 + 0 = (i 0).val % 320
    rw [e']; omega

/-- The first window's block number. -/
theorem map2_eq (i : grid0.Coords) : cc0_transform_2 k0_off1_inb numel1_S1 (tables m) i = ![(envOf m 0).ex (i 0).val, 0, 0] := by
  unfold cc0_transform_2
  funext a
  match a with
  | 0 => exact tables_at m i (inb := k0_off1_inb i) (n1 := numel1_S1)
  | 1 => rfl
  | 2 => rfl

/-- The second window's block number. -/
theorem map3_eq (i : grid0.Coords) : cc0_transform_3 k0_off1_inb numel1_S1 (tables m) i = ![(envOf m 0).ex (i 0).val, 0, 0] := by
  unfold cc0_transform_3
  funext a
  match a with
  | 0 => exact tables_at m i (inb := k0_off1_inb i) (n1 := numel1_S1)
  | 1 => rfl
  | 2 => rfl

/-- The tables name experts there are. -/
theorem tables_ok (h : ∀ j < 320, (envOf m 0).ex j < 64) : ok0 (tables m) := by
  refine ⟨fun i => ⟨fun a => ?_, Or.inl rfl⟩, fun i => ⟨fun a => ?_, Or.inl rfl⟩⟩
  · rw [map2_eq]
    have := h _ (i_lt i)
    match a with
    | 0 => show ((envOf m 0).ex (i 0).val + 1) * 1 ≤ 64; omega
    | 1 => show (0 + 1) * 2048 ≤ 2048; omega
    | 2 => show (0 + 1) * 1024 ≤ 1024; omega
  · rw [map3_eq]
    have := h _ (i_lt i)
    match a with
    | 0 => show ((envOf m 0).ex (i 0).val + 1) * 1 ≤ 64; omega
    | 1 => show (0 + 1) * 512 ≤ 512; omega
    | 2 => show (0 + 1) * 2048 ≤ 2048; omega

variable (hO : ok0 (tables m))

/-- The tables, as contents the call accepts. -/
abbrev accepted : (p : Fin 1) → (pcfgs (F := F) p).Adm := fun _ => ⟨tables m, hO⟩

/-- The tables, halves of them. -/
def Tables (c : Dev nD) : sProp 𝕄 :=
  iprop((lc c main_arg0 ↦{fullShare.right} (envOf m c).te) ∗ (lc c main_arg1 ↦{fullShare.right} (m (lc c main_arg1))))

/-- The call's windows, with `Ψ` between its steps. -/
def dats (Ψ : Dev nD → ℕ → sProp 𝕄) (p : Fin 1) (c : Dev nD) : Dat τ (Elt F) Unit ℕ (Pipeline.UD sig nD τ) ℕ (Pipeline.pin (pcfgs (F := F)) (accepted m hO) p) c where
  A w := m (lc c (Pipeline.arrRef spec0 w))
  after w t := match w with
    | ⟨0, _⟩ => (envOf m c).gub ((envOf m c).ex (grid0.coords t 0).val)
    | ⟨1, _⟩ => (envOf m c).dnb ((envOf m c).ex (grid0.coords t 0).val)
    | ⟨_ + 2, h⟩ => absurd h (Nat.not_lt.2 (Nat.le_add_left _ _))
  Φ t := Ψ c t.val
  q _ := fullShare
  owed _ := 0

/-- A grid point's number is its coordinate. -/
theorem coord_val (t : Fin grid0.N) : (grid0.coords t 0).val = t.val := by
  have h : t.val < 320 := Nat.lt_of_lt_of_eq t.isLt N_0
  show t.val / grid0.stride 0 % grid0.bound 0 = t.val
  rw [show grid0.stride 0 = 1 from by decide, show grid0.bound 0 = 320 from by decide]
  omega

/-- The first window's block is the expert's. -/
theorem block0 (Ψ : Dev nD → ℕ → sProp 𝕄) (h : ∀ j < 320, (envOf m 0).ex j < 64) (c : Dev nD) (t : Fin grid0.N) :
    (dats m hO Ψ 0 c).blockOf 0 t = (envOf m c).gub ((envOf m c).ex (grid0.coords t 0).val) := by
  have hc : c = 0 := Subsingleton.elim _ _
  subst hc
  refine funext fun (y : S1x2048x1024.Idx) => ?_
  have hx := h _ (i_lt (grid0.coords t))
  show (m (lc (0 : Dev nD) main_arg4) : S64x2048x1024.Idx → F .f32) ((Rect.block (s := S64x2048x1024) S1x2048x1024.size (cc0_transform_2 k0_off1_inb numel1_S1 (tables m) (grid0.coords t)) (hinb0 (tables m) hO 0 (grid0.coords t))).emb y)
    = (m (lc (0 : Dev nD) main_arg4) : S64x2048x1024.Idx → F .f32) _
  congr 1
  funext b; apply Fin.ext
  refine (ValueKit.rect_emb_unit_val _ _ _ y b).trans ?_
  have e := congrFun (map2_eq m (grid0.coords t))
  match b with
  | 0 =>
    have e0 : cc0_transform_2 k0_off1_inb numel1_S1 (tables m) (grid0.coords t) 0 = (envOf m 0).ex (grid0.coords t 0).val := e 0
    have h0 : (y 0).val < 1 := (y 0).isLt
    show cc0_transform_2 k0_off1_inb numel1_S1 (tables m) (grid0.coords t) 0 * 1 + (y 0).val = (envOf m 0).ex (grid0.coords t 0).val % 64
    omega
  | 1 =>
    have e0 : cc0_transform_2 k0_off1_inb numel1_S1 (tables m) (grid0.coords t) 1 = 0 := e 1
    have h1 : (y 1).val < 2048 := (y 1).isLt
    show cc0_transform_2 k0_off1_inb numel1_S1 (tables m) (grid0.coords t) 1 * 2048 + (y 1).val = (y 1).val % 2048
    omega
  | 2 =>
    have e0 : cc0_transform_2 k0_off1_inb numel1_S1 (tables m) (grid0.coords t) 2 = 0 := e 2
    have h1 : (y 2).val < 1024 := (y 2).isLt
    show cc0_transform_2 k0_off1_inb numel1_S1 (tables m) (grid0.coords t) 2 * 1024 + (y 2).val = (y 2).val % 1024
    omega

/-- The second window's block is the expert's. -/
theorem block1 (Ψ : Dev nD → ℕ → sProp 𝕄) (h : ∀ j < 320, (envOf m 0).ex j < 64) (c : Dev nD) (t : Fin grid0.N) :
    (dats m hO Ψ 0 c).blockOf 1 t = (envOf m c).dnb ((envOf m c).ex (grid0.coords t 0).val) := by
  have hc : c = 0 := Subsingleton.elim _ _
  subst hc
  refine funext fun (y : S1x512x2048.Idx) => ?_
  have hx := h _ (i_lt (grid0.coords t))
  show (m (lc (0 : Dev nD) main_arg5) : S64x512x2048.Idx → F .f32) ((Rect.block (s := S64x512x2048) S1x512x2048.size (cc0_transform_3 k0_off1_inb numel1_S1 (tables m) (grid0.coords t)) (hinb0 (tables m) hO 1 (grid0.coords t))).emb y)
    = (m (lc (0 : Dev nD) main_arg5) : S64x512x2048.Idx → F .f32) _
  congr 1
  funext b; apply Fin.ext
  refine (ValueKit.rect_emb_unit_val _ _ _ y b).trans ?_
  have e := congrFun (map3_eq m (grid0.coords t))
  match b with
  | 0 =>
    have e0 : cc0_transform_3 k0_off1_inb numel1_S1 (tables m) (grid0.coords t) 0 = (envOf m 0).ex (grid0.coords t 0).val := e 0
    have h0 : (y 0).val < 1 := (y 0).isLt
    show cc0_transform_3 k0_off1_inb numel1_S1 (tables m) (grid0.coords t) 0 * 1 + (y 0).val = (envOf m 0).ex (grid0.coords t 0).val % 64
    omega
  | 1 =>
    have e0 : cc0_transform_3 k0_off1_inb numel1_S1 (tables m) (grid0.coords t) 1 = 0 := e 1
    have h1 : (y 1).val < 512 := (y 1).isLt
    show cc0_transform_3 k0_off1_inb numel1_S1 (tables m) (grid0.coords t) 1 * 512 + (y 1).val = (y 1).val % 512
    omega
  | 2 =>
    have e0 : cc0_transform_3 k0_off1_inb numel1_S1 (tables m) (grid0.coords t) 2 = 0 := e 2
    have h1 : (y 2).val < 2048 := (y 2).isLt
    show cc0_transform_3 k0_off1_inb numel1_S1 (tables m) (grid0.coords t) 2 * 2048 + (y 2).val = (y 2).val % 2048
    omega

/-- What the body finds in the first window's buffer. -/
theorem found0 (Ψ : Dev nD → ℕ → sProp 𝕄) (h : ∀ j < 320, (envOf m 0).ex j < 64) (c : Dev nD) (t : Fin grid0.N) (d) :
    (dats m hO Ψ 0 c).before 0 t d = (envOf m c).gub ((envOf m c).ex (grid0.coords t 0).val) :=
  ((dats m hO Ψ 0 c).before_in_eq_fetched 0 rfl (fun _ => rfl) (fun _ _ _ => rfl) (fun t => (block0 m hO Ψ h c t).symm) t d).trans (block0 m hO Ψ h c t)

/-- What the body finds in the second window's buffer. -/
theorem found1 (Ψ : Dev nD → ℕ → sProp 𝕄) (h : ∀ j < 320, (envOf m 0).ex j < 64) (c : Dev nD) (t : Fin grid0.N) (d) :
    (dats m hO Ψ 0 c).before 1 t d = (envOf m c).dnb ((envOf m c).ex (grid0.coords t 0).val) :=
  ((dats m hO Ψ 0 c).before_in_eq_fetched 1 rfl (fun _ => rfl) (fun _ _ _ => rfl) (fun t => (block1 m hO Ψ h c t).symm) t d).trans (block1 m hO Ψ h c t)

end Cert.Experts

end
-- ==== Proof.Body.lean ====
/-
  One grid step as the call's pipeline asks for it.
-/
module

public import proofs.«01_k».proof.Proof.Data

@[expose] public section

noncomputable section

namespace Cert.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

open Idealize.ShloMosaic.Pipeline (Dat BodyObligation BodyObligationLoose)

variable (m : (ℓ : Loc nD τ sig) → Buf (Elt F) ℓ)

/-- Between two steps, from `Z` in the written array at entry. -/
def Between (Z : S1056768x128.Idx → F .bf16) (c : Dev nD) (j : ℕ) : sProp 𝕄 :=
  iprop(Held c { envOf m c with Y0 := Z } j ∗ Flow c { envOf m c with Y0 := Z } j ∗ Tables m c)

/-- A step keeps `Ψ` going. -/
def Keeps (Ψ : Dev nD → ℕ → sProp 𝕄) : Prop :=
  ∀ (c : Dev nD) (i : grid0.Coords) (arg5 : Memref sig .tc .vmem S1x2048x1024 .f32) (harg5 : arg5.IsWhole) (arg6 : Memref sig .tc .vmem S1x512x2048 .f32) (harg6 : arg6.IsWhole),
    iprop((∃ W, owes (c : Thread nD τ) 0 W) ∗ owns (c : Thread nD τ) arg5 fullShare ((envOf m c).gub ((envOf m c).ex (i 0).val)) ∗ owns (c : Thread nD τ) arg6 fullShare ((envOf m c).dnb ((envOf m c).ex (i 0).val)) ∗ Ψ c (i 0).val)
      ⊢ wp frame (wpE (defs₀ (F := F)) Variants.none c none) Set.univ (cc0_routed_experts (F := F) i mTe (Memref.isWhole_whole _) mNu (Memref.isWhole_whole _) mMeta (Memref.isWhole_whole _) mX (Memref.isWhole_whole _) arg5 harg5 arg6 harg6 mY (Memref.isWhole_whole _) mRing (Memref.isWhole_whole _) mXa (Memref.isWhole_whole _) mXb (Memref.isWhole_whole _) mYa (Memref.isWhole_whole _) mYb (Memref.isWhole_whole _) mStage (Memref.isWhole_whole _) mGu (Memref.isWhole_whole _) mDn (Memref.isWhole_whole _) cc0_scratch8 cc0_scratch9 cc0_scratch10) fun _ =>
        iprop((∃ W, owes (c : Thread nD τ) 0 W) ∗ owns (c : Thread nD τ) arg5 fullShare ((envOf m c).gub ((envOf m c).ex (i 0).val)) ∗ owns (c : Thread nD τ) arg6 fullShare ((envOf m c).dnb ((envOf m c).ex (i 0).val)) ∗ Ψ c ((i 0).val + 1))

theorem keeps_between (hp : ∀ c, Plan (envOf m c).te (envOf m c).nu (envOf m c).mt) (Z : S1056768x128.Idx → F .bf16) : Keeps m (Between m Z) := by
  intro c i arg5 harg5 arg6 harg6
  unfold Between Tables
  iintro ⟨HO, H5, H6, HH, HF, Ht, Hn⟩
  iapply (wp_wand _ _ _) $$ [HO H5 H6 HH HF Ht Hn]
  · iapply (step_run c { envOf m c with Y0 := Z } (hp c) i arg5 harg5 arg6 harg6 (m (lc c main_arg1)) rfl)
    isplitl [HO]; · iexact HO
    isplitl [Ht]; · iexact Ht
    isplitl [Hn]; · iexact Hn
    isplitl [H5]; · iexact H5
    isplitl [H6]; · iexact H6
    isplitl [HH]; · iexact HH
    iexact HF
  iintro %u ⟨HO, Ht, Hn, H5, H6, HH, HF⟩
  isplitl [HO]; · iexact HO
  isplitl [H5]; · iexact H5
  isplitl [H6]; · iexact H6
  isplitl [HH]; · iexact HH
  isplitl [HF]; · iexact HF
  isplitl [Ht]; · iexact Ht
  iexact Hn

theorem keeps_entry (hp : ∀ c, Plan (envOf m c).te (envOf m c).nu (envOf m c).mt) : Keeps m (fun c j => Between m (m (lc c main_v0)) c j) :=
  fun c => keeps_between m hp (m (lc c main_v0)) c

/-- Between two steps, from something in the written array at entry, with the generator register. -/
def BetweenSome (c : Dev nD) (j : ℕ) : sProp 𝕄 :=
  iprop((∃ Z, Between m Z c j) ∗ ∃ r, prngReg c r)

theorem keeps_some (hp : ∀ c, Plan (envOf m c).te (envOf m c).nu (envOf m c).mt) : Keeps m (BetweenSome m) := by
  intro c i arg5 harg5 arg6 harg6
  unfold BetweenSome
  iintro ⟨HO, H5, H6, ⟨%Z, HB⟩, Hr⟩
  iapply (wp_wand _ _ _) $$ [HO H5 H6 HB]
  · iapply (keeps_between m hp Z c i arg5 harg5 arg6 harg6)
    isplitl [HO]; · iexact HO
    isplitl [H5]; · iexact H5
    isplitl [H6]; · iexact H6
    iexact HB
  iintro %u ⟨HO, H5, H6, HB⟩
  isplitl [HO]; · iexact HO
  isplitl [H5]; · iexact H5
  isplitl [H6]; · iexact H6
  isplitl [HB]
  · iexists Z; iexact HB
  iexact Hr

variable (hO : ok0 (tables m))

/-- The program the pipeline runs at a grid point. -/
theorem defs₀_row (t : Fin grid0.N) :
    defs₀ (F := F) .tc (Pipeline.pin (pcfgs (F := F)) (accepted m hO) 0).body ((Pipeline.pin (pcfgs (F := F)) (accepted m hO) 0).bodyArgs t ((Pipeline.pin (pcfgs (F := F)) (accepted m hO) 0).slots t))
      = cc0_routed_experts (F := F) (grid0.coords t) mTe (Memref.isWhole_whole _) mNu (Memref.isWhole_whole _) mMeta (Memref.isWhole_whole _) mX (Memref.isWhole_whole _) (spec0_0.stage ((Pipeline.pin (pcfgs (F := F)) (accepted m hO) 0).slots t 0)) (hstage0_0 (((Pipeline.pin (pcfgs (F := F)) (accepted m hO) 0).slots t 0).cast nbuf0_0)) (spec0_1.stage ((Pipeline.pin (pcfgs (F := F)) (accepted m hO) 0).slots t 1)) (hstage0_1 (((Pipeline.pin (pcfgs (F := F)) (accepted m hO) 0).slots t 1).cast nbuf0_1)) mY (Memref.isWhole_whole _) mRing (Memref.isWhole_whole _) mXa (Memref.isWhole_whole _) mXb (Memref.isWhole_whole _) mYa (Memref.isWhole_whole _) mYb (Memref.isWhole_whole _) mStage (Memref.isWhole_whole _) mGu (Memref.isWhole_whole _) mDn (Memref.isWhole_whole _) cc0_scratch8 cc0_scratch9 cc0_scratch10 := by
  unfold defs₀; rw [Defs.onTc_tc]

/-- One grid step. -/
theorem body_obligation {Ψ : Dev nD → ℕ → sProp 𝕄} (hΨ : Keeps m Ψ) (hx : ∀ j < 320, (envOf m 0).ex j < 64) (c : Dev nD) :
    BodyObligation (dats m hO Ψ 0 c) (defs₀ (F := F)) Variants.none () Set.univ := fun t => by
  rw [bigSep_W0, bigSep_W0, defs₀_row]
  have hk := hΨ c (grid0.coords t) (spec0_0.stage ((Pipeline.pin (pcfgs (F := F)) (accepted m hO) 0).slots t 0)) (hstage0_0 (((Pipeline.pin (pcfgs (F := F)) (accepted m hO) 0).slots t 0).cast nbuf0_0)) (spec0_1.stage ((Pipeline.pin (pcfgs (F := F)) (accepted m hO) 0).slots t 1)) (hstage0_1 (((Pipeline.pin (pcfgs (F := F)) (accepted m hO) 0).slots t 1).cast nbuf0_1))
  rw [coord_val] at hk
  have h0 : ∀ d, (dats m hO Ψ 0 c).before 0 t d = (envOf m c).gub ((envOf m c).ex t.val) := fun d => by
    have := found0 m hO Ψ hx c t d
    rwa [coord_val] at this
  have h1 : ∀ d, (dats m hO Ψ 0 c).before 1 t d = (envOf m c).dnb ((envOf m c).ex t.val) := fun d => by
    have := found1 m hO Ψ hx c t d
    rwa [coord_val] at this
  have a0 : (dats m hO Ψ 0 c).after 0 t = (envOf m c).gub ((envOf m c).ex t.val) := by
    show (envOf m c).gub ((envOf m c).ex (grid0.coords t 0).val) = _
    rw [coord_val]
  have a1 : (dats m hO Ψ 0 c).after 1 t = (envOf m c).dnb ((envOf m c).ex t.val) := by
    show (envOf m c).dnb ((envOf m c).ex (grid0.coords t 0).val) = _
    rw [coord_val]
  refine triple_restated (P := iprop(Ψ c t.val ∗ (dats m hO Ψ 0 c).owesAt () t.castSucc ∗ (∃ d, owns (c : Thread nD τ) (spec0_0.stage ((Pipeline.pin (pcfgs (F := F)) (accepted m hO) 0).slots t 0)) fullShare ((dats m hO Ψ 0 c).before 0 t d)) ∗ (∃ d, owns (c : Thread nD τ) (spec0_1.stage ((Pipeline.pin (pcfgs (F := F)) (accepted m hO) 0).slots t 1)) fullShare ((dats m hO Ψ 0 c).before 1 t d))))
    (Q := fun _ => iprop(Ψ c (t.val + 1) ∗ (dats m hO Ψ 0 c).owesAt () t.succ ∗ owns (c : Thread nD τ) (spec0_0.stage ((Pipeline.pin (pcfgs (F := F)) (accepted m hO) 0).slots t 0)) fullShare ((dats m hO Ψ 0 c).after 0 t) ∗ owns (c : Thread nD τ) (spec0_1.stage ((Pipeline.pin (pcfgs (F := F)) (accepted m hO) 0).slots t 1)) fullShare ((dats m hO Ψ 0 c).after 1 t)))
    ?_ rfl .rfl fun _ => .rfl
  rw [a0, a1]
  unfold Dat.owesAt Pipeline.owesWithin
  rw [show (dats m hO Ψ 0 c).owed t.castSucc = 0 from rfl, show (dats m hO Ψ 0 c).owed t.succ = 0 from rfl]
  iintro ⟨HΨ, ⟨%W, -, HW⟩, ⟨%d0, H0⟩, ⟨%d1, H1⟩⟩
  rw [h0 d0, h1 d1]
  iapply (wp_wand _ _ _) $$ [HΨ HW H0 H1]
  · iapply hk
    isplitl [HW]; · iexists W; iexact HW
    isplitl [H0]; · iexact H0
    isplitl [H1]; · iexact H1
    iexact HΨ
  iintro %u ⟨⟨%W', HW'⟩, H0, H1, HΨ⟩
  isplitl [HΨ]; · iexact HΨ
  isplitl [HW']
  · iexists W'
    isplitr
    · ipureintro; exact fun _ _ => Or.inl trivial
    iexact HW'
  isplitl [H0]; · iexact H0
  iexact H1

end Cert.Experts

end
-- ==== Proof.Entry.lean ====
/-
  What the launch gives the first step, and what the last step gives back.
-/
module

public import proofs.«01_k».proof.Proof.Body
public import Idealize.ShloMosaic.Lib.Ring

@[expose] public section

noncomputable section

namespace Cert.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

open Idealize.ShloMosaic.Pipeline (Dat BodyObligation BodyObligationLoose)

/-- The call's own semaphores. -/
abbrev osem0 : Fin 8 → SemLoc sig := fun j => (![SemLoc.dma 4, SemLoc.dma 5, SemLoc.dma 6, SemLoc.dma 7, SemLoc.dma 8, SemLoc.dma 9, SemLoc.dma 10, SemLoc.dma 11] : Fin 8 → SemLoc sig) j

theorem ownSemFacts0 : Pipeline.OwnSemFacts spec0 osem0 := by decide

theorem ownSems0_eq (c : Dev nD) :
    (Pipeline.ownSems0 (Ix := Unit) (Val := Elt F) (Name := ℕ) (U := Pipeline.UD sig nD τ) (Lvl := ℕ) (τ := τ) osem0 c : sProp 𝕄)
      = iprop(semVal ((c : Thread nD τ), .dma 4) 0 ∗ semVal ((c : Thread nD τ), .dma 5) 0 ∗ semVal ((c : Thread nD τ), .dma 6) 0 ∗ semVal ((c : Thread nD τ), .dma 7) 0 ∗ semVal ((c : Thread nD τ), .dma 8) 0 ∗ semVal ((c : Thread nD τ), .dma 9) 0 ∗ semVal ((c : Thread nD τ), .dma 10) 0 ∗ semVal ((c : Thread nD τ), .dma 11) 0) := by
  rw [Pipeline.ownSems0_eq_of_list c osem0 [0, 1, 2, 3, 4, 5, 6, 7] (by decide) (by decide)]; rfl

/-- The arrays the call only reads by its own copies. -/
abbrev H0 : Finset (Ref sig .tc) := {main_arg2, main_arg3}

/-- The array it writes by its own copies. -/
abbrev R0 : Finset (Ref sig .tc) := {main_v0}

theorem bigSep_H0 (Φ : Ref sig .tc → sProp 𝕄) : bigSep H0 Φ = iprop(Φ main_arg2 ∗ Φ main_arg3) := by
  rw [BI.bigSep_eq_bigSepL_of_eq [main_arg2, main_arg3] (by decide) (by decide)]; rfl

theorem bigSep_R0 (Φ : Ref sig .tc → sProp 𝕄) : bigSep R0 Φ = iprop(Φ main_v0) := by
  rw [BI.bigSep_eq_bigSepL_of_eq [main_v0] (by decide) (by decide)]; rfl

theorem seg_disj : ∀ b b' : Fin 4, b ≠ b' → Disjoint (seg b.val) (seg b'.val) := by
  intro b b' h
  rw [Finset.disjoint_left]
  intro x hx hx'
  rw [mem_seg] at hx hx'
  exact h (Fin.ext (by omega))

theorem seg_cover : (Finset.univ : Finset (Fin 4)).biUnion (fun b => seg b.val) = (Finset.univ : Finset S2048.Idx) := by
  ext x
  simp only [Finset.mem_biUnion, Finset.mem_univ, true_and, iff_true]
  have hx : (x 0).val < 2048 := (x 0).isLt
  exact ⟨⟨(x 0).val / 512, by omega⟩, mem_seg.2 (by show _ = (x 0).val / 512 % 4; omega)⟩

theorem bigSep_four {M : Type} [URA M] (Φ : Fin 4 → sProp M) : bigSep Finset.univ Φ = iprop(Φ 0 ∗ Φ 1 ∗ Φ 2 ∗ Φ 3) :=
  (bigSep_univ_eq_bigSepL [0, 1, 2, 3] (by decide) (by decide) Φ).trans rfl

theorem ring_split (c : Dev nD) (f : S2048.Idx → BitVec 32) :
    (lc c cc0_scratch0 ↦{fullShare} f : sProp 𝕄)
      = iprop((lc c cc0_scratch0 ↦[seg 0]{fullShare} f) ∗ (lc c cc0_scratch0 ↦[seg 1]{fullShare} f) ∗ (lc c cc0_scratch0 ↦[seg 2]{fullShare} f) ∗ (lc c cc0_scratch0 ↦[seg 3]{fullShare} f)) := by
  have h := Ring.pointsTo_blocks (Ix := Unit) (Name := ℕ) (U := Pipeline.UD sig nD τ) (Lvl := ℕ) (Val := Elt F) (ℓ := lc c cc0_scratch0) (fun b : Fin 4 => seg b.val) seg_disj seg_cover (q := fullShare) f
  rw [h, bigSep_four]
  rfl

theorem ring_join (c : Dev nD) :
    iprop((∃ f : S2048.Idx → BitVec 32, lc c cc0_scratch0 ↦[seg 0]{fullShare} f) ∗ (∃ f : S2048.Idx → BitVec 32, lc c cc0_scratch0 ↦[seg 1]{fullShare} f) ∗ (∃ f : S2048.Idx → BitVec 32, lc c cc0_scratch0 ↦[seg 2]{fullShare} f) ∗ (∃ f : S2048.Idx → BitVec 32, lc c cc0_scratch0 ↦[seg 3]{fullShare} f))
      ⊢ (iprop(∃ g : S2048.Idx → BitVec 32, lc c cc0_scratch0 ↦{fullShare} g) : sProp 𝕄) := by
  have h : bigSep Finset.univ (fun b : Fin 4 => iprop(∃ f : S2048.Idx → BitVec 32, lc c cc0_scratch0 ↦[seg b.val]{fullShare} f)) ⊢ (iprop(∃ g : S2048.Idx → BitVec 32, lc c cc0_scratch0 ↦{fullShare} g) : sProp 𝕄) :=
    Ring.pointsTo_blocks_join_exists (ℓ := lc c cc0_scratch0) (fun b : Fin 4 => seg b.val) seg_disj seg_cover (fun _ => (0 : BitVec 32))
  rw [bigSep_four] at h
  exact h

theorem plan_split (c : Dev nD) (mt : Meta) :
    (lc c main_arg2 ↦{fullShare} mt : sProp 𝕄)
      = iprop((lc c main_arg2 ↦{metaShare 0} mt) ∗ (lc c main_arg2 ↦{metaShare 1} mt) ∗ (lc c main_arg2 ↦{metaShare 2} mt) ∗ (lc c main_arg2 ↦{metaShare 3} mt)) := by
  have h := ShareLeaves.pointsTo_leaves (Ix := Unit) (Name := ℕ) (U := Pipeline.UD sig nD τ) (Lvl := ℕ) (Val := Elt F) (ℓ := lc c main_arg2) Finset.univ mt 2 fullShare
  rw [h]
  unfold metaShare
  exact bigSep_four (fun i : Fin 4 => (lc c main_arg2 ↦{ShareLeaves.leaf 2 fullShare i} mt : sProp 𝕄))

theorem free_split (c : Dev nD) (mt : Meta) (f : S2048.Idx → BitVec 32) :
    iprop((lc c cc0_scratch0 ↦{fullShare} f) ∗ (lc c main_arg2 ↦{fullShare} mt) ∗ semVal ((c : Thread nD τ), .dma 4) 0 ∗ semVal ((c : Thread nD τ), .dma 5) 0 ∗ semVal ((c : Thread nD τ), .dma 6) 0 ∗ semVal ((c : Thread nD τ), .dma 7) 0)
      ⊢ iprop(MFree (F := F) c mt 0 ∗ MFree c mt 1 ∗ MFree c mt 2 ∗ MFree c mt 3) := by
  rw [ring_split, plan_split]
  iintro ⟨⟨R0, R1, R2, R3⟩, ⟨P0, P1, P2, P3⟩, S4, S5, S6, S7⟩
  unfold MFree
  isplitl [R0 P0 S4]
  · isplitl [R0]
    · iexists f; iexact R0
    isplitl [P0]; · iexact P0
    iexact S4
  isplitl [R1 P1 S5]
  · isplitl [R1]
    · iexists f; iexact R1
    isplitl [P1]; · iexact P1
    iexact S5
  isplitl [R2 P2 S6]
  · isplitl [R2]
    · iexists f; iexact R2
    isplitl [P2]; · iexact P2
    iexact S6
  · isplitl [R3]
    · iexists f; iexact R3
    isplitl [P3]; · iexact P3
    iexact S7

theorem free_join (c : Dev nD) (mt : Meta) :
    iprop(MFree (F := F) c mt 0 ∗ MFree c mt 1 ∗ MFree c mt 2 ∗ MFree c mt 3)
      ⊢ iprop((∃ g : S2048.Idx → BitVec 32, lc c cc0_scratch0 ↦{fullShare} g) ∗ (lc c main_arg2 ↦{fullShare} mt) ∗ semVal ((c : Thread nD τ), .dma 4) 0 ∗ semVal ((c : Thread nD τ), .dma 5) 0 ∗ semVal ((c : Thread nD τ), .dma 6) 0 ∗ semVal ((c : Thread nD τ), .dma 7) 0) := by
  rw [plan_split]
  unfold MFree
  iintro ⟨⟨R0, P0, S4⟩, ⟨R1, P1, S5⟩, ⟨R2, P2, S6⟩, ⟨R3, P3, S7⟩⟩
  isplitl [R0 R1 R2 R3]
  · iapply (ring_join c)
    isplitl [R0]; · iexact R0
    isplitl [R1]; · iexact R1
    isplitl [R2]; · iexact R2
    iexact R3
  isplitl [P0 P1 P2 P3]
  · isplitl [P0]; · iexact P0
    isplitl [P1]; · iexact P1
    isplitl [P2]; · iexact P2
    iexact P3
  isplitl [S4]; · iexact S4
  isplitl [S5]; · iexact S5
  isplitl [S6]; · iexact S6
  iexact S7

variable (m : (ℓ : Loc nD τ sig) → Buf (Elt F) ℓ)

/-- The scoped buffers the steps use, each at something. -/
def Rest (c : Dev nD) : sProp 𝕄 :=
  iprop((∃ f : S4096x128.Idx → F .f32, lc c cc0_scratch1 ↦{fullShare} f) ∗ (∃ f : S4096x128.Idx → F .f32, lc c cc0_scratch2 ↦{fullShare} f)
    ∗ (∃ f : S4096x128.Idx → F .bf16, lc c cc0_scratch3 ↦{fullShare} f) ∗ (∃ f : S4096x128.Idx → F .bf16, lc c cc0_scratch4 ↦{fullShare} f)
    ∗ (∃ f : S4096x128.Idx → F .f32, lc c cc0_scratch5 ↦{fullShare} f) ∗ (∃ f : S2048x1024.Idx → F .bf16, lc c cc0_scratch6 ↦{fullShare} f)
    ∗ (∃ f : S512x2048.Idx → F .bf16, lc c cc0_scratch7 ↦{fullShare} f) ∗ (∃ f : S2048.Idx → BitVec 32, lc c cc0_scratch0 ↦{fullShare} f))

theorem rest_eq (c : Dev nD) :
    (Pipeline.scopedRest (Ix := Unit) (Name := ℕ) (U := Pipeline.UD sig nD τ) (Lvl := ℕ) (Val := Elt F) spec0 c : sProp 𝕄) = Rest c :=
  (scopedRest0_eq c).trans rfl

theorem tables_eq (c : Dev nD) :
    (Pipeline.prefHeld pre0 c (fun _ => fullShare.right) (tables m) : sProp 𝕄) = Tables m c := by
  have hc : c = 0 := Subsingleton.elim _ _
  subst hc
  unfold Pipeline.prefHeld
  exact (bigSep_univ_eq_bigSepL [0, 1] (by decide) (by decide) _).trans rfl

/-- What the first step starts from. -/
theorem start (Z : S1056768x128.Idx → F .bf16) (c : Dev nD) :
    iprop(Rest c ∗ (semVal ((c : Thread nD τ), .dma 4) 0 ∗ semVal ((c : Thread nD τ), .dma 5) 0 ∗ semVal ((c : Thread nD τ), .dma 6) 0 ∗ semVal ((c : Thread nD τ), .dma 7) 0 ∗ semVal ((c : Thread nD τ), .dma 8) 0 ∗ semVal ((c : Thread nD τ), .dma 9) 0 ∗ semVal ((c : Thread nD τ), .dma 10) 0 ∗ semVal ((c : Thread nD τ), .dma 11) 0)
        ∗ ((lc c main_arg2 ↦{fullShare} (envOf m c).mt) ∗ (lc c main_arg3 ↦{fullShare} (envOf m c).X)) ∗ (lc c main_v0 ↦{fullShare} Z) ∗ Tables m c)
      ⊢ Between m Z c 0 := by
  unfold Between Flow Held Idle Rest
  rw [if_pos rfl]
  iintro ⟨⟨H1, H2, H3, H4, H5, ⟨%g6, H6⟩, ⟨%g7, H7⟩, ⟨%g0, H0⟩⟩, ⟨S4, S5, S6, S7, S8, S9, S10, S11⟩, ⟨HM, HX⟩, HY, HT⟩
  isplitl [H5 H6 H7]
  · isplitl [H6 H7]
    · iexists g6, g7
      isplitr
      · ipureintro; exact Or.inl rfl
      isplitl [H6]; · iexact H6
      iexact H7
    iexact H5
  isplitr [HT]
  · isplitl [HX]; · iexact HX
    isplitl [H1]; · iexact H1
    isplitl [H2]; · iexact H2
    isplitl [H3]; · iexact H3
    isplitl [H4]; · iexact H4
    isplitl [S8]; · iexact S8
    isplitl [S9]; · iexact S9
    isplitl [S10]; · iexact S10
    isplitl [S11]; · iexact S11
    isplitl [HY]; · iexact HY
    iapply (free_split c (envOf m c).mt g0)
    isplitl [H0]; · iexact H0
    isplitl [HM]; · iexact HM
    isplitl [S4]; · iexact S4
    isplitl [S5]; · iexact S5
    isplitl [S6]; · iexact S6
    iexact S7
  iexact HT

/-- What the last step leaves. -/
theorem finish (Z : S1056768x128.Idx → F .bf16) (c : Dev nD) (hn : (envOf m c).nu ≤ 320) :
    Between m Z c 320
      ⊢ iprop(Rest c ∗ (semVal ((c : Thread nD τ), .dma 4) 0 ∗ semVal ((c : Thread nD τ), .dma 5) 0 ∗ semVal ((c : Thread nD τ), .dma 6) 0 ∗ semVal ((c : Thread nD τ), .dma 7) 0 ∗ semVal ((c : Thread nD τ), .dma 8) 0 ∗ semVal ((c : Thread nD τ), .dma 9) 0 ∗ semVal ((c : Thread nD τ), .dma 10) 0 ∗ semVal ((c : Thread nD τ), .dma 11) 0)
        ∗ ((lc c main_arg2 ↦{fullShare} (envOf m c).mt) ∗ (lc c main_arg3 ↦{fullShare} (envOf m c).X)) ∗ (lc c main_v0 ↦{fullShare} ({ envOf m c with Y0 := Z } : Env F).Y ((envOf m c).nu + 2))) := by
  unfold Between Flow Held Idle Rest
  rw [if_neg (by decide), if_neg (by show ¬ 320 < (envOf m c).nu; omega)]
  iintro ⟨⟨⟨%g6, %g7, -, H6, H7⟩, H5⟩, ⟨HX, H1, H2, H3, H4, S8, S9, S10, S11, HY, HF⟩, -⟩
  ihave HF' := (free_join c (envOf m c).mt) $$ HF
  icases HF' with ⟨H0, HM, S4, S5, S6, S7⟩
  isplitl [H0 H1 H2 H3 H4 H5 H6 H7]
  · isplitl [H1]; · iexact H1
    isplitl [H2]; · iexact H2
    isplitl [H3]; · iexact H3
    isplitl [H4]; · iexact H4
    isplitl [H5]; · iexact H5
    isplitl [H6]; · iexists g6; iexact H6
    isplitl [H7]; · iexists g7; iexact H7
    iexact H0
  isplitl [S4 S5 S6 S7 S8 S9 S10 S11]
  · isplitl [S4]; · iexact S4
    isplitl [S5]; · iexact S5
    isplitl [S6]; · iexact S6
    isplitl [S7]; · iexact S7
    isplitl [S8]; · iexact S8
    isplitl [S9]; · iexact S9
    isplitl [S10]; · iexact S10
    iexact S11
  isplitl [HM HX]
  · isplitl [HM]; · iexact HM
    iexact HX
  iexact HY

end Cert.Experts

end
-- ==== Proof.Launch.lean ====
/-
  The program's run from a plan that holds: its arguments unchanged, its semaphores zero, its result.
-/
module

public import proofs.«01_k».proof.Proof.Entry

@[expose] public section

noncomputable section

namespace Cert.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

open Idealize.ShloMosaic.Pipeline (Dat BodyObligation BodyObligationLoose)

/-- What two proofs say of a run, said at once. -/
theorem run_both {nD : ℕ} {τ : Topo} {sig : RefSig} {Val : EltTy → Type} {Λ : Labels} {defs : Defs nD τ sig Val Λ}
    {p : (c : Thread nD τ) → Prog (TpuEff nD τ sig Val Λ c.2) PUnit} {s : MemSt nD τ sig Val} {Q Q' : PUnit × MemSt nD τ sig Val → Prop}
    (h : θ_run defs p s Q) (h' : θ_run defs p s Q') : θ_run defs p s (fun r => Q r ∧ Q' r) :=
  ⟨fun t ht hf => ⟨h.post t ht hf, h'.post t ht hf⟩, h.progress, h.fair⟩

variable (m : (ℓ : Loc nD τ sig) → Buf (Elt F) ℓ) (ρ : Dev nD → PrngReg)

/-- Memory at the call, as a valuation. -/
abbrev V₀ (c : Dev nD) : Valuation τ sig (Elt F) := fun b => m (c, b)

/-- The written array after the call. -/
def G (c : Dev nD) (b : Ref sig .tc) : Buf (Elt F) ((c.tc : Thread nD τ).loc b) :=
  if h : main_v0 = b then h ▸ ((envOf m c).Y ((envOf m c).nu + 2) : Buf (Elt F) ((c.tc : Thread nD τ).loc main_v0)) else m ((c.tc : Thread nD τ).loc b)

theorem G_v0 (c : Dev nD) : G m c main_v0 = (envOf m c).Y ((envOf m c).nu + 2) := by unfold G; rw [dif_pos rfl]

theorem hmain : Pipeline.HMainPK (Ix := Unit) (Name := ℕ) (U := Pipeline.UD sig nD τ) (Lvl := ℕ) (pcfgs (F := F)) 0 defs₀ Variants.none m (main (F := F))
    (fun c b => V₀ m c (Proc.devRef .tc b)) (fun _ => Pipeline.chain ([hostOps1].map StableHlo.seq)) :=
  Pipeline.hmainP_around pcfgs 0 defs₀ Variants.none m main [] [hostOps1] trivial trivial main_chain

theorem tail_sub : ∀ ops ∈ [hostOps1 (F := F)], ∀ op ∈ ops, op.bufs ⊆ Pipeline.tailRefs sig pre0 spec0 := by
  intro ops hops op hop
  rw [List.mem_singleton] at hops; subst hops
  rw [List.mem_singleton] at hop; subst hop
  exact (StableHlo.unary_bufs ..).trans_subset (by decide)

theorem tail_fresh : ∀ ops ∈ [hostOps1 (F := F)], ∀ op ∈ ops, op.fresh = ∅ := by
  intro ops hops op hop
  rw [List.mem_singleton] at hops; subst hops
  rw [List.mem_singleton] at hop; subst hop
  rfl

theorem tail_writes {b : Ref sig .tc} : ∀ ops ∈ [hostOps1 (F := F)], ∀ op ∈ ops, Proc.devRef .tc b ∈ op.writes → b = main_v1 := by
  intro ops hops op hop
  rw [List.mem_singleton] at hops; subst hops
  rw [List.mem_singleton] at hop; subst hop
  intro h
  exact Proc.devRef_injective _ (Finset.mem_singleton.1 h)

theorem tail_keep : ∀ ops ∈ [hostOps1 (F := F)], ∀ op ∈ ops, ∀ w, Proc.devRef .tc (Pipeline.arrRef spec0 w) ∉ op.writes := by
  intro ops hops op hop w h
  have e := tail_writes ops hops op hop h
  exact (by decide : ∀ w : Fin 2, Pipeline.arrRef spec0 w ≠ main_v1) w e

theorem H0_sub : H0 ⊆ Pipeline.restRefsP sig pre0 spec0 := by decide
theorem R0_sub : R0 ⊆ Pipeline.restRefsP sig pre0 spec0 \ H0 := by decide

variable (hO : ok0 (tables m))

theorem hA (Ψ : Dev nD → ℕ → sProp 𝕄) (c : Dev nD) (w) : (dats m hO Ψ 0 c).A w = V₀ m c (Proc.devRef .tc (Pipeline.arrRef spec0 w)) := rfl

theorem hpf (c : Dev nD) (k) : V₀ m c (Proc.devRef .tc (pre0.ref k)) = tables m k := by
  have hc : c = 0 := Subsingleton.elim _ _
  subst hc; rfl

set_option backward.isDefEq.respectTransparency.types false in
/-- The run, and what the arrays hold that the call does not read as tables. -/
theorem run_values (hp : ∀ c, Plan (envOf m c).te (envOf m c).nu (envOf m c).mt) (hx : ∀ j < 320, (envOf m 0).ex j < 64) :
    θ_run (defs (F := F)) (onTc (τ := τ) (main (F := F))) (s₀ m ρ) (fun r => ∀ c : Dev nD, (∀ w, r.2.mem ((spec0 w).arr.view.loc (c.tc : Thread nD τ)) = (dats m hO (fun c j => Between m (m (lc c main_v0)) c j) 0 c).arrAt w grid0.N)
      ∧ ∀ b ∈ Pipeline.restRefsP sig pre0 spec0, r.2.mem ((c.tc : Thread nD τ).loc b) = StableHlo.after [hostOps1].flatten (Pipeline.withArrays spec0 c (Pipeline.withR (V₀ m c) R0 c (G m c)) fun w => (dats m hO (fun c j => Between m (m (lc c main_v0)) c j) 0 c).arrAt w grid0.N) (Proc.devRef .tc b)) :=
  Pipeline.θ_run_frameP_dmaR_aroundV pcfgs (accepted m hO) (dats m hO (fun c j => Between m (m (lc c main_v0)) c j)) (0 : Fin 1) launch0 osem0 defs₀ Variants.none ownSemFacts0 H0 R0 H0_sub R0_sub m ρ main
    (fun c => (body_obligation m hO (keeps_entry m hp) hx c).loose)
    (fun c => (dats m hO (fun c j => Between m (m (lc c main_v0)) c j) 0 c).share_full fun _ => rfl) (fun _ _ => rfl)
    (V₀ m) [hostOps1] tail_sub tail_fresh tail_keep (G m) (hmain m) (hA m hO _) (hpf m)
    (fun c => by
      unfold Pipeline.ΦDRV
      rw [rest_eq, ownSems0_eq, bigSep_H0, bigSep_R0]
      show _ ⊢ Between m (m (lc c main_v0)) c 0
      have h := start m (m (lc c main_v0)) c
      rw [← tables_eq] at h
      iintro ⟨⟨HR, HS, HH, HY⟩, HT⟩
      iapply h
      isplitl [HR]; · iexact HR
      isplitl [HS]; · iexact HS
      isplitl [HH]; · iexact HH
      isplitl [HY]; · iexact HY
      iexact HT)
    (fun c => by
      unfold Pipeline.ΦDRV
      rw [rest_eq, ownSems0_eq, bigSep_H0, bigSep_R0, G_v0]
      have hN : (Fin.last grid0.N).val = 320 := N_0
      show Between m (m (lc c main_v0)) c (Fin.last grid0.N).val ⊢ _
      rw [hN]
      exact finish m (m (lc c main_v0)) c (hp c).nu_le)
    _ (fun _ h c => ⟨(h.1 c).1, (h.1 c).2⟩)

set_option backward.isDefEq.respectTransparency.types false in
/-- The run, and that it leaves the arguments as they were. -/
theorem run_keeps (hp : ∀ c, Plan (envOf m c).te (envOf m c).nu (envOf m c).mt) (hx : ∀ j < 320, (envOf m 0).ex j < 64) :
    θ_run (defs (F := F)) (onTc (τ := τ) (main (F := F))) (s₀ m ρ) (fun r => Pipeline.FramePostR (Pipeline.pin pcfgs (accepted m hO)) (dats m hO (BetweenSome m)) 0 (R0 ∪ {main_v1}) (fun c b => V₀ m c (Proc.devRef .tc b)) r ∧ r.2.sem = fun _ => 0) :=
  Pipeline.θ_run_frameP_dmaR_around pcfgs (accepted m hO) (dats m hO (BetweenSome m)) (0 : Fin 1) launch0 osem0 defs₀ Variants.none ownSemFacts0 H0 R0 {main_v1} H0_sub R0_sub m ρ main
    (fun c => (body_obligation m hO (keeps_some m hp) hx c).loose)
    (fun c => (dats m hO (BetweenSome m) 0 c).share_full fun _ => rfl) (fun _ _ => rfl)
    (V₀ m) [hostOps1] tail_sub tail_fresh tail_keep (fun ops hops op hop b hb => Finset.mem_singleton.2 (tail_writes ops hops op hop hb)) (hmain m) (hA m hO _) (hpf m)
    (fun c => by
      rw [Pipeline.ΦDR_eq]
      unfold Pipeline.owned
      rw [rest_eq, ownSems0_eq, bigSep_H0, bigSep_R0]
      show _ ⊢ BetweenSome m c 0
      unfold BetweenSome
      iintro ⟨⟨HR, Hr, HS, HH, ⟨%Z, HY⟩⟩, HT⟩
      have h := start m Z c
      rw [← tables_eq] at h
      isplitr [Hr]
      · iexists Z
        iapply h
        isplitl [HR]; · iexact HR
        isplitl [HS]; · iexact HS
        isplitl [HH]; · iexact HH
        isplitl [HY]; · iexact HY
        iexact HT
      iexact Hr)
    (fun c => by
      rw [Pipeline.ΦDR_eq]
      unfold Pipeline.owned
      rw [rest_eq, ownSems0_eq, bigSep_H0, bigSep_R0]
      have hN : (Fin.last grid0.N).val = 320 := N_0
      show BetweenSome m c (Fin.last grid0.N).val ⊢ _
      rw [hN]
      unfold BetweenSome
      iintro ⟨⟨%Z, HB⟩, Hr⟩
      ihave HB' := (finish m Z c (hp c).nu_le) $$ HB
      icases HB' with ⟨HR, HS, HH, HY⟩
      isplitl [HR]; · iexact HR
      isplitl [Hr]; · iexact Hr
      isplitl [HS]; · iexact HS
      isplitl [HH]; · iexact HH
      iexists _; iexact HY)
    _ (fun _ h => h)

end Cert.Experts

end
-- ==== Proof.Run.lean ====
/-
  The whole program's run: its result, its arguments as they were, its semaphores zero.
-/
module

public import proofs.«01_k».proof.Proof.Launch

@[expose] public section

noncomputable section

namespace Cert.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The result: the pairs' rows, without the spare ones. -/
def result (c : Dev nD) : S1048576x128.Idx → F .bf16 :=
  extractStridedSlice S1048576x128 ![0, 0] ((envOf m c).Y ((envOf m c).nu + 2)) slices_S1056768x128_S1048576x128_0_0

theorem run_main (hp : ∀ c, Plan (envOf m c).te (envOf m c).nu (envOf m c).mt) :
    θ_run (defs (F := F)) (onTc (τ := τ) (main (F := F))) (s₀ m ρ) (fun r => (∀ c : Dev nD, r.2.mem ((c.tc : Thread nD τ).loc main_v1) = result m c ∧ (r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7)))
      ∧ r.2.sem = fun _ => 0) := by
  have hx : ∀ j < 320, (envOf m 0).ex j < 64 := fun j _ => (hp 0).te_lt _
  have hO : ok0 (tables m) := tables_ok m hx
  refine (θ_run (defs (F := F)) _ _).mono ?_ (run_both (run_values m ρ hO hp hx) (run_keeps m ρ hO hp hx))
  rintro r ⟨hv, hk, hs⟩
  refine ⟨fun c => ⟨?_, ?_⟩, hs⟩
  · have h := (hv c).2 main_v1 (by decide)
    refine h.trans ?_
    show StableHlo.after hostOps1 _ (Proc.devRef .tc main_v1) = _
    rw [StableHlo.after_cons]
    refine (StableHlo.unary_result main_v0 main_v1 _ _ _ _).trans ?_
    rw [Pipeline.withArrays_of_ne spec0 c _ _ main_v0 (by decide), Pipeline.withR_of_mem _ _ _ _ main_v0 (by decide), G_v0]
    rfl
  · have hr : ∀ b, b ∈ Pipeline.restRefs sig spec0 → b ∉ R0 ∪ {main_v1} → r.2.mem ((c.tc : Thread nD τ).loc b) = m ((c.tc : Thread nD τ).loc b) :=
      fun b hb hb' => (hk c).2 b (Finset.mem_sdiff.2 ⟨hb, hb'⟩)
    have h4 := ((hk c).1 0).trans ((dats m hO (BetweenSome m) 0 c).arrAt_in 0 rfl _)
    have h5 := ((hk c).1 1).trans ((dats m hO (BetweenSome m) 0 c).arrAt_in 1 rfl _)
    exact ⟨hr main_arg0 (Pipeline.mem_restRefs_of main_arg0 (by decide) (by decide)) (by decide), hr main_arg1 (Pipeline.mem_restRefs_of main_arg1 (by decide) (by decide)) (by decide), hr main_arg2 (Pipeline.mem_restRefs_of main_arg2 (by decide) (by decide)) (by decide), hr main_arg3 (Pipeline.mem_restRefs_of main_arg3 (by decide) (by decide)) (by decide), h4, h5, hr main_arg6 (Pipeline.mem_restRefs_of main_arg6 (by decide) (by decide)) (by decide), hr main_arg7 (Pipeline.mem_restRefs_of main_arg7 (by decide) (by decide)) (by decide)⟩

end Cert.Experts

end
-- ==== Proof.PlanWords.lean ====
/-
  The precondition, read part by part: what each of its tests says of the words it compares.
-/
module

public import proofs.«01_k».proof.Pre_plan_ok
public import Idealize.ShloMosaic.Lib.ReduceAll
public import Idealize.ShloMosaic.Lib.ValueIdxCore
public import Idealize.ShloMosaic.Lib.Pipeline.Value

@[expose] public section

noncomputable section

namespace Cert.Experts.Words

open Cert.Pre_plan_ok Cert.Pre_plan_ok.Facts
open Idealize.ShloMosaic Idealize.ShloMosaic.ValueIdx

variable [Cert.Pre_plan_ok.Facts] {F : FTy → Type} [FloatOps F]

/-! ## One test at one index -/

theorem ofBool_one {b : Bool} (h : BitVec.ofBool b = 1#1) : b = true := by
  cases b with
  | true => rfl
  | false => exact absurd h (by decide)

theorem and_one {s : Shape} {a b : IVec s 1} {i : s.Idx} (h : andi a b i = 1#1) : a i = 1#1 ∧ b i = 1#1 := by
  have h' : a i &&& b i = 1#1 := h
  generalize a i = p at *
  generalize b i = q at *
  revert p q
  decide

theorem or_one {s : Shape} {a b : IVec s 1} {i : s.Idx} (h : ori a b i = 1#1) : a i = 1#1 ∨ b i = 1#1 := by
  have h' : a i ||| b i = 1#1 := h
  generalize a i = p at *
  generalize b i = q at *
  revert p q
  decide

theorem eq_one {s : Shape} {w : ℕ} {a b : IVec s w} {i : s.Idx} (h : cmpi .eq a b i = 1#1) : a i = b i := by
  have h' := ofBool_one h
  simpa using h'

theorem slt_one {s : Shape} {w : ℕ} {a b : IVec s w} {i : s.Idx} (h : cmpi .slt a b i = 1#1) : (a i).toInt < (b i).toInt := by
  have h' := ofBool_one h
  simpa [BitVec.slt] using h'

theorem sle_one {s : Shape} {w : ℕ} {a b : IVec s w} {i : s.Idx} (h : cmpi .sle a b i = 1#1) : (a i).toInt ≤ (b i).toInt := by
  have h' := ofBool_one h
  simpa [BitVec.sle] using h'

theorem sge_one {s : Shape} {w : ℕ} {a b : IVec s w} {i : s.Idx} (h : cmpi .sge a b i = 1#1) : (b i).toInt ≤ (a i).toInt := by
  have h' := ofBool_one h
  simpa [BitVec.sle] using h'

instance : Subsingleton S_.Idx := ⟨fun a b => by rw [eq_ix0 a, eq_ix0 b]⟩

theorem all_one {s : Shape} {axes : List (Fin s.rank)} {x : IVec s 1} {init : IVec S_ 1} {h : s.ReducesTo axes S_} {hu : 0 < S_.numel}
    (e : Host.reduce IntOp.andi x init h hu ix0 = 1#1) (i : s.Idx) : x i = 1#1 :=
  Host.reduce_andi_all x init h hu ix0 e i

/-! ## The parts, the last first -/

/-- The tests of the last part: its three flags hold, and at every pair the flag and the comparison. -/
theorem part5 {v25 v38 v79 : IVec S_ 1} {v81 v82 v83 : IVec S8x8192 32} {v91 : IVec S8x8192 1}
    (h : fn_part5 (F := F) v25 v38 v79 v81 v82 v83 v91 ix0 = 1#1) :
    v25 ix0 = 1#1 ∧ v38 ix0 = 1#1 ∧ v79 ix0 = 1#1 ∧ ∀ i, v91 i = 1#1 ∧ v81 i = v82 i * 8192#32 + v83 i := by
  unfold fn_part5 at h
  obtain ⟨h1, h2⟩ := and_one h
  obtain ⟨h3, h4⟩ := and_one h1
  obtain ⟨h5, h6⟩ := and_one h3
  refine ⟨h5, h6, h4, fun i => ?_⟩
  obtain ⟨h7, h8⟩ := and_one (all_one h2 i)
  exact ⟨h7, eq_one h8⟩

/-- What the plan says of the spare rows' first entry, and of the pairs' slots. -/
theorem part4 {nu : IVec S1 32} {slot : IVec S8x8192 32} {s : IVec S323x256 32} {v25 v38 v71 : IVec S_ 1} {t : IVec S320x256 32}
    (h : fn_part4 (F := F) nu slot s v25 v38 t v71 ix0 = 1#1) :
    v25 ix0 = 1#1 ∧ v38 ix0 = 1#1 ∧ v71 ix0 = 1#1
    ∧ (∀ r : Fin 256, s (ix2 (0 : Fin 323) r) = 65792#32 + BitVec.ofNat 32 r.val)
    ∧ ∀ i : S8x8192.Idx, 0 ≤ (slot i).toInt ∧ (∃ q, (slot i).toInt < (nu q * 256#32).toInt)
      ∧ fn_take_0 (F := F) (shapeCast S81920 t shapeCasts_S320x256_S81920) slot i = BitVec.ofNat 32 (i 0).val * 8192#32 + BitVec.ofNat 32 (i 1).val := by
  unfold fn_part4 at h
  obtain ⟨h1, h2, h3, h4⟩ := part5 h
  obtain ⟨h5, h6⟩ := and_one h3
  refine ⟨h1, h2, h5, fun r => ?_, fun i => ?_⟩
  · have h7 := eq_one (all_one h6 (ix1 r))
    rw [shapeCast_apply _ _ _ (ix2 (0 : Fin 1) r) (by
      rw [Shape.rowMajor_val_two, Shape.rowMajor_val_one]
      show 0 * 256 + r.val = r.val
      omega)] at h7
    refine Eq.trans (congrArg s ?_) h7
    funext a
    match a with
    | ⟨0, _⟩ => rfl
    | ⟨1, _⟩ => exact Fin.ext (Nat.zero_add _).symm
  · obtain ⟨h8, h9⟩ := h4 i
    obtain ⟨h10, h11⟩ := and_one h8
    exact ⟨sge_one h10, ⟨_, slt_one h11⟩, h9⟩

/-- What the plan says of one row of one tile. -/
theorem part3 {te : IVec S320 32} {nu : IVec S1 32} {eid slot : IVec S8x8192 32} {s : IVec S323x256 32} {v25 v38 : IVec S_ 1}
    {v39 v40 v41 t : IVec S320x256 32} {v50 : IVec S320x256 1} {v51 : IVec S65536 32}
    (h : fn_part3 (F := F) te nu eid slot s v25 v38 v39 v40 v41 t v50 v51 ix0 = 1#1) :
    fn_part4 (F := F) nu slot s v25 v38 t (fun _ => 1#1) ix0 = 1#1
    ∧ ∀ i : S320x256.Idx, v50 i = 1#1 ∨ ((t i).toInt < (65536#32).toInt ∧ fn_take (F := F) v51 t i = v39 i * 256#32 + v40 i
        ∧ fn_take (F := F) (shapeCast S65536 eid shapeCasts_S8x8192_S65536) t i = te (ix1 (n := 320) (i 0)) ∧ v41 i = t i &&& 8191#32) := by
  unfold fn_part3 at h
  have h' := (part4 h).2.2.1
  refine ⟨?_, fun i => ?_⟩
  · refine Eq.trans (congrArg (fun v => fn_part4 (F := F) nu slot s v25 v38 t v ix0) ?_) h
    funext j
    rw [eq_ix0 j]
    exact h'.symm
  · rcases or_one (all_one h' i) with h1 | h1
    · exact Or.inl h1
    · obtain ⟨h2, h3⟩ := and_one h1
      obtain ⟨h4, h5⟩ := and_one h2
      obtain ⟨h6, h7⟩ := and_one h4
      refine Or.inr ⟨slt_one h6, eq_one h7, (eq_one h5).trans ?_, eq_one h3⟩
      refine congrArg te ?_
      funext a
      match a with
      | ⟨0, _⟩ => rfl

/-- What the plan says of the tiles: how many run, and where each row of each goes. -/
theorem part2 {te : IVec S320 32} {nu : IVec S1 32} {eid slot : IVec S8x8192 32} {g s : IVec S323x256 32} {v25 v31 : IVec S_ 1} {v32 : IVec S1 32}
    (h : fn_part2 (F := F) te nu eid slot g s v25 v31 v32 ix0 = 1#1) :
    v25 ix0 = 1#1 ∧ v31 ix0 = 1#1 ∧ (∀ q, (v32 q).toInt ≤ (nu q).toInt ∧ (nu q).toInt ≤ (320#32).toInt)
    ∧ (∀ r : Fin 256, s (ix2 (0 : Fin 323) r) = 65792#32 + BitVec.ofNat 32 r.val)
    ∧ (∀ i : S8x8192.Idx, 0 ≤ (slot i).toInt ∧ (∃ q, (slot i).toInt < (nu q * 256#32).toInt)
      ∧ fn_take_0 (F := F) (shapeCast S81920 (extractStridedSlice S320x256 ![1, 0] s slices_S323x256_S320x256_1_0) shapeCasts_S320x256_S81920) slot i
        = BitVec.ofNat 32 (i 0).val * 8192#32 + BitVec.ofNat 32 (i 1).val)
    ∧ ∀ i : S320x256.Idx,
      let t := extractStridedSlice S320x256 ![1, 0] s slices_S323x256_S320x256_1_0
      t i = 65536#32 + (BitVec.ofNat 32 (i 0).val &&& 1#32) * 256#32 + BitVec.ofNat 32 (i 1).val
      ∨ ((t i).toInt < (65536#32).toInt
        ∧ fn_take (F := F) (shapeCast S65536 slot shapeCasts_S8x8192_S65536) t i = BitVec.ofNat 32 (i 0).val * 256#32 + BitVec.ofNat 32 (i 1).val
        ∧ fn_take (F := F) (shapeCast S65536 eid shapeCasts_S8x8192_S65536) t i = te (ix1 (n := 320) (i 0))
        ∧ extractStridedSlice S320x256 ![1, 0] g slices_S323x256_S320x256_1_0 i = t i &&& 8191#32) := by
  unfold fn_part2 at h
  obtain ⟨h1, h2⟩ := part3 h
  obtain ⟨h3, h4, -, h5, h6⟩ := part4 h1
  obtain ⟨h7, h8⟩ := and_one h4
  refine ⟨h3, h7, fun q => ?_, h5, h6, fun i => ?_⟩
  · obtain ⟨h9, h10⟩ := and_one (all_one h8 q)
    exact ⟨sge_one h9, sle_one h10⟩
  · rcases h2 i with h9 | h9
    · exact Or.inl (eq_one h9)
    · exact Or.inr h9

/-- What the plan says of its words' ranges, beside the tests of the tiles. -/
theorem part1 {te : IVec S320 32} {nu : IVec S1 32} {eid slot : IVec S8x8192 32} {g s : IVec S323x256 32} {v13 v16 : IVec S_ 1}
    (h : fn_part1 (F := F) te nu eid slot g s v13 v16 ix0 = 1#1) :
    v13 ix0 = 1#1 ∧ v16 ix0 = 1#1 ∧ (∀ i, (g i).toInt < (8192#32).toInt) ∧ (∀ i, (s i).toInt < (66048#32).toInt)
    ∧ (∀ i, 0 ≤ (te i).toInt ∧ (te i).toInt < (64#32).toInt)
    ∧ fn_part2 (F := F) te nu eid slot g s (fun _ => 1#1) (fun _ => 1#1) (fun _ => 1#32) ix0 = 1#1 := by
  unfold fn_part1 at h
  obtain ⟨h1, h2, -⟩ := part2 h
  obtain ⟨h3, h4⟩ := and_one h1
  obtain ⟨h5, h6⟩ := and_one h3
  obtain ⟨h7, h8⟩ := and_one h5
  refine ⟨h7, h8, fun i => slt_one (all_one h6 i), fun i => slt_one (all_one h4 i), fun i => ?_, ?_⟩
  · obtain ⟨h9, h10⟩ := and_one (all_one h2 i)
    exact ⟨sge_one h9, slt_one h10⟩
  · refine Eq.trans (congrArg₂ (fun v w => fn_part2 (F := F) te nu eid slot g s v w (fun _ => 1#32) ix0) ?_ ?_) h
    · funext j
      rw [eq_ix0 j]
      exact h1.symm
    · funext j
      rw [eq_ix0 j]
      exact h2.symm

/-! ## The plan's words -/

/-- An index of the plan's words. -/
def at0 (n : ℕ) : S165376.Idx
  | 0 => ⟨n % 165376, Nat.mod_lt _ (by decide)⟩
  | ⟨_ + 1, h⟩ => absurd h (Nat.not_lt.2 (Nat.le_add_left _ _))

/-- The two halves of an entry, a row of the plan seen as `323 × 2 × 256`, shifted to the row each names. -/
theorem half_apply (mt : IVec S165376 32) (o : Fin 2) {hs : S323x2x256.Slices ![0, o.val, 0] S323x1x256} (a : Fin 323) (r : Fin 256) :
    shapeCast S323x256 (extractStridedSlice S323x1x256 ![0, o.val, 0] (shapeCast S323x2x256 mt shapeCasts_S165376_S323x2x256) hs)
        shapeCasts_S323x1x256_S323x256 (ix2 a r)
      = mt (at0 (512 * a.val + 256 * o.val + r.val)) := by
  rw [shapeCast_apply _ _ _ (ix3 a (0 : Fin 1) r) (by
    rw [Shape.rowMajor_val_three, Shape.rowMajor_val_two]
    show (a.val * 1 + 0) * 256 + r.val = a.val * 256 + r.val
    omega)]
  refine shapeCast_apply _ _ _ _ ?_
  rw [Shape.rowMajor_val_one, Shape.rowMajor_val_three]
  show (512 * a.val + 256 * o.val + r.val) % 165376 = ((0 + a.val) * 2 + (o.val + 0)) * 256 + (0 + r.val)
  have := a.isLt
  have := o.isLt
  have := r.isLt
  omega

theorem shr_four (x : BitVec 32) : (IntOp.shrui .host x 4#32).toNat = x.toNat / 16 := by
  simp [IntOp.shrui, BitVec.toNat_ushiftRight, Nat.shiftRight_eq_div_pow]

/-- A row of 65536, taken at words in range. -/
theorem take_apply (x : IVec S8x8192 32) (t : IVec S320x256 32) (i : S320x256.Idx) (n : ℕ) (hn : (t i).toNat = n) (hlt : n < 65536) :
    fn_take (F := F) (shapeCast S65536 x shapeCasts_S8x8192_S65536) t i
      = x (ix2 (⟨n / 8192, by omega⟩ : Fin 8) (⟨n % 8192, Nat.mod_lt _ (by decide)⟩ : Fin 8192)) := by
  unfold fn_take gather_S65536_S320x256x1_S320x256_n_0_n_n_0_2_1
  refine (gather_take_apply (N := 65536) (R := 320) (C := 256) (by decide) gather_S65536_S320x256x1_S320x256_n_0_n_n_0_2_1_wf _ _ i).trans ?_
  refine shapeCast_apply _ _ _ _ ?_
  rw [Shape.rowMajor_val_two, Shape.rowMajor_val_one]
  have hi : broadcastInDim S320x256x1 ![0, 1] bcast_S320x256_S320x256x1_0_1 t (takeIdx (R := 320) (C := 256) i) = t i := by
    refine congrArg t ?_
    funext a
    match a with
    | ⟨0, _⟩ => rfl
    | ⟨1, _⟩ => rfl
  show n / 8192 * 8192 + n % 8192 = min (broadcastInDim S320x256x1 ![0, 1] bcast_S320x256_S320x256x1_0_1 t (takeIdx (R := 320) (C := 256) i)).toInt.toNat (65536 - 1)
  rw [hi, BitVec.toInt_eq_toNat_of_lt (by omega), hn]
  omega

/-- The plan's rows, taken at a slot in range. -/
theorem take0_apply (t : IVec S320x256 32) (x : IVec S8x8192 32) (i : S8x8192.Idx) (n : ℕ) (hn : (x i).toNat = n) (hlt : n < 81920) :
    fn_take_0 (F := F) (shapeCast S81920 t shapeCasts_S320x256_S81920) x i
      = t (ix2 (⟨n / 256, by omega⟩ : Fin 320) (⟨n % 256, Nat.mod_lt _ (by decide)⟩ : Fin 256)) := by
  unfold fn_take_0 gather_S81920_S8x8192x1_S8x8192_n_0_n_n_0_2_1
  refine (gather_take_apply (N := 81920) (R := 8) (C := 8192) (by decide) gather_S81920_S8x8192x1_S8x8192_n_0_n_n_0_2_1_wf _ _ i).trans ?_
  refine shapeCast_apply _ _ _ _ ?_
  rw [Shape.rowMajor_val_two, Shape.rowMajor_val_one]
  have hi : broadcastInDim S8x8192x1 ![0, 1] bcast_S8x8192_S8x8192x1_0_1 x (takeIdx (R := 8) (C := 8192) i) = x i := by
    refine congrArg x ?_
    funext a
    match a with
    | ⟨0, _⟩ => rfl
    | ⟨1, _⟩ => rfl
  show n / 256 * 256 + n % 256 = min (broadcastInDim S8x8192x1 ![0, 1] bcast_S8x8192_S8x8192x1_0_1 x (takeIdx (R := 8) (C := 8192) i)).toInt.toNat (81920 - 1)
  rw [hi, BitVec.toInt_eq_toNat_of_lt (by omega), hn]
  omega

end Cert.Experts.Words

end
-- ==== Proof.PlanOk.lean ====
/-
  The precondition holds of plans: the conditions the run asks of the plan's words, and what the precondition says
  besides of the pairs, which tile has each of them and in which row.
-/
module

public import proofs.«01_k».proof.Proof.Base
public import proofs.«01_k».proof.Proof.PlanWords

@[expose] public section

noncomputable section

namespace Cert.Experts

open Idealize.ShloMosaic Idealize.ShloMosaic.ValueIdx
open Cert.KernelIdeal (S320 S1 S165376 S8x8192)

/-- A pair's index: which of a token's eight choices, and the token. -/
def pairAt (d : ℕ) : S8x8192.Idx :=
  ix2 (⟨d / 8192 % 8, Nat.mod_lt _ (by decide)⟩ : Fin 8) (⟨d % 8192, Nat.mod_lt _ (by decide)⟩ : Fin 8192)

/-- What the precondition says of the pairs: a row of a tile is a spare row of the tile's parity, or a pair whose slot
    is that row, whose expert is the tile's and whose token is gathered there; and every pair has its slot in a tile
    that runs. -/
structure Pairs (te : S320.Idx → BitVec 32) (nu : ℕ) (mt : Meta) (eid slot : S8x8192.Idx → BitVec 32) : Prop where
  row : ∀ j < 320, ∀ r < 256, si mt (j + 1) r = 65536 + j % 2 * 256 + r
    ∨ (si mt (j + 1) r < 65536 ∧ (slot (pairAt (si mt (j + 1) r))).toNat = j * 256 + r
      ∧ eid (pairAt (si mt (j + 1) r)) = te (at1 (N := 320) (by decide) j) ∧ gi mt (j + 1) r = si mt (j + 1) r % 8192)
  zero : ∀ r < 256, si mt 0 r = 65536 + 256 + r
  slot_lt : ∀ d < 65536, (slot (pairAt d)).toNat < nu * 256
  slot_row : ∀ d < 65536, si mt ((slot (pairAt d)).toNat / 256 + 1) ((slot (pairAt d)).toNat % 256) = d

section
variable [Cert.Pre_plan_ok.Facts] {F : FTy → Type} [FloatOps F]
  {te : S320.Idx → BitVec 32} {nu : S1.Idx → BitVec 32} {mt : Meta} {X : FVec F Cert.Pre_plan_ok.S131072x128 .f32}
  {gu : FVec F Cert.Pre_plan_ok.S64x2048x1024 .f32} {dn : FVec F Cert.Pre_plan_ok.S64x512x2048 .f32}
  {eid slot : S8x8192.Idx → BitVec 32}

/-- The first halves of the entries, each word over sixteen. -/
def gvec (mt : Meta) : IVec Cert.Pre_plan_ok.S323x256 32 := fun i => IntOp.shrui .host (gw mt (i 0).val (i 1).val) 4#32
/-- The second halves of the entries, each word over sixteen. -/
def svec (mt : Meta) : IVec Cert.Pre_plan_ok.S323x256 32 := fun i => IntOp.shrui .host (sw mt (i 0).val (i 1).val) 4#32

theorem gvec_nat (mt : Meta) (i) : (gvec mt i).toNat = gi mt (i 0).val (i 1).val := Words.shr_four _
theorem svec_nat (mt : Meta) (i) : (svec mt i).toNat = si mt (i 0).val (i 1).val := Words.shr_four _

/-- The precondition's tests, on the entries' halves. -/
theorem tests (h : Cert.Pre_plan_ok.fn (F := F) te nu mt X gu dn eid slot = fun _ => 1#1) :
    (∀ i, mt i &&& 15#32 = 0#32) ∧ (∀ i, 0 ≤ (mt i).toInt)
    ∧ (∀ i, (gvec mt i).toInt < (8192#32).toInt) ∧ (∀ i, (svec mt i).toInt < (66048#32).toInt)
    ∧ (∀ i, 0 ≤ (te i).toInt ∧ (te i).toInt < (64#32).toInt)
    ∧ Cert.Pre_plan_ok.fn_part2 (F := F) te nu eid slot (gvec mt) (svec mt) (fun _ => 1#1) (fun _ => 1#1) (fun _ => 1#32) ix0 = 1#1 := by
  have h0 := congrFun h ix0
  unfold Cert.Pre_plan_ok.fn at h0
  have hg : Host.shrui (shapeCast Cert.Pre_plan_ok.S323x256 (extractStridedSlice Cert.Pre_plan_ok.S323x1x256 ![0, 0, 0] (shapeCast Cert.Pre_plan_ok.S323x2x256 mt Cert.Pre_plan_ok.Facts.shapeCasts_S165376_S323x2x256) Cert.Pre_plan_ok.Facts.slices_S323x2x256_S323x1x256_0_0_0) Cert.Pre_plan_ok.Facts.shapeCasts_S323x1x256_S323x256) (broadcastInDim Cert.Pre_plan_ok.S323x256 ![] Cert.Pre_plan_ok.Facts.bcast_S_S323x256 (constantI Cert.Pre_plan_ok.S_ 32 4#32)) = gvec mt := by
    funext i
    refine congrArg (fun x => IntOp.shrui .host x 4#32) ?_
    rw [eq_ix2 i]
    refine (Words.half_apply mt 0 (i 0) (i 1)).trans (congrArg mt ?_)
    funext a
    match a with
    | ⟨0, _⟩ => exact Fin.ext (congrArg (· % 165376) (by simp))
  have hs : Host.shrui (shapeCast Cert.Pre_plan_ok.S323x256 (extractStridedSlice Cert.Pre_plan_ok.S323x1x256 ![0, 1, 0] (shapeCast Cert.Pre_plan_ok.S323x2x256 mt Cert.Pre_plan_ok.Facts.shapeCasts_S165376_S323x2x256) Cert.Pre_plan_ok.Facts.slices_S323x2x256_S323x1x256_0_1_0) Cert.Pre_plan_ok.Facts.shapeCasts_S323x1x256_S323x256) (broadcastInDim Cert.Pre_plan_ok.S323x256 ![] Cert.Pre_plan_ok.Facts.bcast_S_S323x256 (constantI Cert.Pre_plan_ok.S_ 32 4#32)) = svec mt := by
    funext i
    refine congrArg (fun x => IntOp.shrui .host x 4#32) ?_
    rw [eq_ix2 i]
    refine (Words.half_apply mt 1 (i 0) (i 1)).trans (congrArg mt ?_)
    funext a
    match a with
    | ⟨0, _⟩ => exact Fin.ext (congrArg (· % 165376) (by simp))
  dsimp only at h0
  rw [hg, hs] at h0
  obtain ⟨h1, h2, h3, h4, h5, h6⟩ := Words.part1 h0
  exact ⟨fun i => Words.eq_one (Words.all_one h1 i), fun i => Words.sge_one (Words.all_one h2 i), h3, h4, h5, h6⟩

/-- The precondition's consequences, in natural numbers. -/
theorem plan_pairs (h : Cert.Pre_plan_ok.fn (F := F) te nu mt X gu dn eid slot = fun _ => 1#1) :
    (1 ≤ (nu (at1 (N := 1) (by decide) 0)).toNat ∧ (nu (at1 (N := 1) (by decide) 0)).toNat ≤ 320 ∧ (∀ i, (te i).toNat < 64)
      ∧ (∀ i, (mt i).toNat % 16 = 0) ∧ (∀ a < 323, ∀ r < 256, gi mt a r < 8192) ∧ (∀ a < 323, ∀ r < 256, si mt a r < 66048))
    ∧ Pairs te (nu (at1 (N := 1) (by decide) 0)).toNat mt eid slot := by
  obtain ⟨h1, h2, h3, h4, h5, h6⟩ := tests h
  obtain ⟨-, -, h7, h8, h9, h10⟩ := Words.part2 h6
  have hn : ∀ q : S1.Idx, q = at1 (N := 1) (by decide) 0 := fun q => by
    funext a
    match a with
    | ⟨0, _⟩ => exact Subsingleton.elim (α := Fin 1) _ _
  have nn : ∀ x : BitVec 32, 0 ≤ x.toInt → x.toInt = (x.toNat : ℤ) := fun x hx => by
    rw [BitVec.toInt_eq_toNat_cond] at hx ⊢
    split at hx <;> rename_i hlt
    · rw [if_pos hlt]
    · have := x.isLt
      omega
  have hgl : ∀ x : BitVec 32, (IntOp.shrui .host x 4#32).toInt = (x.toNat / 16 : ℕ) := fun x => by
    have e := Words.shr_four x
    have := x.isLt
    rw [BitVec.toInt_eq_toNat_of_lt (by omega), e]
  have hnu := h7 (at1 (N := 1) (by decide) 0)
  have hnu1 : (1#32 : BitVec 32).toInt = 1 := by decide
  have hnu2 : (320#32 : BitVec 32).toInt = 320 := by decide
  rw [hnu1, hnu2] at hnu
  have hnn := nn _ (by omega : 0 ≤ (nu (at1 (N := 1) (by decide) 0)).toInt)
  have hg : ∀ a < 323, ∀ r < 256, gi mt a r < 8192 := fun a ha r hr => by
    have e := h3 (ix2 (⟨a, ha⟩ : Fin 323) (⟨r, hr⟩ : Fin 256))
    have e2 : (8192#32 : BitVec 32).toInt = 8192 := by decide
    rw [e2, show (gvec mt (ix2 (⟨a, ha⟩ : Fin 323) (⟨r, hr⟩ : Fin 256))).toInt = (gi mt a r : ℕ) from hgl _] at e
    exact_mod_cast e
  have hs : ∀ a < 323, ∀ r < 256, si mt a r < 66048 := fun a ha r hr => by
    have e := h4 (ix2 (⟨a, ha⟩ : Fin 323) (⟨r, hr⟩ : Fin 256))
    have e2 : (66048#32 : BitVec 32).toInt = 66048 := by decide
    rw [e2, show (svec mt (ix2 (⟨a, ha⟩ : Fin 323) (⟨r, hr⟩ : Fin 256))).toInt = (si mt a r : ℕ) from hgl _] at e
    exact_mod_cast e
  refine ⟨⟨by omega, by omega, fun i => ?_, fun i => ?_, hg, hs⟩, ?_⟩
  · have e := h5 i
    have e2 : (64#32 : BitVec 32).toInt = 64 := by decide
    rw [e2] at e
    have := nn _ e.1
    omega
  · have e := congrArg BitVec.toNat (h1 i)
    rw [BitVec.toNat_and] at e
    have e2 : (mt i).toNat &&& 15 = 0 := e
    rwa [show (15 : ℕ) = 2 ^ 4 - 1 from rfl, Nat.and_two_pow_sub_one_eq_mod] at e2
  · have slice : ∀ (v : IVec Cert.Pre_plan_ok.S323x256 32) {hs} (j r : ℕ) (hj : j < 320) (hr : r < 256),
        extractStridedSlice Cert.Pre_plan_ok.S320x256 ![1, 0] v hs (ix2 (⟨j, hj⟩ : Fin 320) (⟨r, hr⟩ : Fin 256))
          = v (ix2 (⟨j + 1, by omega⟩ : Fin 323) (⟨r, hr⟩ : Fin 256)) := fun v hs j r hj hr => by
      refine congrArg v ?_
      funext a
      match a with
      | ⟨0, _⟩ => exact Fin.ext (Nat.add_comm _ _)
      | ⟨1, _⟩ => exact Fin.ext (Nat.zero_add _)
    have hslot : ∀ d < 65536, (slot (pairAt d)).toNat < (nu (at1 (N := 1) (by decide) 0)).toNat * 256 := fun d hd => by
      obtain ⟨e1, ⟨q, e2⟩, -⟩ := h9 (pairAt d)
      rw [hn q] at e2
      have e3 := nn _ e1
      have e4 : (nu (at1 (N := 1) (by decide) 0) * 256#32).toNat = (nu (at1 (N := 1) (by decide) 0)).toNat * 256 := by
        rw [BitVec.toNat_mul]
        show _ * 256 % 2 ^ 32 = _
        rw [Nat.mod_eq_of_lt (by omega)]
      rw [e3, BitVec.toInt_eq_toNat_of_lt (by omega), e4] at e2
      exact_mod_cast e2
    refine ⟨fun j hj r hr => ?_, fun r hr => ?_, hslot, fun d hd => ?_⟩
    · have e := h10 (ix2 (⟨j, hj⟩ : Fin 320) (⟨r, hr⟩ : Fin 256))
      dsimp only at e
      have hsl := slice (svec mt) (hs := Cert.Pre_plan_ok.Facts.slices_S323x256_S320x256_1_0) j r hj hr
      have hsn : (svec mt (ix2 (⟨j + 1, by omega⟩ : Fin 323) (⟨r, hr⟩ : Fin 256))).toNat = si mt (j + 1) r := svec_nat _ _
      have hgn : (gvec mt (ix2 (⟨j + 1, by omega⟩ : Fin 323) (⟨r, hr⟩ : Fin 256))).toNat = gi mt (j + 1) r := gvec_nat _ _
      have hsm := hs (j + 1) (by omega) r hr
      rcases e with e | ⟨e1, e2, e3, e4⟩
      · left
        rw [hsl] at e
        have e5 := congrArg BitVec.toNat e
        rw [hsn] at e5
        rw [e5, BitVec.toNat_add, BitVec.toNat_add, BitVec.toNat_mul, BitVec.toNat_and, BitVec.toNat_ofNat, BitVec.toNat_ofNat]
        show ((65536 + (j % 2 ^ 32 &&& 1) * 256 % 2 ^ 32) % 2 ^ 32 + r % 2 ^ 32) % 2 ^ 32 = _
        rw [Nat.mod_eq_of_lt (show j < 2 ^ 32 by omega), show (1 : ℕ) = 2 ^ 1 - 1 from rfl, Nat.and_two_pow_sub_one_eq_mod]
        omega
      · right
        have hlt : si mt (j + 1) r < 65536 := by
          rw [hsl, BitVec.toInt_eq_toNat_of_lt (by rw [hsn]; omega), hsn] at e1
          have e6 : (65536#32 : BitVec 32).toInt = 65536 := by decide
          rw [e6] at e1
          exact_mod_cast e1
        have hp : (ix2 (⟨si mt (j + 1) r / 8192, by omega⟩ : Fin 8) (⟨si mt (j + 1) r % 8192, Nat.mod_lt _ (by decide)⟩ : Fin 8192) : S8x8192.Idx) = pairAt (si mt (j + 1) r) := by
          funext a
          match a with
          | ⟨0, _⟩ => exact Fin.ext (Nat.mod_eq_of_lt (by omega : si mt (j + 1) r / 8192 < 8)).symm
          | ⟨1, _⟩ => rfl
        refine ⟨hlt, ?_, ?_, ?_⟩
        · rw [Words.take_apply _ _ _ (si mt (j + 1) r) (by rw [hsl, hsn]) hlt] at e2
          have e5 := congrArg BitVec.toNat e2
          rw [BitVec.toNat_add, BitVec.toNat_mul, BitVec.toNat_ofNat, BitVec.toNat_ofNat] at e5
          refine (congrArg (fun i => (slot i).toNat) hp.symm).trans (e5.trans ?_)
          show (j % 2 ^ 32 * 256 % 2 ^ 32 + r % 2 ^ 32) % 2 ^ 32 = _
          omega
        · rw [Words.take_apply _ _ _ (si mt (j + 1) r) (by rw [hsl, hsn]) hlt] at e3
          refine (congrArg eid hp.symm).trans (e3.trans (congrArg te ?_))
          funext a
          match a with
          | ⟨0, _⟩ => exact Fin.ext (Nat.mod_eq_of_lt hj).symm
        · rw [hsl, slice _ j r hj hr] at e4
          have e5 := congrArg BitVec.toNat e4
          rw [hgn, BitVec.toNat_and, hsn] at e5
          rw [e5]
          show si mt (j + 1) r &&& 8191 = _
          rw [show (8191 : ℕ) = 2 ^ 13 - 1 from rfl, Nat.and_two_pow_sub_one_eq_mod]
    · have e := congrArg BitVec.toNat (h8 ⟨r, hr⟩)
      rw [show (svec mt (ix2 (0 : Fin 323) (⟨r, hr⟩ : Fin 256))).toNat = si mt 0 r from svec_nat _ _, BitVec.toNat_add, BitVec.toNat_ofNat, BitVec.toNat_ofNat] at e
      rw [e]
      show (65792 % 2 ^ 32 + r % 2 ^ 32) % 2 ^ 32 = _
      omega
    · obtain ⟨-, -, e⟩ := h9 (pairAt d)
      have hl := hslot d hd
      rw [Words.take0_apply _ _ _ _ rfl (by omega), slice _ _ _ (by omega) (Nat.mod_lt _ (by decide))] at e
      have e5 := congrArg BitVec.toNat e
      rw [show (svec mt (ix2 (⟨(slot (pairAt d)).toNat / 256 + 1, by omega⟩ : Fin 323) (⟨(slot (pairAt d)).toNat % 256, Nat.mod_lt _ (by decide)⟩ : Fin 256))).toNat = si mt _ _ from svec_nat _ _,
        BitVec.toNat_add, BitVec.toNat_mul, BitVec.toNat_ofNat, BitVec.toNat_ofNat] at e5
      refine e5.trans ?_
      show (d / 8192 % 8 % 2 ^ 32 * 8192 % 2 ^ 32 + d % 8192 % 2 ^ 32) % 2 ^ 32 = d
      omega

/-- The precondition makes the words a plan. -/
theorem plan_of (h : Cert.Pre_plan_ok.fn (F := F) te nu mt X gu dn eid slot = fun _ => 1#1) :
    Plan te (nu (at1 (N := 1) (by decide) 0)).toNat mt := by
  obtain ⟨⟨h1, h2, h3, h4, h5, h6⟩, hp⟩ := plan_pairs h
  have key : ∀ a ≤ 320, ∀ r < 256, (si mt a r = 65536 + (a + 1) % 2 * 256 + r)
      ∨ (si mt a r < 65536 ∧ (slot (pairAt (si mt a r))).toNat + 256 = a * 256 + r) := fun a ha r hr => by
    rcases Nat.eq_zero_or_pos a with rfl | hpos
    · left
      have := hp.zero r hr
      omega
    · obtain ⟨j, rfl⟩ : ∃ j, a = j + 1 := ⟨a - 1, by omega⟩
      rcases hp.row j (by omega) r hr with e | ⟨e1, e2, -⟩
      · left
        omega
      · right
        exact ⟨e1, by omega⟩
  refine ⟨h1, h2, h3, fun a _ r _ => ?_, h5, fun a _ r _ => ?_, h6, fun a ha r r' hne he => ?_, fun a ha r r' he => ?_⟩
  · have := h4 (at1 (N := 165376) (by decide) (512 * a + r))
    unfold gi gw
    omega
  · have := h4 (at1 (N := 165376) (by decide) (512 * a + 256 + r))
    unfold si sw
    omega
  · have hr := r.isLt
    have hr' := r'.isLt
    have hv : r.val ≠ r'.val := fun e => hne (Fin.ext e)
    rcases key a ha r hr with e1 | ⟨e1, e2⟩ <;> rcases key a ha r' hr' with e3 | ⟨e3, e4⟩
    · omega
    · omega
    · omega
    · rw [he] at e2
      omega
  · have hr := r.isLt
    have hr' := r'.isLt
    rcases key a (by omega) r hr with e1 | ⟨e1, e2⟩ <;> rcases key (a + 1) (by omega) r' hr' with e3 | ⟨e3, e4⟩
    · omega
    · omega
    · omega
    · rw [he] at e2
      omega

theorem pairs_of (h : Cert.Pre_plan_ok.fn (F := F) te nu mt X gu dn eid slot = fun _ => 1#1) :
    Pairs te (nu (at1 (N := 1) (by decide) 0)).toNat mt eid slot := (plan_pairs h).2

end

end Cert.Experts

end
-- ==== Proof.Frames.lean ====
/-
  The frames: the kernel's, over the chip's floats and over the reals, from the one run; and the reference's.
-/
module

public import proofs.«01_k».proof.Proof.Run
public import proofs.«01_k».proof.Proof.PlanOk
public import proofs.«01_k».proof.Defs
public import proofs.«01_k».proof.Proof.Gen.Kernel
public import proofs.«01_k».proof.Proof.Gen.ReferenceIdeal.Run
public import proofs.«01_k».proof.Proof.Gen.Pre_plan_ok

@[expose] public section

noncomputable section

namespace Cert.Experts

open Idealize.ShloMosaic Idealize.ShloMosaic.TcCoe
open Idealize.SL Idealize.SL.Sem

/-- The two printings of the kernel have the same bodies. -/
theorem same_bodies : (Cert.Kernel.defs₀ (F := Bits) : Defs Cert.KernelIdeal.nD Cert.KernelIdeal.τ Cert.KernelIdeal.sig (Elt Bits) Cert.KernelIdeal.Λ₀)
    = Cert.KernelIdeal.defs₀ (F := Bits) := by
  unfold Cert.Kernel.defs₀ Cert.KernelIdeal.defs₀
  refine congrArg Defs.onTc ?_
  funext l x
  match l, x with
  | 0, (t, s) => rfl

/-- The run over the chip's floats, at any table of bodies equal to the kernel's. -/
theorem frame_bits (m : (ℓ : Loc Cert.KernelIdeal.nD Cert.KernelIdeal.τ Cert.KernelIdeal.sig) → Buf (Elt Bits) ℓ) (g : Dev Cert.KernelIdeal.nD → PrngReg)
    (hpre : ∀ c : Dev Cert.KernelIdeal.nD, Cert.Pre_plan_ok.fn (F := Bits) (m (lc c Cert.KernelIdeal.main_arg0)) (m (lc c Cert.KernelIdeal.main_arg1))
      (m (lc c Cert.KernelIdeal.main_arg2)) (m (lc c Cert.KernelIdeal.main_arg3)) (m (lc c Cert.KernelIdeal.main_arg4))
      (m (lc c Cert.KernelIdeal.main_arg5)) (m (lc c Cert.KernelIdeal.main_arg6)) (m (lc c Cert.KernelIdeal.main_arg7)) = fun _ => 1#1)
    (D : Defs Cert.KernelIdeal.nD Cert.KernelIdeal.τ Cert.KernelIdeal.sig (Elt Bits) Cert.KernelIdeal.Λ₀) (hD : D = Cert.KernelIdeal.defs₀ (F := Bits)) :
    θ_run (Pipeline.defs Cert.KernelIdeal.pcfgs D) (onTc Cert.KernelIdeal.main) ⟨m, fun _ => 0, g⟩ (fun r => (∀ c : Dev Cert.KernelIdeal.nD,
      r.2.mem (lc c Cert.KernelIdeal.main_arg0) = m (lc c Cert.KernelIdeal.main_arg0)
      ∧ r.2.mem (lc c Cert.KernelIdeal.main_arg1) = m (lc c Cert.KernelIdeal.main_arg1)
      ∧ r.2.mem (lc c Cert.KernelIdeal.main_arg2) = m (lc c Cert.KernelIdeal.main_arg2)
      ∧ r.2.mem (lc c Cert.KernelIdeal.main_arg3) = m (lc c Cert.KernelIdeal.main_arg3)
      ∧ r.2.mem (lc c Cert.KernelIdeal.main_arg4) = m (lc c Cert.KernelIdeal.main_arg4)
      ∧ r.2.mem (lc c Cert.KernelIdeal.main_arg5) = m (lc c Cert.KernelIdeal.main_arg5)
      ∧ r.2.mem (lc c Cert.KernelIdeal.main_arg6) = m (lc c Cert.KernelIdeal.main_arg6)
      ∧ r.2.mem (lc c Cert.KernelIdeal.main_arg7) = m (lc c Cert.KernelIdeal.main_arg7)) ∧ r.2.sem = fun _ => 0) := by
  subst hD
  exact (θ_run Cert.KernelIdeal.defs _ _).mono (fun _ h => ⟨fun c => (h.1 c).2, h.2⟩)
    (run_main (F := Bits) m g fun c => plan_of (hpre c))

/-- The kernel over the chip's floats leaves its arguments and its counters. -/
theorem frame_kernel : Cert.quiescent_Kernel := fun m g hpre =>
  frame_bits m g hpre (Cert.Kernel.defs₀ (F := Bits)) same_bodies

/-- The kernel over the reals leaves its arguments and its counters. -/
theorem frame_kernelIdeal : Cert.quiescent_KernelIdeal := fun m g hpre =>
  (θ_run Cert.KernelIdeal.defs _ _).mono (fun _ h => ⟨fun c => (h.1 c).2, h.2⟩)
    (run_main (F := Ideal) m g fun c => plan_of (hpre c))

/-- The reference's machine has no counters. -/
theorem reference_counters (f : GSem Cert.ReferenceIdeal.nD Cert.ReferenceIdeal.τ Cert.ReferenceIdeal.sig → ℤ) : f = fun _ => 0 := by
  funext g
  obtain ⟨_, s⟩ := g
  cases s with
  | reg s => exact s.elim0
  | dma s => exact s.elim0

/-- The reference leaves its arguments and its counters. -/
theorem frame_reference : Cert.quiescent_ReferenceIdeal := fun m g _ =>
  (θ_run Cert.ReferenceIdeal.defs _ _).mono (fun _ h => ⟨fun c => (h c).2, reference_counters _⟩)
    (Cert.ReferenceIdeal.Value.run (F := Ideal) m g)

end Cert.Experts

end
-- ==== Proof.Rows.lean ====
/-
  The result's blocks: after the last scatter, a pair's block holds the pair's row of the tile that has it. The scatters
  after that tile's go to other pairs and to the spare rows.
-/
module

public import proofs.«01_k».proof.Proof.Phase
public import proofs.«01_k».proof.Proof.PlanOk

@[expose] public section

noncomputable section

namespace Cert.Experts

open Cert.KernelIdeal Cert.KernelIdeal.Gen
open Idealize.ShloMosaic

variable {F : FTy → Type} [FloatOps F] {E : Env F} {eid slot : S8x8192.Idx → BitVec 32}

/-- A pair's tile and row, and what the plan says of them. -/
theorem pair_row (hp : Plan E.te E.nu E.mt) (hq : Pairs E.te E.nu E.mt eid slot) {d : ℕ} (hd : d < 65536) :
    ∃ j r : ℕ, j < E.nu ∧ j < 320 ∧ r < 256 ∧ (slot (pairAt d)).toNat = j * 256 + r ∧ si E.mt (j + 1) r = d
      ∧ eid (pairAt d) = E.te (at1 (N := 320) (by decide) j) ∧ gi E.mt (j + 1) r = d % 8192 := by
  have hs := hq.slot_lt d hd
  have hn := hp.nu_le
  have hw := hq.slot_row d hd
  have hj : (slot (pairAt d)).toNat / 256 < E.nu := by omega
  have hr : (slot (pairAt d)).toNat % 256 < 256 := Nat.mod_lt _ (by decide)
  refine ⟨_, _, hj, by omega, hr, by omega, hw, ?_⟩
  rcases hq.row _ (by omega : (slot (pairAt d)).toNat / 256 < 320) _ hr with h | ⟨-, -, h1, h2⟩
  · omega
  · rw [hw] at h1 h2
    exact ⟨h1, h2⟩

/-- A pair's block of the result: its row of its tile. -/
theorem result_block (hp : Plan E.te E.nu E.mt) (hq : Pairs E.te E.nu E.mt eid slot) {d j r : ℕ} (hd : d < 65536) (hj : j < E.nu)
    (hr : r < 256) (hs : (slot (pairAt d)).toNat = j * 256 + r) (hw : si E.mt (j + 1) r = d) (i : S1056768x128.Idx) (hi : (i 0).val / 16 = d) :
    E.Y (E.nu + 2) i = E.tile j (at2 (N := 4096) (by decide) (16 * r + (i 0).val % 16) (i 1).val) := by
  have hn := hp.nu_le
  have key : ∀ n, j + 3 + n ≤ E.nu + 2 → E.Y (j + 3 + n) i = E.tile j (at2 (N := 4096) (by decide) (16 * r + (i 0).val % 16) (i 1).val) := by
    intro n
    induction n with
    | zero =>
      intro _
      show scat (sd E.mt (j + 2)) (E.row (j + 2)) (E.Y (j + 2)) i = _
      exact scat_of_mem (fun a b h => sd_inj hp (by omega) a b h) _ _ ⟨r, hr⟩ (hi.trans hw.symm)
    | succ n ih =>
      intro hle
      refine Eq.trans ?_ (ih (by omega))
      show scat (sd E.mt (j + 3 + n)) (E.row (j + 3 + n)) (E.Y (j + 3 + n)) i = _
      refine scat_of_not_mem _ _ fun r' he => ?_
      have hk : j + 3 + n = (j + 1 + n) + 2 := by omega
      rw [hk, hi] at he
      have he' : si E.mt ((j + 1 + n) + 1) r'.val = d := he
      rcases hq.row (j + 1 + n) (by omega) r'.val r'.isLt with h | ⟨-, h, -, -⟩
      · omega
      · rw [he', hs] at h
        have := r'.isLt
        omega
  have h := key (E.nu - 1 - j) (by omega)
  have hk : j + 3 + (E.nu - 1 - j) = E.nu + 2 := by omega
  rw [hk] at h
  exact h

end Cert.Experts

end
-- ==== Proof.Ffn.lean ====
/-
  The gated product of one row: what an expert makes of a token.
-/
module

public import Idealize.ShloMosaic.Lib.Pointwise

@[expose] public section

noncomputable section

namespace Cert.Experts

open Idealize.ShloMosaic

/-- A hidden unit of an expert: the gate's product under the sigmoid gate, times the second half's product. -/
def hidden (x : Fin 2048 → EReal) (gu : Fin 2048 → Fin 1024 → EReal) (h : Fin 512) : EReal :=
  (∑ k, x k * gu k ⟨h.val, by omega⟩) * Ideal.div 1 (1 + Ideal.exp (-(∑ k, x k * gu k ⟨h.val, by omega⟩)))
    * ∑ k, x k * gu k ⟨512 + h.val, by omega⟩

/-- An expert's output from the hidden units. -/
def expert (x : Fin 2048 → EReal) (gu : Fin 2048 → Fin 1024 → EReal) (dn : Fin 512 → Fin 2048 → EReal) (n : Fin 2048) : EReal :=
  ∑ h, hidden x gu h * dn h n

end Cert.Experts

end
-- ==== Proof.TileValue.lean ====
/-
  A tile at an index, over the reals: its rows are the gated products of the rows gathered.
-/
module

public import proofs.«01_k».proof.Proof.Tile
public import proofs.«01_k».proof.Proof.Ffn

@[expose] public section

noncomputable section

namespace Cert.Experts

open Cert.KernelIdeal Cert.KernelIdeal.Gen
open Idealize.ShloMosaic

/-- The two products and the gate between, of whole rows. -/
def core (x : FVec Ideal S256x2048 .f32) (gu : FVec Ideal S2048x1024 .bf16) (dn : FVec Ideal S512x2048 .bf16) : FVec Ideal S256x2048 .f32 :=
  have v133 : FVec Ideal S256x2048 .bf16 := truncf .bf16 x bitsLt_bf16_f32
  have v135 : FVec Ideal S256x1024 .f32 := matmul dot_S256x2048_S2048x1024_S256x1024_1_0_0_1_n_n none v133 gu (constant S256x1024 .f32 0x00000000#32)
  have v136 : FVec Ideal S256x512 .f32 := extractStridedSlice S256x512 ![0, 0] v135 slices_S256x1024_o0_0_S256x512
  have v137 : FVec Ideal S256x512 .f32 := extractStridedSlice S256x512 ![0, 512] v135 slices_S256x1024_o0_512_S256x512
  have v144 : FVec Ideal S256x512 .f32 := divf (broadcast S256x512 (Scalar.ofBits .f32 0x3F800000#32))
    (addf (broadcast S256x512 (Scalar.ofBits .f32 0x3F800000#32)) (exp (subf (broadcast S256x512 (Scalar.ofBits .f32 0x00000000#32)) v136)))
  matmul dot_S256x512_S512x2048_S256x2048_1_0_0_1_n_n none (truncf .bf16 (mulf (mulf v136 v144) v137) bitsLt_bf16_f32) dn (constant S256x2048 .f32 0x00000000#32)

set_option maxRecDepth 16384 in
theorem core_apply (x gu dn) (r : Fin 256) (n : Fin 2048) :
    core x gu dn (ix2 r n) = expert (fun k => x (ix2 r k)) (fun k h => gu (ix2 k h)) (fun h n => dn (ix2 h n)) n := by
  unfold core expert hidden
  pointwise
  simp only [zero_sub]

/-- Whole rows from their sixteen parts. -/
def rowsOf (G : S4096x128.Idx → EReal) : FVec Ideal S256x2048 .f32 := fun i =>
  G (at2 (N := 4096) (by decide) (16 * (i 0).val + (i 1).val / 128) ((i 1).val % 128))

/-- The strided reads are inside the buffer. -/
theorem parts_inb (c : Fin 16) : ∀ a, S256x128.size a = 0 ∨ (![c.val, 0] : Fin 2 → ℕ) a + (![16, 1] : Fin 2 → ℕ) a * (S256x128.size a - 1) < S4096x128.size a := by
  have hc := c.isLt
  intro a
  right
  match a with
  | 0 => show c.val + 16 * 255 < 4096; omega
  | 1 => show 0 + 1 * 127 < 128; omega

/-- The sixteen strided reads. -/
def parts (G : S4096x128.Idx → EReal) (c : Fin 16) : FVec Ideal S256x128 .f32 := ldx (F := Ideal) c.val (parts_inb c) G

theorem ldx_apply {k : ℕ} (hk : k < 16) (h) (G : S4096x128.Idx → EReal) (j : S256x128.Idx) :
    ldx (F := Ideal) k h G j = G (at2 (N := 4096) (by decide) (16 * (j 0).val + k) (j 1).val) := by
  have h0 : (j 0).val < 256 := (j 0).isLt
  have h1 : (j 1).val < 128 := (j 1).isLt
  refine congrArg G ?_
  funext a
  apply Fin.ext
  match a with
  | 0 =>
    show k + 16 * (j 0).val = (16 * (j 0).val + k) % 4096
    omega
  | 1 =>
    show 0 + 1 * (j 1).val = (j 1).val % 128
    omega

theorem parts_apply (G : S4096x128.Idx → EReal) (c : Fin 16) (j : S256x128.Idx) :
    parts G c j = G (at2 (N := 4096) (by decide) (16 * (j 0).val + c.val) (j 1).val) := by
  exact ldx_apply c.isLt (parts_inb c) G j

set_option maxRecDepth 16384 in
/-- The sixteen parts side by side are the whole rows. -/
theorem parts_rows (G : S4096x128.Idx → EReal) (h) :
    concatenate S256x2048 1 (List.ofFn fun n : Fin 16 => (⟨S256x128, parts G n⟩ : (s : Shape) × (s.Idx → EReal))) h = rowsOf G := by
  funext j
  have h1 : (j 1).val < 2048 := (j 1).isLt
  refine (concatenate_ofFn_apply (s₁ := S256x128) (t := S256x2048) 1 (parts G) h rfl 128 rfl j ⟨(j 1).val / 128, by omega⟩ rfl
    (ix2 (j 0) ⟨(j 1).val % 128, Nat.mod_lt _ (by decide)⟩) rfl ?_).trans (parts_apply G _ _)
  intro b hb
  match b with
  | 0 => rfl
  | 1 => exact absurd rfl hb

/-- The reads in order. -/
def reads (G : S4096x128.Idx → EReal) : List ((s : Shape) × (s.Idx → EReal)) :=
  [⟨S256x128, ldx (F := Ideal) 0 inb_S4096x128_S256x128_0_0_s_16_1 G⟩, ⟨S256x128, ldx (F := Ideal) 1 inb_S4096x128_S256x128_1_0_s_16_1 G⟩, ⟨S256x128, ldx (F := Ideal) 2 inb_S4096x128_S256x128_2_0_s_16_1 G⟩, ⟨S256x128, ldx (F := Ideal) 3 inb_S4096x128_S256x128_3_0_s_16_1 G⟩, ⟨S256x128, ldx (F := Ideal) 4 inb_S4096x128_S256x128_4_0_s_16_1 G⟩, ⟨S256x128, ldx (F := Ideal) 5 inb_S4096x128_S256x128_5_0_s_16_1 G⟩, ⟨S256x128, ldx (F := Ideal) 6 inb_S4096x128_S256x128_6_0_s_16_1 G⟩, ⟨S256x128, ldx (F := Ideal) 7 inb_S4096x128_S256x128_7_0_s_16_1 G⟩, ⟨S256x128, ldx (F := Ideal) 8 inb_S4096x128_S256x128_8_0_s_16_1 G⟩, ⟨S256x128, ldx (F := Ideal) 9 inb_S4096x128_S256x128_9_0_s_16_1 G⟩, ⟨S256x128, ldx (F := Ideal) 10 inb_S4096x128_S256x128_10_0_s_16_1 G⟩, ⟨S256x128, ldx (F := Ideal) 11 inb_S4096x128_S256x128_11_0_s_16_1 G⟩, ⟨S256x128, ldx (F := Ideal) 12 inb_S4096x128_S256x128_12_0_s_16_1 G⟩, ⟨S256x128, ldx (F := Ideal) 13 inb_S4096x128_S256x128_13_0_s_16_1 G⟩, ⟨S256x128, ldx (F := Ideal) 14 inb_S4096x128_S256x128_14_0_s_16_1 G⟩, ⟨S256x128, ldx (F := Ideal) 15 inb_S4096x128_S256x128_15_0_s_16_1 G⟩]

theorem reads_eq (G : S4096x128.Idx → EReal) : reads G = List.ofFn fun n : Fin 16 => (⟨S256x128, parts G n⟩ : (s : Shape) × (s.Idx → EReal)) := by
  simp only [List.ofFn_succ, List.ofFn_zero]
  rfl

theorem whole_eq (G : S4096x128.Idx → EReal) {xs : List ((s : Shape) × (s.Idx → EReal))}
    (hx : xs = List.ofFn fun n : Fin 16 => (⟨S256x128, parts G n⟩ : (s : Shape) × (s.Idx → EReal))) (h) :
    concatenate S256x2048 1 xs h = rowsOf G := by
  subst hx
  exact parts_rows G h

theorem prodOf_core (G : S4096x128.Idx → EReal) (gu : FVec Ideal S2048x1024 .bf16) (dn : FVec Ideal S512x2048 .bf16) :
    prodOf (F := Ideal) G gu dn = core (concatenate S256x2048 1 (reads G) concatenates_S256x128_S256x128_S256x128_S256x128_S256x128_S256x128_S256x128_S256x128_S256x128_S256x128_S256x128_S256x128_S256x128_S256x128_S256x128_S256x128_S256x2048_d1) gu dn := rfl

/-- A tile's product, of the whole rows. -/
theorem prodOf_eq (G : S4096x128.Idx → EReal) (gu : FVec Ideal S2048x1024 .bf16) (dn : FVec Ideal S512x2048 .bf16) :
    prodOf (F := Ideal) G gu dn = core (rowsOf G) gu dn :=
  (prodOf_core G gu dn).trans (congrArg (fun x => core x gu dn) (whole_eq G (reads_eq G) _))

theorem cut_apply {k : ℕ} (hk : k + 128 ≤ 2048) (O : FVec Ideal S256x2048 .f32) (h : S256x2048.Slices ![0, k] S256x128) (hc) (j : S256x128.Idx) :
    shapeCast S256x128 (extractStridedSlice S256x128 ![0, k] O h) hc j = O (ix2 (j 0) ⟨k + (j 1).val, by have : (j 1).val < 128 := (j 1).isLt; omega⟩) := by
  pointwise

/-- A block of columns of the product. -/
theorem blocksOf_apply (O : FVec Ideal S256x2048 .f32) (b : Fin 16) (j : S256x128.Idx) :
    blocksOf (F := Ideal) O b j = O (ix2 (j 0) ⟨128 * b.val + (j 1).val, by have : (j 1).val < 128 := (j 1).isLt; omega⟩) := by
  match b with
  | ⟨0, _⟩ => exact cut_apply (k := 0) (by decide) O slices_S256x2048_o0_0_S256x128 shapeCasts_S256x128_S256x128 j
  | ⟨1, _⟩ => exact cut_apply (k := 128) (by decide) O slices_S256x2048_o0_128_S256x128 shapeCasts_S256x128_S256x128 j
  | ⟨2, _⟩ => exact cut_apply (k := 256) (by decide) O slices_S256x2048_o0_256_S256x128 shapeCasts_S256x128_S256x128 j
  | ⟨3, _⟩ => exact cut_apply (k := 384) (by decide) O slices_S256x2048_o0_384_S256x128 shapeCasts_S256x128_S256x128 j
  | ⟨4, _⟩ => exact cut_apply (k := 512) (by decide) O slices_S256x2048_o0_512_S256x128 shapeCasts_S256x128_S256x128 j
  | ⟨5, _⟩ => exact cut_apply (k := 640) (by decide) O slices_S256x2048_o0_640_S256x128 shapeCasts_S256x128_S256x128 j
  | ⟨6, _⟩ => exact cut_apply (k := 768) (by decide) O slices_S256x2048_o0_768_S256x128 shapeCasts_S256x128_S256x128 j
  | ⟨7, _⟩ => exact cut_apply (k := 896) (by decide) O slices_S256x2048_o0_896_S256x128 shapeCasts_S256x128_S256x128 j
  | ⟨8, _⟩ => exact cut_apply (k := 1024) (by decide) O slices_S256x2048_o0_1024_S256x128 shapeCasts_S256x128_S256x128 j
  | ⟨9, _⟩ => exact cut_apply (k := 1152) (by decide) O slices_S256x2048_o0_1152_S256x128 shapeCasts_S256x128_S256x128 j
  | ⟨10, _⟩ => exact cut_apply (k := 1280) (by decide) O slices_S256x2048_o0_1280_S256x128 shapeCasts_S256x128_S256x128 j
  | ⟨11, _⟩ => exact cut_apply (k := 1408) (by decide) O slices_S256x2048_o0_1408_S256x128 shapeCasts_S256x128_S256x128 j
  | ⟨12, _⟩ => exact cut_apply (k := 1536) (by decide) O slices_S256x2048_o0_1536_S256x128 shapeCasts_S256x128_S256x128 j
  | ⟨13, _⟩ => exact cut_apply (k := 1664) (by decide) O slices_S256x2048_o0_1664_S256x128 shapeCasts_S256x128_S256x128 j
  | ⟨14, _⟩ => exact cut_apply (k := 1792) (by decide) O slices_S256x2048_o0_1792_S256x128 shapeCasts_S256x128_S256x128 j
  | ⟨15, _⟩ => exact cut_apply (k := 1920) (by decide) O slices_S256x2048_o0_1920_S256x128 shapeCasts_S256x128_S256x128 j
  | ⟨n + 16, h⟩ => exact absurd h (by omega)

set_option maxRecDepth 16384 in
/-- A tile's element: column `128 b + l` of its row. -/
theorem tileOut_apply (G : S4096x128.Idx → EReal) (gu : FVec Ideal S2048x1024 .bf16) (dn : FVec Ideal S512x2048 .bf16) (r : Fin 256) (b : Fin 16) (l : Fin 128) :
    tileOut (F := Ideal) G gu dn (at2 (N := 4096) (by decide) (16 * r.val + b.val) l.val) = prodOf (F := Ideal) G gu dn (ix2 r ⟨128 * b.val + l.val, by omega⟩) := by
  unfold tileOut
  generalize prodOf (F := Ideal) G gu dn = O
  unfold k0_pay44
  pointwise
  have h0 : 16 * r.val + b.val < 4096 := by omega
  have e0 : (16 * r.val + b.val) % 4096 % 16 = b.val := by omega
  have e1 : (16 * r.val + b.val) % 4096 / 16 % 256 = r.val := by omega
  have e2 : l.val % 128 % 128 = l.val := by omega
  refine Eq.trans (b := blocksOf O b (ix2 r l)) ?_ (blocksOf_apply O b (ix2 r l))
  have hb : (⟨(16 * r.val + b.val) % 4096 % 16, Nat.mod_lt _ (by decide)⟩ : Fin 16) = b := Fin.ext e0
  have hj : at2 (N := 256) (by decide) ((16 * r.val + b.val) % 4096 / 16) (l.val % 128) = ix2 r l := by
    funext a
    apply Fin.ext
    match a with
    | 0 => exact e1
    | 1 => exact e2
  show blocksOf O ⟨(16 * r.val + b.val) % 4096 % 16, _⟩ (at2 (N := 256) (by decide) ((16 * r.val + b.val) % 4096 / 16) (l.val % 128)) = _
  rw [hb, hj]

end Cert.Experts

end
-- ==== Proof.RefValue.lean ====
/-
  The reference at an index: one trip puts the trip's expert at the pairs that chose it and leaves the others, so that
  after 64 trips each pair holds the expert it chose.
-/
module

public import proofs.«01_k».proof.Proof.Ffn
public import proofs.«01_k».proof.Proof.Gen.ReferenceIdeal.Run

@[expose] public section

noncomputable section

namespace Cert.Experts

open Cert.ReferenceIdeal Cert.ReferenceIdeal.Gen Cert.ReferenceIdeal.Value
open Idealize.ShloMosaic Idealize.ShloMosaic.TcCoe

/-- A trip's number is in range as a start. -/
theorem start_word (e : Fin 64) (b : ℕ) (hb : 63 ≤ b) : (min (max (BitVec.ofNat 32 e.val).toInt 0) (b : Int)).toNat + 0 = e.val := by
  have h : (BitVec.ofNat 32 e.val).toInt = e.val := by
    revert e; decide
  have := e.isLt
  rw [h]
  omega

variable {V : Valuation τ sig (Elt Ideal)} {e : Fin 64} {x : FVec Ideal S8192x2048 .f32} {gu : FVec Ideal S64x2048x1024 .f32}
  {dn : FVec Ideal S64x512x2048 .f32} {eid : IVec S8x8192 32} {acc : FVec Ideal S8x8192x2048 .f32}

/-- The first product at an index. -/
theorem gate_apply (hc : V (Proc.devRef .tc main_v3_5) = fun _ => BitVec.ofNat 32 e.val) (hx : V (Proc.devRef .tc main_v3_3) = x)
    (hg : V (Proc.devRef .tc main_v3_1) = gu) (t : Fin 8192) (n : Fin 1024) :
    (res_main_while0b_v9 V : FVec Ideal S8192x1024 .f32) (ix2 t n) = ∑ k : Fin 2048, x (ix2 t k) * gu (ix3 e k n) := by
  unfold res_main_while0b_v9
  rw [hc, hx, hg]
  pointwise
  refine Finset.sum_congr (M := EReal) rfl fun k _ => congrArg (fun y => x (ix2 t k) * gu y) ?_
  funext a
  apply Fin.ext
  match a with
  | 0 => exact start_word e 63 (by omega)
  | 1 => exact Nat.zero_add _
  | 2 => exact Nat.zero_add _

/-- The second weights at an index. -/
theorem down_apply (hc : V (Proc.devRef .tc main_v3_5) = fun _ => BitVec.ofNat 32 e.val) (hd : V (Proc.devRef .tc main_v3_2) = dn)
    (h : Fin 512) (n : Fin 2048) :
    (shapeCast S512x2048 (Host.dynamicSlice S1x512x2048 (V (Proc.devRef .tc main_v3_2)) (fun k => (((![V (Proc.devRef .tc main_v3_5), constantI S_ 32 0#32, constantI S_ 32 0#32] : Fin 3 → (⟨S_, .i32⟩ : BufTy).Contents (Elt Ideal))) k (Shape.Idx.first h_S_)).toInt) sliceFits_S64x512x2048_S1x512x2048) shapeCasts_S1x512x2048_S512x2048 : FVec Ideal S512x2048 .f32) (ix2 h n)
      = dn (ix3 e h n) := by
  rw [hc, hd]
  pointwise
  refine congrArg dn ?_
  funext a
  apply Fin.ext
  match a with
  | 0 => exact start_word e 63 (by omega)
  | 1 => exact Nat.zero_add _
  | 2 => exact Nat.zero_add _

/-- The trip's expert number. -/
theorem number_apply (hc : V (Proc.devRef .tc main_v3_5) = fun _ => BitVec.ofNat 32 e.val) (hi : V (Proc.devRef .tc main_v3_0) = iotaInDim S64 32 0) (j : S_.Idx) :
    (shapeCast S_ (Host.dynamicSlice S1 (V (Proc.devRef .tc main_v3_0)) (fun k => (((![V (Proc.devRef .tc main_v3_5)] : Fin 1 → (⟨S_, .i32⟩ : BufTy).Contents (Elt Ideal))) k (Shape.Idx.first h_S_)).toInt) sliceFits_S64_S1) shapeCasts_S1_S_ : IVec S_ 32) j
      = BitVec.ofNat 32 e.val := by
  rw [hc, hi]
  pointwise
  exact congrArg (BitVec.ofNat 32) (start_word e 63 (by omega))

set_option maxRecDepth 16384 in
/-- One trip: the pairs that chose its expert take the expert's output, and the others stay. -/
theorem trip_apply (hi : V (Proc.devRef .tc main_v3_0) = iotaInDim S64 32 0) (hc : V (Proc.devRef .tc main_v3_5) = fun _ => BitVec.ofNat 32 e.val)
    (hx : V (Proc.devRef .tc main_v3_3) = x) (hg : V (Proc.devRef .tc main_v3_1) = gu) (hd : V (Proc.devRef .tc main_v3_2) = dn)
    (he : V (Proc.devRef .tc main_v3_4) = eid) (ha : V (Proc.devRef .tc main_v3_6) = acc) (k : Fin 8) (t : Fin 8192) (n : Fin 2048) :
    (step_main_v3_6 V : FVec Ideal S8x8192x2048 .f32) (ix3 k t n)
      = if eid (ix2 k t) = BitVec.ofNat 32 e.val then expert (fun i => x (ix2 t i)) (fun i h => gu (ix3 e i h)) (fun h n => dn (ix3 e h n)) n
        else acc (ix3 k t n) := by
  have hgate := gate_apply hc hx hg
  have hdown := down_apply hc hd
  have hnum := number_apply hc hi
  unfold step_main_v3_6
  unfold res_main_while0b_v10
  obtain ⟨G, hG⟩ : ∃ G : FVec Ideal S8192x1024 .f32, res_main_while0b_v9 V = G := ⟨_, rfl⟩
  rw [hG] at hgate ⊢
  revert hdown
  generalize (shapeCast S512x2048 (Host.dynamicSlice S1x512x2048 (V (Proc.devRef .tc main_v3_2)) (fun k => (((![V (Proc.devRef .tc main_v3_5), constantI S_ 32 0#32, constantI S_ 32 0#32] : Fin 3 → (⟨S_, .i32⟩ : BufTy).Contents (Elt Ideal))) k (Shape.Idx.first h_S_)).toInt) sliceFits_S64x512x2048_S1x512x2048) shapeCasts_S1x512x2048_S512x2048 : FVec Ideal S512x2048 .f32) = D
  revert hnum
  generalize (shapeCast S_ (Host.dynamicSlice S1 (V (Proc.devRef .tc main_v3_0)) (fun k => (((![V (Proc.devRef .tc main_v3_5)] : Fin 1 → (⟨S_, .i32⟩ : BufTy).Contents (Elt Ideal))) k (Shape.Idx.first h_S_)).toInt) sliceFits_S64_S1) shapeCasts_S1_S_ : IVec S_ 32) = N
  intro hnum hdown
  rw [he, ha]
  simp only [id_eq]
  pointwise
  simp only [hgate, hdown, hnum]
  by_cases h : eid (ix2 k t) = BitVec.ofNat 32 e.val
  · rw [if_pos h, h]
    unfold IntOp.cmpi Scalar.select
    simp only [beq_self_eq_true, BitVec.ofBool_true]
    rfl
  · rw [if_neg h]
    have hne : IntOp.cmpi .eq (eid (ix2 k t)) (BitVec.ofNat 32 e.val) = 0#1 := by
      unfold IntOp.cmpi
      simp only [beq_eq_false_iff_ne.mpr h, BitVec.ofBool_false]
      rfl
    rw [hne]
    rfl

end Cert.Experts

end
-- ==== Proof.RefFold.lean ====
/-
  The reference's loop: after its 64 trips a pair holds the output of the expert it chose.
-/
module

public import proofs.«01_k».proof.Proof.RefValue

@[expose] public section

noncomputable section

namespace Cert.Experts

open Cert.ReferenceIdeal Cert.ReferenceIdeal.Gen Cert.ReferenceIdeal.Value
open Idealize.ShloMosaic Idealize.ShloMosaic.TcCoe Idealize.ShloMosaic.StableHlo

/-- The loop's buffers before trip `K`. -/
structure Before (x : FVec Ideal S8192x2048 .f32) (gu : FVec Ideal S64x2048x1024 .f32) (dn : FVec Ideal S64x512x2048 .f32) (eid : IVec S8x8192 32)
    (K : ℕ) (V : Valuation τ sig (Elt Ideal)) : Prop where
  hi : V (Proc.devRef .tc main_v3_0) = iotaInDim S64 32 0
  hc : V (Proc.devRef .tc main_v3_5) = fun _ => BitVec.ofNat 32 K
  hx : V (Proc.devRef .tc main_v3_3) = x
  hg : V (Proc.devRef .tc main_v3_1) = gu
  hd : V (Proc.devRef .tc main_v3_2) = dn
  he : V (Proc.devRef .tc main_v3_4) = eid
  hv : ∀ (k : Fin 8) (t : Fin 8192) (n : Fin 2048) (e : Fin 64), e.val < K → eid (ix2 k t) = BitVec.ofNat 32 e.val →
    (V (Proc.devRef .tc main_v3_6) : FVec Ideal S8x8192x2048 .f32) (ix3 k t n) = expert (fun i => x (ix2 t i)) (fun i h => gu (ix3 e i h)) (fun h n => dn (ix3 e h n)) n

variable {x : FVec Ideal S8192x2048 .f32} {gu : FVec Ideal S64x2048x1024 .f32} {dn : FVec Ideal S64x512x2048 .f32} {eid : IVec S8x8192 32}

/-- Small numbers have different words. -/
theorem word_inj {a b : ℕ} (ha : a < 64) (hb : b < 64) (h : BitVec.ofNat 32 a = BitVec.ofNat 32 b) : a = b := by
  have h' := congrArg BitVec.toNat h
  rw [BitVec.toNat_ofNat, BitVec.toNat_ofNat] at h'
  omega

theorem Before.step {K : ℕ} (hK : K < 64) {V : Valuation τ sig (Elt Ideal)} (B : Before x gu dn eid K V) : Before x gu dn eid (K + 1) (STEP V) where
  hi := (STEP_main_v3_0 V).trans B.hi
  hc := by
    rw [STEP_main_v3_5]
    unfold step_main_v3_5
    rw [B.hc]
    funext j
    show BitVec.ofNat 32 K + 1#32 = BitVec.ofNat 32 (K + 1)
    rw [BitVec.ofNat_add]
  hx := (STEP_main_v3_3 V).trans B.hx
  hg := (STEP_main_v3_1 V).trans B.hg
  hd := (STEP_main_v3_2 V).trans B.hd
  he := (STEP_main_v3_4 V).trans B.he
  hv k t n e hle hev := by
    rw [STEP_main_v3_6]
    have h := trip_apply (e := ⟨K, hK⟩) B.hi B.hc B.hx B.hg B.hd B.he rfl k t n
    refine h.trans ?_
    by_cases hEq : e.val = K
    · obtain rfl : e = ⟨K, hK⟩ := Fin.ext hEq
      rw [if_pos hev]
    · rw [if_neg (fun h' => hEq (word_inj e.isLt hK (hev.symm.trans h')))]
      exact B.hv k t n e (by omega) hev

theorem Before.iterate {V : Valuation τ sig (Elt Ideal)} (B : Before x gu dn eid 0 V) : ∀ K ≤ 64, Before x gu dn eid K (STEP^[K] V)
  | 0, _ => B
  | K + 1, h => by
    rw [Function.iterate_succ_apply']
    exact (Before.iterate B K (by omega)).step (by omega)

variable (m : (ℓ : Loc nD τ sig) → Buf (Elt Ideal) ℓ) (c : Dev nD)

set_option maxRecDepth 100000 in
/-- The loop's entry. -/
theorem before_entry : Before (shapeCast S8192x2048 (m ((c.tc : Thread nD τ).loc main_arg3) : FVec Ideal S131072x128 .f32) shapeCasts_S131072x128_S8192x2048)
    (m ((c.tc : Thread nD τ).loc main_arg4)) (m ((c.tc : Thread nD τ).loc main_arg5)) (m ((c.tc : Thread nD τ).loc main_arg6)) 0
    (entryContents preI m c) where
  hi := by
    simp only [entryContents, afterL_cons, afterL_nil]
    after_reads_simp
    rfl
  hc := ctr_entry m c
  hx := by
    simp only [entryContents, afterL_cons, afterL_nil]
    after_reads_simp
    rfl
  hg := by
    simp only [entryContents, afterL_cons, afterL_nil]
    after_reads_simp
    rfl
  hd := by
    simp only [entryContents, afterL_cons, afterL_nil]
    after_reads_simp
    rfl
  he := by
    simp only [entryContents, afterL_cons, afterL_nil]
    after_reads_simp
    rfl
  hv _ _ _ _ h _ := absurd h (Nat.not_lt_zero _)

end Cert.Experts

end
-- ==== Proof.Value.lean ====
/-
  The kernel and the reference compute the same array: at a pair's element, both hold the output of the pair's expert on
  the pair's token.
-/
module

public import proofs.«01_k».proof.Proof.Frames
public import proofs.«01_k».proof.Proof.Rows
public import proofs.«01_k».proof.Proof.TileValue
public import proofs.«01_k».proof.Proof.RefFold
public import proofs.«01_k».proof.Defs

@[expose] public section

noncomputable section

namespace Cert.Experts

open Idealize.ShloMosaic Idealize.ShloMosaic.TcCoe

/-- The value of both at row `16 d + b`, column `l`: pair `d`'s expert `e` on its token, at output `128 b + l`. -/
def valueAt (X : Cert.KernelIdeal.S131072x128.Idx → EReal) (gu : Cert.KernelIdeal.S64x2048x1024.Idx → EReal) (dn : Cert.KernelIdeal.S64x512x2048.Idx → EReal) (e : Fin 64) (d : ℕ) (n : Fin 2048) : EReal :=
  expert (fun k => X (at2 (N := 131072) (by decide) (16 * (d % 8192) + k.val / 128) (k.val % 128))) (fun k h => gu (ix3 e k h)) (fun h n => dn (ix3 e h n)) n

/-- The first weights, rounded, are the weights. -/
theorem pay39_apply (w : Vec Ideal Cert.KernelIdeal.S1x2048x1024 .f32) (k : Fin 2048) (h : Fin 1024) :
    Cert.KernelIdeal.Gen.k0_pay39 (F := Ideal) w (ix2 k h) = w (ix3 0 k h) := by
  unfold Cert.KernelIdeal.Gen.k0_pay39
  pointwise

/-- The second weights, rounded, are the weights. -/
theorem pay40_apply (w : Vec Ideal Cert.KernelIdeal.S1x512x2048 .f32) (h : Fin 512) (n : Fin 2048) :
    Cert.KernelIdeal.Gen.k0_pay40 (F := Ideal) w (ix2 h n) = w (ix3 0 h n) := by
  unfold Cert.KernelIdeal.Gen.k0_pay40
  pointwise

section kernel
open Cert.KernelIdeal
variable (m : (ℓ : Loc nD τ sig) → Buf (Elt Ideal) ℓ) (c : Dev nD)

/-- The kernel's result at a pair's element. -/
theorem kernel_value {slot : S8x8192.Idx → BitVec 32} {eid : S8x8192.Idx → BitVec 32} (hp : Plan (envOf m c).te (envOf m c).nu (envOf m c).mt)
    (hq : Pairs (envOf m c).te (envOf m c).nu (envOf m c).mt eid slot) {d : ℕ} (hd : d < 65536) (b : Fin 16) (l : Fin 128) :
    ∃ e : Fin 64, eid (pairAt d) = BitVec.ofNat 32 e.val ∧
      result m c (ix2 ⟨16 * d + b.val, by omega⟩ l) = valueAt (m (lc c main_arg3)) (m (lc c main_arg4)) (m (lc c main_arg5)) e d ⟨128 * b.val + l.val, by omega⟩ := by
  obtain ⟨j, r, hj, hj', hr, hs, hw, he, hg⟩ := pair_row hp hq hd
  have hlt : (envOf m c).ex j < 64 := hp.te_lt _
  refine ⟨⟨(envOf m c).ex j, hlt⟩, ?_, ?_⟩
  · rw [he]
    apply BitVec.eq_of_toNat_eq
    rw [BitVec.toNat_ofNat]
    exact (Nat.mod_eq_of_lt (lt_trans hlt (by decide))).symm
  have hb := b.isLt
  have hl := l.isLt
  have hrow : result m c (ix2 ⟨16 * d + b.val, by omega⟩ l) = (envOf m c).Y ((envOf m c).nu + 2) (ix2 ⟨16 * d + b.val, by omega⟩ l) := by
    unfold result
    pointwise
  rw [hrow, result_block hp hq hd hj hr hs hw (ix2 ⟨16 * d + b.val, by omega⟩ l) (show (16 * d + b.val) / 16 = d by omega)]
  have hidx : (at2 (N := 4096) (by decide) (16 * r + ((ix2 (⟨16 * d + b.val, by omega⟩ : Fin 1056768) l : S1056768x128.Idx) 0).val % 16) ((ix2 (⟨16 * d + b.val, by omega⟩ : Fin 1056768) l : S1056768x128.Idx) 1).val)
      = at2 (N := 4096) (by decide) (16 * (⟨r, hr⟩ : Fin 256).val + b.val) l.val := by
    have h16 : (16 * d + b.val) % 16 = b.val := by omega
    show at2 (N := 4096) (by decide) (16 * r + (16 * d + b.val) % 16) l.val = _
    rw [h16]
  rw [hidx]
  unfold Env.tile
  rw [tileOut_apply, prodOf_eq, core_apply]
  unfold valueAt
  congr 1
  · funext k
    have hk := k.isLt
    show (envOf m c).X (at2 (N := 131072) (by decide) (16 * gi (envOf m c).mt (j + 1) ((16 * r + k.val / 128) % 4096 / 16) + (16 * r + k.val / 128) % 4096 % 16) (k.val % 128 % 128)) = _
    have e1 : (16 * r + k.val / 128) % 4096 / 16 = r := by omega
    have e2 : (16 * r + k.val / 128) % 4096 % 16 = k.val / 128 := by omega
    have e3 : k.val % 128 % 128 = k.val % 128 := by omega
    rw [e1, e2, e3, hg]
    rfl
  · funext k h
    rw [pay39_apply]
    refine congrArg (m (lc c main_arg4) : S64x2048x1024.Idx → EReal) ?_
    funext a
    apply Fin.ext
    match a with
    | 0 => exact Nat.mod_eq_of_lt hlt
    | 1 => exact Nat.mod_eq_of_lt k.isLt
    | 2 => exact Nat.mod_eq_of_lt h.isLt
  · funext h n
    rw [pay40_apply]
    refine congrArg (m (lc c main_arg5) : S64x512x2048.Idx → EReal) ?_
    funext a
    apply Fin.ext
    match a with
    | 0 => exact Nat.mod_eq_of_lt hlt
    | 1 => exact Nat.mod_eq_of_lt h.isLt
    | 2 => exact Nat.mod_eq_of_lt n.isLt

end kernel

section reference
open Cert.ReferenceIdeal Cert.ReferenceIdeal.Gen Cert.ReferenceIdeal.Value Idealize.ShloMosaic.StableHlo
variable (m : (ℓ : Loc nD τ sig) → Buf (Elt Ideal) ℓ) (c : Dev nD)

/-- A token's element, of the rows of 128. -/
theorem token_apply (X : FVec Ideal Cert.ReferenceIdeal.S131072x128 .f32) (t : Fin 8192) (k : Fin 2048) :
    shapeCast S8192x2048 X shapeCasts_S131072x128_S8192x2048 (ix2 t k) = X (at2 (N := 131072) (by decide) (16 * t.val + k.val / 128) (k.val % 128)) := by
  refine shapeCast_apply X _ _ _ ?_
  have ht := t.isLt
  have hk := k.isLt
  rw [Shape.rowMajor_val_two, Shape.rowMajor_val_two]
  show (16 * t.val + k.val / 128) % 131072 * 128 + k.val % 128 % 128 = t.val * 2048 + k.val
  omega

/-- The pairs' outputs, as rows of 128. -/
theorem pairs_apply (W : FVec Ideal S8x8192x2048 .f32) {d : ℕ} (hd : d < 65536) (b : Fin 16) (l : Fin 128) :
    shapeCast Cert.ReferenceIdeal.S1048576x128 W shapeCasts_S8x8192x2048_S1048576x128 (ix2 ⟨16 * d + b.val, by omega⟩ l)
      = W (ix3 ⟨d / 8192, by omega⟩ ⟨d % 8192, Nat.mod_lt _ (by decide)⟩ ⟨128 * b.val + l.val, by omega⟩) := by
  refine shapeCast_apply W _ _ _ ?_
  rw [Shape.rowMajor_val_two, Shape.rowMajor_val_three]
  show (d / 8192 * 8192 + d % 8192) * 2048 + (128 * b.val + l.val) = (16 * d + b.val) * 128 + l.val
  omega

/-- The reference's result at a pair's element, of the buffers after the last trip. -/
theorem out_apply {x : FVec Ideal S8192x2048 .f32} {gu : FVec Ideal S64x2048x1024 .f32} {dn : FVec Ideal S64x512x2048 .f32} {eid : IVec S8x8192 32}
    {V : Valuation τ sig (Elt Ideal)} (B : Before x gu dn eid 64 V) {d : ℕ} (hd : d < 65536) (b : Fin 16) (l : Fin 128) (e : Fin 64)
    (he : eid (pairAt d) = BitVec.ofNat 32 e.val) :
    (out_main_v5 V : FVec Ideal Cert.ReferenceIdeal.S1048576x128 .bf16) (ix2 ⟨16 * d + b.val, by omega⟩ l)
      = expert (fun i => x (ix2 ⟨d % 8192, Nat.mod_lt _ (by decide)⟩ i)) (fun i h => gu (ix3 e i h)) (fun h n => dn (ix3 e h n)) ⟨128 * b.val + l.val, by omega⟩ := by
  have hb := b.isLt
  have hl := l.isLt
  have hv := B.hv ⟨d / 8192, by omega⟩ ⟨d % 8192, Nat.mod_lt _ (by decide)⟩ ⟨128 * b.val + l.val, by omega⟩ e e.isLt (by
    refine Eq.trans (congrArg eid ?_) he
    funext a
    apply Fin.ext
    match a with
    | 0 => show d / 8192 = d / 8192 % 8; omega
    | 1 => rfl)
  refine Eq.trans ?_ hv
  exact pairs_apply (V (Proc.devRef .tc main_v3_6)) hd b l

/-- The reference's result at a pair's element. -/
theorem reference_value {d : ℕ} (hd : d < 65536) (b : Fin 16) (l : Fin 128) (e : Fin 64)
    (he : (m ((c.tc : Thread nD τ).loc main_arg6) : Cert.ReferenceIdeal.S8x8192.Idx → BitVec 32) (pairAt d) = BitVec.ofNat 32 e.val) :
    (out_main_v5 (STEP^[64] (entryContents preI m c)) : FVec Ideal Cert.ReferenceIdeal.S1048576x128 .bf16) (ix2 ⟨16 * d + b.val, by omega⟩ l)
      = valueAt (m ((c.tc : Thread nD τ).loc main_arg3)) (m ((c.tc : Thread nD τ).loc main_arg4)) (m ((c.tc : Thread nD τ).loc main_arg5)) e d ⟨128 * b.val + l.val, by omega⟩ := by
  refine (out_apply ((before_entry m c).iterate 64 le_rfl) hd b l e he).trans ?_
  unfold valueAt
  refine congrArg (fun x => expert x _ _ _) ?_
  funext k
  exact token_apply _ _ _

end reference

/-- The kernel computes the reference. -/
theorem algebraic : Cert.algebraic_KernelIdeal_ReferenceIdeal := by
  intro m g m' g' hpre hm
  refine ⟨fun c => result m c, (θ_run Cert.KernelIdeal.defs _ _).mono (fun r h c => h.1 c) (run_main (F := Ideal) m g fun c => plan_of (hpre c)),
    (θ_run Cert.ReferenceIdeal.defs _ _).mono (fun r h c => ⟨(h c).1.trans ?_, (h c).2⟩) (Cert.ReferenceIdeal.Value.run (F := Ideal) m' g')⟩
  obtain ⟨-, -, -, h3, h4, h5, h6, -⟩ := hm c
  funext i
  have hi0 : (i 0).val < 1048576 := (i 0).isLt
  have hi1 : (i 1).val < 128 := (i 1).isLt
  have hi : i = ix2 (⟨16 * ((i 0).val / 16) + (⟨(i 0).val % 16, Nat.mod_lt _ (by decide)⟩ : Fin 16).val, by show 16 * ((i 0).val / 16) + (i 0).val % 16 < 1048576; omega⟩ : Fin 1048576) (⟨(i 1).val, hi1⟩ : Fin 128) := by
    funext a
    apply Fin.ext
    match a with
    | 0 => show (i 0).val = 16 * ((i 0).val / 16) + (i 0).val % 16; omega
    | 1 => rfl
  obtain ⟨e, he, hk⟩ := kernel_value m c (plan_of (hpre c)) (pairs_of (hpre c)) (d := (i 0).val / 16) (by omega) ⟨(i 0).val % 16, Nat.mod_lt _ (by decide)⟩ ⟨(i 1).val, hi1⟩
  have hr := reference_value m' c (d := (i 0).val / 16) (by omega) ⟨(i 0).val % 16, Nat.mod_lt _ (by decide)⟩ ⟨(i 1).val, hi1⟩ e (by rw [h6]; exact he)
  rw [h3, h4, h5] at hr
  rw [hi]
  exact hr.trans hk.symm

end Cert.Experts

end
-- ==== Proof.Merge.lean ====
/-
  What one point of the combine call stores, from its blocks: the gated sum of the eight experts' rows, the shared expert,
  and the norm of their sum with the residual.
-/
module

public import proofs.«01_k».proof.Proof.Gen.Kernel2Ideal.Frame
public import Idealize.ShloMosaic.Lib.Pipeline.ValueKit
public import Idealize.ShloMosaic.Lib.WholeRead
public import Idealize.ShloMosaic.Lib.Claim

@[expose] public section

noncomputable section

namespace Cert.Merge

open Cert.Kernel2Ideal Cert.Kernel2Ideal.Gen
open Idealize.ShloMosaic Idealize.ShloMosaic.TcCoe Idealize.ShloMosaic.Tactic

/-- A whole buffer read whole. -/
theorem full_read {sig : RefSig} {Val : EltTy → Type} {κ : Kind} {sp : Space} {e : EltTy} {a b : ℕ} {m : Memref sig κ sp (⟨2, ![a, b]⟩ : Shape) e}
    (h : m.IsWhole) (X : (⟨2, ![a, b]⟩ : Shape).Idx → Val e) (inb) :
    View.readAt Val m.view (Rect.unit (s := ⟨2, ![a, b]⟩) ![0, 0] ![a, b] inb).toLoadRect (h.unread X) = X := by
  funext j
  refine (h.readAt_unread X _ j).trans (congrArg X ?_)
  funext d
  apply Fin.ext
  match d with
  | 0 => show 0 + 1 * (j 0).val = (j 0).val; omega
  | 1 => show 0 + 1 * (j 1).val = (j 1).val; omega

/-- Every sixteenth row from row `k` on. -/
def every (k : ℕ) (h : ∀ a, S128x128.size a = 0 ∨ (![k, 0] : Fin 2 → ℕ) a + (![16, 1] : Fin 2 → ℕ) a * (S128x128.size a - 1) < S2048x128.size a)
    (R : S2048x128.Idx → EReal) : Vec Ideal S128x128 .f32 := fun j => R ((⟨![k, 0], S128x128.size, ![16, 1], h⟩ : LoadRect S2048x128).idx j)

/-- A read of every sixteenth row after one store of the whole. -/
theorem every_read {sig : RefSig} {κ : Kind} {sp : Space} (v : View sig κ sp S2048x128 .f32) (k : ℕ) (h) (inb) (R : S2048x128.Idx → EReal) :
    v.readCov (Val := Elt Ideal) [(⟨Rect.unit (s := S2048x128) ![0, 0] ![2048, 128] inb, R⟩ : View.Piece (Elt Ideal) S2048x128 .f32)] (⟨![k, 0], ![128, 128], ![16, 1], h⟩ : LoadRect S2048x128)
      = every k h R := by
  rw [View.readCov_eq_canon']
  funext j
  exact congrFun (View.canon_cons_unit_lit (Val := Elt Ideal) (S := S2048x128) (e := .f32) inb R [] (by decide)) _

/-- The gated sum of the eight experts' rows, as the call adds it. -/
def routed (g : Vec Ideal S128x8 .f32) (y : Fin 8 → Vec Ideal S2048x128 .bf16) : FVec Ideal S2048x128 .f32 :=
  k0_pay7 (k0_pay2 g) (k0_pay5 (k0_pay2 g) (k0_pay3 g (y 0)) (k0_pay4 g) (y 1) (y 2) (y 3) (y 4) (y 5)) (k0_pay6 (k0_pay2 g)) (y 6) (y 7)

/-- A point's block. -/
def blockOf (x : Vec Ideal S128x2048 .f32) (g : Vec Ideal S128x8 .f32) (gu : Vec Ideal S2048x1024 .bf16) (dn : Vec Ideal S512x2048 .bf16)
    (w b : Vec Ideal S1x2048 .f32) (y : Fin 8 → Vec Ideal S2048x128 .bf16) : FVec Ideal S128x2048 .f32 :=
  k0_pay9 (k0_pay1 x gu dn) (k0_pay8 x) (every 0 inb_S2048x128_S128x128_0_0_s_16_1 (routed g y)) (every 1 inb_S2048x128_S128x128_1_0_s_16_1 (routed g y)) (every 2 inb_S2048x128_S128x128_2_0_s_16_1 (routed g y)) (every 3 inb_S2048x128_S128x128_3_0_s_16_1 (routed g y)) (every 4 inb_S2048x128_S128x128_4_0_s_16_1 (routed g y)) (every 5 inb_S2048x128_S128x128_5_0_s_16_1 (routed g y)) (every 6 inb_S2048x128_S128x128_6_0_s_16_1 (routed g y)) (every 7 inb_S2048x128_S128x128_7_0_s_16_1 (routed g y)) (every 8 inb_S2048x128_S128x128_8_0_s_16_1 (routed g y)) (every 9 inb_S2048x128_S128x128_9_0_s_16_1 (routed g y)) (every 10 inb_S2048x128_S128x128_10_0_s_16_1 (routed g y)) (every 11 inb_S2048x128_S128x128_11_0_s_16_1 (routed g y)) (every 12 inb_S2048x128_S128x128_12_0_s_16_1 (routed g y)) (every 13 inb_S2048x128_S128x128_13_0_s_16_1 (routed g y)) (every 14 inb_S2048x128_S128x128_14_0_s_16_1 (routed g y)) (every 15 inb_S2048x128_S128x128_15_0_s_16_1 (routed g y)) w b

variable (m : (ℓ : Loc nD τ sig) → Buf (Elt Ideal) ℓ) (c : Dev nD) (t : Fin cfg0.N)

/-- What the first output holds after a point. -/
theorem outs_fst : (outsAt0 m c t).1 = blockOf (iblk m c 0 t) (iblk m c 1 t) (iblk m c 2 t) (iblk m c 3 t) (iblk m c 4 t) (iblk m c 5 t)
    ![iblk m c 6 t, iblk m c 7 t, iblk m c 8 t, iblk m c 9 t, iblk m c 10 t, iblk m c 11 t, iblk m c 12 t, iblk m c 13 t] := by
  unfold outsAt0 out0_A_14
  dsimp only
  rw [View.read_writes_eq_canon _ _ _ (cover0_A_14 c _ _ _ _ _ _ _ _ _ _ _ _ _ _ _ _ _ _ _ _ _ _ _ _ _ _ _ _ _ _ _ _ _ _ _ _ _ _ _ _ _ _ _ _ _ _ _ _ _)]
  unfold kernelRun0_A
  dsimp only
  rw [View.canon_cons_unit_lit _ _ [] (by decide)]
  sl_unfold_words
  simp only [full_read, every_read]
  rfl

/-- And the second, which is the first. -/
theorem outs_snd : (outsAt0 m c t).2 = blockOf (iblk m c 0 t) (iblk m c 1 t) (iblk m c 2 t) (iblk m c 3 t) (iblk m c 4 t) (iblk m c 5 t)
    ![iblk m c 6 t, iblk m c 7 t, iblk m c 8 t, iblk m c 9 t, iblk m c 10 t, iblk m c 11 t, iblk m c 12 t, iblk m c 13 t] := by
  unfold outsAt0 out0_A_15
  dsimp only
  rw [View.read_writes_eq_canon _ _ _ (cover0_A_15 c _ _ _ _ _ _ _ _ _ _ _ _ _ _ _ _ _ _ _ _ _ _ _ _ _ _ _ _ _ _ _ _ _ _ _ _ _ _ _ _ _ _ _ _ _ _ _ _ _)]
  unfold kernelRun0_A
  dsimp only
  rw [View.canon_cons_unit_lit _ _ [] (by decide)]
  sl_unfold_words
  simp only [full_read, every_read]
  rfl

end Cert.Merge

end
-- ==== Proof.Norm.lean ====
/-
  The combine call's block at an index, over the reals.
-/
module

public import proofs.«01_k».proof.Proof.Merge
public import proofs.«01_k».proof.Proof.Ffn
public import Idealize.ShloMosaic.Lib.Pointwise

@[expose] public section

noncomputable section

namespace Cert.Merge

open Cert.Kernel2Ideal Cert.Kernel2Ideal.Gen
open Idealize.ShloMosaic

/-- The norm of one token's row. -/
def normed (h w b : Fin 2048 → EReal) (n : Fin 2048) : EReal :=
  (h n - Ideal.div (∑ k, h k) (Scalar.ofBits (F := Ideal) .f32 0x45000000#32))
      * Ideal.rsqrt (Ideal.div (∑ k, (h k - Ideal.div (∑ k, h k) (Scalar.ofBits (F := Ideal) .f32 0x45000000#32)) * (h k - Ideal.div (∑ k, h k) (Scalar.ofBits (F := Ideal) .f32 0x45000000#32)))
          (Scalar.ofBits (F := Ideal) .f32 0x45000000#32) + Scalar.ofBits (F := Ideal) .f32 0x3727C5AC#32) * w n + b n

/-- One token's row before its norm: the residual, scaled, the shared expert and the gated sum. -/
def mixed (x : Fin 2048 → EReal) (g : Fin 8 → EReal) (gu : Fin 2048 → Fin 1024 → EReal) (dn : Fin 512 → Fin 2048 → EReal)
    (y : Fin 8 → Fin 2048 → EReal) (n : Fin 2048) : EReal :=
  Scalar.ofBits (F := Ideal) .f32 0x3FB504F3#32 * x n + (Experts.expert x gu dn n + ∑ k, g k * y k n)

/-- A gate's column, spread over the sixteen rows of each token. -/
def gateRows (o : ℕ) (h : S128x8.Slices ![0, o] S128x1) (g : FVec Ideal S128x8 .f32) : FVec Ideal S2048x128 .f32 :=
  shapeCast S2048x128 (broadcastTo S128x16x128 (shapeCast S128x1x128 (shapeCast S128x1x128 (broadcastTo S128x128 (shapeCast S128x1
    (extractStridedSlice S128x1 ![0, o] (shapeCast S128x8 g shapeCasts_S128x8_S128x8) h) shapeCasts_S128x1_S128x1) broadcasts_S128x1_S128x128) shapeCasts_S128x128_S128x1x128)
    shapeCasts_S128x1x128_S128x1x128) broadcasts_S128x1x128_S128x16x128) shapeCasts_S128x16x128_S2048x128

theorem gateRows_apply (o : ℕ) (ho : o < 8) (h) (g : FVec Ideal S128x8 .f32) (p : Fin 128) (q : Fin 16) (l : Fin 128) :
    gateRows o h g (ix2 ⟨16 * p.val + q.val, by omega⟩ l) = g (ix2 p ⟨o, ho⟩) := by
  unfold gateRows
  refine (shapeCast_apply _ _ _ (ix3 p q l) ?_).trans ?_
  · rw [Shape.rowMajor_val_two, Shape.rowMajor_val_three]
    show (p.val * 16 + q.val) * 128 + l.val = (16 * p.val + q.val) * 128 + l.val
    omega
  pointwise

theorem routed_eq (g : FVec Ideal S128x8 .f32) (y : Fin 8 → FVec Ideal S2048x128 .bf16) :
    routed g y = shapeCast S2048x128 (addf (addf (addf (addf (addf (addf (addf (addf (broadcast S2048x128 (Scalar.ofBits .f32 0x00000000#32))
      (mulf (gateRows 0 slices_S128x8_o0_0_S128x1 g) (extf .f32 (y 0) bitsLt_bf16_f32)))
      (mulf (gateRows 1 slices_S128x8_o0_1_S128x1 g) (extf .f32 (y 1) bitsLt_bf16_f32)))
      (mulf (gateRows 2 slices_S128x8_o0_2_S128x1 g) (extf .f32 (y 2) bitsLt_bf16_f32)))
      (mulf (gateRows 3 slices_S128x8_o0_3_S128x1 g) (extf .f32 (y 3) bitsLt_bf16_f32)))
      (mulf (gateRows 4 slices_S128x8_o0_4_S128x1 g) (extf .f32 (y 4) bitsLt_bf16_f32)))
      (mulf (gateRows 5 slices_S128x8_o0_5_S128x1 g) (extf .f32 (y 5) bitsLt_bf16_f32)))
      (mulf (gateRows 6 slices_S128x8_o0_6_S128x1 g) (extf .f32 (y 6) bitsLt_bf16_f32)))
      (mulf (gateRows 7 slices_S128x8_o0_7_S128x1 g) (extf .f32 (y 7) bitsLt_bf16_f32))) shapeCasts_S2048x128_S2048x128 := by
  unfold routed k0_pay7 k0_pay6 k0_pay5 k0_pay4 k0_pay3 k0_pay2
  rfl

theorem routed_apply (g : FVec Ideal S128x8 .f32) (y : Fin 8 → FVec Ideal S2048x128 .bf16) (p : Fin 128) (q : Fin 16) (l : Fin 128) :
    routed g y (ix2 ⟨16 * p.val + q.val, by omega⟩ l) = ∑ k : Fin 8, g (ix2 p k) * y k (ix2 ⟨16 * p.val + q.val, by omega⟩ l) := by
  rw [routed_eq, Fin.sum_univ_eight]
  pointwise
  simp only [gateRows_apply _ (by decide : 0 < 8), gateRows_apply _ (by decide : 1 < 8), gateRows_apply _ (by decide : 2 < 8), gateRows_apply _ (by decide : 3 < 8),
    gateRows_apply _ (by decide : 4 < 8), gateRows_apply _ (by decide : 5 < 8), gateRows_apply _ (by decide : 6 < 8), gateRows_apply _ (by decide : 7 < 8)]
  rfl

/-- Sixteen rows of lanes side by side: a token's row. -/
def rowsOf (R : S2048x128.Idx → EReal) : FVec Ideal S128x2048 .f32 := fun i =>
  R (ix2 ⟨16 * (i 0).val + (i 1).val / 128, by have h0 : (i 0).val < 128 := (i 0).isLt; have h1 : (i 1).val < 2048 := (i 1).isLt; omega⟩ ⟨(i 1).val % 128, Nat.mod_lt _ (by decide)⟩)

/-- The strided reads are inside the buffer. -/
theorem parts_inb (k : Fin 16) : ∀ a, S128x128.size a = 0 ∨ (![k.val, 0] : Fin 2 → ℕ) a + (![16, 1] : Fin 2 → ℕ) a * (S128x128.size a - 1) < S2048x128.size a := by
  have hk := k.isLt
  intro a
  right
  match a with
  | 0 => show k.val + 16 * 127 < 2048; omega
  | 1 => show 0 + 1 * 127 < 128; omega

/-- The sixteen strided reads. -/
def parts (R : S2048x128.Idx → EReal) (k : Fin 16) : FVec Ideal S128x128 .f32 := every k.val (parts_inb k) R

theorem parts_apply (R : S2048x128.Idx → EReal) (k : Fin 16) (p l : Fin 128) :
    parts R k (ix2 p l) = R (ix2 ⟨16 * p.val + k.val, by omega⟩ l) := by
  refine congrArg R ?_
  funext a
  apply Fin.ext
  match a with
  | 0 =>
    show k.val + 16 * p.val = 16 * p.val + k.val
    omega
  | 1 =>
    show 0 + 1 * l.val = l.val
    omega

set_option maxRecDepth 16384 in
/-- The sixteen reads side by side are the tokens' rows. -/
theorem parts_rows (R : S2048x128.Idx → EReal) (h) :
    concatenate S128x2048 1 (List.ofFn fun n : Fin 16 => (⟨S128x128, parts R n⟩ : (s : Shape) × (s.Idx → EReal))) h = rowsOf R := by
  funext j
  have h1 : (j 1).val < 2048 := (j 1).isLt
  refine (concatenate_ofFn_apply (s₁ := S128x128) (t := S128x2048) 1 (parts R) h rfl 128 rfl j ⟨(j 1).val / 128, by omega⟩ rfl
    (ix2 (j 0) ⟨(j 1).val % 128, Nat.mod_lt _ (by decide)⟩) rfl ?_).trans (parts_apply R _ _ _)
  intro b hb
  match b with
  | 0 => rfl
  | 1 => exact absurd rfl hb

/-- The reads in order. -/
def reads (R : S2048x128.Idx → EReal) : List ((s : Shape) × (s.Idx → EReal)) :=
  [⟨S128x128, every 0 inb_S2048x128_S128x128_0_0_s_16_1 R⟩, ⟨S128x128, every 1 inb_S2048x128_S128x128_1_0_s_16_1 R⟩, ⟨S128x128, every 2 inb_S2048x128_S128x128_2_0_s_16_1 R⟩, ⟨S128x128, every 3 inb_S2048x128_S128x128_3_0_s_16_1 R⟩, ⟨S128x128, every 4 inb_S2048x128_S128x128_4_0_s_16_1 R⟩, ⟨S128x128, every 5 inb_S2048x128_S128x128_5_0_s_16_1 R⟩, ⟨S128x128, every 6 inb_S2048x128_S128x128_6_0_s_16_1 R⟩, ⟨S128x128, every 7 inb_S2048x128_S128x128_7_0_s_16_1 R⟩, ⟨S128x128, every 8 inb_S2048x128_S128x128_8_0_s_16_1 R⟩, ⟨S128x128, every 9 inb_S2048x128_S128x128_9_0_s_16_1 R⟩, ⟨S128x128, every 10 inb_S2048x128_S128x128_10_0_s_16_1 R⟩, ⟨S128x128, every 11 inb_S2048x128_S128x128_11_0_s_16_1 R⟩, ⟨S128x128, every 12 inb_S2048x128_S128x128_12_0_s_16_1 R⟩, ⟨S128x128, every 13 inb_S2048x128_S128x128_13_0_s_16_1 R⟩, ⟨S128x128, every 14 inb_S2048x128_S128x128_14_0_s_16_1 R⟩, ⟨S128x128, every 15 inb_S2048x128_S128x128_15_0_s_16_1 R⟩]

theorem reads_eq (R : S2048x128.Idx → EReal) : reads R = List.ofFn fun n : Fin 16 => (⟨S128x128, parts R n⟩ : (s : Shape) × (s.Idx → EReal)) := by
  simp only [List.ofFn_succ, List.ofFn_zero]
  rfl

theorem whole_eq (R : S2048x128.Idx → EReal) {xs : List ((s : Shape) × (s.Idx → EReal))}
    (hx : xs = List.ofFn fun n : Fin 16 => (⟨S128x128, parts R n⟩ : (s : Shape) × (s.Idx → EReal))) (h) :
    concatenate S128x2048 1 xs h = rowsOf R := by
  subst hx
  exact parts_rows R h

/-- The norm of every row of a block. -/
def normRows (h : FVec Ideal S128x2048 .f32) (w b : FVec Ideal S1x2048 .f32) : FVec Ideal S128x2048 .f32 :=
  have mu : FVec Ideal S128x1 .f32 := divf (shapeCast S128x1 (multiReduction .add [1] S128 h 0x00000000#32 reduces_S128x2048_S128 (.inl rfl) rfl) shapeCasts_S128_S128x1) (broadcast S128x1 (Scalar.ofBits .f32 0x45000000#32))
  have d : FVec Ideal S128x2048 .f32 := subf h (broadcastTo S128x2048 mu broadcasts_S128x1_S128x2048)
  have v : FVec Ideal S128x1 .f32 := divf (shapeCast S128x1 (multiReduction .add [1] S128 (mulf d d) 0x00000000#32 reduces_S128x2048_S128 (.inl rfl) rfl) shapeCasts_S128_S128x1) (broadcast S128x1 (Scalar.ofBits .f32 0x45000000#32))
  addf (mulf (mulf d (broadcastTo S128x2048 (rsqrt (addf v (broadcast S128x1 (Scalar.ofBits .f32 0x3727C5AC#32)))) broadcasts_S128x1_S128x2048))
    (broadcastTo S128x2048 (shapeCast S1x2048 w shapeCasts_S1x2048_S1x2048) broadcasts_S1x2048_S128x2048)) (broadcastTo S128x2048 (shapeCast S1x2048 b shapeCasts_S1x2048_S1x2048) broadcasts_S1x2048_S128x2048)

set_option maxRecDepth 16384 in
theorem normRows_apply (h w b) (p : Fin 128) (n : Fin 2048) :
    normRows h w b (ix2 p n) = normed (fun k => h (ix2 p k)) (fun k => w (ix2 0 k)) (fun k => b (ix2 0 k)) n := by
  unfold normRows normed
  pointwise

set_option maxRecDepth 16384 in
theorem shared_apply (x : FVec Ideal S128x2048 .f32) (gu : FVec Ideal S2048x1024 .bf16) (dn : FVec Ideal S512x2048 .bf16) (p : Fin 128) (n : Fin 2048) :
    (k0_pay1 (F := Ideal) x gu dn) (ix2 p n) = Experts.expert (fun k => x (ix2 p k)) (fun k h => gu (ix2 k h)) (fun h n => dn (ix2 h n)) n := by
  unfold k0_pay1 Experts.expert Experts.hidden
  pointwise
  simp only [zero_sub]

theorem blockOf_reads (x : FVec Ideal S128x2048 .f32) (g : FVec Ideal S128x8 .f32) (gu : FVec Ideal S2048x1024 .bf16) (dn : FVec Ideal S512x2048 .bf16)
    (w b : FVec Ideal S1x2048 .f32) (y : Fin 8 → FVec Ideal S2048x128 .bf16) :
    blockOf x g gu dn w b y = normRows (addf (k0_pay8 x) (addf (k0_pay1 x gu dn) (concatenate S128x2048 1 (reads (routed g y)) concatenates_S128x128_S128x128_S128x128_S128x128_S128x128_S128x128_S128x128_S128x128_S128x128_S128x128_S128x128_S128x128_S128x128_S128x128_S128x128_S128x128_S128x2048_d1))) w b := rfl

theorem blockOf_eq (x : FVec Ideal S128x2048 .f32) (g : FVec Ideal S128x8 .f32) (gu : FVec Ideal S2048x1024 .bf16) (dn : FVec Ideal S512x2048 .bf16)
    (w b : FVec Ideal S1x2048 .f32) (y : Fin 8 → FVec Ideal S2048x128 .bf16) :
    blockOf x g gu dn w b y = normRows (addf (k0_pay8 x) (addf (k0_pay1 x gu dn) (rowsOf (routed g y)))) w b :=
  (blockOf_reads x g gu dn w b y).trans (congrArg (fun r => normRows (addf (k0_pay8 x) (addf (k0_pay1 x gu dn) r)) w b) (whole_eq _ (reads_eq _) _))

/-- A block at an index. -/
theorem blockOf_apply (x : FVec Ideal S128x2048 .f32) (g : FVec Ideal S128x8 .f32) (gu : FVec Ideal S2048x1024 .bf16) (dn : FVec Ideal S512x2048 .bf16)
    (w b : FVec Ideal S1x2048 .f32) (y : Fin 8 → FVec Ideal S2048x128 .bf16) (p : Fin 128) (n : Fin 2048) :
    blockOf x g gu dn w b y (ix2 p n) = normed (mixed (fun k => x (ix2 p k)) (fun k => g (ix2 p k)) (fun k h => gu (ix2 k h)) (fun h n => dn (ix2 h n))
      (fun k n => y k (ix2 ⟨16 * p.val + n.val / 128, by omega⟩ ⟨n.val % 128, Nat.mod_lt _ (by decide)⟩))) (fun k => w (ix2 0 k)) (fun k => b (ix2 0 k)) n := by
  rw [blockOf_eq, normRows_apply]
  refine congrArg (fun h => normed h _ _ n) ?_
  funext k
  have hs := shared_apply x gu dn p k
  have hr : rowsOf (routed g y) (ix2 p k) = _ := routed_apply g y p ⟨k.val / 128, by omega⟩ ⟨k.val % 128, Nat.mod_lt _ (by decide)⟩
  show (_ : EReal) + (k0_pay1 (F := Ideal) x gu dn (ix2 p k) + rowsOf (routed g y) (ix2 p k)) = _
  rw [hs, hr]
  rfl

end Cert.Merge

end
-- ==== Proof.Blocks.lean ====
/-
  The combine call's blocks are parts of the arrays it is given, and so its arrays at the end are the norm of every token's row.
-/
module

public import proofs.«01_k».proof.Proof.Norm
public import Idealize.ShloMosaic.Lib.Pipeline.ValueKit.Point

@[expose] public section

noncomputable section

namespace Cert.Merge

open Cert.Kernel2Ideal Cert.Kernel2Ideal.Gen
open Idealize.ShloMosaic Idealize.ShloMosaic.TcCoe Idealize.ShloMosaic.Tactic

/-! The blocks' places. -/

theorem index_0 : ∀ t : Fin cfg0.N, win0_0.index t 0 = t.val ∧ win0_0.index t 1 = 0 := by decide +kernel
theorem index_1 : ∀ t : Fin cfg0.N, win0_1.index t 0 = t.val ∧ win0_1.index t 1 = 0 := by decide +kernel
theorem index_2 : ∀ t : Fin cfg0.N, win0_2.index t 0 = 0 ∧ win0_2.index t 1 = 0 := by decide +kernel
theorem index_3 : ∀ t : Fin cfg0.N, win0_3.index t 0 = 0 ∧ win0_3.index t 1 = 0 := by decide +kernel
theorem index_4 : ∀ t : Fin cfg0.N, win0_4.index t 0 = 0 ∧ win0_4.index t 1 = 0 := by decide +kernel
theorem index_5 : ∀ t : Fin cfg0.N, win0_5.index t 0 = 0 ∧ win0_5.index t 1 = 0 := by decide +kernel
theorem index_6 : ∀ t : Fin cfg0.N, win0_6.index t 0 = 0 + t.val ∧ win0_6.index t 1 = 0 := by decide +kernel
theorem index_7 : ∀ t : Fin cfg0.N, win0_7.index t 0 = 64 + t.val ∧ win0_7.index t 1 = 0 := by decide +kernel
theorem index_8 : ∀ t : Fin cfg0.N, win0_8.index t 0 = 128 + t.val ∧ win0_8.index t 1 = 0 := by decide +kernel
theorem index_9 : ∀ t : Fin cfg0.N, win0_9.index t 0 = 192 + t.val ∧ win0_9.index t 1 = 0 := by decide +kernel
theorem index_10 : ∀ t : Fin cfg0.N, win0_10.index t 0 = 256 + t.val ∧ win0_10.index t 1 = 0 := by decide +kernel
theorem index_11 : ∀ t : Fin cfg0.N, win0_11.index t 0 = 320 + t.val ∧ win0_11.index t 1 = 0 := by decide +kernel
theorem index_12 : ∀ t : Fin cfg0.N, win0_12.index t 0 = 384 + t.val ∧ win0_12.index t 1 = 0 := by decide +kernel
theorem index_13 : ∀ t : Fin cfg0.N, win0_13.index t 0 = 448 + t.val ∧ win0_13.index t 1 = 0 := by decide +kernel
theorem index_14 : ∀ t : Fin cfg0.N, win0_14.index t 0 = t.val ∧ win0_14.index t 1 = 0 := by decide +kernel
theorem index_15 : ∀ t : Fin cfg0.N, win0_15.index t 0 = t.val ∧ win0_15.index t 1 = 0 := by decide +kernel

variable (m : (ℓ : Loc nD τ sig) → Buf (Elt Ideal) ℓ) (c : Dev nD) (t : Fin cfg0.N)

theorem point_lt : t.val < 64 := t.isLt

theorem blk_0 (p : Fin 128) (k : Fin 2048) (h : 128 * t.val + p.val < 8192) :
    iblk m c 0 t (ix2 p k) = m ((c.tc : Thread nD τ).loc main_arg0) (ix2 ⟨128 * t.val + p.val, h⟩ k) := by
  blk_ext! [iblk, V, (index_0 t).1, (index_0 t).2]
theorem blk_1 (p : Fin 128) (k : Fin 8) (h : 128 * t.val + p.val < 8192) :
    iblk m c 1 t (ix2 p k) = m ((c.tc : Thread nD τ).loc main_arg1) (ix2 k ⟨128 * t.val + p.val, h⟩) := by
  blk_ext! [iblk, V, (index_1 t).1, (index_1 t).2]
theorem blk_2 (p : Fin 2048) (k : Fin 1024) : iblk m c 2 t (ix2 p k) = m ((c.tc : Thread nD τ).loc main_arg3) (ix2 p k) := by
  blk_ext! [iblk, V, (index_2 t).1, (index_2 t).2]
theorem blk_3 (p : Fin 512) (k : Fin 2048) : iblk m c 3 t (ix2 p k) = m ((c.tc : Thread nD τ).loc main_arg4) (ix2 p k) := by
  blk_ext! [iblk, V, (index_3 t).1, (index_3 t).2]
theorem blk_4 (k : Fin 2048) : iblk m c 4 t (ix2 0 k) = m ((c.tc : Thread nD τ).loc main_arg5) (ix1 k) := by
  blk_ext! [iblk, V, (index_4 t).1, (index_4 t).2]
theorem blk_5 (k : Fin 2048) : iblk m c 5 t (ix2 0 k) = m ((c.tc : Thread nD τ).loc main_arg6) (ix1 k) := by
  blk_ext! [iblk, V, (index_5 t).1, (index_5 t).2]
theorem blk_6 (p : Fin 2048) (l : Fin 128) (h : 0 + (2048 * t.val + p.val) < 1056768) :
    iblk m c 6 t (ix2 p l) = m ((c.tc : Thread nD τ).loc main_arg2) (ix2 ⟨0 + (2048 * t.val + p.val), h⟩ l) := by
  blk_ext! [iblk, V, (index_6 t).1, (index_6 t).2]
theorem blk_7 (p : Fin 2048) (l : Fin 128) (h : 131072 + (2048 * t.val + p.val) < 1056768) :
    iblk m c 7 t (ix2 p l) = m ((c.tc : Thread nD τ).loc main_arg2) (ix2 ⟨131072 + (2048 * t.val + p.val), h⟩ l) := by
  blk_ext! [iblk, V, (index_7 t).1, (index_7 t).2]
theorem blk_8 (p : Fin 2048) (l : Fin 128) (h : 262144 + (2048 * t.val + p.val) < 1056768) :
    iblk m c 8 t (ix2 p l) = m ((c.tc : Thread nD τ).loc main_arg2) (ix2 ⟨262144 + (2048 * t.val + p.val), h⟩ l) := by
  blk_ext! [iblk, V, (index_8 t).1, (index_8 t).2]
theorem blk_9 (p : Fin 2048) (l : Fin 128) (h : 393216 + (2048 * t.val + p.val) < 1056768) :
    iblk m c 9 t (ix2 p l) = m ((c.tc : Thread nD τ).loc main_arg2) (ix2 ⟨393216 + (2048 * t.val + p.val), h⟩ l) := by
  blk_ext! [iblk, V, (index_9 t).1, (index_9 t).2]
theorem blk_10 (p : Fin 2048) (l : Fin 128) (h : 524288 + (2048 * t.val + p.val) < 1056768) :
    iblk m c 10 t (ix2 p l) = m ((c.tc : Thread nD τ).loc main_arg2) (ix2 ⟨524288 + (2048 * t.val + p.val), h⟩ l) := by
  blk_ext! [iblk, V, (index_10 t).1, (index_10 t).2]
theorem blk_11 (p : Fin 2048) (l : Fin 128) (h : 655360 + (2048 * t.val + p.val) < 1056768) :
    iblk m c 11 t (ix2 p l) = m ((c.tc : Thread nD τ).loc main_arg2) (ix2 ⟨655360 + (2048 * t.val + p.val), h⟩ l) := by
  blk_ext! [iblk, V, (index_11 t).1, (index_11 t).2]
theorem blk_12 (p : Fin 2048) (l : Fin 128) (h : 786432 + (2048 * t.val + p.val) < 1056768) :
    iblk m c 12 t (ix2 p l) = m ((c.tc : Thread nD τ).loc main_arg2) (ix2 ⟨786432 + (2048 * t.val + p.val), h⟩ l) := by
  blk_ext! [iblk, V, (index_12 t).1, (index_12 t).2]
theorem blk_13 (p : Fin 2048) (l : Fin 128) (h : 917504 + (2048 * t.val + p.val) < 1056768) :
    iblk m c 13 t (ix2 p l) = m ((c.tc : Thread nD τ).loc main_arg2) (ix2 ⟨917504 + (2048 * t.val + p.val), h⟩ l) := by
  blk_ext! [iblk, V, (index_13 t).1, (index_13 t).2]

/-- The eight blocks of the experts' rows. -/
theorem blk_rows (k : Fin 8) (p : Fin 2048) (l : Fin 128) (h : 131072 * k.val + (2048 * t.val + p.val) < 1056768) :
    (![iblk m c 6 t, iblk m c 7 t, iblk m c 8 t, iblk m c 9 t, iblk m c 10 t, iblk m c 11 t, iblk m c 12 t, iblk m c 13 t] : Fin 8 → Vec Ideal S2048x128 .bf16) k (ix2 p l)
      = m ((c.tc : Thread nD τ).loc main_arg2) (ix2 ⟨131072 * k.val + (2048 * t.val + p.val), h⟩ l) := by
  have ht := point_lt t
  have hp := p.isLt
  match k with
  | ⟨0, _⟩ => exact (blk_6 m c t p l (by omega)).trans (congrArg _ (congrArg (fun r => ix2 r l) (Fin.ext (by show 0 + (2048 * t.val + p.val) = 131072 * 0 + (2048 * t.val + p.val); omega))))
  | ⟨1, _⟩ => exact (blk_7 m c t p l (by omega)).trans (congrArg _ (congrArg (fun r => ix2 r l) (Fin.ext (by show 131072 + (2048 * t.val + p.val) = 131072 * 1 + (2048 * t.val + p.val); omega))))
  | ⟨2, _⟩ => exact (blk_8 m c t p l (by omega)).trans (congrArg _ (congrArg (fun r => ix2 r l) (Fin.ext (by show 262144 + (2048 * t.val + p.val) = 131072 * 2 + (2048 * t.val + p.val); omega))))
  | ⟨3, _⟩ => exact (blk_9 m c t p l (by omega)).trans (congrArg _ (congrArg (fun r => ix2 r l) (Fin.ext (by show 393216 + (2048 * t.val + p.val) = 131072 * 3 + (2048 * t.val + p.val); omega))))
  | ⟨4, _⟩ => exact (blk_10 m c t p l (by omega)).trans (congrArg _ (congrArg (fun r => ix2 r l) (Fin.ext (by show 524288 + (2048 * t.val + p.val) = 131072 * 4 + (2048 * t.val + p.val); omega))))
  | ⟨5, _⟩ => exact (blk_11 m c t p l (by omega)).trans (congrArg _ (congrArg (fun r => ix2 r l) (Fin.ext (by show 655360 + (2048 * t.val + p.val) = 131072 * 5 + (2048 * t.val + p.val); omega))))
  | ⟨6, _⟩ => exact (blk_12 m c t p l (by omega)).trans (congrArg _ (congrArg (fun r => ix2 r l) (Fin.ext (by show 786432 + (2048 * t.val + p.val) = 131072 * 6 + (2048 * t.val + p.val); omega))))
  | ⟨7, _⟩ => exact (blk_13 m c t p l (by omega)).trans (congrArg _ (congrArg (fun r => ix2 r l) (Fin.ext (by show 917504 + (2048 * t.val + p.val) = 131072 * 7 + (2048 * t.val + p.val); omega))))
  | ⟨n + 8, hn⟩ => exact absurd hn (by omega)

/-- What the call and its reference both hold at a token's column. -/
def valueAt (x : FVec Ideal S8192x2048 .f32) (g : FVec Ideal S8x8192 .f32) (y : FVec Ideal S1056768x128 .bf16) (gu : FVec Ideal S2048x1024 .f32)
    (dn : FVec Ideal S512x2048 .f32) (w b : FVec Ideal S2048 .f32) (r : Fin 8192) (n : Fin 2048) : EReal :=
  normed (mixed (fun k => x (ix2 r k)) (fun k => g (ix2 k r)) (fun k h => gu (ix2 k h)) (fun h n => dn (ix2 h n))
    (fun k n => y (ix2 ⟨131072 * k.val + (16 * r.val + n.val / 128), by omega⟩ ⟨n.val % 128, Nat.mod_lt _ (by decide)⟩)))
    (fun k => w (ix1 k)) (fun k => b (ix1 k)) n

/-- A point's block at an index. -/
theorem block_apply (p : Fin 128) (n : Fin 2048) (h : 128 * t.val + p.val < 8192) :
    blockOf (iblk m c 0 t) (iblk m c 1 t) (iblk m c 2 t) (iblk m c 3 t) (iblk m c 4 t) (iblk m c 5 t)
      ![iblk m c 6 t, iblk m c 7 t, iblk m c 8 t, iblk m c 9 t, iblk m c 10 t, iblk m c 11 t, iblk m c 12 t, iblk m c 13 t] (ix2 p n)
      = valueAt (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6))
          ⟨128 * t.val + p.val, h⟩ n := by
  have ht := point_lt t
  refine (blockOf_apply _ _ _ _ _ _ _ p n).trans ?_
  have e0 : (fun k : Fin 2048 => iblk m c 0 t (ix2 p k)) = fun k => m ((c.tc : Thread nD τ).loc main_arg0) (ix2 ⟨128 * t.val + p.val, h⟩ k) := funext fun k => blk_0 m c t p k h
  have e1 : (fun k : Fin 8 => iblk m c 1 t (ix2 p k)) = fun k => m ((c.tc : Thread nD τ).loc main_arg1) (ix2 k ⟨128 * t.val + p.val, h⟩) := funext fun k => blk_1 m c t p k h
  have e2 : (fun (k : Fin 2048) (n : Fin 1024) => iblk m c 2 t (ix2 k n)) = fun k n => m ((c.tc : Thread nD τ).loc main_arg3) (ix2 k n) := funext fun k => funext fun n => blk_2 m c t k n
  have e3 : (fun (k : Fin 512) (n : Fin 2048) => iblk m c 3 t (ix2 k n)) = fun k n => m ((c.tc : Thread nD τ).loc main_arg4) (ix2 k n) := funext fun k => funext fun n => blk_3 m c t k n
  have e4 : (fun k : Fin 2048 => iblk m c 4 t (ix2 0 k)) = fun k => m ((c.tc : Thread nD τ).loc main_arg5) (ix1 k) := funext fun k => blk_4 m c t k
  have e5 : (fun k : Fin 2048 => iblk m c 5 t (ix2 0 k)) = fun k => m ((c.tc : Thread nD τ).loc main_arg6) (ix1 k) := funext fun k => blk_5 m c t k
  unfold valueAt
  refine congr (congr (congr (congrArg normed (congr (congr (congr (congr (congrArg mixed e0) e1) e2) e3) ?_)) e4) e5) rfl
  funext k n
  refine (blk_rows m c t k _ _ (by show 131072 * k.val + (2048 * t.val + (16 * p.val + n.val / 128)) < 1056768; omega)).trans (congrArg _ (congrArg (fun r => ix2 r _) (Fin.ext ?_)))
  show 131072 * k.val + (2048 * t.val + (16 * p.val + n.val / 128)) = 131072 * k.val + (16 * (128 * t.val + p.val) + n.val / 128)
  omega

/-- The result. -/
def result : FVec Ideal S8192x2048 .f32 := fun i =>
  valueAt (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6)) (i 0) (i 1)

theorem block_result (y : S128x2048.Idx) (i : S8192x2048.Idx) (h0 : (i 0).val = 128 * t.val + (y 0).val) (h1 : (i 1).val = (y 1).val) :
    blockOf (iblk m c 0 t) (iblk m c 1 t) (iblk m c 2 t) (iblk m c 3 t) (iblk m c 4 t) (iblk m c 5 t)
      ![iblk m c 6 t, iblk m c 7 t, iblk m c 8 t, iblk m c 9 t, iblk m c 10 t, iblk m c 11 t, iblk m c 12 t, iblk m c 13 t] y = result m c i := by
  have hi : (i 0).val < 8192 := (i 0).isLt
  have hy : y = ix2 (⟨(y 0).val, (y 0).isLt⟩ : Fin 128) (⟨(y 1).val, (y 1).isLt⟩ : Fin 2048) := by
    funext a
    match a with
    | 0 => rfl
    | 1 => rfl
  rw [hy]
  refine (block_apply m c t _ _ (by show 128 * t.val + (y 0).val < 8192; omega)).trans ?_
  have e0 : i 0 = (⟨128 * t.val + (y 0).val, by omega⟩ : Fin 8192) := Fin.ext h0
  have e1 : i 1 = (⟨(y 1).val, (y 1).isLt⟩ : Fin 2048) := Fin.ext h1
  unfold result
  rw [e0, e1]

/-- The first array at the end. -/
theorem final_14 : (dats m 0 c).arrAt 14 cfg0.N = result m c := by
  refine (dats m 0 c).arrAt_eq_of_covers 14 _ (by decide +kernel) fun t hf y => ?_
  blk_simp
  rw [after0_14, outs_fst]
  refine block_result m c t y _ ?_ ?_
  · show win0_14.index t 0 * 128 + 1 * (y 0).val = _
    rw [(index_14 t).1]
    omega
  · show win0_14.index t 1 * 2048 + 1 * (y 1).val = _
    rw [(index_14 t).2]
    omega

/-- And the second. -/
theorem final_15 : (dats m 0 c).arrAt 15 cfg0.N = result m c := by
  refine (dats m 0 c).arrAt_eq_of_covers 15 _ (by decide +kernel) fun t hf y => ?_
  blk_simp
  rw [after0_15, outs_snd]
  refine block_result m c t y _ ?_ ?_
  · show win0_15.index t 0 * 128 + 1 * (y 0).val = _
    rw [(index_15 t).1]
    omega
  · show win0_15.index t 1 * 2048 + 1 * (y 1).val = _
    rw [(index_15 t).2]
    omega

end Cert.Merge

end
-- ==== Proof.Plain.lean ====
/-
  The combine call's reference, read at an index: the same norm of the same row.
-/
module

public import proofs.«01_k».proof.Proof.Blocks
public import proofs.«01_k».proof.Proof.Gen.Reference2Ideal

@[expose] public section

noncomputable section

namespace Cert.Merge

open Idealize.ShloMosaic Idealize.ShloMosaic.TcCoe Idealize.ShloMosaic.Tactic

section reference

open Cert.Reference2Ideal Cert.Reference2Ideal.Gen

/-- The reference's row before its norm. -/
def refMixed (x : FVec Ideal S8192x2048 .f32) (g : FVec Ideal S8x8192 .f32) (y : FVec Ideal S1056768x128 .bf16) (gu : FVec Ideal S2048x1024 .f32)
    (dn : FVec Ideal S512x2048 .f32) : FVec Ideal S8192x2048 .f32 :=
  have a : FVec Ideal S8192x1024 .f32 := Host.dotGeneral dot_S8192x2048_S2048x1024_S8192x1024_1_0_0_1_n_n none x gu
  have a0 : FVec Ideal S8192x512 .f32 := extractStridedSlice S8192x512 ![0, 0] a slices_S8192x1024_S8192x512_0_0
  have a1 : FVec Ideal S8192x512 .f32 := extractStridedSlice S8192x512 ![0, 512] a slices_S8192x1024_S8192x512_0_512
  have s : FVec Ideal S8192x512 .f32 := mulf a0 (Host.divf (broadcastInDim S8192x512 ![] bcast_S_S8192x512 (constant S_ .f32 0x3F800000#32))
    (addf (broadcastInDim S8192x512 ![] bcast_S_S8192x512 (constant S_ .f32 0x3F800000#32)) (Host.exp (Host.negf a0))))
  addf (mulf (broadcastInDim S8192x2048 ![] bcast_S_S8192x2048 (constant S_ .f32 0x3FB504F3#32)) x)
    (addf (Host.reduceAdd (mulf (broadcastInDim S8x8192x2048 ![0, 1, 2] bcast_S8x8192x1_S8x8192x2048_0_1_2 (broadcastInDim S8x8192x1 ![0, 1] bcast_S8x8192_S8x8192x1_0_1 g))
        (extf .f32 (shapeCast S8x8192x2048 (extractStridedSlice S1048576x128 ![0, 0] y slices_S1056768x128_S1048576x128_0_0) shapeCasts_S1048576x128_S8x8192x2048) bitsLt_bf16_f32))
      (constant S_ .f32 0x00000000#32) reducesTo_S8x8192x2048_S8192x2048_d0 h_S_)
     (Host.dotGeneral dot_S8192x512_S512x2048_S8192x2048_1_0_0_1_n_n none (mulf s a1) dn))

/-- The reference's norm. -/
def refNorm (h : FVec Ideal S8192x2048 .f32) (w b : FVec Ideal S2048 .f32) : FVec Ideal S8192x2048 .f32 :=
  have mu : FVec Ideal S8192x1 .f32 := Host.divf (broadcastInDim S8192x1 ![0] bcast_S8192_S8192x1_0 (Host.reduceAdd h (constant S_ .f32 0x00000000#32) reducesTo_S8192x2048_S8192_d1 h_S_))
    (broadcastInDim S8192x1 ![] bcast_S_S8192x1 (constant S_ .f32 0x45000000#32))
  have d : FVec Ideal S8192x2048 .f32 := subf h (broadcastInDim S8192x2048 ![0, 1] bcast_S8192x1_S8192x2048_0_1 mu)
  have v : FVec Ideal S8192x1 .f32 := Host.divf (broadcastInDim S8192x1 ![0] bcast_S8192_S8192x1_0 (Host.reduceAdd (mulf d d) (constant S_ .f32 0x00000000#32) reducesTo_S8192x2048_S8192_d1 h_S_))
    (broadcastInDim S8192x1 ![] bcast_S_S8192x1 (constant S_ .f32 0x45000000#32))
  addf (mulf (mulf d (broadcastInDim S8192x2048 ![0, 1] bcast_S8192x1_S8192x2048_0_1 (Host.rsqrt (addf v (broadcastInDim S8192x1 ![] bcast_S_S8192x1 (constant S_ .f32 0x3727C5AC#32))))))
    (broadcastInDim S8192x2048 ![0, 1] bcast_S1x2048_S8192x2048_0_1 (broadcastInDim S1x2048 ![1] bcast_S2048_S1x2048_1 w)))
    (broadcastInDim S8192x2048 ![0, 1] bcast_S1x2048_S8192x2048_0_1 (broadcastInDim S1x2048 ![1] bcast_S2048_S1x2048_1 b))

/-- The experts' outputs by choice, token and column. -/
theorem rows_apply (y : FVec Ideal S1056768x128 .bf16) (k : Fin 8) (r : Fin 8192) (n : Fin 2048) :
    shapeCast S8x8192x2048 (extractStridedSlice S1048576x128 ![0, 0] y slices_S1056768x128_S1048576x128_0_0) shapeCasts_S1048576x128_S8x8192x2048 (ix3 k r n)
      = y (ix2 ⟨131072 * k.val + (16 * r.val + n.val / 128), by omega⟩ ⟨n.val % 128, Nat.mod_lt _ (by decide)⟩) := by
  refine (shapeCast_apply _ _ _ (ix2 (⟨131072 * k.val + (16 * r.val + n.val / 128), by omega⟩ : Fin 1048576) (⟨n.val % 128, Nat.mod_lt _ (by decide)⟩ : Fin 128)) ?_).trans ?_
  · rw [Shape.rowMajor_val_two, Shape.rowMajor_val_three]
    show (131072 * k.val + (16 * r.val + n.val / 128)) * 128 + n.val % 128 = (k.val * 8192 + r.val) * 2048 + n.val
    omega
  pointwise

set_option maxRecDepth 16384 in
/-- Its row at an index. -/
theorem refMixed_apply (x g y gu dn) (r : Fin 8192) (n : Fin 2048) :
    refMixed x g y gu dn (ix2 r n) = mixed (fun k => x (ix2 r k)) (fun k => g (ix2 k r)) (fun k h => gu (ix2 k h)) (fun h n => dn (ix2 h n))
      (fun k n => y (ix2 ⟨131072 * k.val + (16 * r.val + n.val / 128), by omega⟩ ⟨n.val % 128, Nat.mod_lt _ (by decide)⟩)) n := by
  have hy := fun k => rows_apply y k r n
  unfold refMixed mixed Experts.expert Experts.hidden
  generalize shapeCast S8x8192x2048 (extractStridedSlice S1048576x128 ![0, 0] y slices_S1056768x128_S1048576x128_0_0) shapeCasts_S1048576x128_S8x8192x2048 = Y at hy ⊢
  pointwise
  simp only [hy]
  exact congrArg _ (add_comm _ _)

set_option maxRecDepth 16384 in
/-- Its norm at an index. -/
theorem refNorm_apply (h w b) (r : Fin 8192) (n : Fin 2048) :
    refNorm h w b (ix2 r n) = normed (fun k => h (ix2 r k)) (fun k => w (ix1 k)) (fun k => b (ix1 k)) n := by
  unfold refNorm normed
  pointwise

/-- The reference at an index. -/
theorem reference_apply (x : FVec Ideal S8192x2048 .f32) (g : FVec Ideal S8x8192 .f32) (y : FVec Ideal S1056768x128 .bf16) (gu : FVec Ideal S2048x1024 .f32)
    (dn : FVec Ideal S512x2048 .f32) (w b : FVec Ideal S2048 .f32) (r : Fin 8192) (n : Fin 2048) :
    refNorm (refMixed x g y gu dn) w b (ix2 r n) = valueAt x g y gu dn w b r n := by
  have e : (fun k : Fin 2048 => refMixed x g y gu dn (ix2 r k)) = _ := funext fun k => refMixed_apply x g y gu dn r k
  rw [refNorm_apply, e]
  unfold valueAt
  rfl

end reference

end Cert.Merge

end
-- ==== Proof.Merged.lean ====
/-
  The combine call computes its reference, both of its results.
-/
module

public import proofs.«01_k».proof.Proof.Plain
public import proofs.«01_k».proof.Proof.Gen.Reference2Ideal.Run
public import proofs.«01_k».proof.Defs

@[expose] public section

noncomputable section

namespace Cert.Merge

open Idealize.ShloMosaic Idealize.ShloMosaic.TcCoe Idealize.ShloMosaic.Tactic
open Idealize.SL.Sem

/-- The reference's machine has no counters. -/
theorem reference_counters (f : GSem Cert.Reference2Ideal.nD Cert.Reference2Ideal.τ Cert.Reference2Ideal.sig → ℤ) : f = fun _ => 0 := by
  funext g
  obtain ⟨_, s⟩ := g
  cases s with
  | reg s => exact s.elim0
  | dma s => exact s.elim0

/-- The reference leaves its arguments and its counters. -/
theorem frame_reference : Cert.quiescent_Reference2Ideal := fun m g _ =>
  (θ_run Cert.Reference2Ideal.defs _ _).mono (fun _ h => ⟨fun c => (h c).2.2, reference_counters _⟩)
    (Cert.Reference2Ideal.Value.run (F := Ideal) m g)

/-- An index is its two coordinates. -/
theorem coords_eq {a b : ℕ} (i : (⟨2, ![a, b]⟩ : Shape).Idx) : i = ix2 (i 0) (i 1) := by
  funext d
  match d with
  | 0 => rfl
  | 1 => rfl

/-- The reference's first result. -/
theorem reference_fst (m : (ℓ : Loc Cert.Reference2Ideal.nD Cert.Reference2Ideal.τ Cert.Reference2Ideal.sig) → Buf (Elt Ideal) ℓ) (c : Dev Cert.Reference2Ideal.nD) :
    Cert.Reference2Ideal.Value.res_main_v40 m c = refNorm (refMixed (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) := by
  unfold Cert.Reference2Ideal.Value.res_main_v40 refNorm refMixed
  rfl

/-- And its second, which over the reals is the first. -/
theorem reference_snd (m : (ℓ : Loc Cert.Reference2Ideal.nD Cert.Reference2Ideal.τ Cert.Reference2Ideal.sig) → Buf (Elt Ideal) ℓ) (c : Dev Cert.Reference2Ideal.nD) :
    Cert.Reference2Ideal.Value.res_main_v41 m c = (refNorm (refMixed (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) : FVec Ideal Cert.Reference2Ideal.S8192x2048 .f32) := by
  unfold Cert.Reference2Ideal.Value.res_main_v41 refNorm refMixed
  rfl

/-- The reference's array is the call's. -/
theorem reference_result (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    (h4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4))
    (h5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5))
    (h6 : m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) :
    refNorm (refMixed (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4))) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) = result m c := by
  rw [h0, h1, h2, h3, h4, h5, h6]
  funext i
  exact (congrArg _ (coords_eq i)).trans (reference_apply _ _ _ _ _ _ _ (i 0) (i 1))

/-- The call computes the reference. -/
theorem algebraic : Cert.algebraic_Kernel2Ideal_Reference2Ideal := by
  pair_intro
  · run_from Cert.Kernel2Ideal.Gen.run_main m g
  · refine (θ_run Cert.Reference2Ideal.defs _ _).mono (fun r h c => ⟨(h c).1.trans ?_, (h c).2.1.trans ?_, (h c).2.2⟩) (Cert.Reference2Ideal.Value.run (F := Ideal) m' g')
    · obtain ⟨h0, h1, h2, h3, h4, h5, h6⟩ := hagree c
      exact (reference_fst m' c).trans ((reference_result m m' c h0 h1 h2 h3 h4 h5 h6).trans (final_14 m c).symm)
    · obtain ⟨h0, h1, h2, h3, h4, h5, h6⟩ := hagree c
      exact (reference_snd m' c).trans ((reference_result m m' c h0 h1 h2 h3 h4 h5 h6).trans (final_15 m c).symm)

end Cert.Merge

end
-- ==== Proof.Project.lean ====
/-
  The input projection, point by point: the weights' column block, cast once and kept, times a block of rows, scaled by its column block's factor.
-/
module

public import proofs.«01_k».proof.Proof.Gen.Kernel3Ideal.Frame
public import proofs.«01_k».proof.Proof.Merge
public import Idealize.ShloMosaic.Lib.Pipeline.ValueKit
public import Idealize.ShloMosaic.Lib.Pipeline.ValueKit.Point
public import Idealize.ShloMosaic.Lib.Pointwise
public import Idealize.ShloMosaic.Lib.IdealHost
public import Idealize.ShloMosaic.Lib.WholeRead
public import Idealize.ShloMosaic.Lib.Claim

@[expose] public section

noncomputable section

namespace Cert.Project

open Cert.Kernel3Ideal Cert.Kernel3Ideal.Gen
open Idealize.ShloMosaic Idealize.ShloMosaic.TcCoe Idealize.ShloMosaic.Tactic

/-- A column's factor: a query's and a memory query's columns are scaled. -/
def factor (n : ℕ) : EReal := if n < 1536 ∨ 4608 ≤ n then Scalar.ofBits (F := Ideal) .f32 0x3DB504F3#32 else 1

/-- The projection at a row and a column. -/
def projected (x : FVec Ideal S8192x2048 .f32) (w : FVec Ideal S2048x5120 .f32) (r : Fin 8192) (n : Fin 5120) : EReal :=
  (∑ k, x (ix2 r k) * w (ix2 k n)) * factor n.val

/-! The blocks' places. -/

theorem index_0 : ∀ t : Fin cfg0.N, win0_0.index t 0 = t.val % 8 ∧ win0_0.index t 1 = 0 := by decide +kernel
theorem index_1 : ∀ t : Fin cfg0.N, win0_1.index t 0 = 0 ∧ win0_1.index t 1 = t.val / 8 := by decide +kernel
theorem index_2 : ∀ t : Fin cfg0.N, win0_2.index t 0 = t.val % 8 ∧ win0_2.index t 1 = t.val / 8 := by decide +kernel
theorem coord : ∀ t : Fin cfg0.N, (grid0.coords t 0 : ℕ) = t.val / 8 := by decide +kernel

/-- The condition on a column block. -/
theorem scaled : ∀ a : Fin 10, Scalar.ori (Scalar.cmpi .slt (Scalar.muli (BitVec.ofNat 32 a.val) 512#32) 1536#32)
    (Scalar.cmpi .sge (Scalar.muli (BitVec.ofNat 32 a.val) 512#32) 4608#32) = if a.val < 3 ∨ 9 ≤ a.val then 1#1 else 0#1 := by decide

/-- The factor the call selects. -/
theorem selected (a : ℕ) (ha : a < 10) (q : ℕ) (hq : q < 512) :
    Scalar.select (Scalar.ori (Scalar.cmpi .slt (Scalar.muli (BitVec.ofNat 32 a) 512#32) 1536#32)
      (Scalar.cmpi .sge (Scalar.muli (BitVec.ofNat 32 a) 512#32) 4608#32)) (Scalar.ofBits (F := Ideal) .f32 0x3DB504F3#32) (Scalar.ofBits (F := Ideal) .f32 0x3F800000#32)
      = factor (512 * a + q) := by
  rw [scaled ⟨a, ha⟩]
  unfold factor
  by_cases h : a < 3 ∨ 9 ≤ a
  · rw [if_pos h, if_pos (by omega)]
    rfl
  · rw [if_neg h, if_neg (by omega)]
    exact Idealize.ShloMosaic.Ideal.ofBits_one_f32

variable (m : (ℓ : Loc nD τ sig) → Buf (Elt Ideal) ℓ) (c : Dev nD) (t : Fin cfg0.N)

theorem point_lt : t.val < 80 := t.isLt

theorem blk_0 (p : Fin 1024) (k : Fin 2048) (h : 1024 * (t.val % 8) + p.val < 8192) :
    iblk m c 0 t (ix2 p k) = m ((c.tc : Thread nD τ).loc main_arg0) (ix2 ⟨1024 * (t.val % 8) + p.val, h⟩ k) := by
  blk_ext! [iblk, V, (index_0 t).1, (index_0 t).2]
theorem blk_1 (k : Fin 2048) (q : Fin 512) (h : 512 * (t.val / 8) + q.val < 5120) :
    iblk m c 1 t (ix2 k q) = m ((c.tc : Thread nD τ).loc main_arg1) (ix2 k ⟨512 * (t.val / 8) + q.val, h⟩) := by
  blk_ext! [iblk, V, (index_1 t).1, (index_1 t).2]

/-- The kept weights after a point that casts them. -/
theorem kept_cast (h : t.val % 8 = 0) : (outsAt0 m c t.val t.isLt).2 = k0_pay1 (F := Ideal) (iblk m c 1 t) := by
  rw [outsAt0_A m c t h]
  unfold sout0_A_0
  dsimp only
  rw [View.read_writes_eq_canon _ _ _ (scover0_A_0 c _ _ _ _ _ _ _ _ _ _ _ _)]
  unfold kernelRun0_A
  dsimp only
  sl_unfold_words
  rw [View.canon_cons_unit_lit _ _ [] (by decide)]
  simp only [Merge.full_read]

/-- The kept weights after any point: their column block. -/
theorem kept (n : ℕ) (hn : n < cfg0.N) (k : Fin 2048) (q : Fin 512) (h : 512 * (n / 8) + q.val < 5120) :
    (outsAt0 m c n hn).2 (ix2 k q) = m ((c.tc : Thread nD τ).loc main_arg1) (ix2 k ⟨512 * (n / 8) + q.val, h⟩) := by
  induction n with
  | zero =>
    refine (congrFun (kept_cast m c ⟨0, hn⟩ rfl) _).trans ?_
    unfold k0_pay1
    rw [shapeCast_self]
    exact blk_1 m c ⟨0, hn⟩ k q h
  | succ n ih =>
    by_cases h0 : (n + 1) % 8 = 0
    · refine (congrFun (kept_cast m c ⟨n + 1, hn⟩ h0) _).trans ?_
      unfold k0_pay1
      rw [shapeCast_self]
      exact blk_1 m c ⟨n + 1, hn⟩ k q h
    · have e : (n + 1) / 8 = n / 8 := by omega
      rw [outsAt0_B m c ⟨n + 1, hn⟩ h0]
      unfold sout0_B_0
      refine (ih (Nat.lt_of_succ_lt hn) (by omega)).trans ?_
      exact congrArg _ (congrArg (ix2 k) (Fin.ext (by show 512 * (n / 8) + q.val = 512 * ((n + 1) / 8) + q.val; omega)))

/-- The output after a point. -/
theorem outs_eq : (outsAt0 m c t.val t.isLt).1 = k0_pay2 (F := Ideal) (grid0.coords t) (iblk m c 0 t) (outsAt0 m c t.val t.isLt).2 := by
  by_cases h : t.val % 8 = 0
  · rw [kept_cast m c t h, outsAt0_A m c t h]
    unfold out0_A_2
    dsimp only
    rw [View.read_writes_eq_canon _ _ _ (cover0_A_2 c _ _ _ _ _ _ _ _ _ _ _ _)]
    unfold kernelRun0_A
    dsimp only
    sl_unfold_words
    rw [View.canon_cons_unit_lit _ _ [] (by decide)]
    simp only [Merge.full_read]
    rw [View.readCov_eq_canon']
    refine congrArg _ ?_
    funext j
    refine (congrFun (View.canon_cons_unit_lit (Val := Elt Ideal) (S := S2048x512) (e := .bf16) _ _ [] (by decide)) _).trans (congrArg _ ?_)
    funext d
    apply Fin.ext
    match d with
    | 0 => show 0 + 1 * (j 0).val = (j 0).val; omega
    | 1 => show 0 + 1 * (j 1).val = (j 1).val; omega
  · rw [outsAt0_B m c t h]
    unfold out0_B_2 sout0_B_0
    dsimp only
    rw [View.read_writes_eq_canon _ _ _ (cover0_B_2 c _ _ _ _ _ _ _ _ _ _ _ _ _)]
    unfold kernelRun0_B
    dsimp only
    sl_unfold_words
    rw [View.canon_cons_unit_lit _ _ [] (by decide)]
    simp only [Merge.full_read]
    exact congrArg (k0_pay2 (F := Ideal) _ _) (Merge.full_read (Memref.isWhole_whole cc0_scratch0) _ _)

/-- A block of the product at an index. -/
theorem product_apply (i : grid0.Coords) (x : Vec Ideal S1024x2048 .bf16) (w : Vec Ideal S2048x512 .bf16) (p : Fin 1024) (q : Fin 512) :
    k0_pay2 (F := Ideal) i x w (ix2 p q) = (∑ k, x (ix2 p k) * w (ix2 k q)) * factor (512 * (i 0 : ℕ) + q.val) := by
  have hs := selected (i 0 : ℕ) (i 0).isLt q.val q.isLt
  unfold k0_pay2
  dsimp only
  rw [hs, shapeCast_self]
  generalize factor (512 * (i 0 : ℕ) + q.val) = f
  pointwise

/-- The result. -/
def result : FVec Ideal S8192x5120 .bf16 := fun i =>
  projected (m ((c.tc : Thread nD τ).loc main_arg0)) (m ((c.tc : Thread nD τ).loc main_arg1)) (i 0) (i 1)

/-- The array at the end. -/
theorem final : (dats m 0 c).arrAt 2 cfg0.N = result m c := by
  refine (dats m 0 c).arrAt_eq_of_covers 2 _ (by decide +kernel) fun t hf y => ?_
  have ht := point_lt t
  blk_simp
  rw [after0_2, outs_eq]
  have hy : y = ix2 (⟨(y 0).val, (y 0).isLt⟩ : Fin 1024) (⟨(y 1).val, (y 1).isLt⟩ : Fin 512) := by
    funext a
    match a with
    | 0 => rfl
    | 1 => rfl
  have h0 : (y 0).val < 1024 := (y 0).isLt
  have h1 : (y 1).val < 512 := (y 1).isLt
  have e0 : (win0_2.blk t).view.emb y 0 = (⟨1024 * (t.val % 8) + (y 0).val, by omega⟩ : Fin 8192) := by
    apply Fin.ext
    show win0_2.index t 0 * 1024 + 1 * (y 0).val = _
    rw [(index_2 t).1]
    show t.val % 8 * 1024 + 1 * (y 0).val = 1024 * (t.val % 8) + (y 0).val
    omega
  have e1 : (win0_2.blk t).view.emb y 1 = (⟨512 * (t.val / 8) + (y 1).val, by omega⟩ : Fin 5120) := by
    apply Fin.ext
    show win0_2.index t 1 * 512 + 1 * (y 1).val = _
    rw [(index_2 t).2]
    show t.val / 8 * 512 + 1 * (y 1).val = 512 * (t.val / 8) + (y 1).val
    omega
  unfold result
  rw [e0, e1]
  refine (congrArg _ hy).trans ((product_apply _ _ _ _ _).trans ?_)
  unfold projected
  rw [coord t]
  refine congrArg (fun s : EReal => s * _) (Finset.sum_congr rfl fun k _ => ?_)
  exact congr (congrArg (fun a b : EReal => a * b) (blk_0 m c t _ k _)) (kept m c t.val t.isLt k _ _)

end Cert.Project

end
-- ==== Proof.Split.lean ====
/-
  The projection's reference, read at an index.
-/
module

public import proofs.«01_k».proof.Proof.Project
public import proofs.«01_k».proof.Proof.Gen.Reference3Ideal

@[expose] public section

noncomputable section

namespace Cert.Project

open Cert.Reference3Ideal Cert.Reference3Ideal.Gen
open Idealize.ShloMosaic Idealize.ShloMosaic.TcCoe Idealize.ShloMosaic.Tactic

/-- The reference: the product, its query columns and its memory-query columns scaled. -/
def split (x : FVec Ideal S8192x2048 .f32) (w : FVec Ideal S2048x5120 .f32) : FVec Ideal S8192x5120 .bf16 :=
  have p : FVec Ideal S8192x5120 .f32 := Host.dotGeneral dot_S8192x2048_S2048x5120_S8192x5120_1_0_0_1_n_n none x w
  truncf .bf16 (concatenate S8192x5120 1 [
    ⟨S8192x1536, mulf (extractStridedSlice S8192x1536 ![0, 0] p slices_S8192x5120_S8192x1536_0_0) (broadcastInDim S8192x1536 ![] bcast_S_S8192x1536 (constant S_ .f32 0x3DB504F3#32))⟩,
    ⟨S8192x3072, extractStridedSlice S8192x3072 ![0, 1536] p slices_S8192x5120_S8192x3072_0_1536⟩,
    ⟨S8192x512, mulf (extractStridedSlice S8192x512 ![0, 4608] p slices_S8192x5120_S8192x512_0_4608) (broadcastInDim S8192x512 ![] bcast_S_S8192x512 (constant S_ .f32 0x3DB504F3#32))⟩]
    concatenates_S8192x1536_S8192x3072_S8192x512_S8192x5120_d1) bitsLt_bf16_f32

/-- The reference at an index. -/
theorem split_apply (x : FVec Ideal S8192x2048 .f32) (w : FVec Ideal S2048x5120 .f32) (r : Fin 8192) (n : Fin 5120) :
    split x w (ix2 r n) = projected x w r n := by
  unfold split projected factor
  pointwise
  have e1 (h : 1536 ≤ n.val) (h') : (⟨1536 + (n.val - 1536), h'⟩ : Fin 5120) = n := Fin.ext (Nat.add_sub_cancel' h)
  have e2 (h : 4608 ≤ n.val) (h') : (⟨4608 + (n.val - 1536 - 3072), h'⟩ : Fin 5120) = n :=
    Fin.ext ((congrArg (fun u => 4608 + u) (Nat.sub_sub _ _ _)).trans (Nat.add_sub_cancel' h))
  by_cases h0 : n.val < 1536
  · rw [dif_pos h0, if_pos (Or.inl h0)]
  rw [dif_neg h0]
  by_cases h1 : n.val - 1536 < 3072
  · rw [dif_pos h1, if_neg (show ¬(n.val < 1536 ∨ 4608 ≤ n.val) by omega), mul_one]
    simp only [e1 (by omega)]
  rw [dif_neg h1, if_pos (show n.val < 1536 ∨ 4608 ≤ n.val by omega)]
  simp only [e2 (by omega)]

end Cert.Project

end
-- ==== Proof.Projected.lean ====
/-
  The projection computes its reference.
-/
module

public import proofs.«01_k».proof.Proof.Split
public import proofs.«01_k».proof.Proof.Gen.Reference3Ideal.Run
public import proofs.«01_k».proof.Defs

@[expose] public section

noncomputable section

namespace Cert.Project

open Idealize.ShloMosaic Idealize.ShloMosaic.TcCoe Idealize.ShloMosaic.Tactic
open Idealize.SL.Sem

/-- The reference's machine has no counters. -/
theorem reference_counters (f : GSem Cert.Reference3Ideal.nD Cert.Reference3Ideal.τ Cert.Reference3Ideal.sig → ℤ) : f = fun _ => 0 := by
  funext g
  obtain ⟨_, s⟩ := g
  cases s with
  | reg s => exact s.elim0
  | dma s => exact s.elim0

/-- The reference leaves its arguments and its counters. -/
theorem frame_reference : Cert.quiescent_Reference3Ideal := fun m g _ =>
  (θ_run Cert.Reference3Ideal.defs _ _).mono (fun _ h => ⟨fun c => (h c).2, reference_counters _⟩)
    (Cert.Reference3Ideal.Value.run (F := Ideal) m g)

/-- An index is its two coordinates. -/
theorem coords_eq {a b : ℕ} (i : (⟨2, ![a, b]⟩ : Shape).Idx) : i = ix2 (i 0) (i 1) := by
  funext d
  match d with
  | 0 => rfl
  | 1 => rfl

/-- The reference's array is the call's. -/
theorem reference_result (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) :
    split (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) = result m c := by
  rw [h0, h1]
  funext i
  exact (congrArg _ (coords_eq i)).trans (split_apply _ _ (i 0) (i 1))

/-- The call computes the reference. -/
theorem algebraic : Cert.algebraic_Kernel3Ideal_Reference3Ideal := by
  pair_intro
  · run_from Cert.Kernel3Ideal.Gen.run_main m g
  · refine (θ_run Cert.Reference3Ideal.defs _ _).mono (fun r h c => ⟨(h c).1.trans ?_, (h c).2⟩) (Cert.Reference3Ideal.Value.run (F := Ideal) m' g')
    obtain ⟨h0, h1⟩ := hagree c
    exact Eq.trans (by unfold split; rfl) ((reference_result m m' c h0 h1).trans (final m c).symm)

end Cert.Project

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_plan_ok
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Frames
public import proofs.«01_k».proof.Proof.Value
public import proofs.«01_k».proof.Proof.Merged
public import proofs.«01_k».proof.Proof.Projected

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts, Cert.Pre_plan_ok.Gen.facts,
    Cert.Experts.frame_kernel, Cert.Experts.frame_kernelIdeal, Cert.Experts.frame_reference,
    fun m g _ => Cert.Kernel2.Gen.frame m g, fun m g _ => Cert.Kernel2Ideal.Gen.frame m g, Cert.Merge.frame_reference,
    fun m g _ => Cert.Kernel3.Gen.frame m g, fun m g _ => Cert.Kernel3Ideal.Gen.frame m g, Cert.Project.frame_reference,
    trivial, Cert.Experts.algebraic, trivial, Cert.Merge.algebraic, trivial, Cert.Project.algebraic⟩

end Cert.Proof

end
